-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tiles_laid_out : Cert.Pre_tiles_laid_out.Facts] (m : (ℓ : Loc Cert.Kernel2.nD Cert.Kernel2.τ Cert.Kernel2.sig) → Buf (Elt Bits) ℓ) : Prop :=
  ∀ c : Dev Cert.Kernel2.nD,
    (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2.1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2.2.1 = (fun _ => 1#1)
    ∧ (Cert.Pre_tiles_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2.2.2 = (fun _ => 1#1)

def Pre_Kernel2Ideal [hPre_tiles_laid_out : Cert.Pre_tiles_laid_out.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_tiles_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_laid_out [hPre_tiles_laid_out : Cert.Pre_tiles_laid_out.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_tiles_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 [hPre_rows_in_range : Cert.Pre_rows_in_range.Facts] (m : (ℓ : Loc Cert.Kernel4.nD Cert.Kernel4.τ Cert.Kernel4.sig) → Buf (Elt Bits) ℓ) : Prop :=
  ∀ c : Dev Cert.Kernel4.nD,
    (Cert.Pre_rows_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_rows_in_range : Cert.Pre_rows_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rows_in_range [hPre_rows_in_range : Cert.Pre_rows_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_rows_in_range : Cert.Pre_rows_in_range.Facts] (m : (ℓ : Loc Cert.Kernel5.nD Cert.Kernel5.τ Cert.Kernel5.sig) → Buf (Elt Bits) ℓ) : Prop :=
  ∀ c : Dev Cert.Kernel5.nD,
    (Cert.Pre_rows_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_rows_in_range : Cert.Pre_rows_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_in_range [hPre_rows_in_range : Cert.Pre_rows_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tiles_laid_out : Cert.Pre_tiles_laid_out.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tiles_laid_out : Cert.Pre_tiles_laid_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tiles_laid_out [hReference2Ideal : Cert.Reference2Ideal.Facts] [hPre_tiles_laid_out : Cert.Pre_tiles_laid_out.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_laid_out m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_rows_in_range : Cert.Pre_rows_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_rows_in_range [hReference4Ideal : Cert.Reference4Ideal.Facts] [hPre_rows_in_range : Cert.Pre_rows_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_rows_in_range : Cert.Pre_rows_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_rows_in_range : Cert.Pre_rows_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_rows_in_range [hReference5Ideal : Cert.Reference5Ideal.Facts] [hPre_rows_in_range : Cert.Pre_rows_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_tiles_laid_out : Cert.Pre_tiles_laid_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_rows_in_range : Cert.Pre_rows_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tiles_laid_out : Cert.Pre_tiles_laid_out.Facts) (hPre_finite_scores : Cert.Pre_finite_scores.Facts) (hPre_rows_in_range : Cert.Pre_rows_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tiles_laid_out := hPre_tiles_laid_out)
    ∧ quiescent_Kernel2Ideal (hKernel2Ideal := hKernel2Ideal) (hPre_tiles_laid_out := hPre_tiles_laid_out)
    ∧ quiescent_Reference2Ideal (hReference2Ideal := hReference2Ideal)
    ∧ quiescent_Reference2Ideal_pre_tiles_laid_out (hReference2Ideal := hReference2Ideal) (hPre_tiles_laid_out := hPre_tiles_laid_out)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4) (hPre_rows_in_range := hPre_rows_in_range)
    ∧ quiescent_Kernel4Ideal (hKernel4Ideal := hKernel4Ideal) (hPre_rows_in_range := hPre_rows_in_range)
    ∧ quiescent_Reference4Ideal (hReference4Ideal := hReference4Ideal)
    ∧ quiescent_Reference4Ideal_pre_rows_in_range (hReference4Ideal := hReference4Ideal) (hPre_rows_in_range := hPre_rows_in_range)
    ∧ quiescent_Kernel5 (hKernel5 := hKernel5) (hPre_rows_in_range := hPre_rows_in_range)
    ∧ quiescent_Kernel5Ideal (hKernel5Ideal := hKernel5Ideal) (hPre_rows_in_range := hPre_rows_in_range)
    ∧ quiescent_Reference5Ideal (hReference5Ideal := hReference5Ideal)
    ∧ quiescent_Reference5Ideal_pre_rows_in_range (hReference5Ideal := hReference5Ideal) (hPre_rows_in_range := hPre_rows_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tiles_laid_out := hPre_tiles_laid_out)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal) (hPre_rows_in_range := hPre_rows_in_range)
    ∧ preserves_Kernel5_Kernel5Ideal
    ∧ algebraic_Kernel5Ideal_Reference5Ideal (hKernel5Ideal := hKernel5Ideal) (hReference5Ideal := hReference5Ideal) (hPre_rows_in_range := hPre_rows_in_range)
-- ==== Pre_finite_scores.lean ====
abbrev S6144x11264 : Shape := ⟨2, ![6144, 11264]⟩
abbrev S1x4x64 : Shape := ⟨3, ![1, 4, 64]⟩
abbrev S1x128 : Shape := ⟨2, ![1, 128]⟩
abbrev S4096x2048 : Shape := ⟨2, ![4096, 2048]⟩
abbrev S_ : Shape := ⟨0, ![]⟩

class Facts : Prop where
  slices_S6144x11264_S4096x2048_0_4096 : S6144x11264.Slices ![0, 4096] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S6144x11264 .bf16) (main_arg1 : FVec F S1x4x64 .f32) (main_arg2 : FVec F S1x128 .f32) : IVec S_ 1 :=
  let main_v0 : FVec F S4096x2048 .bf16 := (extractStridedSlice S4096x2048 ![0, 4096] · slices_S6144x11264_S4096x2048_0_4096) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  main_v5
-- ==== Pre_rows_in_range.lean ====
abbrev S20480x2048 : Shape := ⟨2, ![20480, 2048]⟩
abbrev S12288 : Shape := ⟨1, ![12288]⟩
abbrev S6144x128 : Shape := ⟨2, ![6144, 128]⟩
abbrev S6144x2048 : Shape := ⟨2, ![6144, 2048]⟩
abbrev S8x1x2048 : Shape := ⟨3, ![8, 1, 2048]⟩
abbrev S2048 : Shape := ⟨1, ![2048]⟩
abbrev S_ : Shape := ⟨0, ![]⟩

class Facts : Prop where
  bcast_S_S12288 : S_.BroadcastsInDim S12288 (![] : Fin 0 → Fin S12288.rank)

variable [Facts]

def fn {F : FTy → Type} [FloatOps F] (main_arg0 : FVec F S20480x2048 .f32) (main_arg1 : IVec S12288 32) (main_arg2 : FVec F S6144x128 .f32) (main_arg3 : FVec F S6144x2048 .f32) (main_arg4 : FVec F S8x1x2048 .f32) (main_arg5 : FVec F S2048 .f32) : IVec S12288 1 :=
  let main_c : IVec S_ 32 := constantI S_ 32 0#32
  let main_v0 : IVec S12288 32 := broadcastInDim S12288 ![] bcast_S_S12288 main_c
  let main_v1 : IVec S12288 1 := cmpi .sge main_arg1 main_v0
  let main_c_0 : IVec S_ 32 := constantI S_ 32 20480#32
  let main_v2 : IVec S12288 32 := broadcastInDim S12288 ![] bcast_S_S12288 main_c_0
  let main_v3 : IVec S12288 1 := cmpi .slt main_arg1 main_v2
  let main_v4 : IVec S12288 1 := andi main_v1 main_v3
  main_v4
-- ==== Pre_tiles_laid_out.lean ====
abbrev S20480x2048 : Shape := ⟨2, ![20480, 2048]⟩
abbrev S80 : Shape := ⟨1, ![80]⟩
abbrev S32 : Shape := ⟨1, ![32]⟩
abbrev S32x2048x512 : Shape := ⟨3, ![32, 2048, 512]⟩
abbrev S32x512x2048 : Shape := ⟨3, ![32, 512, 2048]⟩
abbrev S_ : Shape := ⟨0, ![]⟩
abbrev S79 : Shape := ⟨1, ![79]⟩
abbrev S80x1 : Shape := ⟨2, ![80, 1]⟩
abbrev S1x32 : Shape := ⟨2, ![1, 32]⟩
abbrev S80x32 : Shape := ⟨2, ![80, 32]⟩
abbrev S1x80 : Shape := ⟨2, ![1, 80]⟩
abbrev S80x80 : Shape := ⟨2, ![80, 80]⟩
abbrev S80x80x1 : Shape := ⟨3, ![80, 80, 1]⟩
abbrev S80x1x32 : Shape := ⟨3, ![80, 1, 32]⟩
abbrev S1x80x32 : Shape := ⟨3, ![1, 80, 32]⟩
abbrev S80x80x32 : Shape := ⟨3, ![80, 80, 32]⟩
abbrev S1x1x32 : Shape := ⟨3, ![1, 1, 32]⟩
abbrev S79x32 : Shape := ⟨2, ![79, 32]⟩
abbrev S79x1 : Shape := ⟨2, ![79, 1]⟩
abbrev S79x1x32 : Shape := ⟨3, ![79, 1, 32]⟩
abbrev S79x80x32 : Shape := ⟨3, ![79, 80, 32]⟩
abbrev S1 : Shape := ⟨1, ![1]⟩

class Facts : Prop where
  bcast_S_S80 : S_.BroadcastsInDim S80 (![] : Fin 0 → Fin S80.rank)
  slices_S80_S79_1 : S80.Slices ![1] S79
  bcast_S_S79 : S_.BroadcastsInDim S79 (![] : Fin 0 → Fin S79.rank)
  slices_S80_S79_0 : S80.Slices ![0] S79
  bcast_S80_S80x1_0 : S80.BroadcastsInDim S80x1 (![0] : Fin 1 → Fin S80x1.rank)
  bcast_S32_S1x32_1 : S32.BroadcastsInDim S1x32 (![1] : Fin 1 → Fin S1x32.rank)
  bcast_S80x1_S80x32_0_1 : S80x1.BroadcastsInDim S80x32 (![0, 1] : Fin 2 → Fin S80x32.rank)
  bcast_S1x32_S80x32_0_1 : S1x32.BroadcastsInDim S80x32 (![0, 1] : Fin 2 → Fin S80x32.rank)
  bcast_S80_S1x80_1 : S80.BroadcastsInDim S1x80 (![1] : Fin 1 → Fin S1x80.rank)
  bcast_S1x80_S80x80_0_1 : S1x80.BroadcastsInDim S80x80 (![0, 1] : Fin 2 → Fin S80x80.rank)
  bcast_S80x1_S80x80_0_1 : S80x1.BroadcastsInDim S80x80 (![0, 1] : Fin 2 → Fin S80x80.rank)
  bcast_S80x80_S80x80x1_0_1 : S80x80.BroadcastsInDim S80x80x1 (![0, 1] : Fin 2 → Fin S80x80x1.rank)
  bcast_S_S80x80x1 : S_.BroadcastsInDim S80x80x1 (![] : Fin 0 → Fin S80x80x1.rank)
  bcast_S80x32_S80x1x32_0_2 : S80x32.BroadcastsInDim S80x1x32 (![0, 2] : Fin 2 → Fin S80x1x32.rank)
  bcast_S80x32_S1x80x32_1_2 : S80x32.BroadcastsInDim S1x80x32 (![1, 2] : Fin 2 → Fin S1x80x32.rank)
  bcast_S80x1x32_S80x80x32_0_1_2 : S80x1x32.BroadcastsInDim S80x80x32 (![0, 1, 2] : Fin 3 → Fin S80x80x32.rank)
  bcast_S1x80x32_S80x80x32_0_1_2 : S1x80x32.BroadcastsInDim S80x80x32 (![0, 1, 2] : Fin 3 → Fin S80x80x32.rank)
  bcast_S32_S1x1x32_2 : S32.BroadcastsInDim S1x1x32 (![2] : Fin 1 → Fin S1x1x32.rank)
  bcast_S80x80x1_S80x80x32_0_1_2 : S80x80x1.BroadcastsInDim S80x80x32 (![0, 1, 2] : Fin 3 → Fin S80x80x32.rank)
  bcast_S1x1x32_S80x80x32_0_1_2 : S1x1x32.BroadcastsInDim S80x80x32 (![0, 1, 2] : Fin 3 → Fin S80x80x32.rank)
  slices_S80x32_S79x32_1_0 : S80x32.Slices ![1, 0] S79x32
  bcast_S79_S79x1_0 : S79.BroadcastsInDim S79x1 (![0] : Fin 1 → Fin S79x1.rank)
  bcast_S79x1_S79x32_0_1 : S79x1.BroadcastsInDim S79x32 (![0, 1] : Fin 2 → Fin S79x32.rank)
  bcast_S79x32_S79x1x32_0_2 : S79x32.BroadcastsInDim S79x1x32 (![0, 2] : Fin 2 → Fin S79x1x32.rank)
  slices_S80x80x32_S79x80x32_1_0_0 : S80x80x32.Slices ![1, 0, 0] S79x80x32
  bcast_S79x1x32_S79x80x32_0_1_2 : S79x1x32.BroadcastsInDim S79x80x32 (![0, 1, 2] : Fin 3 → Fin S79x80x32.rank)
  bcast_S1x80x32_S79x80x32_0_1_2 : S1x80x32.BroadcastsInDim S79x80x32 (![0, 1, 2] : Fin 3 → Fin S79x80x32.rank)
  slices_S80x32_S1x32_0_0 : S80x32.Slices ![0, 0] S1x32
  shapeCasts_S1x32_S32 : S1x32.ShapeCasts S32
  slices_S80x80x32_S1x80x32_0_0_0 : S80x80x32.Slices ![0, 0, 0] S1x80x32
  shapeCasts_S1x80x32_S80x32 : S1x80x32.ShapeCasts S80x32
  slices_S80_S1_79 : S80.Slices ![79] S1
  shapeCasts_S1_S_ : S1.ShapeCasts S_

variable [Facts]

def fn_part4 {F : FTy → Type} [FloatOps F] (main_v6 : IVec S80 1) (main_v13 : IVec S79 1) (main_v21 : IVec S80 1) (main_v50 : IVec S80x80x32 1) (main_v73 : IVec S79x80x32 1) (main_v82 : IVec S80x32 1) (main_v84 : IVec S_ 32) (main_c_9 : IVec S_ 32) : IVec S80 1 × IVec S_ 1 × IVec S79 1 × IVec S80 1 × IVec S80x80x32 1 × IVec S79x80x32 1 × IVec S80x32 1 :=
  let main_v85 : IVec S_ 1 := cmpi .eq main_v84 main_c_9
  (main_v6, main_v85, main_v13, main_v21, main_v50, main_v73, main_v82)

def fn_part3 {F : FTy → Type} [FloatOps F] (main_arg2 : IVec S80 32) (main_v6 : IVec S80 1) (main_v13 : IVec S79 1) (main_v21 : IVec S80 1) (main_v31 : IVec S80x32 1) (main_v50 : IVec S80x80x32 1) (main_v58 : IVec S80x80x32 1) (main_v59 : IVec S79x32 1) (main_v60 : IVec S79 32) (main_v61 : IVec S79 32) : IVec S80 1 × IVec S_ 1 × IVec S79 1 × IVec S80 1 × IVec S80x80x32 1 × IVec S79x80x32 1 × IVec S80x32 1 :=
  let main_v62 : IVec S79 1 := cmpi .ne main_v60 main_v61
  let main_v63 : IVec S79x1 1 := broadcastInDim S79x1 ![0] bcast_S79_S79x1_0 main_v62
  let main_v64 : IVec S79x32 1 := broadcastInDim S79x32 ![0, 1] bcast_S79x1_S79x32_0_1 main_v63
  let main_v65 : IVec S79x32 1 := andi main_v59 main_v64
  let main_v66 : IVec S79x1x32 1 := broadcastInDim S79x1x32 ![0, 2] bcast_S79x32_S79x1x32_0_2 main_v65
  let main_v67 : IVec S79x80x32 1 := (extractStridedSlice S79x80x32 ![1, 0, 0] · slices_S80x80x32_S79x80x32_1_0_0) main_v58
  let main_v68 : IVec S79x80x32 1 := broadcastInDim S79x80x32 ![0, 1, 2] bcast_S79x1x32_S79x80x32_0_1_2 main_v66
  let main_v69 : IVec S79x80x32 1 := andi main_v68 main_v67
  let main_v70 : IVec S79x80x32 1 := noti main_v69
  let main_v71 : IVec S1x80x32 1 := broadcastInDim S1x80x32 ![1, 2] bcast_S80x32_S1x80x32_1_2 main_v31
  let main_v72 : IVec S79x80x32 1 := broadcastInDim S79x80x32 ![0, 1, 2] bcast_S1x80x32_S79x80x32_0_1_2 main_v71
  let main_v73 : IVec S79x80x32 1 := ori main_v70 main_v72
  let main_v74 : IVec S1x32 1 := (extractStridedSlice S1x32 ![0, 0] · slices_S80x32_S1x32_0_0) main_v31
  let main_v75 : IVec S32 1 := shapeCast S32 main_v74 shapeCasts_S1x32_S32
  let main_v76 : IVec S1x32 1 := broadcastInDim S1x32 ![1] bcast_S32_S1x32_1 main_v75
  let main_v77 : IVec S1x80x32 1 := (extractStridedSlice S1x80x32 ![0, 0, 0] · slices_S80x80x32_S1x80x32_0_0_0) main_v58
  let main_v78 : IVec S80x32 1 := shapeCast S80x32 main_v77 shapeCasts_S1x80x32_S80x32
  let main_v79 : IVec S80x32 1 := broadcastInDim S80x32 ![0, 1] bcast_S1x32_S80x32_0_1 main_v76
  let main_v80 : IVec S80x32 1 := andi main_v79 main_v78
  let main_v81 : IVec S80x32 1 := noti main_v80
  let main_v82 : IVec S80x32 1 := ori main_v81 main_v31
  let main_v83 : IVec S1 32 := (extractStridedSlice S1 ![79] · slices_S80_S1_79) main_arg2
  let main_v84 : IVec S_ 32 := shapeCast S_ main_v83 shapeCasts_S1_S_
  let main_c_9 : IVec S_ 32 := constantI S_ 32 0#32
  fn_part4 (F := F) main_v6 main_v13 main_v21 main_v50 main_v73 main_v82 main_v84 main_c_9

def fn_part2 {F : FTy → Type} [FloatOps F] (main_arg1 : IVec S80 32) (main_arg2 : IVec S80 32) (main_arg3 : IVec S32 32) (main_v6 : IVec S80 1) (main_v13 : IVec S79 1) (main_v21 : IVec S80 1) (main_v31 : IVec S80x32 1) (main_v37 : IVec S80x80x1 32) (main_v38 : IVec S80x80x1 32) : IVec S80 1 × IVec S_ 1 × IVec S79 1 × IVec S80 1 × IVec S80x80x32 1 × IVec S79x80x32 1 × IVec S80x32 1 :=
  let main_v39 : IVec S80x80x1 32 := muli main_v37 main_v38
  let main_v40 : IVec S80x1x32 1 := broadcastInDim S80x1x32 ![0, 2] bcast_S80x32_S80x1x32_0_2 main_v31
  let main_v41 : IVec S1x80x32 1 := broadcastInDim S1x80x32 ![1, 2] bcast_S80x32_S1x80x32_1_2 main_v31
  let main_v42 : IVec S80x80x32 1 := broadcastInDim S80x80x32 ![0, 1, 2] bcast_S80x1x32_S80x80x32_0_1_2 main_v40
  let main_v43 : IVec S80x80x32 1 := broadcastInDim S80x80x32 ![0, 1, 2] bcast_S1x80x32_S80x80x32_0_1_2 main_v41
  let main_v44 : IVec S80x80x32 1 := andi main_v42 main_v43
  let main_v45 : IVec S80x80x32 1 := noti main_v44
  let main_v46 : IVec S1x1x32 32 := broadcastInDim S1x1x32 ![2] bcast_S32_S1x1x32_2 main_arg3
  let main_v47 : IVec S80x80x32 32 := broadcastInDim S80x80x32 ![0, 1, 2] bcast_S80x80x1_S80x80x32_0_1_2 main_v39
  let main_v48 : IVec S80x80x32 32 := broadcastInDim S80x80x32 ![0, 1, 2] bcast_S1x1x32_S80x80x32_0_1_2 main_v46
  let main_v49 : IVec S80x80x32 1 := cmpi .slt main_v47 main_v48
  let main_v50 : IVec S80x80x32 1 := ori main_v45 main_v49
  let main_c_8 : IVec S_ 32 := constantI S_ 32 0#32
  let main_v51 : IVec S80x80x1 32 := broadcastInDim S80x80x1 ![] bcast_S_S80x80x1 main_c_8
  let main_v52 : IVec S80x80x1 1 := cmpi .sge main_v39 main_v51
  let main_v53 : IVec S1x1x32 32 := broadcastInDim S1x1x32 ![2] bcast_S32_S1x1x32_2 main_arg3
  let main_v54 : IVec S80x80x32 32 := broadcastInDim S80x80x32 ![0, 1, 2] bcast_S80x80x1_S80x80x32_0_1_2 main_v39
  let main_v55 : IVec S80x80x32 32 := broadcastInDim S80x80x32 ![0, 1, 2] bcast_S1x1x32_S80x80x32_0_1_2 main_v53
  let main_v56 : IVec S80x80x32 1 := cmpi .slt main_v54 main_v55
  let main_v57 : IVec S80x80x32 1 := broadcastInDim S80x80x32 ![0, 1, 2] bcast_S80x80x1_S80x80x32_0_1_2 main_v52
  let main_v58 : IVec S80x80x32 1 := andi main_v57 main_v56
  let main_v59 : IVec S79x32 1 := (extractStridedSlice S79x32 ![1, 0] · slices_S80x32_S79x32_1_0) main_v31
  let main_v60 : IVec S79 32 := (extractStridedSlice S79 ![1] · slices_S80_S79_1) main_arg1
  let main_v61 : IVec S79 32 := (extractStridedSlice S79 ![0] · slices_S80_S79_0) main_arg1
  fn_part3 (F := F) main_arg2 main_v6 main_v13 main_v21 main_v31 main_v50 main_v58 main_v59 main_v60 main_v61

def fn_part1 {F : FTy → Type} [FloatOps F] (main_arg1 : IVec S80 32) (main_arg2 : IVec S80 32) (main_arg3 : IVec S32 32) (main_v0 : IVec S32 32) (main_v1 : IVec S80 32) (main_v6 : IVec S80 1) (main_v13 : IVec S79 1) (main_v15 : IVec S80 1) (main_v17 : IVec S80 1) : IVec S80 1 × IVec S_ 1 × IVec S79 1 × IVec S80 1 × IVec S80x80x32 1 × IVec S79x80x32 1 × IVec S80x32 1 :=
  let main_c_5 : IVec S_ 32 := constantI S_ 32 32#32
  let main_v18 : IVec S80 32 := broadcastInDim S80 ![] bcast_S_S80 main_c_5
  let main_v19 : IVec S80 1 := cmpi .slt main_arg1 main_v18
  let main_v20 : IVec S80 1 := andi main_v17 main_v19
  let main_v21 : IVec S80 1 := ori main_v15 main_v20
  let main_c_6 : IVec S_ 32 := constantI S_ 32 1#32
  let main_v22 : IVec S80 32 := broadcastInDim S80 ![] bcast_S_S80 main_c_6
  let main_v23 : IVec S80 1 := cmpi .eq main_arg2 main_v22
  let main_v24 : IVec S80x1 1 := broadcastInDim S80x1 ![0] bcast_S80_S80x1_0 main_v23
  let main_v25 : IVec S80x1 32 := broadcastInDim S80x1 ![0] bcast_S80_S80x1_0 main_arg1
  let main_v26 : IVec S1x32 32 := broadcastInDim S1x32 ![1] bcast_S32_S1x32_1 main_v0
  let main_v27 : IVec S80x32 32 := broadcastInDim S80x32 ![0, 1] bcast_S80x1_S80x32_0_1 main_v25
  let main_v28 : IVec S80x32 32 := broadcastInDim S80x32 ![0, 1] bcast_S1x32_S80x32_0_1 main_v26
  let main_v29 : IVec S80x32 1 := cmpi .eq main_v27 main_v28
  let main_v30 : IVec S80x32 1 := broadcastInDim S80x32 ![0, 1] bcast_S80x1_S80x32_0_1 main_v24
  let main_v31 : IVec S80x32 1 := andi main_v30 main_v29
  let main_v32 : IVec S1x80 32 := broadcastInDim S1x80 ![1] bcast_S80_S1x80_1 main_v1
  let main_v33 : IVec S80x1 32 := broadcastInDim S80x1 ![0] bcast_S80_S80x1_0 main_v1
  let main_v34 : IVec S80x80 32 := broadcastInDim S80x80 ![0, 1] bcast_S1x80_S80x80_0_1 main_v32
  let main_v35 : IVec S80x80 32 := broadcastInDim S80x80 ![0, 1] bcast_S80x1_S80x80_0_1 main_v33
  let main_v36 : IVec S80x80 32 := subi main_v34 main_v35
  let main_v37 : IVec S80x80x1 32 := broadcastInDim S80x80x1 ![0, 1] bcast_S80x80_S80x80x1_0_1 main_v36
  let main_c_7 : IVec S_ 32 := constantI S_ 32 256#32
  let main_v38 : IVec S80x80x1 32 := broadcastInDim S80x80x1 ![] bcast_S_S80x80x1 main_c_7
  fn_part2 (F := F) main_arg1 main_arg2 main_arg3 main_v6 main_v13 main_v21 main_v31 main_v37 main_v38

def fn {F : FTy → Type} [FloatOps F] (main_arg0 : FVec F S20480x2048 .f32) (main_arg1 : IVec S80 32) (main_arg2 : IVec S80 32) (main_arg3 : IVec S32 32) (main_arg4 : FVec F S32x2048x512 .f32) (main_arg5 : FVec F S32x2048x512 .f32) (main_arg6 : FVec F S32x512x2048 .f32) : IVec S80 1 × IVec S_ 1 × IVec S79 1 × IVec S80 1 × IVec S80x80x32 1 × IVec S79x80x32 1 × IVec S80x32 1 :=
  let main_v0 : IVec S32 32 := iotaInDim S32 32 0
  let main_v1 : IVec S80 32 := iotaInDim S80 32 0
  let main_c : IVec S_ 32 := constantI S_ 32 0#32
  let main_v2 : IVec S80 32 := broadcastInDim S80 ![] bcast_S_S80 main_c
  let main_v3 : IVec S80 1 := cmpi .eq main_arg2 main_v2
  let main_c_0 : IVec S_ 32 := constantI S_ 32 1#32
  let main_v4 : IVec S80 32 := broadcastInDim S80 ![] bcast_S_S80 main_c_0
  let main_v5 : IVec S80 1 := cmpi .eq main_arg2 main_v4
  let main_v6 : IVec S80 1 := ori main_v3 main_v5
  let main_v7 : IVec S79 32 := (extractStridedSlice S79 ![1] · slices_S80_S79_1) main_arg2
  let main_c_1 : IVec S_ 32 := constantI S_ 32 0#32
  let main_v8 : IVec S79 32 := broadcastInDim S79 ![] bcast_S_S79 main_c_1
  let main_v9 : IVec S79 1 := cmpi .eq main_v7 main_v8
  let main_v10 : IVec S79 32 := (extractStridedSlice S79 ![0] · slices_S80_S79_0) main_arg2
  let main_c_2 : IVec S_ 32 := constantI S_ 32 1#32
  let main_v11 : IVec S79 32 := broadcastInDim S79 ![] bcast_S_S79 main_c_2
  let main_v12 : IVec S79 1 := cmpi .eq main_v10 main_v11
  let main_v13 : IVec S79 1 := ori main_v9 main_v12
  let main_c_3 : IVec S_ 32 := constantI S_ 32 0#32
  let main_v14 : IVec S80 32 := broadcastInDim S80 ![] bcast_S_S80 main_c_3
  let main_v15 : IVec S80 1 := cmpi .eq main_arg2 main_v14
  let main_c_4 : IVec S_ 32 := constantI S_ 32 0#32
  let main_v16 : IVec S80 32 := broadcastInDim S80 ![] bcast_S_S80 main_c_4
  let main_v17 : IVec S80 1 := cmpi .sge main_arg1 main_v16
  fn_part1 (F := F) main_arg1 main_arg2 main_arg3 main_v0 main_v1 main_v6 main_v13 main_v15 main_v17
-- ==== Kernel.lean ====
abbrev S6144x2048 : Shape := ⟨2, ![6144, 2048]⟩
abbrev S1x2048x11296 : Shape := ⟨3, ![1, 2048, 11296]⟩
abbrev S2048x11296 : Shape := ⟨2, ![2048, 11296]⟩
abbrev S11296x2048 : Shape := ⟨2, ![11296, 2048]⟩
abbrev S6144x11264 : Shape := ⟨2, ![6144, 11264]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S6144x2048, .bf16⟩
  | .hbm, ⟨1, _⟩ => ⟨S1x2048x11296, .f32⟩
  | .hbm, ⟨2, _⟩ => ⟨S2048x11296, .f32⟩
  | .hbm, ⟨3, _⟩ => ⟨S11296x2048, .f32⟩
  | .hbm, ⟨4, _⟩ => ⟨S6144x11264, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 3], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c32_i32 : BitVec 32 := 32#32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.minsi v17 c1_i32_4
  let v19 : BitVec 32 := Scalar.muli c32_i32 v18
  let v20 : BitVec 32 := Scalar.addi v0 v19
  v20
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.minsi v17 c1_i32_4
  let c32_i32 : BitVec 32 := 32#32
  let v19 : BitVec 32 := Scalar.muli c32_i32 v18
  let v20 : BitVec 32 := Scalar.addi v0 v19
  let v21 : BitVec 32 := v20
  let c0_i32_5 : BitVec 32 := 0#32
  let c0_i32_6 : BitVec 32 := 0#32
  ![v21.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6144x2048 : Shape := ⟨2, ![6144, 2048]⟩
abbrev S1x2048x11296 : Shape := ⟨3, ![1, 2048, 11296]⟩
abbrev S2048x11296 : Shape := ⟨2, ![2048, 11296]⟩
abbrev S6144x11296 : Shape := ⟨2, ![6144, 11296]⟩
abbrev S6144x3072 : Shape := ⟨2, ![6144, 3072]⟩
abbrev S6144x1024 : Shape := ⟨2, ![6144, 1024]⟩
abbrev S6144x16 : Shape := ⟨2, ![6144, 16]⟩
abbrev S6144x4096 : Shape := ⟨2, ![6144, 4096]⟩
abbrev S6144x11264 : Shape := ⟨2, ![6144, 11264]⟩

abbrev nBuf : Space → Nat
  | .hbm => 15
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S1x2048x11296, .f32⟩
  | .hbm, ⟨2, _⟩ => ⟨S6144x2048, .f32⟩
  | .hbm, ⟨3, _⟩ => ⟨S2048x11296, .f32⟩
  | .hbm, ⟨4, _⟩ => ⟨S6144x11296, .f32⟩
  | .hbm, ⟨5, _⟩ => ⟨S6144x3072, .f32⟩
  | .hbm, ⟨6, _⟩ => ⟨S6144x1024, .f32⟩
  | .hbm, ⟨7, _⟩ => ⟨S6144x16, .f32⟩
  | .hbm, ⟨8, _⟩ => ⟨S6144x16, .f32⟩
  | .hbm, ⟨9, _⟩ => ⟨S6144x1024, .f32⟩
  | .hbm, ⟨10, _⟩ => ⟨S6144x1024, .f32⟩
  | .hbm, ⟨11, _⟩ => ⟨S6144x1024, .f32⟩
  | .hbm, ⟨12, _⟩ => ⟨S6144x4096, .f32⟩
  | .hbm, ⟨13, _⟩ => ⟨S6144x11264, .f32⟩
  | .hbm, ⟨14, _⟩ => ⟨S6144x11264, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel2.lean ====
abbrev S20480x2048 : Shape := ⟨2, ![20480, 2048]⟩
abbrev S80 : Shape := ⟨1, ![80]⟩
abbrev S32 : Shape := ⟨1, ![32]⟩
abbrev S32x2048x512 : Shape := ⟨3, ![32, 2048, 512]⟩
abbrev S32x512x2048 : Shape := ⟨3, ![32, 512, 2048]⟩
abbrev S256x2048 : Shape := ⟨2, ![256, 2048]⟩
abbrev S1 : Shape := ⟨1, ![1]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S_ : Shape := ⟨0, ![]⟩
abbrev S1x2048x512 : Shape := ⟨3, ![1, 2048, 512]⟩
abbrev S1x512x2048 : Shape := ⟨3, ![1, 512, 2048]⟩
abbrev S256x512 : Shape := ⟨2, ![256, 512]⟩

abbrev nBuf : Space → Nat
  | .hbm => 5
  | .vmem => 10
  | .smem => 4
  | _ => 0

abbrev bufTy : (tb : Table) → Fin (tcTables nBuf tb) → BufTy
  | .hbm, ⟨0, _⟩ => ⟨S20480x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S20480x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S80, .i32⟩
  | .local _ .smem, ⟨1, _⟩ => ⟨S80, .i32⟩
  | .local _ .smem, ⟨2, _⟩ => ⟨S32, .i32⟩
  | .local _ .smem, ⟨3, _⟩ => ⟨S1, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![80], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v6 : BitVec 32) : Fin 3 → Nat :=
  let c0_i32_13 : BitVec 32 := 0#32
  let c0_i32_14 : BitVec 32 := 0#32
  ![v6.toNat, 0, 0]
def k0_cond1 (i : grid0.Coords) (v3 : BitVec 32) : BitVec 1 :=
  let c1_i32_0 : BitVec 32 := 1#32
  let v4 : BitVec 1 := Scalar.cmpi .eq v3 c1_i32_0
  let arg0 : BitVec 32 := BitVec.ofNat 32 (i 0).val
  let c0_i32_1 : BitVec 32 := 0#32
  let v7 : BitVec 1 := Scalar.cmpi .eq arg0 c0_i32_1
  let v8 : BitVec 1 := Scalar.andi v4 v7
  let v9 : BitVec 32 := Scalar.extui v8
  let c0_i32_2 : BitVec 32 := 0#32
  let v10 : BitVec 1 := Scalar.cmpi .ne v9 c0_i32_2
  v10

def k0_off3 (v6 : BitVec 32) : Fin 3 → Nat :=
  let c0_i32_25 : BitVec 32 := 0#32
  let c0_i32_26 : BitVec 32 := 0#32
  ![v6.toNat, 0, 0]

def k0_chk1 (i : grid0.Coords) (v3 : BitVec 32) (v6 : BitVec 32) : Prop :=
  (∀ (k0_h1 : k0_cond1 i v3 = 1#1), ∀ a, (k0_off2 v6) a + S1x2048x512.size a ≤ S32x2048x512.size a) ∧
  (∀ (k0_h1 : k0_cond1 i v3 = 1#1), ∀ a, (k0_off3 v6) a + S1x512x2048.size a ≤ S32x512x2048.size a)
theorem k0_off2_inb : ∀ (i : grid0.Coords) (v3 : BitVec 32) (v6 : BitVec 32) (k0_hw1 : k0_chk1 i v3 v6), ∀ (k0_h1 : k0_cond1 i v3 = 1#1), ∀ a, (k0_off2 v6) a + S1x2048x512.size a ≤ S32x2048x512.size a := fun i v3 v6 k0_hw1 k0_h1 => k0_hw1.1 k0_h1
theorem k0_off3_inb : ∀ (i : grid0.Coords) (v3 : BitVec 32) (v6 : BitVec 32) (k0_hw1 : k0_chk1 i v3 v6), ∀ (k0_h1 : k0_cond1 i v3 = 1#1), ∀ a, (k0_off3 v6) a + S1x512x2048.size a ≤ S32x512x2048.size a := fun i v3 v6 k0_hw1 k0_h1 => k0_hw1.2 k0_h1

def k0_off4 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v12 : Index := Scalar.indexCast v1
  ![v12.toNat]
def k0_off5 (v26 : BitVec 32) : Fin 1 → Nat :=
  let c1_i32_8 : BitVec 32 := 1#32
  let v27 : BitVec 32 := Scalar.subi c1_i32_8 v26
  ![v27.toNat]
def k0_cond2 (i : grid0.Coords) (v3 : BitVec 32) (v6 : BitVec 32) (v13 : BitVec 32) : BitVec 1 :=
  let c1_i32_0 : BitVec 32 := 1#32
  let v4 : BitVec 1 := Scalar.cmpi .eq v3 c1_i32_0
  let arg0 : BitVec 32 := BitVec.ofNat 32 (i 0).val
  let c0_i32_3 : BitVec 32 := 0#32
  let v11 : BitVec 1 := Scalar.cmpi .eq arg0 c0_i32_3
  let v14 : BitVec 1 := Scalar.cmpi .ne v6 v13
  let v15 : BitVec 1 := Scalar.ori v11 v14
  let v16 : BitVec 1 := Scalar.andi v4 v15
  let v17 : BitVec 32 := Scalar.extui v16
  let c0_i32_4 : BitVec 32 := 0#32
  let v18 : BitVec 1 := Scalar.cmpi .ne v17 c0_i32_4
  v18

def k0_off6 (v26 : BitVec 32) : Fin 3 → Nat :=
  let c1_i32_8 : BitVec 32 := 1#32
  let v27 : BitVec 32 := Scalar.subi c1_i32_8 v26
  let c0_i32_10 : BitVec 32 := 0#32
  let c0_i32_11 : BitVec 32 := 0#32
  ![v27.toNat, 0, 0]
def k0_off7 (v6 : BitVec 32) : Fin 3 → Nat :=
  let c0_i32_12 : BitVec 32 := 0#32
  let c0_i32_13 : BitVec 32 := 0#32
  ![v6.toNat, 0, 0]

def k0_off8 (v26 : BitVec 32) : Fin 3 → Nat :=
  let c1_i32_8 : BitVec 32 := 1#32
  let v27 : BitVec 32 := Scalar.subi c1_i32_8 v26
  let c0_i32_18 : BitVec 32 := 0#32
  let c0_i32_19 : BitVec 32 := 0#32
  ![v27.toNat, 0, 0]
def k0_off9 (v6 : BitVec 32) : Fin 3 → Nat :=
  let c0_i32_20 : BitVec 32 := 0#32
  let c0_i32_21 : BitVec 32 := 0#32
  ![v6.toNat, 0, 0]
def k0_off10 (v6 : BitVec 32) : Fin 1 → Nat :=
  let v47 : Index := Scalar.indexCast v6
  ![v47.toNat]

def k0_chk3 (i : grid0.Coords) (v3 : BitVec 32) (v6 : BitVec 32) (v13 : BitVec 32) : Prop :=
  (∀ (k0_h2 : k0_cond2 i v3 v6 v13 = 1#1), ∀ a, (k0_off7 v6) a + S1x2048x512.size a ≤ S32x2048x512.size a) ∧
  (∀ (k0_h2 : k0_cond2 i v3 v6 v13 = 1#1), ∀ a, (k0_off9 v6) a + S1x512x2048.size a ≤ S32x512x2048.size a) ∧
  (∀ (k0_h2 : k0_cond2 i v3 v6 v13 = 1#1), ∀ a, (k0_off10 v6) a + S1.size a ≤ S32.size a)
theorem k0_off7_inb : ∀ (i : grid0.Coords) (v3 : BitVec 32) (v6 : BitVec 32) (v13 : BitVec 32) (k0_hw3 : k0_chk3 i v3 v6 v13), ∀ (k0_h2 : k0_cond2 i v3 v6 v13 = 1#1), ∀ a, (k0_off7 v6) a + S1x2048x512.size a ≤ S32x2048x512.size a := fun i v3 v6 v13 k0_hw3 k0_h2 => k0_hw3.1 k0_h2
theorem k0_off9_inb : ∀ (i : grid0.Coords) (v3 : BitVec 32) (v6 : BitVec 32) (v13 : BitVec 32) (k0_hw3 : k0_chk3 i v3 v6 v13), ∀ (k0_h2 : k0_cond2 i v3 v6 v13 = 1#1), ∀ a, (k0_off9 v6) a + S1x512x2048.size a ≤ S32x512x2048.size a := fun i v3 v6 v13 k0_hw3 k0_h2 => k0_hw3.2.1 k0_h2
theorem k0_off10_inb : ∀ (i : grid0.Coords) (v3 : BitVec 32) (v6 : BitVec 32) (v13 : BitVec 32) (k0_hw3 : k0_chk3 i v3 v6 v13), ∀ (k0_h2 : k0_cond2 i v3 v6 v13 = 1#1), ∀ a, (k0_off10 v6) a + S1.size a ≤ S32.size a := fun i v3 v6 v13 k0_hw3 k0_h2 => k0_hw3.2.2 k0_h2

def k0_off11 (i : grid0.Coords) (v48 : BitVec 32) : Fin 1 → Nat :=
  let arg0 : BitVec 32 := BitVec.ofNat 32 (i 0).val
  let c256_i32 : BitVec 32 := 256#32
  let v49 : BitVec 32 := Scalar.addi v48 c256_i32
  let c1_i32_22 : BitVec 32 := 1#32
  let v50 : BitVec 32 := Scalar.subi v49 c1_i32_22
  let c0_i32_24 : BitVec 32 := 0#32
  let v52 : BitVec 1 := Scalar.cmpi .sgt v50 c0_i32_24
  let v53 : BitVec 32 := Scalar.extui v52
  let c0_i32_25 : BitVec 32 := 0#32
  let v54 : BitVec 1 := Scalar.cmpi .slt v50 c0_i32_25
  let v55 : BitVec 32 := Scalar.extui v54
  let v56 : BitVec 32 := Scalar.subi v53 v55
  let c256_i32_23 : BitVec 32 := 256#32
  let c0_i32_26 : BitVec 32 := 0#32
  let v57 : BitVec 1 := Scalar.cmpi .sgt c256_i32_23 c0_i32_26
  let v58 : BitVec 32 := Scalar.extui v57
  let c0_i32_27 : BitVec 32 := 0#32
  let v59 : BitVec 1 := Scalar.cmpi .slt c256_i32_23 c0_i32_27
  let v60 : BitVec 32 := Scalar.extui v59
  let v61 : BitVec 32 := Scalar.subi v58 v60
  let v62 : BitVec 1 := Scalar.cmpi .ne v56 v61
  let v63 : BitVec 32 := Scalar.remsi v50 c256_i32_23
  let c0_i32_28 : BitVec 32 := 0#32
  let v64 : BitVec 1 := Scalar.cmpi .ne v63 c0_i32_28
  let v65 : BitVec 1 := Scalar.andi v62 v64
  let v51 : BitVec 32 := Scalar.divsi v50 c256_i32_23
  let c1_i32_29 : BitVec 32 := 1#32
  let v66 : BitVec 32 := Scalar.subi v51 c1_i32_29
  let v67 : BitVec 32 := Scalar.select v65 v66 v51
  let v68 : BitVec 32 := Scalar.addi arg0 v67
  let c79_i32 : BitVec 32 := 79#32
  let v69 : BitVec 32 := Scalar.minsi v68 c79_i32
  let v71 : Index := Scalar.indexCast v69
  ![v71.toNat]

def k0_chk4 (i : grid0.Coords) (v3 : BitVec 32) (v6 : BitVec 32) (v13 : BitVec 32) (v48 : BitVec 32) : Prop :=
  (∀ (k0_h2 : k0_cond2 i v3 v6 v13 = 1#1), ∀ a, (k0_off11 i v48) a + S1.size a ≤ S80.size a)
theorem k0_off11_inb : ∀ (i : grid0.Coords) (v3 : BitVec 32) (v6 : BitVec 32) (v13 : BitVec 32) (v48 : BitVec 32) (k0_hw4 : k0_chk4 i v3 v6 v13 v48), ∀ (k0_h2 : k0_cond2 i v3 v6 v13 = 1#1), ∀ a, (k0_off11 i v48) a + S1.size a ≤ S80.size a := fun i v3 v6 v13 v48 k0_hw4 k0_h2 => k0_hw4 k0_h2

def k0_off12 (i : grid0.Coords) (v48 : BitVec 32) : Fin 1 → Nat :=
  let arg0 : BitVec 32 := BitVec.ofNat 32 (i 0).val
  let c256_i32 : BitVec 32 := 256#32
  let v49 : BitVec 32 := Scalar.addi v48 c256_i32
  let c1_i32_22 : BitVec 32 := 1#32
  let v50 : BitVec 32 := Scalar.subi v49 c1_i32_22
  let c0_i32_24 : BitVec 32 := 0#32
  let v52 : BitVec 1 := Scalar.cmpi .sgt v50 c0_i32_24
  let v53 : BitVec 32 := Scalar.extui v52
  let c0_i32_25 : BitVec 32 := 0#32
  let v54 : BitVec 1 := Scalar.cmpi .slt v50 c0_i32_25
  let v55 : BitVec 32 := Scalar.extui v54
  let v56 : BitVec 32 := Scalar.subi v53 v55
  let c256_i32_23 : BitVec 32 := 256#32
  let c0_i32_26 : BitVec 32 := 0#32
  let v57 : BitVec 1 := Scalar.cmpi .sgt c256_i32_23 c0_i32_26
  let v58 : BitVec 32 := Scalar.extui v57
  let c0_i32_27 : BitVec 32 := 0#32
  let v59 : BitVec 1 := Scalar.cmpi .slt c256_i32_23 c0_i32_27
  let v60 : BitVec 32 := Scalar.extui v59
  let v61 : BitVec 32 := Scalar.subi v58 v60
  let v62 : BitVec 1 := Scalar.cmpi .ne v56 v61
  let v63 : BitVec 32 := Scalar.remsi v50 c256_i32_23
  let c0_i32_28 : BitVec 32 := 0#32
  let v64 : BitVec 1 := Scalar.cmpi .ne v63 c0_i32_28
  let v65 : BitVec 1 := Scalar.andi v62 v64
  let v51 : BitVec 32 := Scalar.divsi v50 c256_i32_23
  let c1_i32_29 : BitVec 32 := 1#32
  let v66 : BitVec 32 := Scalar.subi v51 c1_i32_29
  let v67 : BitVec 32 := Scalar.select v65 v66 v51
  let v68 : BitVec 32 := Scalar.addi arg0 v67
  let c79_i32 : BitVec 32 := 79#32
  let v69 : BitVec 32 := Scalar.minsi v68 c79_i32
  let v98 : Index := Scalar.indexCast v69
  ![v98.toNat]
def k0_cond3 (i : grid0.Coords) (v48 : BitVec 32) (v72 : BitVec 32) : BitVec 1 :=
  let arg0 : BitVec 32 := BitVec.ofNat 32 (i 0).val
  let c256_i32 : BitVec 32 := 256#32
  let v49 : BitVec 32 := Scalar.addi v48 c256_i32
  let c1_i32_22 : BitVec 32 := 1#32
  let v50 : BitVec 32 := Scalar.subi v49 c1_i32_22
  let c0_i32_24 : BitVec 32 := 0#32
  let v52 : BitVec 1 := Scalar.cmpi .sgt v50 c0_i32_24
  let v53 : BitVec 32 := Scalar.extui v52
  let c0_i32_25 : BitVec 32 := 0#32
  let v54 : BitVec 1 := Scalar.cmpi .slt v50 c0_i32_25
  let v55 : BitVec 32 := Scalar.extui v54
  let v56 : BitVec 32 := Scalar.subi v53 v55
  let c256_i32_23 : BitVec 32 := 256#32
  let c0_i32_26 : BitVec 32 := 0#32
  let v57 : BitVec 1 := Scalar.cmpi .sgt c256_i32_23 c0_i32_26
  let v58 : BitVec 32 := Scalar.extui v57
  let c0_i32_27 : BitVec 32 := 0#32
  let v59 : BitVec 1 := Scalar.cmpi .slt c256_i32_23 c0_i32_27
  let v60 : BitVec 32 := Scalar.extui v59
  let v61 : BitVec 32 := Scalar.subi v58 v60
  let v62 : BitVec 1 := Scalar.cmpi .ne v56 v61
  let v63 : BitVec 32 := Scalar.remsi v50 c256_i32_23
  let c0_i32_28 : BitVec 32 := 0#32
  let v64 : BitVec 1 := Scalar.cmpi .ne v63 c0_i32_28
  let v65 : BitVec 1 := Scalar.andi v62 v64
  let v51 : BitVec 32 := Scalar.divsi v50 c256_i32_23
  let c1_i32_29 : BitVec 32 := 1#32
  let v66 : BitVec 32 := Scalar.subi v51 c1_i32_29
  let v67 : BitVec 32 := Scalar.select v65 v66 v51
  let v68 : BitVec 32 := Scalar.addi arg0 v67
  let c79_i32 : BitVec 32 := 79#32
  let v69 : BitVec 32 := Scalar.minsi v68 c79_i32
  let v70 : BitVec 1 := Scalar.cmpi .sgt v69 arg0
  let c1_i32_30 : BitVec 32 := 1#32
  let v73 : BitVec 1 := Scalar.cmpi .eq v72 c1_i32_30
  let v74 : BitVec 1 := Scalar.andi v70 v73
  let v75 : BitVec 32 := Scalar.extui v74
  let c0_i32_31 : BitVec 32 := 0#32
  let v76 : BitVec 1 := Scalar.cmpi .ne v75 c0_i32_31
  v76

def k0_off13 (v26 : BitVec 32) : Fin 1 → Nat :=
  let c1_i32_44 : BitVec 32 := 1#32
  let c1_i32_8 : BitVec 32 := 1#32
  let v27 : BitVec 32 := Scalar.subi c1_i32_8 v26
  let v100 : BitVec 32 := Scalar.subi c1_i32_44 v27
  ![v100.toNat]
def k0_off14 (v26 : BitVec 32) : Fin 3 → Nat :=
  let c1_i32_44 : BitVec 32 := 1#32
  let c1_i32_8 : BitVec 32 := 1#32
  let v27 : BitVec 32 := Scalar.subi c1_i32_8 v26
  let v100 : BitVec 32 := Scalar.subi c1_i32_44 v27
  let c0_i32_45 : BitVec 32 := 0#32
  let c0_i32_46 : BitVec 32 := 0#32
  ![v100.toNat, 0, 0]
def k0_off15 (v99 : BitVec 32) : Fin 3 → Nat :=
  let c0_i32_47 : BitVec 32 := 0#32
  let c0_i32_48 : BitVec 32 := 0#32
  ![v99.toNat, 0, 0]

def k0_off16 (v26 : BitVec 32) : Fin 1 → Nat :=
  let c1_i32_44 : BitVec 32 := 1#32
  let c1_i32_8 : BitVec 32 := 1#32
  let v27 : BitVec 32 := Scalar.subi c1_i32_8 v26
  let v100 : BitVec 32 := Scalar.subi c1_i32_44 v27
  ![v100.toNat]
def k0_off17 (v26 : BitVec 32) : Fin 3 → Nat :=
  let c1_i32_44 : BitVec 32 := 1#32
  let c1_i32_8 : BitVec 32 := 1#32
  let v27 : BitVec 32 := Scalar.subi c1_i32_8 v26
  let v100 : BitVec 32 := Scalar.subi c1_i32_44 v27
  let c0_i32_49 : BitVec 32 := 0#32
  let c0_i32_50 : BitVec 32 := 0#32
  ![v100.toNat, 0, 0]
def k0_off18 (v26 : BitVec 32) : Fin 3 → Nat :=
  let c1_i32_44 : BitVec 32 := 1#32
  let c1_i32_8 : BitVec 32 := 1#32
  let v27 : BitVec 32 := Scalar.subi c1_i32_8 v26
  let v100 : BitVec 32 := Scalar.subi c1_i32_44 v27
  let c0_i32_53 : BitVec 32 := 0#32
  let c0_i32_54 : BitVec 32 := 0#32
  ![v100.toNat, 0, 0]

def k0_chk5 (i : grid0.Coords) (v3 : BitVec 32) (v6 : BitVec 32) (v13 : BitVec 32) (v26 : BitVec 32) (v48 : BitVec 32) (v72 : BitVec 32) : Prop :=
  (∀ (k0_h2 : k0_cond2 i v3 v6 v13 = 1#1), ∀ (k0_h3 : k0_cond3 i v48 v72 = 1#1), ∀ a, (k0_off12 i v48) a + S1.size a ≤ S80.size a) ∧
  (∀ (k0_h2 : k0_cond2 i v3 v6 v13 = 1#1), ∀ (k0_h3 : k0_cond3 i v48 v72 = 1#1), ∀ a, (k0_off13 v26) a + S1.size a ≤ S2.size a) ∧
  (∀ (k0_h2 : k0_cond2 i v3 v6 v13 = 1#1), ∀ (k0_h3 : k0_cond3 i v48 v72 = 1#1), ∀ a, (k0_off14 v26) a + S1x2048x512.size a ≤ S2x2048x512.size a) ∧
  (∀ (k0_h2 : k0_cond2 i v3 v6 v13 = 1#1), ∀ (k0_h3 : k0_cond3 i v48 v72 = 1#1), ∀ a, (k0_off16 v26) a + S1.size a ≤ S2.size a) ∧
  (∀ (k0_h2 : k0_cond2 i v3 v6 v13 = 1#1), ∀ (k0_h3 : k0_cond3 i v48 v72 = 1#1), ∀ a, (k0_off17 v26) a + S1x2048x512.size a ≤ S2x2048x512.size a) ∧
  (∀ (k0_h2 : k0_cond2 i v3 v6 v13 = 1#1), ∀ (k0_h3 : k0_cond3 i v48 v72 = 1#1), ∀ a, (k0_off18 v26) a + S1x512x2048.size a ≤ S2x512x2048.size a)
theorem k0_off12_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off12 i v48) a + S1.size a ≤ S80.size a := fun i v3 v6 v13 v26 v48 v72 k0_hw5 k0_h2 k0_h3 => k0_hw5.1 k0_h2 k0_h3
theorem k0_off13_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off13 v26) a + S1.size a ≤ S2.size a := fun i v3 v6 v13 v26 v48 v72 k0_hw5 k0_h2 k0_h3 => k0_hw5.2.1 k0_h2 k0_h3
theorem k0_off14_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off14 v26) a + S1x2048x512.size a ≤ S2x2048x512.size a := fun i v3 v6 v13 v26 v48 v72 k0_hw5 k0_h2 k0_h3 => k0_hw5.2.2.1 k0_h2 k0_h3
theorem k0_off16_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off16 v26) a + S1.size a ≤ S2.size a := fun i v3 v6 v13 v26 v48 v72 k0_hw5 k0_h2 k0_h3 => k0_hw5.2.2.2.1 k0_h2 k0_h3
theorem k0_off17_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off17 v26) a + S1x2048x512.size a ≤ S2x2048x512.size a := fun i v3 v6 v13 v26 v48 v72 k0_hw5 k0_h2 k0_h3 => k0_hw5.2.2.2.2.1 k0_h2 k0_h3
theorem k0_off18_inb : ∀ (i : grid0.Coords) (v3 : BitVec 32) (v6 : BitVec 32) (v13 : BitVec 32) (v26 : BitVec 32) (v48 : BitVec 32) (v72 : BitVec 32) (k0_hw5 : k0_chk5 i v3 v6 v13 v26 v48 v72), ∀ (k0_h2 : k0_cond2 i v3 v6 v13 = 1#1), ∀ (k0_h3 : k0_cond3 i v48 v72 = 1#1), ∀ a, (k0_off18 v26) a + S1x512x2048.size a ≤ S2x512x2048.size a := fun i v3 v6 v13 v26 v48 v72 k0_hw5 k0_h2 k0_h3 => k0_hw5.2.2.2.2.2 k0_h2 k0_h3

def k0_off19 (v99 : BitVec 32) : Fin 3 → Nat :=
  let c0_i32_55 : BitVec 32 := 0#32
  let c0_i32_56 : BitVec 32 := 0#32
  ![v99.toNat, 0, 0]

def k0_chk6 (i : grid0.Coords) (v3 : BitVec 32) (v6 : BitVec 32) (v13 : BitVec 32) (v48 : BitVec 32) (v72 : BitVec 32) (v99 : BitVec 32) : Prop :=
  (∀ (k0_h2 : k0_cond2 i v3 v6 v13 = 1#1), ∀ (k0_h3 : k0_cond3 i v48 v72 = 1#1), ∀ a, (k0_off15 v99) a + S1x2048x512.size a ≤ S32x2048x512.size a) ∧
  (∀ (k0_h2 : k0_cond2 i v3 v6 v13 = 1#1), ∀ (k0_h3 : k0_cond3 i v48 v72 = 1#1), ∀ a, (k0_off19 v99) a + S1x512x2048.size a ≤ S32x512x2048.size a)
theorem k0_off15_inb : ∀ (i : grid0.Coords) (v3 : BitVec 32) (v6 : BitVec 32) (v13 : BitVec 32) (v48 : BitVec 32) (v72 : BitVec 32) (v99 : BitVec 32) (k0_hw6 : k0_chk6 i v3 v6 v13 v48 v72 v99), ∀ (k0_h2 : k0_cond2 i v3 v6 v13 = 1#1), ∀ (k0_h3 : k0_cond3 i v48 v72 = 1#1), ∀ a, (k0_off15 v99) a + S1x2048x512.size a ≤ S32x2048x512.size a := fun i v3 v6 v13 v48 v72 v99 k0_hw6 k0_h2 k0_h3 => k0_hw6.1 k0_h2 k0_h3
theorem k0_off19_inb : ∀ (i : grid0.Coords) (v3 : BitVec 32) (v6 : BitVec 32) (v13 : BitVec 32) (v48 : BitVec 32) (v72 : BitVec 32) (v99 : BitVec 32) (k0_hw6 : k0_chk6 i v3 v6 v13 v48 v72 v99), ∀ (k0_h2 : k0_cond2 i v3 v6 v13 = 1#1), ∀ (k0_h3 : k0_cond3 i v48 v72 = 1#1), ∀ a, (k0_off19 v99) a + S1x512x2048.size a ≤ S32x512x2048.size a := fun i v3 v6 v13 v48 v72 v99 k0_hw6 k0_h2 k0_h3 => k0_hw6.2 k0_h2 k0_h3

def k0_off20 (v26 : BitVec 32) : Fin 3 → Nat :=
  let c1_i32_8 : BitVec 32 := 1#32
  let v27 : BitVec 32 := Scalar.subi c1_i32_8 v26
  let v77 : Index := Scalar.indexCast v27
  let c0_32 : Index := 0#32
  let c0_33 : Index := 0#32
  ![v77.toNat, 0, 0]
def k0_off21 (v26 : BitVec 32) : Fin 3 → Nat :=
  let c1_i32_8 : BitVec 32 := 1#32
  let v27 : BitVec 32 := Scalar.subi c1_i32_8 v26
  let v91 : Index := Scalar.indexCast v27
  let c0_40 : Index := 0#32
  let c0_41 : Index := 0#32
  ![v91.toNat, 0, 0]

def k0_chk2 (i : grid0.Coords) (v3 : BitVec 32) (v6 : BitVec 32) (v13 : BitVec 32) (v26 : BitVec 32) : Prop :=
  (∀ (k0_h2 : k0_cond2 i v3 v6 v13 = 1#1), ∀ a, (k0_off5 v26) a + S1.size a ≤ S2.size a) ∧
  (∀ (k0_h2 : k0_cond2 i v3 v6 v13 = 1#1), ∀ a, (k0_off6 v26) a + S1x2048x512.size a ≤ S2x2048x512.size a) ∧
  (∀ (k0_h2 : k0_cond2 i v3 v6 v13 = 1#1), ∀ a, (k0_off8 v26) a + S1x512x2048.size a ≤ S2x512x2048.size a) ∧
  (∀ (k0_h2 : k0_cond2 i v3 v6 v13 = 1#1), ∀ a, (k0_off20 v26) a + S1x2048x512.size a ≤ S2x2048x512.size a) ∧
  (∀ (k0_h2 : k0_cond2 i v3 v6 v13 = 1#1), ∀ a, (k0_off21 v26) a + S1x512x2048.size a ≤ S2x512x2048.size a)
theorem k0_off5_inb : ∀ (i : grid0.Coords) (v3 : BitVec 32) (v6 : BitVec 32) (v13 : BitVec 32) (v26 : BitVec 32) (k0_hw2 : k0_chk2 i v3 v6 v13 v26), ∀ (k0_h2 : k0_cond2 i v3 v6 v13 = 1#1), ∀ a, (k0_off5 v26) a + S1.size a ≤ S2.size a := fun i v3 v6 v13 v26 k0_hw2 k0_h2 => k0_hw2.1 k0_h2
theorem k0_off6_inb : ∀ (i : grid0.Coords) (v3 : BitVec 32) (v6 : BitVec 32) (v13 : BitVec 32) (v26 : BitVec 32) (k0_hw2 : k0_chk2 i v3 v6 v13 v26), ∀ (k0_h2 : k0_cond2 i v3 v6 v13 = 1#1), ∀ a, (k0_off6 v26) a + S1x2048x512.size a ≤ S2x2048x512.size a := fun i v3 v6 v13 v26 k0_hw2 k0_h2 => k0_hw2.2.1 k0_h2
theorem k0_off8_inb : ∀ (i : grid0.Coords) (v3 : BitVec 32) (v6 : BitVec 32) (v13 : BitVec 32) (v26 : BitVec 32) (k0_hw2 : k0_chk2 i v3 v6 v13 v26), ∀ (k0_h2 : k0_cond2 i v3 v6 v13 = 1#1), ∀ a, (k0_off8 v26) a + S1x512x2048.size a ≤ S2x512x2048.size a := fun i v3 v6 v13 v26 k0_hw2 k0_h2 => k0_hw2.2.2.1 k0_h2
theorem k0_off20_inb : ∀ (i : grid0.Coords) (v3 : BitVec 32) (v6 : BitVec 32) (v13 : BitVec 32) (v26 : BitVec 32) (k0_hw2 : k0_chk2 i v3 v6 v13 v26), ∀ (k0_h2 : k0_cond2 i v3 v6 v13 = 1#1), ∀ a, (k0_off20 v26) a + S1x2048x512.size a ≤ S2x2048x512.size a := fun i v3 v6 v13 v26 k0_hw2 k0_h2 => k0_hw2.2.2.2.1 k0_h2
theorem k0_off21_inb : ∀ (i : grid0.Coords) (v3 : BitVec 32) (v6 : BitVec 32) (v13 : BitVec 32) (v26 : BitVec 32) (k0_hw2 : k0_chk2 i v3 v6 v13 v26), ∀ (k0_h2 : k0_cond2 i v3 v6 v13 = 1#1), ∀ a, (k0_off21 v26) a + S1x512x2048.size a ≤ S2x512x2048.size a := fun i v3 v6 v13 v26 k0_hw2 k0_h2 => k0_hw2.2.2.2.2 k0_h2

def k0_off22 (i : grid0.Coords) : Fin 1 → Nat :=
  let arg0 : BitVec 32 := BitVec.ofNat 32 (i 0).val
  let v21 : Index := Scalar.indexCast arg0
  ![v21.toNat]
def k0_cond4 (v3 : BitVec 32) : BitVec 1 :=
  let c1_i32_0 : BitVec 32 := 1#32
  let v4 : BitVec 1 := Scalar.cmpi .eq v3 c1_i32_0
  let v19 : BitVec 32 := Scalar.extui v4
  let c0_i32_5 : BitVec 32 := 0#32
  let v20 : BitVec 1 := Scalar.cmpi .ne v19 c0_i32_5
  v20

def k0_cond5 (v22 : BitVec 32) : BitVec 1 :=
  let c0_i32_6 : BitVec 32 := 0#32
  let v23 : BitVec 1 := Scalar.cmpi .eq v22 c0_i32_6
  let v24 : BitVec 32 := Scalar.extui v23
  let c0_i32_7 : BitVec 32 := 0#32
  let v25 : BitVec 1 := Scalar.cmpi .ne v24 c0_i32_7
  v25

def cc0_transform_0 (k0_off1_inb : ∀ i : grid0.Coords, ∀ a, (k0_off1 i) a + S1.size a ≤ S80.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S80) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S20480x2048 : Shape := ⟨2, ![20480, 2048]⟩
abbrev S80 : Shape := ⟨1, ![80]⟩
abbrev S32 : Shape := ⟨1, ![32]⟩
abbrev S32x2048x512 : Shape := ⟨3, ![32, 2048, 512]⟩
abbrev S32x512x2048 : Shape := ⟨3, ![32, 512, 2048]⟩
abbrev S80x256 : Shape := ⟨2, ![80, 256]⟩
abbrev S20480 : Shape := ⟨1, ![20480]⟩
abbrev S_ : Shape := ⟨0, ![]⟩
abbrev S20480x1 : Shape := ⟨2, ![20480, 1]⟩
abbrev S1x32 : Shape := ⟨2, ![1, 32]⟩
abbrev S20480x32 : Shape := ⟨2, ![20480, 32]⟩
abbrev S32x512x20480 : Shape := ⟨3, ![32, 512, 20480]⟩
abbrev S32x20480x512 : Shape := ⟨3, ![32, 20480, 512]⟩
abbrev S32x20480 : Shape := ⟨2, ![32, 20480]⟩
abbrev S32x20480x1 : Shape := ⟨3, ![32, 20480, 1]⟩

abbrev nBuf : Space → Nat
  | .hbm => 45
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S80, .i32⟩
  | .hbm, ⟨2, _⟩ => ⟨S80, .i32⟩
  | .hbm, ⟨3, _⟩ => ⟨S32, .i32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S80x256, .i32⟩
  | .hbm, ⟨8, _⟩ => ⟨S20480, .i32⟩
  | .hbm, ⟨9, _⟩ => ⟨S80x256, .i32⟩
  | .hbm, ⟨10, _⟩ => ⟨S20480, .i32⟩
  | .hbm, ⟨11, _⟩ => ⟨S_, .i32⟩
  | .hbm, ⟨12, _⟩ => ⟨S20480, .i32⟩
  | .hbm, ⟨13, _⟩ => ⟨S20480, .i1⟩
  | .hbm, ⟨14, _⟩ => ⟨S20480x1, .i1⟩
  | .hbm, ⟨15, _⟩ => ⟨S20480x1, .i32⟩
  | .hbm, ⟨16, _⟩ => ⟨S1x32, .i32⟩
  | .hbm, ⟨17, _⟩ => ⟨S20480x32, .i32⟩
  | .hbm, ⟨18, _⟩ => ⟨S20480x32, .i32⟩
  | .hbm, ⟨19, _⟩ => ⟨S20480x32, .i1⟩
  | .hbm, ⟨20, _⟩ => ⟨S20480x32, .f32⟩
  | .hbm, ⟨21, _⟩ => ⟨S_, .f32⟩
  | .hbm, ⟨22, _⟩ => ⟨S_, .f32⟩
  | .hbm, ⟨23, _⟩ => ⟨S20480x32, .i1⟩
  | .hbm, ⟨24, _⟩ => ⟨S20480x32, .f32⟩
  | .hbm, ⟨25, _⟩ => ⟨S20480x32, .f32⟩
  | .hbm, ⟨26, _⟩ => ⟨S32x512x20480, .f32⟩
  | .hbm, ⟨27, _⟩ => ⟨S32x20480x512, .f32⟩
  | .hbm, ⟨28, _⟩ => ⟨S32x20480x512, .f32⟩
  | .hbm, ⟨29, _⟩ => ⟨S32x20480x512, .f32⟩
  | .hbm, ⟨30, _⟩ => ⟨S_, .f32⟩
  | .hbm, ⟨31, _⟩ => ⟨S32x20480x512, .f32⟩
  | .hbm, ⟨32, _⟩ => ⟨S32x20480x512, .f32⟩
  | .hbm, ⟨33, _⟩ => ⟨S_, .f32⟩
  | .hbm, ⟨34, _⟩ => ⟨S32x20480x512, .f32⟩
  | .hbm, ⟨35, _⟩ => ⟨S32x20480x512, .f32⟩
  | .hbm, ⟨36, _⟩ => ⟨S32x20480x512, .f32⟩
  | .hbm, ⟨37, _⟩ => ⟨S32x512x20480, .f32⟩
  | .hbm, ⟨38, _⟩ => ⟨S32x20480x512, .f32⟩
  | .hbm, ⟨39, _⟩ => ⟨S32x20480x512, .f32⟩
  | .hbm, ⟨40, _⟩ => ⟨S32x20480, .f32⟩
  | .hbm, ⟨41, _⟩ => ⟨S32x20480x1, .f32⟩
  | .hbm, ⟨42, _⟩ => ⟨S32x20480x512, .f32⟩
  | .hbm, ⟨43, _⟩ => ⟨S32x20480x512, .f32⟩
  | .hbm, ⟨44, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩

abbrev nD : Nat := 1
abbrev τ : Topo := Topo.v7x

variable {F : FTy → Type} [FloatOps F]
-- ==== Kernel3.lean ====
abbrev S6144x11264 : Shape := ⟨2, ![6144, 11264]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S128 : Shape := ⟨1, ![128]⟩
abbrev S4096x1024 : Shape := ⟨2, ![4096, 1024]⟩
abbrev S16x1x8x256x128 : Shape := ⟨5, ![16, 1, 8, 256, 128]⟩
abbrev S256x1024 : Shape := ⟨2, ![256, 1024]⟩
abbrev S1x1x8x256x128 : Shape := ⟨5, ![1, 1, 8, 256, 128]⟩
abbrev S1x1 : Shape := ⟨2, ![1, 1]⟩
abbrev S256x128 : Shape := ⟨2, ![256, 128]⟩
abbrev S1x1x1x256x128 : Shape := ⟨5, ![1, 1, 1, 256, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 14
  | .smem => 0
  | _ => 0

abbrev bufTy : (tb : Table) → Fin (tcTables nBuf tb) → BufTy
  | .hbm, ⟨0, _⟩ => ⟨S6144x11264, .bf16⟩
  | .hbm, ⟨1, _⟩ => ⟨S1x4x64, .f32⟩
  | .hbm, ⟨2, _⟩ => ⟨S1x128, .f32⟩
  | .hbm, ⟨3, _⟩ => ⟨S4x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S4096x1024, .bf16⟩
  | .hbm, ⟨27, _⟩ => ⟨S16x1x8x256x128, .f32⟩
  | .hbm, ⟨28, _⟩ => ⟨S16x1x8x256x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S1x1x8x256x128, .f32⟩
  | .local _ .vmem, ⟨11, _⟩ => ⟨S1x1x8x256x128, .f32⟩
  | .local _ .vmem, ⟨12, _⟩ => ⟨S1x1x8x256x128, .f32⟩
  | .local _ .vmem, ⟨13, _⟩ => ⟨S1x1x8x256x128, .f32⟩
  | _, _ => ⟨S6144x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S6144x11264 : Shape := ⟨2, ![6144, 11264]⟩
abbrev S1x4x64 : Shape := ⟨3, ![1, 4, 64]⟩
abbrev S1x128 : Shape := ⟨2, ![1, 128]⟩
abbrev S4096x11264 : Shape := ⟨2, ![4096, 11264]⟩
abbrev S4096x1024 : Shape := ⟨2, ![4096, 1024]⟩
abbrev S16x256x8x2x64 : Shape := ⟨5, ![16, 256, 8, 2, 64]⟩
abbrev S16x256x8x128 : Shape := ⟨4, ![16, 256, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S16x8x2x256x256 : Shape := ⟨5, ![16, 8, 2, 256, 256]⟩
abbrev S16x8x2x256 : Shape := ⟨4, ![16, 8, 2, 256]⟩
abbrev S16x8x2x256x1 : Shape := ⟨5, ![16, 8, 2, 256, 1]⟩
abbrev S16x8x1x256x256 : Shape := ⟨5, ![16, 8, 1, 256, 256]⟩
abbrev S16x8x256x256 : Shape := ⟨4, ![16, 8, 256, 256]⟩
abbrev S16x8x128x256 : Shape := ⟨4, ![16, 8, 128, 256]⟩
abbrev S16x256x8 : Shape := ⟨3, ![16, 256, 8]⟩
abbrev S16x256x8x1 : Shape := ⟨4, ![16, 256, 8, 1]⟩
abbrev S128 : Shape := ⟨1, ![128]⟩
abbrev S1x1x1x128 : Shape := ⟨4, ![1, 1, 1, 128]⟩
abbrev S16x8x256x128 : Shape := ⟨4, ![16, 8, 256, 128]⟩
abbrev S16x1x8x256x128 : Shape := ⟨5, ![16, 1, 8, 256, 128]⟩

abbrev nBuf : Space → Nat
  | .hbm => 85
  | .vmem => 0
  | .smem => 0
  | _ => 0

abbrev bufTy : (tb : Table) → Fin (tcTables nBuf tb) → BufTy
  | .hbm, ⟨0, _⟩ => ⟨S6144x11264, .bf16⟩
  | .hbm, ⟨1, _⟩ => ⟨S1x4x64, .f32⟩
  | .hbm, ⟨2, _⟩ => ⟨S1x128, .f32⟩
  | .hbm, ⟨3, _⟩ => ⟨S4096x11264, .bf16⟩
  | .hbm, ⟨4, _⟩ => ⟨S4096x11264, .f32⟩
  | .hbm, ⟨5, _⟩ => ⟨S4096x1024, .f32⟩
  | .hbm, ⟨6, _⟩ => ⟨S16x256x8x2x64, .f32⟩
  | .hbm, ⟨7, _⟩ => ⟨S4096x1024, .f32⟩
  | .hbm, ⟨8, _⟩ => ⟨S16x256x8x2x64, .f32⟩
  | .hbm, ⟨9, _⟩ => ⟨S4096x1024, .f32⟩
  | .hbm, ⟨10, _⟩ => ⟨S16x256x8x128, .f32⟩
  | .hbm, ⟨11, _⟩ => ⟨S4x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x8x2x256x256, .f32⟩
  | .hbm, ⟨32, _⟩ => ⟨S_, .f32⟩
  | .hbm, ⟨33, _⟩ => ⟨S16x8x2x256x256, .f32⟩
  | .hbm, ⟨34, _⟩ => ⟨S16x8x2x256x256, .f32⟩
  | .hbm, ⟨35, _⟩ => ⟨S_, .f32⟩
  | .hbm, ⟨36, _⟩ => ⟨S16x8x2x256, .f32⟩
  | .hbm, ⟨37, _⟩ => ⟨S_, .f32⟩
  | .hbm, ⟨38, _⟩ => ⟨S16x8x2x256, .f32⟩
  | .hbm, ⟨39, _⟩ => ⟨S16x8x2x256, .f32⟩
  | .hbm, ⟨40, _⟩ => ⟨S16x8x2x256x1, .f32⟩
  | .hbm, ⟨41, _⟩ => ⟨S16x8x2x256x256, .f32⟩
  | .hbm, ⟨42, _⟩ => ⟨S16x8x2x256x256, .f32⟩
  | .hbm, ⟨43, _⟩ => ⟨S16x8x2x256x256, .f32⟩
  | .hbm, ⟨44, _⟩ => ⟨S_, .f32⟩
  | .hbm, ⟨45, _⟩ => ⟨S16x8x2x256, .f32⟩
  | .hbm, ⟨46, _⟩ => ⟨S16x8x2x256x1, .f32⟩
  | .hbm, ⟨47, _⟩ => ⟨S16x8x2x256x256, .f32⟩
  | .hbm, ⟨48, _⟩ => ⟨S16x8x2x256x256, .f32⟩
  | .hbm, ⟨49, _⟩ => ⟨S16x8x1x256x256, .f32⟩
  | .hbm, ⟨50, _⟩ => ⟨S16x8x256x256, .f32⟩
  | .hbm, ⟨51, _⟩ => ⟨S16x8x1x256x256, .f32⟩
  | .hbm, ⟨52, _⟩ => ⟨S16x8x256x256, .f32⟩
  | .hbm, ⟨53, _⟩ => ⟨S16x8x256x256, .f32⟩
  | .hbm, ⟨54, _⟩ => ⟨S16x8x256x256, .f32⟩
  | .hbm, ⟨55, _⟩ => ⟨S16x8x256x256, .f32⟩
  | .hbm, ⟨56, _⟩ => ⟨S16x8x128x256, .f32⟩
  | .hbm, ⟨57, _⟩ => ⟨S16x256x8x128, .f32⟩
  | .hbm, ⟨58, _⟩ => ⟨S16x256x8x128, .f32⟩
  | .hbm, ⟨59, _⟩ => ⟨S_, .f32⟩
  | .hbm, ⟨60, _⟩ => ⟨S16x256x8, .f32⟩
  | .hbm, ⟨61, _⟩ => ⟨S16x256x8x1, .f32⟩
  | .hbm, ⟨62, _⟩ => ⟨S_, .f32⟩
  | .hbm, ⟨63, _⟩ => ⟨S16x256x8x1, .f32⟩
  | .hbm, ⟨64, _⟩ => ⟨S16x256x8x1, .f32⟩
  | .hbm, ⟨65, _⟩ => ⟨S_, .f32⟩
  | .hbm, ⟨66, _⟩ => ⟨S16x256x8x1, .f32⟩
  | .hbm, ⟨67, _⟩ => ⟨S16x256x8x1, .f32⟩
  | .hbm, ⟨68, _⟩ => ⟨S16x256x8x1, .f32⟩
  | .hbm, ⟨69, _⟩ => ⟨S16x256x8x128, .f32⟩
  | .hbm, ⟨70, _⟩ => ⟨S16x256x8x128, .f32⟩
  | .hbm, ⟨71, _⟩ => ⟨S128, .f32⟩
  | .hbm, ⟨72, _⟩ => ⟨S1x1x1x128, .f32⟩
  | .hbm, ⟨73, _⟩ => ⟨S16x256x8x128, .f32⟩
  | .hbm, ⟨74, _⟩ => ⟨S16x256x8x128, .f32⟩
  | .hbm, ⟨75, _⟩ => ⟨S_, .f32⟩
  | .hbm, ⟨76, _⟩ => ⟨S16x256x8x128, .f32⟩
  | .hbm, ⟨77, _⟩ => ⟨S16x256x8x128, .f32⟩
  | .hbm, ⟨78, _⟩ => ⟨S16x256x8x128, .f32⟩
  | .hbm, ⟨79, _⟩ => ⟨S16x8x256x128, .f32⟩
  | .hbm, ⟨80, _⟩ => ⟨S16x8x256x128, .f32⟩
  | .hbm, ⟨81, _⟩ => ⟨S4096x1024, .f32⟩
  | .hbm, ⟨82, _⟩ => ⟨S4096x1024, .bf16⟩
  | .hbm, ⟨83, _⟩ => ⟨S16x1x8x256x128, .f32⟩
  | .hbm, ⟨84, _⟩ => ⟨S16x1x8x256x128, .f32⟩
  | _, _ => ⟨S6144x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Kernel4.lean ====
abbrev S20480x2048 : Shape := ⟨2, ![20480, 2048]⟩
abbrev S12288 : Shape := ⟨1, ![12288]⟩
abbrev S6144x128 : Shape := ⟨2, ![6144, 128]⟩
abbrev S6144x2048 : Shape := ⟨2, ![6144, 2048]⟩
abbrev S8x1x2048 : Shape := ⟨3, ![8, 1, 2048]⟩
abbrev S2048 : Shape := ⟨1, ![2048]⟩
abbrev S1x2048 : Shape := ⟨2, ![1, 2048]⟩
abbrev S4096x2048 : Shape := ⟨2, ![4096, 2048]⟩
abbrev S256x128 : Shape := ⟨2, ![256, 128]⟩
abbrev S256x2048 : Shape := ⟨2, ![256, 2048]⟩
abbrev S1x1x2048 : Shape := ⟨3, ![1, 1, 2048]⟩
abbrev S2x2x256x2048 : Shape := ⟨4, ![2, 2, 256, 2048]⟩
abbrev S2 : Shape := ⟨1, ![2]⟩
abbrev S1 : Shape := ⟨1, ![1]⟩
abbrev S_ : Shape := ⟨0, ![]⟩
abbrev S1x1x1x2048 : Shape := ⟨4, ![1, 1, 1, 2048]⟩
abbrev S256x1 : Shape := ⟨2, ![256, 1]⟩
abbrev S1x1x256x2048 : Shape := ⟨4, ![1, 1, 256, 2048]⟩
abbrev S256 : Shape := ⟨1, ![256]⟩
abbrev S16x256x2048 : Shape := ⟨3, ![16, 256, 2048]⟩

abbrev nBuf : Space → Nat
  | .hbm => 8
  | .vmem => 9
  | .smem => 1
  | _ => 0

abbrev bufTy : (tb : Table) → Fin (tcTables nBuf tb) → BufTy
  | .hbm, ⟨0, _⟩ => ⟨S20480x2048, .f32⟩
  | .hbm, ⟨1, _⟩ => ⟨S6144x128, .f32⟩
  | .hbm, ⟨2, _⟩ => ⟨S6144x2048, .f32⟩
  | .hbm, ⟨3, _⟩ => ⟨S8x1x2048, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S16x256x2048, .f32⟩
  | .local _ .vmem, ⟨0, _⟩ => ⟨S256x128, .f32⟩
  | .local _ .vmem, ⟨1, _⟩ => ⟨S256x128, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S2x2x256x2048, .f32⟩
  | .local _ .smem, ⟨0, _⟩ => ⟨S12288, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_27 : BitVec 32 := 0#32
  let c256_i32_28 : BitVec 32 := 256#32
  let v53 : BitVec 32 := Scalar.addi c0_i32_27 c256_i32_28
  let c1_i32_29 : BitVec 32 := 1#32
  ⟨c0_i32_27, v53, c1_i32_29⟩
def k0_off1 (k0_t1 : Fin k0_t1_loop.trips) : Fin 1 → Nat :=
  let c0_i32_31 : BitVec 32 := 0#32
  let c0_i32_27 : BitVec 32 := 0#32
  let c1_i32_29 : BitVec 32 := 1#32
  let arg10 : BitVec 32 := Scf.iv c0_i32_27 c1_i32_29 k0_t1
  let v54 : BitVec 32 := Scalar.addi c0_i32_31 arg10
  let c2_i32_32 : BitVec 32 := 2#32
  let v55 : BitVec 32 := Scalar.muli v54 c2_i32_32
  let c0_i32_33 : BitVec 32 := 0#32
  let v56 : BitVec 32 := Scalar.addi v55 c0_i32_33
  let v57 : Index := Scalar.indexCast v56
  ![v57.toNat]
def k0_off2 (k0_t1 : Fin k0_t1_loop.trips) : Fin 4 → Nat :=
  let c0_i32_34 : BitVec 32 := 0#32
  let c0_i32_35 : BitVec 32 := 0#32
  let c0_i32_27 : BitVec 32 := 0#32
  let c1_i32_29 : BitVec 32 := 1#32
  let arg10 : BitVec 32 := Scf.iv c0_i32_27 c1_i32_29 k0_t1
  let c0_i32_37 : BitVec 32 := 0#32
  ![0, 0, arg10.toNat, 0]
def k0_off3 (v58 : BitVec 32) : Fin 2 → Nat :=
  let c0_i32_38 : BitVec 32 := 0#32
  ![v58.toNat, 0]

def k0_chk1 (i : grid0.Coords) (v58 : BitVec 32) : Prop :=
  (∀ (k0_h1 : k0_cond1 i = 1#1), ∀ a, (k0_off3 v58) a + S1x2048.size a ≤ S20480x2048.size a)
theorem k0_off3_inb : ∀ (i : grid0.Coords) (v58 : BitVec 32) (k0_hw1 : k0_chk1 i v58), ∀ (k0_h1 : k0_cond1 i = 1#1), ∀ a, (k0_off3 v58) a + S1x2048.size a ≤ S20480x2048.size a := fun i v58 k0_hw1 k0_h1 => k0_hw1 k0_h1

def k0_off4 (k0_t1 : Fin k0_t1_loop.trips) : Fin 1 → Nat :=
  let c0_i32_39 : BitVec 32 := 0#32
  let c0_i32_27 : BitVec 32 := 0#32
  let c1_i32_29 : BitVec 32 := 1#32
  let arg10 : BitVec 32 := Scf.iv c0_i32_27 c1_i32_29 k0_t1
  let v64 : BitVec 32 := Scalar.addi c0_i32_39 arg10
  let c2_i32_40 : BitVec 32 := 2#32
  let v65 : BitVec 32 := Scalar.muli v64 c2_i32_40
  let c1_i32_41 : BitVec 32 := 1#32
  let v66 : BitVec 32 := Scalar.addi v65 c1_i32_41
  let v67 : Index := Scalar.indexCast v66
  ![v67.toNat]
def k0_off5 (k0_t1 : Fin k0_t1_loop.trips) : Fin 4 → Nat :=
  let c0_i32_42 : BitVec 32 := 0#32
  let c1_i32_43 : BitVec 32 := 1#32
  let c0_i32_27 : BitVec 32 := 0#32
  let c1_i32_29 : BitVec 32 := 1#32
  let arg10 : BitVec 32 := Scf.iv c0_i32_27 c1_i32_29 k0_t1
  let c0_i32_45 : BitVec 32 := 0#32
  ![0, 1, arg10.toNat, 0]
def k0_off6 (v68 : BitVec 32) : Fin 2 → Nat :=
  let c0_i32_46 : BitVec 32 := 0#32
  ![v68.toNat, 0]

def k0_chk2 (i : grid0.Coords) (v68 : BitVec 32) : Prop :=
  (∀ (k0_h1 : k0_cond1 i = 1#1), ∀ a, (k0_off6 v68) a + S1x2048.size a ≤ S20480x2048.size a)
theorem k0_off6_inb : ∀ (i : grid0.Coords) (v68 : BitVec 32) (k0_hw2 : k0_chk2 i v68), ∀ (k0_h1 : k0_cond1 i = 1#1), ∀ a, (k0_off6 v68) a + S1x2048.size a ≤ S20480x2048.size a := fun i v68 k0_hw2 k0_h1 => k0_hw2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c16_i32 : BitVec 32 := 16#32
  let v14 : BitVec 1 := Scalar.cmpi .slt v13 c16_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_29 : BitVec 32 := 0#32
  let c256_i32_30 : BitVec 32 := 256#32
  let v55 : BitVec 32 := Scalar.addi c0_i32_29 c256_i32_30
  let c1_i32_31 : BitVec 32 := 1#32
  ⟨c0_i32_29, v55, c1_i32_31⟩
def k0_off7 (i : grid0.Coords) (k0_t2 : Fin k0_t2_loop.trips) : Fin 1 → Nat :=
  let c0_i32_34 : BitVec 32 := 0#32
  let arg0 : BitVec 32 := BitVec.ofNat 32 (i 0).val
  let c1_i32_27 : BitVec 32 := 1#32
  let v53 : BitVec 32 := Scalar.addi arg0 c1_i32_27
  let c256_i32_33 : BitVec 32 := 256#32
  let v56 : BitVec 32 := Scalar.muli v53 c256_i32_33
  let v57 : BitVec 32 := Scalar.addi c0_i32_34 v56
  let c0_i32_29 : BitVec 32 := 0#32
  let c1_i32_31 : BitVec 32 := 1#32
  let arg10 : BitVec 32 := Scf.iv c0_i32_29 c1_i32_31 k0_t2
  let v58 : BitVec 32 := Scalar.addi v57 arg10
  let c2_i32_35 : BitVec 32 := 2#32
  let v59 : BitVec 32 := Scalar.muli v58 c2_i32_35
  let c0_i32_36 : BitVec 32 := 0#32
  let v60 : BitVec 32 := Scalar.addi v59 c0_i32_36
  let v61 : Index := Scalar.indexCast v60
  ![v61.toNat]
def k0_off8 (i : grid0.Coords) : Fin 1 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  ![v54.toNat]
def k0_off9 (i : grid0.Coords) (k0_t2 : Fin k0_t2_loop.trips) : Fin 4 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  let c0_i32_37 : BitVec 32 := 0#32
  let c0_i32_29 : BitVec 32 := 0#32
  let c1_i32_31 : BitVec 32 := 1#32
  let arg10 : BitVec 32 := Scf.iv c0_i32_29 c1_i32_31 k0_t2
  let c0_i32_38 : BitVec 32 := 0#32
  ![v54.toNat, 0, arg10.toNat, 0]
def k0_off10 (v62 : BitVec 32) : Fin 2 → Nat :=
  let c0_i32_39 : BitVec 32 := 0#32
  ![v62.toNat, 0]

def k0_chk3 (i : grid0.Coords) (v62 : BitVec 32) : Prop :=
  (∀ (k0_h2 : k0_cond2 i = 1#1), ∀ a, (k0_off10 v62) a + S1x2048.size a ≤ S20480x2048.size a)
theorem k0_off10_inb : ∀ (i : grid0.Coords) (v62 : BitVec 32) (k0_hw3 : k0_chk3 i v62), ∀ (k0_h2 : k0_cond2 i = 1#1), ∀ a, (k0_off10 v62) a + S1x2048.size a ≤ S20480x2048.size a := fun i v62 k0_hw3 k0_h2 => k0_hw3 k0_h2

def k0_off11 (i : grid0.Coords) (k0_t2 : Fin k0_t2_loop.trips) : Fin 1 → Nat :=
  let c0_i32_41 : BitVec 32 := 0#32
  let arg0 : BitVec 32 := BitVec.ofNat 32 (i 0).val
  let c1_i32_27 : BitVec 32 := 1#32
  let v53 : BitVec 32 := Scalar.addi arg0 c1_i32_27
  let c256_i32_40 : BitVec 32 := 256#32
  let v68 : BitVec 32 := Scalar.muli v53 c256_i32_40
  let v69 : BitVec 32 := Scalar.addi c0_i32_41 v68
  let c0_i32_29 : BitVec 32 := 0#32
  let c1_i32_31 : BitVec 32 := 1#32
  let arg10 : BitVec 32 := Scf.iv c0_i32_29 c1_i32_31 k0_t2
  let v70 : BitVec 32 := Scalar.addi v69 arg10
  let c2_i32_42 : BitVec 32 := 2#32
  let v71 : BitVec 32 := Scalar.muli v70 c2_i32_42
  let c1_i32_43 : BitVec 32 := 1#32
  let v72 : BitVec 32 := Scalar.addi v71 c1_i32_43
  let v73 : Index := Scalar.indexCast v72
  ![v73.toNat]
def k0_off12 (i : grid0.Coords) : Fin 1 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  ![v54.toNat]
def k0_off13 (i : grid0.Coords) (k0_t2 : Fin k0_t2_loop.trips) : Fin 4 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  let c1_i32_44 : BitVec 32 := 1#32
  let c0_i32_29 : BitVec 32 := 0#32
  let c1_i32_31 : BitVec 32 := 1#32
  let arg10 : BitVec 32 := Scf.iv c0_i32_29 c1_i32_31 k0_t2
  let c0_i32_45 : BitVec 32 := 0#32
  ![v54.toNat, 1, arg10.toNat, 0]
def k0_off14 (v74 : BitVec 32) : Fin 2 → Nat :=
  let c0_i32_46 : BitVec 32 := 0#32
  ![v74.toNat, 0]

def k0_chk4 (i : grid0.Coords) (v74 : BitVec 32) : Prop :=
  (∀ (k0_h2 : k0_cond2 i = 1#1), ∀ a, (k0_off14 v74) a + S1x2048.size a ≤ S20480x2048.size a)
theorem k0_off14_inb : ∀ (i : grid0.Coords) (v74 : BitVec 32) (k0_hw4 : k0_chk4 i v74), ∀ (k0_h2 : k0_cond2 i = 1#1), ∀ a, (k0_off14 v74) a + S1x2048.size a ≤ S20480x2048.size a := fun i v74 k0_hw4 k0_h2 => k0_hw4 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_off15 (i : grid0.Coords) (k0_t3 : Fin k0_t3_loop.trips) : Fin 1 → Nat :=
  let c0_i32_28 : BitVec 32 := 0#32
  let arg0 : BitVec 32 := BitVec.ofNat 32 (i 0).val
  let c256_i32_27 : BitVec 32 := 256#32
  let v53 : BitVec 32 := Scalar.muli arg0 c256_i32_27
  let v54 : BitVec 32 := Scalar.addi c0_i32_28 v53
  let c0_i32_7 : BitVec 32 := 0#32
  let c1_i32_8 : BitVec 32 := 1#32
  let arg10 : BitVec 32 := Scf.iv c0_i32_7 c1_i32_8 k0_t3
  let v55 : BitVec 32 := Scalar.addi v54 arg10
  let c2_i32_29 : BitVec 32 := 2#32
  let v56 : BitVec 32 := Scalar.muli v55 c2_i32_29
  let c0_i32_30 : BitVec 32 := 0#32
  let v57 : BitVec 32 := Scalar.addi v56 c0_i32_30
  let v58 : Index := Scalar.indexCast v57
  ![v58.toNat]
def k0_off16 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off17 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_31 : BitVec 32 := 0#32
  let c0_i32_7 : BitVec 32 := 0#32
  let c1_i32_8 : BitVec 32 := 1#32
  let arg10 : BitVec 32 := Scf.iv c0_i32_7 c1_i32_8 k0_t3
  let c0_i32_32 : BitVec 32 := 0#32
  ![v9.toNat, 0, arg10.toNat, 0]
def k0_off18 (v59 : BitVec 32) : Fin 2 → Nat :=
  let c0_i32_33 : BitVec 32 := 0#32
  ![v59.toNat, 0]

def k0_chk5 (v59 : BitVec 32) : Prop :=
  (∀ a, (k0_off18 v59) a + S1x2048.size a ≤ S20480x2048.size a)
theorem k0_off18_inb : ∀ (v59 : BitVec 32) (k0_hw5 : k0_chk5 v59), ∀ a, (k0_off18 v59) a + S1x2048.size a ≤ S20480x2048.size a := fun v59 k0_hw5 => k0_hw5

def k0_off19 (i : grid0.Coords) (k0_t3 : Fin k0_t3_loop.trips) : Fin 1 → Nat :=
  let c0_i32_35 : BitVec 32 := 0#32
  let arg0 : BitVec 32 := BitVec.ofNat 32 (i 0).val
  let c256_i32_34 : BitVec 32 := 256#32
  let v65 : BitVec 32 := Scalar.muli arg0 c256_i32_34
  let v66 : BitVec 32 := Scalar.addi c0_i32_35 v65
  let c0_i32_7 : BitVec 32 := 0#32
  let c1_i32_8 : BitVec 32 := 1#32
  let arg10 : BitVec 32 := Scf.iv c0_i32_7 c1_i32_8 k0_t3
  let v67 : BitVec 32 := Scalar.addi v66 arg10
  let c2_i32_36 : BitVec 32 := 2#32
  let v68 : BitVec 32 := Scalar.muli v67 c2_i32_36
  let c1_i32_37 : BitVec 32 := 1#32
  let v69 : BitVec 32 := Scalar.addi v68 c1_i32_37
  let v70 : Index := Scalar.indexCast v69
  ![v70.toNat]
def k0_off20 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off21 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_38 : BitVec 32 := 1#32
  let c0_i32_7 : BitVec 32 := 0#32
  let c1_i32_8 : BitVec 32 := 1#32
  let arg10 : BitVec 32 := Scf.iv c0_i32_7 c1_i32_8 k0_t3
  let c0_i32_39 : BitVec 32 := 0#32
  ![v9.toNat, 1, arg10.toNat, 0]
def k0_off22 (v71 : BitVec 32) : Fin 2 → Nat :=
  let c0_i32_40 : BitVec 32 := 0#32
  ![v71.toNat, 0]

def k0_chk6 (v71 : BitVec 32) : Prop :=
  (∀ a, (k0_off22 v71) a + S1x2048.size a ≤ S20480x2048.size a)
theorem k0_off22_inb : ∀ (v71 : BitVec 32) (k0_hw6 : k0_chk6 v71), ∀ a, (k0_off22 v71) a + S1x2048.size a ≤ S20480x2048.size a := fun v71 k0_hw6 => k0_hw6

def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_11 : Index := 0#32
  let c0_12 : Index := 0#32
  let c0_13 : Index := 0#32
  ![v20.toNat, 0, 0, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c1 : Index := 1#32
  let c0_14 : Index := 0#32
  let c0_15 : Index := 0#32
  ![v26.toNat, 1, 0, 0]
def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S20480x2048 : Shape := ⟨2, ![20480, 2048]⟩
abbrev S12288 : Shape := ⟨1, ![12288]⟩
abbrev S6144x128 : Shape := ⟨2, ![6144, 128]⟩
abbrev S6144x2048 : Shape := ⟨2, ![6144, 2048]⟩
abbrev S8x1x2048 : Shape := ⟨3, ![8, 1, 2048]⟩
abbrev S2048 : Shape := ⟨1, ![2048]⟩
abbrev S6144x2 : Shape := ⟨2, ![6144, 2]⟩
abbrev S4096x2048 : Shape := ⟨2, ![4096, 2048]⟩
abbrev S16x256x2048 : Shape := ⟨3, ![16, 256, 2048]⟩
abbrev S4096x2 : Shape := ⟨2, ![4096, 2]⟩
abbrev S1x1x2048 : Shape := ⟨3, ![1, 1, 2048]⟩
abbrev S4096x1 : Shape := ⟨2, ![4096, 1]⟩
abbrev S4096 : Shape := ⟨1, ![4096]⟩
abbrev S_ : Shape := ⟨0, ![]⟩
abbrev S16x256 : Shape := ⟨2, ![16, 256]⟩
abbrev S16x256x1 : Shape := ⟨3, ![16, 256, 1]⟩

abbrev nBuf : Space → Nat
  | .hbm => 47
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S12288, .i32⟩
  | .hbm, ⟨2, _⟩ => ⟨S6144x128, .f32⟩
  | .hbm, ⟨3, _⟩ => ⟨S6144x2048, .f32⟩
  | .hbm, ⟨4, _⟩ => ⟨S8x1x2048, .f32⟩
  | .hbm, ⟨5, _⟩ => ⟨S2048, .f32⟩
  | .hbm, ⟨6, _⟩ => ⟨S6144x2, .i32⟩
  | .hbm, ⟨7, _⟩ => ⟨S4096x2048, .f32⟩
  | .hbm, ⟨8, _⟩ => ⟨S16x256x2048, .f32⟩
  | .hbm, ⟨9, _⟩ => ⟨S4096x2, .i32⟩
  | .hbm, ⟨10, _⟩ => ⟨S4096x2, .f32⟩
  | .hbm, ⟨11, _⟩ => ⟨S1x1x2048, .f32⟩
  | .hbm, ⟨12, _⟩ => ⟨S4096x1, .f32⟩
  | .hbm, ⟨13, _⟩ => ⟨S4096x1, .i32⟩
  | .hbm, ⟨14, _⟩ => ⟨S4096, .i32⟩
  | .hbm, ⟨15, _⟩ => ⟨S4096x1, .i32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1, .f32⟩
  | .hbm, ⟨20, _⟩ => ⟨S4096x1, .i32⟩
  | .hbm, ⟨21, _⟩ => ⟨S4096, .i32⟩
  | .hbm, ⟨22, _⟩ => ⟨S4096x1, .i32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S16x256x2048, .f32⟩
  | .hbm, ⟨28, _⟩ => ⟨S16x256x2048, .f32⟩
  | .hbm, ⟨29, _⟩ => ⟨S16x256x2048, .f32⟩
  | .hbm, ⟨30, _⟩ => ⟨S16x256x2048, .f32⟩
  | .hbm, ⟨31, _⟩ => ⟨S16x256x2048, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S_, .f32⟩
  | .hbm, ⟨39, _⟩ => ⟨S16x256x1, .f32⟩
  | .hbm, ⟨40, _⟩ => ⟨S16x256x1, .f32⟩
  | .hbm, ⟨41, _⟩ => ⟨S16x256x1, .f32⟩
  | .hbm, ⟨42, _⟩ => ⟨S16x256x2048, .f32⟩
  | .hbm, ⟨43, _⟩ => ⟨S16x256x2048, .f32⟩
  | .hbm, ⟨44, _⟩ => ⟨S1x1x2048, .f32⟩
  | .hbm, ⟨45, _⟩ => ⟨S16x256x2048, .f32⟩
  | .hbm, ⟨46, _⟩ => ⟨S16x256x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel5.lean ====
abbrev S20480x2048 : Shape := ⟨2, ![20480, 2048]⟩
abbrev S12288 : Shape := ⟨1, ![12288]⟩
abbrev S6144x128 : Shape := ⟨2, ![6144, 128]⟩
abbrev S6144x2048 : Shape := ⟨2, ![6144, 2048]⟩
abbrev S8x1x2048 : Shape := ⟨3, ![8, 1, 2048]⟩
abbrev S2048 : Shape := ⟨1, ![2048]⟩
abbrev S1x2048 : Shape := ⟨2, ![1, 2048]⟩
abbrev S2048x2048 : Shape := ⟨2, ![2048, 2048]⟩
abbrev S256x128 : Shape := ⟨2, ![256, 128]⟩
abbrev S256x2048 : Shape := ⟨2, ![256, 2048]⟩
abbrev S1x1x2048 : Shape := ⟨3, ![1, 1, 2048]⟩
abbrev S2x2x256x2048 : Shape := ⟨4, ![2, 2, 256, 2048]⟩
abbrev S2 : Shape := ⟨1, ![2]⟩
abbrev S1 : Shape := ⟨1, ![1]⟩
abbrev S_ : Shape := ⟨0, ![]⟩
abbrev S1x1x1x2048 : Shape := ⟨4, ![1, 1, 1, 2048]⟩
abbrev S256x1 : Shape := ⟨2, ![256, 1]⟩
abbrev S1x1x256x2048 : Shape := ⟨4, ![1, 1, 256, 2048]⟩
abbrev S256 : Shape := ⟨1, ![256]⟩
abbrev S2x1024x2048 : Shape := ⟨3, ![2, 1024, 2048]⟩

abbrev nBuf : Space → Nat
  | .hbm => 8
  | .vmem => 10
  | .smem => 1
  | _ => 0

abbrev bufTy : (tb : Table) → Fin (tcTables nBuf tb) → BufTy
  | .hbm, ⟨0, _⟩ => ⟨S20480x2048, .f32⟩
  | .hbm, ⟨1, _⟩ => ⟨S6144x128, .f32⟩
  | .hbm, ⟨2, _⟩ => ⟨S6144x2048, .f32⟩
  | .hbm, ⟨3, _⟩ => ⟨S8x1x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2x1024x2048, .f32⟩
  | .local _ .vmem, ⟨0, _⟩ => ⟨S256x128, .f32⟩
  | .local _ .vmem, ⟨1, _⟩ => ⟨S256x128, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S2x2x256x2048, .f32⟩
  | .local _ .smem, ⟨0, _⟩ => ⟨S12288, .i32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_27 : BitVec 32 := 0#32
  let c256_i32_28 : BitVec 32 := 256#32
  let v53 : BitVec 32 := Scalar.addi c0_i32_27 c256_i32_28
  let c1_i32_29 : BitVec 32 := 1#32
  ⟨c0_i32_27, v53, c1_i32_29⟩
def k0_off1 (k0_t1 : Fin k0_t1_loop.trips) : Fin 1 → Nat :=
  let c4096_i32 : BitVec 32 := 4096#32
  let c0_i32_27 : BitVec 32 := 0#32
  let c1_i32_29 : BitVec 32 := 1#32
  let arg10 : BitVec 32 := Scf.iv c0_i32_27 c1_i32_29 k0_t1
  let v54 : BitVec 32 := Scalar.addi c4096_i32 arg10
  let c2_i32_31 : BitVec 32 := 2#32
  let v55 : BitVec 32 := Scalar.muli v54 c2_i32_31
  let c0_i32_32 : BitVec 32 := 0#32
  let v56 : BitVec 32 := Scalar.addi v55 c0_i32_32
  let v57 : Index := Scalar.indexCast v56
  ![v57.toNat]
def k0_off2 (k0_t1 : Fin k0_t1_loop.trips) : Fin 4 → Nat :=
  let c0_i32_33 : BitVec 32 := 0#32
  let c0_i32_34 : BitVec 32 := 0#32
  let c0_i32_27 : BitVec 32 := 0#32
  let c1_i32_29 : BitVec 32 := 1#32
  let arg10 : BitVec 32 := Scf.iv c0_i32_27 c1_i32_29 k0_t1
  let c0_i32_36 : BitVec 32 := 0#32
  ![0, 0, arg10.toNat, 0]
def k0_off3 (v58 : BitVec 32) : Fin 2 → Nat :=
  let c0_i32_37 : BitVec 32 := 0#32
  ![v58.toNat, 0]

def k0_chk1 (i : grid0.Coords) (v58 : BitVec 32) : Prop :=
  (∀ (k0_h1 : k0_cond1 i = 1#1), ∀ a, (k0_off3 v58) a + S1x2048.size a ≤ S20480x2048.size a)
theorem k0_off3_inb : ∀ (i : grid0.Coords) (v58 : BitVec 32) (k0_hw1 : k0_chk1 i v58), ∀ (k0_h1 : k0_cond1 i = 1#1), ∀ a, (k0_off3 v58) a + S1x2048.size a ≤ S20480x2048.size a := fun i v58 k0_hw1 k0_h1 => k0_hw1 k0_h1

def k0_off4 (k0_t1 : Fin k0_t1_loop.trips) : Fin 1 → Nat :=
  let c4096_i32_38 : BitVec 32 := 4096#32
  let c0_i32_27 : BitVec 32 := 0#32
  let c1_i32_29 : BitVec 32 := 1#32
  let arg10 : BitVec 32 := Scf.iv c0_i32_27 c1_i32_29 k0_t1
  let v64 : BitVec 32 := Scalar.addi c4096_i32_38 arg10
  let c2_i32_39 : BitVec 32 := 2#32
  let v65 : BitVec 32 := Scalar.muli v64 c2_i32_39
  let c1_i32_40 : BitVec 32 := 1#32
  let v66 : BitVec 32 := Scalar.addi v65 c1_i32_40
  let v67 : Index := Scalar.indexCast v66
  ![v67.toNat]
def k0_off5 (k0_t1 : Fin k0_t1_loop.trips) : Fin 4 → Nat :=
  let c0_i32_41 : BitVec 32 := 0#32
  let c1_i32_42 : BitVec 32 := 1#32
  let c0_i32_27 : BitVec 32 := 0#32
  let c1_i32_29 : BitVec 32 := 1#32
  let arg10 : BitVec 32 := Scf.iv c0_i32_27 c1_i32_29 k0_t1
  let c0_i32_44 : BitVec 32 := 0#32
  ![0, 1, arg10.toNat, 0]
def k0_off6 (v68 : BitVec 32) : Fin 2 → Nat :=
  let c0_i32_45 : BitVec 32 := 0#32
  ![v68.toNat, 0]

def k0_chk2 (i : grid0.Coords) (v68 : BitVec 32) : Prop :=
  (∀ (k0_h1 : k0_cond1 i = 1#1), ∀ a, (k0_off6 v68) a + S1x2048.size a ≤ S20480x2048.size a)
theorem k0_off6_inb : ∀ (i : grid0.Coords) (v68 : BitVec 32) (k0_hw2 : k0_chk2 i v68), ∀ (k0_h1 : k0_cond1 i = 1#1), ∀ a, (k0_off6 v68) a + S1x2048.size a ≤ S20480x2048.size a := fun i v68 k0_hw2 k0_h1 => k0_hw2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c8_i32 : BitVec 32 := 8#32
  let v14 : BitVec 1 := Scalar.cmpi .slt v13 c8_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_29 : BitVec 32 := 0#32
  let c256_i32_30 : BitVec 32 := 256#32
  let v55 : BitVec 32 := Scalar.addi c0_i32_29 c256_i32_30
  let c1_i32_31 : BitVec 32 := 1#32
  ⟨c0_i32_29, v55, c1_i32_31⟩
def k0_off7 (i : grid0.Coords) (k0_t2 : Fin k0_t2_loop.trips) : Fin 1 → Nat :=
  let c4096_i32 : BitVec 32 := 4096#32
  let arg0 : BitVec 32 := BitVec.ofNat 32 (i 0).val
  let c1_i32_27 : BitVec 32 := 1#32
  let v53 : BitVec 32 := Scalar.addi arg0 c1_i32_27
  let c256_i32_33 : BitVec 32 := 256#32
  let v56 : BitVec 32 := Scalar.muli v53 c256_i32_33
  let v57 : BitVec 32 := Scalar.addi c4096_i32 v56
  let c0_i32_29 : BitVec 32 := 0#32
  let c1_i32_31 : BitVec 32 := 1#32
  let arg10 : BitVec 32 := Scf.iv c0_i32_29 c1_i32_31 k0_t2
  let v58 : BitVec 32 := Scalar.addi v57 arg10
  let c2_i32_34 : BitVec 32 := 2#32
  let v59 : BitVec 32 := Scalar.muli v58 c2_i32_34
  let c0_i32_35 : BitVec 32 := 0#32
  let v60 : BitVec 32 := Scalar.addi v59 c0_i32_35
  let v61 : Index := Scalar.indexCast v60
  ![v61.toNat]
def k0_off8 (i : grid0.Coords) : Fin 1 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  ![v54.toNat]
def k0_off9 (i : grid0.Coords) (k0_t2 : Fin k0_t2_loop.trips) : Fin 4 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  let c0_i32_36 : BitVec 32 := 0#32
  let c0_i32_29 : BitVec 32 := 0#32
  let c1_i32_31 : BitVec 32 := 1#32
  let arg10 : BitVec 32 := Scf.iv c0_i32_29 c1_i32_31 k0_t2
  let c0_i32_37 : BitVec 32 := 0#32
  ![v54.toNat, 0, arg10.toNat, 0]
def k0_off10 (v62 : BitVec 32) : Fin 2 → Nat :=
  let c0_i32_38 : BitVec 32 := 0#32
  ![v62.toNat, 0]

def k0_chk3 (i : grid0.Coords) (v62 : BitVec 32) : Prop :=
  (∀ (k0_h2 : k0_cond2 i = 1#1), ∀ a, (k0_off10 v62) a + S1x2048.size a ≤ S20480x2048.size a)
theorem k0_off10_inb : ∀ (i : grid0.Coords) (v62 : BitVec 32) (k0_hw3 : k0_chk3 i v62), ∀ (k0_h2 : k0_cond2 i = 1#1), ∀ a, (k0_off10 v62) a + S1x2048.size a ≤ S20480x2048.size a := fun i v62 k0_hw3 k0_h2 => k0_hw3 k0_h2

def k0_off11 (i : grid0.Coords) (k0_t2 : Fin k0_t2_loop.trips) : Fin 1 → Nat :=
  let c4096_i32_40 : BitVec 32 := 4096#32
  let arg0 : BitVec 32 := BitVec.ofNat 32 (i 0).val
  let c1_i32_27 : BitVec 32 := 1#32
  let v53 : BitVec 32 := Scalar.addi arg0 c1_i32_27
  let c256_i32_39 : BitVec 32 := 256#32
  let v68 : BitVec 32 := Scalar.muli v53 c256_i32_39
  let v69 : BitVec 32 := Scalar.addi c4096_i32_40 v68
  let c0_i32_29 : BitVec 32 := 0#32
  let c1_i32_31 : BitVec 32 := 1#32
  let arg10 : BitVec 32 := Scf.iv c0_i32_29 c1_i32_31 k0_t2
  let v70 : BitVec 32 := Scalar.addi v69 arg10
  let c2_i32_41 : BitVec 32 := 2#32
  let v71 : BitVec 32 := Scalar.muli v70 c2_i32_41
  let c1_i32_42 : BitVec 32 := 1#32
  let v72 : BitVec 32 := Scalar.addi v71 c1_i32_42
  let v73 : Index := Scalar.indexCast v72
  ![v73.toNat]
def k0_off12 (i : grid0.Coords) : Fin 1 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  ![v54.toNat]
def k0_off13 (i : grid0.Coords) (k0_t2 : Fin k0_t2_loop.trips) : Fin 4 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_28 v9
  let c1_i32_43 : BitVec 32 := 1#32
  let c0_i32_29 : BitVec 32 := 0#32
  let c1_i32_31 : BitVec 32 := 1#32
  let arg10 : BitVec 32 := Scf.iv c0_i32_29 c1_i32_31 k0_t2
  let c0_i32_44 : BitVec 32 := 0#32
  ![v54.toNat, 1, arg10.toNat, 0]
def k0_off14 (v74 : BitVec 32) : Fin 2 → Nat :=
  let c0_i32_45 : BitVec 32 := 0#32
  ![v74.toNat, 0]

def k0_chk4 (i : grid0.Coords) (v74 : BitVec 32) : Prop :=
  (∀ (k0_h2 : k0_cond2 i = 1#1), ∀ a, (k0_off14 v74) a + S1x2048.size a ≤ S20480x2048.size a)
theorem k0_off14_inb : ∀ (i : grid0.Coords) (v74 : BitVec 32) (k0_hw4 : k0_chk4 i v74), ∀ (k0_h2 : k0_cond2 i = 1#1), ∀ a, (k0_off14 v74) a + S1x2048.size a ≤ S20480x2048.size a := fun i v74 k0_hw4 k0_h2 => k0_hw4 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_off15 (i : grid0.Coords) (k0_t3 : Fin k0_t3_loop.trips) : Fin 1 → Nat :=
  let c4096_i32 : BitVec 32 := 4096#32
  let arg0 : BitVec 32 := BitVec.ofNat 32 (i 0).val
  let c256_i32_27 : BitVec 32 := 256#32
  let v53 : BitVec 32 := Scalar.muli arg0 c256_i32_27
  let v54 : BitVec 32 := Scalar.addi c4096_i32 v53
  let c0_i32_7 : BitVec 32 := 0#32
  let c1_i32_8 : BitVec 32 := 1#32
  let arg10 : BitVec 32 := Scf.iv c0_i32_7 c1_i32_8 k0_t3
  let v55 : BitVec 32 := Scalar.addi v54 arg10
  let c2_i32_28 : BitVec 32 := 2#32
  let v56 : BitVec 32 := Scalar.muli v55 c2_i32_28
  let c0_i32_29 : BitVec 32 := 0#32
  let v57 : BitVec 32 := Scalar.addi v56 c0_i32_29
  let v58 : Index := Scalar.indexCast v57
  ![v58.toNat]
def k0_off16 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off17 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_30 : BitVec 32 := 0#32
  let c0_i32_7 : BitVec 32 := 0#32
  let c1_i32_8 : BitVec 32 := 1#32
  let arg10 : BitVec 32 := Scf.iv c0_i32_7 c1_i32_8 k0_t3
  let c0_i32_31 : BitVec 32 := 0#32
  ![v9.toNat, 0, arg10.toNat, 0]
def k0_off18 (v59 : BitVec 32) : Fin 2 → Nat :=
  let c0_i32_32 : BitVec 32 := 0#32
  ![v59.toNat, 0]

def k0_chk5 (v59 : BitVec 32) : Prop :=
  (∀ a, (k0_off18 v59) a + S1x2048.size a ≤ S20480x2048.size a)
theorem k0_off18_inb : ∀ (v59 : BitVec 32) (k0_hw5 : k0_chk5 v59), ∀ a, (k0_off18 v59) a + S1x2048.size a ≤ S20480x2048.size a := fun v59 k0_hw5 => k0_hw5

def k0_off19 (i : grid0.Coords) (k0_t3 : Fin k0_t3_loop.trips) : Fin 1 → Nat :=
  let c4096_i32_34 : BitVec 32 := 4096#32
  let arg0 : BitVec 32 := BitVec.ofNat 32 (i 0).val
  let c256_i32_33 : BitVec 32 := 256#32
  let v65 : BitVec 32 := Scalar.muli arg0 c256_i32_33
  let v66 : BitVec 32 := Scalar.addi c4096_i32_34 v65
  let c0_i32_7 : BitVec 32 := 0#32
  let c1_i32_8 : BitVec 32 := 1#32
  let arg10 : BitVec 32 := Scf.iv c0_i32_7 c1_i32_8 k0_t3
  let v67 : BitVec 32 := Scalar.addi v66 arg10
  let c2_i32_35 : BitVec 32 := 2#32
  let v68 : BitVec 32 := Scalar.muli v67 c2_i32_35
  let c1_i32_36 : BitVec 32 := 1#32
  let v69 : BitVec 32 := Scalar.addi v68 c1_i32_36
  let v70 : Index := Scalar.indexCast v69
  ![v70.toNat]
def k0_off20 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off21 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_37 : BitVec 32 := 1#32
  let c0_i32_7 : BitVec 32 := 0#32
  let c1_i32_8 : BitVec 32 := 1#32
  let arg10 : BitVec 32 := Scf.iv c0_i32_7 c1_i32_8 k0_t3
  let c0_i32_38 : BitVec 32 := 0#32
  ![v9.toNat, 1, arg10.toNat, 0]
def k0_off22 (v71 : BitVec 32) : Fin 2 → Nat :=
  let c0_i32_39 : BitVec 32 := 0#32
  ![v71.toNat, 0]

def k0_chk6 (v71 : BitVec 32) : Prop :=
  (∀ a, (k0_off22 v71) a + S1x2048.size a ≤ S20480x2048.size a)
theorem k0_off22_inb : ∀ (v71 : BitVec 32) (k0_hw6 : k0_chk6 v71), ∀ a, (k0_off22 v71) a + S1x2048.size a ≤ S20480x2048.size a := fun v71 k0_hw6 => k0_hw6

def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_11 : Index := 0#32
  let c0_12 : Index := 0#32
  let c0_13 : Index := 0#32
  ![v20.toNat, 0, 0, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c1 : Index := 1#32
  let c0_14 : Index := 0#32
  let c0_15 : Index := 0#32
  ![v26.toNat, 1, 0, 0]
def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S20480x2048 : Shape := ⟨2, ![20480, 2048]⟩
abbrev S12288 : Shape := ⟨1, ![12288]⟩
abbrev S6144x128 : Shape := ⟨2, ![6144, 128]⟩
abbrev S6144x2048 : Shape := ⟨2, ![6144, 2048]⟩
abbrev S8x1x2048 : Shape := ⟨3, ![8, 1, 2048]⟩
abbrev S2048 : Shape := ⟨1, ![2048]⟩
abbrev S6144x2 : Shape := ⟨2, ![6144, 2]⟩
abbrev S2048x2048 : Shape := ⟨2, ![2048, 2048]⟩
abbrev S2x1024x2048 : Shape := ⟨3, ![2, 1024, 2048]⟩
abbrev S2048x2 : Shape := ⟨2, ![2048, 2]⟩
abbrev S2x1x2048 : Shape := ⟨3, ![2, 1, 2048]⟩
abbrev S2048x1 : Shape := ⟨2, ![2048, 1]⟩
abbrev S_ : Shape := ⟨0, ![]⟩
abbrev S2x1024 : Shape := ⟨2, ![2, 1024]⟩
abbrev S2x1024x1 : Shape := ⟨3, ![2, 1024, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S12288, .i32⟩
  | .hbm, ⟨2, _⟩ => ⟨S6144x128, .f32⟩
  | .hbm, ⟨3, _⟩ => ⟨S6144x2048, .f32⟩
  | .hbm, ⟨4, _⟩ => ⟨S8x1x2048, .f32⟩
  | .hbm, ⟨5, _⟩ => ⟨S2048, .f32⟩
  | .hbm, ⟨6, _⟩ => ⟨S6144x2, .i32⟩
  | .hbm, ⟨7, _⟩ => ⟨S2048x2048, .f32⟩
  | .hbm, ⟨8, _⟩ => ⟨S2x1024x2048, .f32⟩
  | .hbm, ⟨9, _⟩ => ⟨S2048x2, .i32⟩
  | .hbm, ⟨10, _⟩ => ⟨S2048x2, .f32⟩
  | .hbm, ⟨11, _⟩ => ⟨S2x1x2048, .f32⟩
  | .hbm, ⟨12, _⟩ => ⟨S2048x1, .f32⟩
  | .hbm, ⟨13, _⟩ => ⟨S2048x1, .i32⟩
  | .hbm, ⟨14, _⟩ => ⟨S2048, .i32⟩
  | .hbm, ⟨15, _⟩ => ⟨S2048x1, .i32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x1, .f32⟩
  | .hbm, ⟨20, _⟩ => ⟨S2048x1, .i32⟩
  | .hbm, ⟨21, _⟩ => ⟨S2048, .i32⟩
  | .hbm, ⟨22, _⟩ => ⟨S2048x1, .i32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024, .f32⟩
  | .hbm, ⟨34, _⟩ => ⟨S2x1024x1, .f32⟩
  | .hbm, ⟨35, _⟩ => ⟨S_, .f32⟩
  | .hbm, ⟨36, _⟩ => ⟨S2x1024x1, .f32⟩
  | .hbm, ⟨37, _⟩ => ⟨S2x1024x1, .f32⟩
  | .hbm, ⟨38, _⟩ => ⟨S_, .f32⟩
  | .hbm, ⟨39, _⟩ => ⟨S2x1024x1, .f32⟩
  | .hbm, ⟨40, _⟩ => ⟨S2x1024x1, .f32⟩
  | .hbm, ⟨41, _⟩ => ⟨S2x1024x1, .f32⟩
  | .hbm, ⟨42, _⟩ => ⟨S2x1024x2048, .f32⟩
  | .hbm, ⟨43, _⟩ => ⟨S2x1024x2048, .f32⟩
  | .hbm, ⟨44, _⟩ => ⟨S1x1x2048, .f32⟩
  | .hbm, ⟨45, _⟩ => ⟨S2x1024x2048, .f32⟩
  | .hbm, ⟨46, _⟩ => ⟨S2x1024x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.InProjReference.lean ====
/- What the reference of the input projection computes, at the ideal instance: the activations times the weight, the 32
   columns of the recurrence's gates left out. -/
module

public import proofs.«01_k».proof.Proof.Gen.ReferenceIdeal.Run
public import Idealize.ShloMosaic.Lib.Pipeline.ValueKit

@[expose] public section

set_option maxRecDepth 16384

noncomputable section

namespace Cert.InProj

open Idealize.ShloMosaic

/-- The weight's column that makes the result's column `j`: `j`, or `j + 32` past the first 4096. -/
def column (j : Fin 11264) : Fin 11296 := ⟨j.val + (if j.val < 4096 then 0 else 32), by split <;> omega⟩

/-- The projection: row `r` of the activations times the weight's column of `j`. -/
def projection (x : (⟨2, ![6144, 2048]⟩ : Shape).Idx → EReal) (w : (⟨3, ![1, 2048, 11296]⟩ : Shape).Idx → EReal)
    (r : Fin 6144) (j : Fin 11264) : EReal := ∑ k : Fin 2048, x (ix2 r k) * w (ix3 0 k (column j))

open Cert.ReferenceIdeal Cert.ReferenceIdeal.Gen in
/-- THE REFERENCE'S RESULT is the projection. -/
theorem reference_eq (x : FVec Ideal S6144x2048 .bf16) (w : FVec Ideal S1x2048x11296 .f32) (i : S6144x11264.Idx) :
    (truncf (F := Ideal) .bf16 ((concatenate S6144x11264 1 [⟨S6144x3072, ((extractStridedSlice S6144x3072 ![0, 0] (Host.dotGeneral dot_S6144x2048_S2048x11296_S6144x11296_1_0_0_1_n_n none (extf .f32 x bitsLt_bf16_f32) (shapeCast _ w shapeCasts_S1x2048x11296_S2048x11296)) slices_S6144x11296_S6144x3072_0_0) : (⟨S6144x3072, .f32⟩ : BufTy).Contents (Elt Ideal))⟩, ⟨S6144x1024, ((extractStridedSlice S6144x1024 ![0, 3072] (Host.dotGeneral dot_S6144x2048_S2048x11296_S6144x11296_1_0_0_1_n_n none (extf .f32 x bitsLt_bf16_f32) (shapeCast _ w shapeCasts_S1x2048x11296_S2048x11296)) slices_S6144x11296_S6144x1024_0_3072) : (⟨S6144x1024, .f32⟩ : BufTy).Contents (Elt Ideal))⟩, ⟨S6144x1024, ((extractStridedSlice S6144x1024 ![0, 4128] (Host.dotGeneral dot_S6144x2048_S2048x11296_S6144x11296_1_0_0_1_n_n none (extf .f32 x bitsLt_bf16_f32) (shapeCast _ w shapeCasts_S1x2048x11296_S2048x11296)) slices_S6144x11296_S6144x1024_0_4128) : (⟨S6144x1024, .f32⟩ : BufTy).Contents (Elt Ideal))⟩, ⟨S6144x1024, ((extractStridedSlice S6144x1024 ![0, 5152] (Host.dotGeneral dot_S6144x2048_S2048x11296_S6144x11296_1_0_0_1_n_n none (extf .f32 x bitsLt_bf16_f32) (shapeCast _ w shapeCasts_S1x2048x11296_S2048x11296)) slices_S6144x11296_S6144x1024_0_5152) : (⟨S6144x1024, .f32⟩ : BufTy).Contents (Elt Ideal))⟩, ⟨S6144x1024, ((extractStridedSlice S6144x1024 ![0, 6176] (Host.dotGeneral dot_S6144x2048_S2048x11296_S6144x11296_1_0_0_1_n_n none (extf .f32 x bitsLt_bf16_f32) (shapeCast _ w shapeCasts_S1x2048x11296_S2048x11296)) slices_S6144x11296_S6144x1024_0_6176) : (⟨S6144x1024, .f32⟩ : BufTy).Contents (Elt Ideal))⟩, ⟨S6144x4096, ((extractStridedSlice S6144x4096 ![0, 7200] (Host.dotGeneral dot_S6144x2048_S2048x11296_S6144x11296_1_0_0_1_n_n none (extf .f32 x bitsLt_bf16_f32) (shapeCast _ w shapeCasts_S1x2048x11296_S2048x11296)) slices_S6144x11296_S6144x4096_0_7200) : (⟨S6144x4096, .f32⟩ : BufTy).Contents (Elt Ideal))⟩] concatenates_S6144x3072_S6144x1024_S6144x1024_S6144x1024_S6144x1024_S6144x4096_S6144x11264_d1 : (⟨S6144x11264, .f32⟩ : BufTy).Contents (Elt Ideal))) bitsLt_bf16_f32) i = projection x w (i 0) (i 1) := by
  have hj : (i 1).val < 11264 := (i 1).isLt
  generalize hP : projection x w (i 0) (i 1) = P
  pointwise
  subst hP
  unfold projection
  split_ifs
  all_goals
    refine Finset.sum_congr rfl fun k _ => congrArg (fun q => x (ix2 (i 0) k) * w (ix3 0 k q)) (Fin.ext ?_)
    dsimp only [column]
    split_ifs <;> omega

end Cert.InProj

end
-- ==== Proof.InProj.lean ====
/- What the input projection's result array holds after the run, at the ideal instance: at row `r` and column `j` the
   inner product of row `r` of the activations with one column of the weight, column `j` before the 32 gate columns and
   column `j + 32` after them. -/
module

public import proofs.«01_k».proof.Proof.Gen.KernelIdeal.Value
public import proofs.«01_k».proof.Proof.InProjReference
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.InProj

open Idealize.ShloMosaic Idealize.ShloMosaic.TcCoe Idealize.SL.Sem
open Cert.KernelIdeal Cert.KernelIdeal.Gen

variable (m : (ℓ : Loc nD τ sig) → Buf (Elt Ideal) ℓ)

/-- The first weight row of the block that column block `j` multiplies: the blocks after the fourth start 32 rows later. -/
def firstRow (j : ℕ) : ℕ := 1024 * j + (if j < 4 then 0 else 32)

/-- Where the three windows stand at grid point `t`: column block `t / 3`, row block `t % 3`. -/
theorem places : ∀ t : Fin cfg0.N, win0_0.index t = ![t.val % 3, 0] ∧ win0_1.index t = ![firstRow (t.val / 3), 0]
    ∧ win0_2.index t = ![t.val % 3, t.val / 3] :=
  (by decide +kernel : ∀ t : Fin grid0.N, win0_0.index t = ![t.val % 3, 0] ∧ win0_1.index t = ![firstRow (t.val / 3), 0]
    ∧ win0_2.index t = ![t.val % 3, t.val / 3])

/-- The weight block cast to bf16, as the first point of every run of three points stores it. -/
def cast (c : Dev nD) (t : Fin cfg0.N) : Vec Ideal S1024x2048 .bf16 := k0_pay1 (iblk m c 1 t)

/-- At every point the scratch holds the cast weight block of the run's first point. -/
theorem scratch_eq (c : Dev nD) (t : Fin cfg0.N) :
    (outsAt0 m c t.val t.isLt).2 = cast m c ⟨3 * (t.val / 3), Pipeline.run_start_lt t⟩ := by
  refine Pipeline.eq_of_write_hold (fun n h => (outsAt0 m c n h).2) 3 (cast m c) (fun t h => ?_) (fun t h => ?_) t
  · rw [outsAt0_A m c t h]
    frame_out
    rfl
  · rw [outsAt0_B m c t h]
    rfl

/-- At every point the result's block is the product of the row block with the scratch. -/
theorem block_eq (c : Dev nD) (t : Fin cfg0.N) :
    (outsAt0 m c t.val t.isLt).1 = k0_pay2 (iblk m c 0 t) (outsAt0 m c t.val t.isLt).2 := by
  by_cases h : t.val % 3 = 0
  · rw [outsAt0_A m c t h]
    dsimp only
    frame_out
  · rw [outsAt0_B m c t h]
    dsimp only
    frame_out
    simp only [read_unread_whole]
    rfl

/-- A product block at row `a` and column `b`: the inner product of the two rows. -/
theorem product_apply (x : Vec Ideal S2048x2048 .bf16) (w : Vec Ideal S1024x2048 .bf16) (a : Fin 2048) (b : Fin 1024) :
    k0_pay2 x w (ix2 a b) = ∑ k : Fin 2048, x (ix2 a k) * w (ix2 b k) := by
  unfold k0_pay2
  pointwise

/-- The activations' row block at point `t`. -/
theorem rows_apply (c : Dev nD) (t : Fin cfg0.N) (a : Fin 2048) (k : Fin 2048) (r : Fin 6144)
    (hr : r.val = 2048 * (t.val % 3) + a.val) :
    iblk m c 0 t (ix2 a k) = m ((c : Thread nD τ).loc main_arg0) (ix2 r k) := by
  obtain ⟨e0, e1, e2⟩ := places t
  blk_ext [iblk, V, e0]

/-- The cast weight block of the run of `t`, at row `b`. -/
theorem cast_apply (c : Dev nD) (t : Fin cfg0.N) (b : Fin 1024) (k : Fin 2048) (q : Fin 11296)
    (hq : q.val = firstRow (t.val / 3) + b.val) :
    cast m c t (ix2 b k) = m ((c : Thread nD τ).loc main_arg1) (ix3 0 k q) := by
  obtain ⟨e0, e1, e2⟩ := places t
  unfold cast k0_pay1
  pointwise
  have hV : V m c main_v1 (ix2 q k) = m ((c : Thread nD τ).loc main_arg1) (ix3 0 k q) := by
    entry_read
    pointwise
  rw [← hV]
  show V m c main_v1 (((cfg0.win 1).blk t).view.emb (ix2 b k)) = _
  congr 1
  have h0 : win0_1.index t 0 = firstRow (t.val / 3) := congrFun e1 0
  have h1 : win0_1.index t 1 = 0 := congrFun e1 1
  blk_ext [iblk, V, e1]
  · show win0_1.index t 0 + 1 * b.val = q.val
    omega
  · show win0_1.index t 1 + 1 * k.val = k.val
    omega

/-- THE RESULT ARRAY is the projection of the activations by the weight. -/
theorem result_apply (c : Dev nD) (i : S6144x11264.Idx) :
    Value.G2 m c i = projection (m ((c : Thread nD τ).loc main_arg0)) (m ((c : Thread nD τ).loc main_arg1)) (i 0) (i 1) := by
  obtain ⟨r, j, rfl⟩ : ∃ (r : Fin 6144) (j : Fin 11264), i = ix2 r j := ⟨i 0, i 1, eq_ix2 i⟩
  show _ = projection _ _ r j
  unfold projection
  have hN : cfg0.N = 33 := N_0
  have hp : Value.pt2Of (ix2 r j) = r.val / 2048 + 3 * (j.val / 1024) := by
    show 1 * (r.val / 2048 - 0) + 3 * (j.val / 1024 - 0) = _
    omega
  have hlt : Value.pt2Of (ix2 r j) < cfg0.N := by omega
  have hd : Value.pt2Of (ix2 r j) / 3 = j.val / 1024 := by omega
  have hm : Value.pt2Of (ix2 r j) % 3 = r.val / 2048 := by omega
  unfold Value.G2
  rw [dif_pos hlt, ← Value.outsAt0_sweep m c _ hlt]
  rw [block_eq m c ⟨_, hlt⟩, scratch_eq m c ⟨_, hlt⟩]
  refine (congrArg _ (?_ : Value.loc2Of (ix2 r j)
    = ix2 ⟨r.val % 2048, Nat.mod_lt _ (by decide)⟩ ⟨j.val % 1024, Nat.mod_lt _ (by decide)⟩)).trans ?_
  · funext a
    match a with
    | ⟨0, _⟩ => rfl
    | ⟨1, _⟩ => rfl
  refine (product_apply _ _ _ _).trans (Finset.sum_congr rfl fun k _ => ?_)
  rw [rows_apply m c ⟨_, hlt⟩ _ k r (by show r.val = 2048 * (Value.pt2Of (ix2 r j) % 3) + r.val % 2048; omega)]
  rw [cast_apply m c _ _ k (column j) (by
    show j.val + (if j.val < 4096 then 0 else 32) = firstRow (3 * (Value.pt2Of (ix2 r j) / 3) / 3) + j.val % 1024
    unfold firstRow
    split <;> split <;> omega)]

end Cert.InProj

end
-- ==== Proof.MoeBase.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources of the proof: the pipeline's beside the transfers' counters. -/
local notation "𝕄" => MT nD τ sig Unit (Elt F) ℕ (Pipeline.UD sig nD τ) ℕ

/-! ## The body's operands -/

/-- The tables as the body is handed them: each tile's expert, whether the tile is valid, each expert's rows. -/
abbrev tbE : Memref sig .tc .smem S80 .i32 := Memref.whole main_arg1
abbrev tbV : Memref sig .tc .smem S80 .i32 := Memref.whole main_arg2
abbrev tbC : Memref sig .tc .smem S32 .i32 := Memref.whole main_arg3
/-- The three weight arrays, left in HBM. -/
abbrev wG : Memref sig .tc .hbm S32x2048x512 .f32 := Memref.whole main_arg4
abbrev wU : Memref sig .tc .hbm S32x2048x512 .f32 := Memref.whole main_arg5
abbrev wD : Memref sig .tc .hbm S32x512x2048 .f32 := Memref.whole main_arg6
/-- The two slots the weights land in, the cast weights, and the slot word. -/
abbrev bG : Memref sig .tc .vmem S2x2048x512 .f32 := Memref.whole cc0_scratch0
abbrev bU : Memref sig .tc .vmem S2x2048x512 .f32 := Memref.whole cc0_scratch1
abbrev bD : Memref sig .tc .vmem S2x512x2048 .f32 := Memref.whole cc0_scratch2
abbrev cG : Memref sig .tc .vmem S2048x512 .bf16 := Memref.whole cc0_scratch3
abbrev cU : Memref sig .tc .vmem S2048x512 .bf16 := Memref.whole cc0_scratch4
abbrev cD : Memref sig .tc .vmem S512x2048 .bf16 := Memref.whole cc0_scratch5
abbrev wS : Memref sig .tc .smem S1 .i32 := Memref.whole cc0_scratch6

/-- A memref's buffer on core `c`, and that buffer held whole at the full share, or at half of it (a prefetched table). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptHalf (c : Dev nD) {sp : Space} {S : Shape} {e : EltTy} (M : Memref sig .tc sp S e) (f : Bf (F := F) c M) : sProp 𝕄 :=
  M.view.loc (c : Thread nD τ) ↦{fullShare.right} f
/-- A window of a buffer held by exactly its own elements. -/
abbrev own (c : Dev nD) {sp : Space} {S : Shape} {e : EltTy} (M : Memref sig .tc sp S e) (f : Bf (F := F) c M) : sProp 𝕄 :=
  M.view.loc (c : Thread nD τ) ↦[M.view.set]{fullShare} f

/-- One slot of a weight buffer, and one expert of a weight array. -/
abbrev slotA (M : Memref sig .tc .vmem S2x2048x512 .f32) (o : Fin 3 → ℕ) (h : ∀ a, o a + S1x2048x512.size a ≤ S2x2048x512.size a) :
    Memref sig .tc .vmem S2048x512 .f32 :=
  (M.slice (Rect.unit (s := S2x2048x512) o S1x2048x512.size h) (fun _ => rfl)).squeeze S2048x512 squeezes_S1x2048x512_S2048x512
abbrev slotB (M : Memref sig .tc .vmem S2x512x2048 .f32) (o : Fin 3 → ℕ) (h : ∀ a, o a + S1x512x2048.size a ≤ S2x512x2048.size a) :
    Memref sig .tc .vmem S512x2048 .f32 :=
  (M.slice (Rect.unit (s := S2x512x2048) o S1x512x2048.size h) (fun _ => rfl)).squeeze S512x2048 squeezes_S1x512x2048_S512x2048
abbrev expA (M : Memref sig .tc .hbm S32x2048x512 .f32) (o : Fin 3 → ℕ) (h : ∀ a, o a + S1x2048x512.size a ≤ S32x2048x512.size a) :
    Memref sig .tc .hbm S2048x512 .f32 :=
  (M.slice (Rect.unit (s := S32x2048x512) o S1x2048x512.size h) (fun _ => rfl)).squeeze S2048x512 squeezes_S1x2048x512_S2048x512
abbrev expB (M : Memref sig .tc .hbm S32x512x2048 .f32) (o : Fin 3 → ℕ) (h : ∀ a, o a + S1x512x2048.size a ≤ S32x512x2048.size a) :
    Memref sig .tc .hbm S512x2048 .f32 :=
  (M.slice (Rect.unit (s := S32x512x2048) o S1x512x2048.size h) (fun _ => rfl)).squeeze S512x2048 squeezes_S1x512x2048_S512x2048

theorem in0A : ∀ a, (![0, 0, 0] : Fin 3 → ℕ) a + S1x2048x512.size a ≤ S2x2048x512.size a := by decide
theorem in1A : ∀ a, (![1, 0, 0] : Fin 3 → ℕ) a + S1x2048x512.size a ≤ S2x2048x512.size a := by decide
theorem in0B : ∀ a, (![0, 0, 0] : Fin 3 → ℕ) a + S1x512x2048.size a ≤ S2x512x2048.size a := by decide
theorem in1B : ∀ a, (![1, 0, 0] : Fin 3 → ℕ) a + S1x512x2048.size a ≤ S2x512x2048.size a := by decide

/-- The transfers of one expert's weights: the slot filled with the expert's block, and the block back. -/
def deliv (c : Dev nD) (fG : Bf (F := F) c wG) (fU : Bf (F := F) c wU) (fD : Bf (F := F) c wD)
    (dG : Bf (F := F) c bG) (dU : Bf (F := F) c bU) (dD : Bf (F := F) c bD)
    (o : Fin 3 → ℕ) (hA : ∀ a, o a + S1x2048x512.size a ≤ S32x2048x512.size a) (hB : ∀ a, o a + S1x512x2048.size a ≤ S32x512x2048.size a)
    (s : Fin 3 → ℕ) (sA : ∀ a, s a + S1x2048x512.size a ≤ S2x2048x512.size a) (sB : ∀ a, s a + S1x512x2048.size a ≤ S2x512x2048.size a) :
    Fin 3 → sProp 𝕄
  | 0 => iprop(own c (slotA bG s sA) ((slotA bG s sA).view.writes (Elt F) dG [⟨Rect.whole S2048x512, ReadAs.same.apply ((expA wG o hA).view.read (Elt F) fG)⟩])
      ∗ own c (expA wG o hA) fG)
  | 1 => iprop(own c (slotA bU s sA) ((slotA bU s sA).view.writes (Elt F) dU [⟨Rect.whole S2048x512, ReadAs.same.apply ((expA wU o hA).view.read (Elt F) fU)⟩])
      ∗ own c (expA wU o hA) fU)
  | 2 => iprop(own c (slotB bD s sB) ((slotB bD s sB).view.writes (Elt F) dD [⟨Rect.whole S512x2048, ReadAs.same.apply ((expB wD o hB).view.read (Elt F) fD)⟩])
      ∗ own c (expB wD o hB) fD)

instance deliv_storable (c : Dev nD) (fG : Bf (F := F) c wG) (fU : Bf (F := F) c wU) (fD : Bf (F := F) c wD)
    (dG : Bf (F := F) c bG) (dU : Bf (F := F) c bU) (dD : Bf (F := F) c bD)
    (o : Fin 3 → ℕ) (hA : ∀ a, o a + S1x2048x512.size a ≤ S32x2048x512.size a) (hB : ∀ a, o a + S1x512x2048.size a ≤ S32x512x2048.size a)
    (s : Fin 3 → ℕ) (sA : ∀ a, s a + S1x2048x512.size a ≤ S2x2048x512.size a) (sB : ∀ a, s a + S1x512x2048.size a ≤ S2x512x2048.size a)
    (t : Fin 3) : Storable (upEmb : UEmb _ 𝕄) (deliv c fG fU fD dG dU dD o hA hB s sA sB t) := by
  fin_cases t <;> simp only [deliv] <;> infer_instance

/-- One transfer's credit: the units of an expert's block. -/
abbrev credit : ℕ := 131072

theorem inA (v : BitVec 32) (h : v.toNat < 32) : ∀ a, (k0_off7 v) a + S1x2048x512.size a ≤ S32x2048x512.size a := by
  intro a; fin_cases a
  · show v.toNat + 1 ≤ 32; omega
  · show 0 + 2048 ≤ 2048; omega
  · show 0 + 512 ≤ 512; omega
theorem inB (v : BitVec 32) (h : v.toNat < 32) : ∀ a, (k0_off7 v) a + S1x512x2048.size a ≤ S32x512x2048.size a := by
  intro a; fin_cases a
  · show v.toNat + 1 ≤ 32; omega
  · show 0 + 512 ≤ 512; omega
  · show 0 + 2048 ≤ 2048; omega

/-- Which slot the next start finds filled, by the word kept in SMEM: the word, the slot it will turn to and the other
    one, and the semaphores of the two. -/
inductive Side : BitVec 32 → (Fin 3 → ℕ) → (Fin 3 → ℕ) → SemLoc sig → SemLoc sig → Prop
  | one : Side 1#32 ![0, 0, 0] ![1, 0, 0] (.dma 4) (.dma 5)
  | zero : Side 0#32 ![1, 0, 0] ![0, 0, 0] (.dma 5) (.dma 4)

theorem Side.flip {w : BitVec 32} {s n : Fin 3 → ℕ} {q r : SemLoc sig} (h : Side w s n q r) : Side (1#32 - w) n s r q := by
  cases h
  · exact Side.zero
  · exact Side.one
theorem Side.sA {w : BitVec 32} {s n : Fin 3 → ℕ} {q r : SemLoc sig} (h : Side w s n q r) : ∀ a, s a + S1x2048x512.size a ≤ S2x2048x512.size a := by
  cases h
  · exact in0A
  · exact in1A
theorem Side.sB {w : BitVec 32} {s n : Fin 3 → ℕ} {q r : SemLoc sig} (h : Side w s n q r) : ∀ a, s a + S1x512x2048.size a ≤ S2x512x2048.size a := by
  cases h
  · exact in0B
  · exact in1B

/-- A slot of each weight buffer, holding anything. -/
def slotsFree (c : Dev nD) (s : Fin 3 → ℕ) (sA : ∀ a, s a + S1x2048x512.size a ≤ S2x2048x512.size a) (sB : ∀ a, s a + S1x512x2048.size a ≤ S2x512x2048.size a) : sProp 𝕄 :=
  iprop((∃ f, own (F := F) c (slotA bG s sA) f) ∗ (∃ f, own (F := F) c (slotA bU s sA) f) ∗ (∃ f, own (F := F) c (slotB bD s sB) f))

/-- The slot word. -/
def wordIs (c : Dev nD) (w : BitVec 32) : sProp 𝕄 :=
  iprop(∃ f, pt (F := F) c wS (wS.view.writes (Elt F) f [⟨Rect.unit (s := S1) ![0] S1.size Facts₀.inb_S1_S1_0, fun _ => w⟩]))

/-- An expert's three transfers in flight into slot `s`, its blocks lent to them. -/
def flying (c : Dev nD) (fG : Bf (F := F) c wG) (fU : Bf (F := F) c wU) (fD : Bf (F := F) c wD) (v : BitVec 32) (hv : v.toNat < 32)
    (s : Fin 3 → ℕ) (sA : ∀ a, s a + S1x2048x512.size a ≤ S2x2048x512.size a) (sB : ∀ a, s a + S1x512x2048.size a ≤ S2x512x2048.size a) (q : SemLoc sig) : sProp 𝕄 :=
  iprop(∃ dG : Bf (F := F) c bG, ∃ dU : Bf (F := F) c bU, ∃ dD : Bf (F := F) c bD,
    Transfers.Batch (countersEmb (U := Pipeline.UD sig nD τ)) (c : Thread nD τ) q () credit
        (deliv c fG fU fD dG dU dD (k0_off7 v) (inA v hv) (inB v hv) s sA sB) 3 0
      ∗ (wG.view.loc (c : Thread nD τ) ↦[Finset.univ \ (expA wG (k0_off7 v) (inA v hv)).view.set]{fullShare} fG)
      ∗ (wU.view.loc (c : Thread nD τ) ↦[Finset.univ \ (expA wU (k0_off7 v) (inA v hv)).view.set]{fullShare} fU)
      ∗ (wD.view.loc (c : Thread nD τ) ↦[Finset.univ \ (expB wD (k0_off7 v) (inB v hv)).view.set]{fullShare} fD))

/-- Between two starts: the slot word, the next start's expert in flight, the other slot free, its semaphore at zero. -/
def ahead (c : Dev nD) (fG : Bf (F := F) c wG) (fU : Bf (F := F) c wU) (fD : Bf (F := F) c wD) (v : BitVec 32) (hv : v.toNat < 32) : sProp 𝕄 :=
  iprop(∃ w, ∃ s, ∃ n, ∃ q, ∃ r, ∃ h : Side w s n q r,
    wordIs (F := F) c w ∗ flying c fG fU fD v hv s h.sA h.sB q ∗ slotsFree (F := F) c n h.flip.sA h.flip.sB ∗ semVal ((c : Thread nD τ), r) 0)

/-- Nothing in flight. -/
def atRest (c : Dev nD) (fG : Bf (F := F) c wG) (fU : Bf (F := F) c wU) (fD : Bf (F := F) c wD) : sProp 𝕄 :=
  iprop((∃ f, pt (F := F) c wS f) ∗ pt c wG fG ∗ pt c wU fU ∗ pt c wD fD
    ∗ slotsFree (F := F) c ![0, 0, 0] in0A in0B ∗ slotsFree (F := F) c ![1, 0, 0] in1A in1B
    ∗ semVal ((c : Thread nD τ), SemLoc.dma 4) 0 ∗ semVal ((c : Thread nD τ), SemLoc.dma 5) 0)

/-- An expert's weights, as the body casts them. -/
def castA (x : FVec F S2048x512 .f32) : FVec F S2048x512 .bf16 :=
  shapeCast S2048x512 (truncf .bf16 x bitsLt_bf16_f32) shapeCasts_S2048x512_S2048x512
def castB (x : FVec F S512x2048 .f32) : FVec F S512x2048 .bf16 :=
  shapeCast S512x2048 (truncf .bf16 x bitsLt_bf16_f32) shapeCasts_S512x2048_S512x2048
def castG (c : Dev nD) (fG : Bf (F := F) c wG) (v : BitVec 32) (hv : v.toNat < 32) : FVec F S2048x512 .bf16 :=
  castA ((expA wG (k0_off7 v) (inA v hv)).view.read (Elt F) fG)
def castU (c : Dev nD) (fU : Bf (F := F) c wU) (v : BitVec 32) (hv : v.toNat < 32) : FVec F S2048x512 .bf16 :=
  castA ((expA wU (k0_off7 v) (inA v hv)).view.read (Elt F) fU)
def castD (c : Dev nD) (fD : Bf (F := F) c wD) (v : BitVec 32) (hv : v.toNat < 32) : FVec F S512x2048 .bf16 :=
  castB ((expB wD (k0_off7 v) (inB v hv)).view.read (Elt F) fD)

theorem pay4_landed (M : Memref sig .tc .vmem S2x2048x512 .f32) {s : Fin 3 → ℕ} (sA : ∀ a, s a + S1x2048x512.size a ≤ S2x2048x512.size a)
    (f : (slotA M s sA).view.ty.Contents (Elt F)) (x : FVec F S2048x512 .f32) :
    k0_pay4 (M.view.readAt (Elt F) (Rect.unit (s := S2x2048x512) s S1x2048x512.size sA).toLoadRect
      ((slotA M s sA).view.writes (Elt F) f [⟨Rect.whole S2048x512, ReadAs.same.apply x⟩])) = castA x := by
  exact congrArg (fun z => shapeCast S2048x512 (truncf .bf16 z bitsLt_bf16_f32) shapeCasts_S2048x512_S2048x512)
    (View.read_writes_whole (slotA M s sA).view f x)
theorem pay5_landed (M : Memref sig .tc .vmem S2x2048x512 .f32) {s : Fin 3 → ℕ} (sA : ∀ a, s a + S1x2048x512.size a ≤ S2x2048x512.size a)
    (f : (slotA M s sA).view.ty.Contents (Elt F)) (x : FVec F S2048x512 .f32) :
    k0_pay5 (M.view.readAt (Elt F) (Rect.unit (s := S2x2048x512) s S1x2048x512.size sA).toLoadRect
      ((slotA M s sA).view.writes (Elt F) f [⟨Rect.whole S2048x512, ReadAs.same.apply x⟩])) = castA x :=
  pay4_landed M sA f x
theorem pay6_landed (M : Memref sig .tc .vmem S2x512x2048 .f32) {s : Fin 3 → ℕ} (sB : ∀ a, s a + S1x512x2048.size a ≤ S2x512x2048.size a)
    (f : (slotB M s sB).view.ty.Contents (Elt F)) (x : FVec F S512x2048 .f32) :
    k0_pay1 (k0_pay6 (M.view.readAt (Elt F) (Rect.unit (s := S2x512x2048) s S1x512x2048.size sB).toLoadRect
      ((slotB M s sB).view.writes (Elt F) f [⟨Rect.whole S512x2048, ReadAs.same.apply x⟩]))) = castB x := by
  exact congrArg (fun z => shapeCast S512x2048 (truncf .bf16 z bitsLt_bf16_f32) shapeCasts_S512x2048_S512x2048)
    (View.read_writes_whole (slotB M s sB).view f x)

/-- A scratch held whole, reading `v`. -/
def scr (c : Dev nD) {S : Shape} {e : EltTy} (M : Memref sig .tc .vmem S e) (v : Vec F S e) : sProp 𝕄 :=
  iprop(∃ f, ⌜M.view.read (Elt F) f = v⌝ ∗ pt (F := F) c M f)

/-- The cast weights of one expert, held in the three scratches. -/
def casts (c : Dev nD) (fG : Bf (F := F) c wG) (fU : Bf (F := F) c wU) (fD : Bf (F := F) c wD) (v : BitVec 32) (hv : v.toNat < 32) : sProp 𝕄 :=
  iprop(scr c cG (castG c fG v hv) ∗ scr c cU (castU c fU v hv) ∗ scr c cD (castD c fD v hv))
def castsAny (c : Dev nD) : sProp 𝕄 :=
  iprop((∃ f, pt (F := F) c cG f) ∗ (∃ f, pt (F := F) c cU f) ∗ (∃ f, pt (F := F) c cD f))

end Cert.Moe

end
-- ==== Proof.MoeTables.lean ====
module

public import proofs.«01_k».proof.Proof.MoeBase
public import proofs.«01_k».proof.Proof.Gen.Pre_tiles_laid_out
public import Idealize.ShloMosaic.Lib.Affine
public import Idealize.ShloMosaic.Lib.ValueIdx
public import Idealize.ShloMosaic.Lib.Routing.Words
public import Idealize.ShloMosaic.Lib.Tactic.WordOmega

@[expose] public section

set_option maxRecDepth 16384

noncomputable section

namespace Cert.Moe

open Cert.Kernel2Ideal Cert.Kernel2Ideal.Gen
open Idealize.ShloMosaic Idealize.ShloMosaic.TcCoe Idealize.ShloMosaic.Tactic

variable {F : FTy → Type} [FloatOps F]

/-! ## What the tables say, on words -/

/-- A tile starts a run: it is the first, or its expert is not the one of the tile before. -/
def Start (T : Fin 80 → BitVec 32) (i : Fin 80) : Prop := i.val = 0 ∨ ∃ p : Fin 80, p.val + 1 = i.val ∧ T i ≠ T p

/-- The tables as the rows of the experts lie: valid tiles first, the last not valid; a valid tile names an expert; the
    tiles of an expert lie within its count of rows, and a run covers the count. -/
structure Laid (T V : Fin 80 → BitVec 32) (N : Fin 32 → BitVec 32) : Prop where
  bit : ∀ i, V i = 0#32 ∨ V i = 1#32
  first : ∀ p i : Fin 80, p.val + 1 = i.val → V i = 1#32 → V p = 1#32
  last : ∀ i : Fin 80, i.val = 79 → V i = 0#32
  rng : ∀ i, V i = 1#32 → (T i).toNat < 32
  near : ∀ (e : Fin 32) (i j : Fin 80), V i = 1#32 → V j = 1#32 → (T i).toNat = e.val → (T j).toNat = e.val → ((j.val : ℤ) - i.val) * 256 < (N e).toInt
  run : ∀ (e : Fin 32) (i j : Fin 80), V i = 1#32 → (T i).toNat = e.val → Start T i → i.val ≤ j.val → ((j.val : ℤ) - i.val) * 256 < (N e).toInt →
    V j = 1#32 ∧ (T j).toNat = e.val

namespace Laid

variable {T V : Fin 80 → BitVec 32} {N : Fin 32 → BitVec 32} (L : Laid T V N)
include L

/-- What a starting tile finds: its count of rows, and the tile behind its run. -/
theorem start {i : Fin 80} (hv : V i = 1#32) (hs : Start T i) (e : Fin 32) (he : (T i).toNat = e.val) :
    0 < (N e).toNat ∧ (N e).toNat ≤ 20224 ∧ i.val + ((N e).toNat + 255) / 256 ≤ 79
      ∧ ∀ j : Fin 80, i.val ≤ j.val → j.val < i.val + ((N e).toNat + 255) / 256 → V j = 1#32 ∧ T j = T i := by
  have h0 := L.near e i i hv hv he he
  have hN := BitVec.toInt_eq_toNat_cond (N e)
  have hlt := (N e).isLt
  have hc : ((N e).toNat : ℤ) = (N e).toInt := by split_ifs at hN <;> omega
  have h79 : ¬ ((79 : ℤ) - i.val) * 256 < (N e).toInt := fun h => by
    have := (L.run e i ⟨79, by omega⟩ hv he hs (by show i.val ≤ 79; omega) h).1
    rw [L.last _ rfl] at this
    exact absurd this (by decide)
  refine ⟨by omega, by omega, by omega, fun j hij hj => ?_⟩
  obtain ⟨a, b⟩ := L.run e i j hv he hs hij (by omega)
  exact ⟨a, BitVec.eq_of_toNat_eq (b.trans he.symm)⟩

/-- The tile behind a run, where it is valid, starts a run of its own. -/
theorem next {i n : Fin 80} (hv : V i = 1#32) (hs : Start T i) (e : Fin 32) (he : (T i).toNat = e.val)
    (hn : n.val = i.val + ((N e).toNat + 255) / 256) (hvn : V n = 1#32) : Start T n := by
  obtain ⟨h0, h1, h2, h3⟩ := L.start hv hs e he
  have hN := BitVec.toInt_eq_toNat_cond (N e)
  refine Or.inr ⟨⟨n.val - 1, by omega⟩, by show n.val - 1 + 1 = _; omega, fun h => ?_⟩
  have := L.near e i n hv hvn he (by rw [h, (h3 ⟨n.val - 1, by omega⟩ (by show i.val ≤ n.val - 1; omega) (by show n.val - 1 < _; omega)).2, he])
  split_ifs at hN <;> omega

/-- Behind a tile that is not valid no tile is. -/
theorem none_after {i : Fin 80} (h : V i = 0#32) : ∀ j : Fin 80, i.val ≤ j.val → V j = 0#32 := by
  intro j
  obtain ⟨k, hk⟩ := j
  induction k with
  | zero => intro hi; rw [← h]; congr 1; apply Fin.ext; simp at hi; simp; omega
  | succ k ih =>
    intro hi
    rcases Nat.lt_or_ge k i.val with hlt | hge
    · rw [← h]; congr 1; apply Fin.ext; simp at hi; simp; omega
    · rcases L.bit ⟨k + 1, hk⟩ with h' | h'
      · exact h'
      · have := L.first ⟨k, by omega⟩ ⟨k + 1, hk⟩ rfl h'
        rw [ih (by omega) hge] at this
        exact absurd this (by decide)

end Laid

/-! ## The words the body computes -/

/-- The tile behind a run, as the body computes it. -/
def behind (i : grid0.Coords) (v48 : BitVec 32) : BitVec 32 :=
  Scalar.minsi (Scalar.addi (BitVec.ofNat 32 (i 0).val)
    (Scalar.select
      (Scalar.andi
        (Scalar.cmpi .ne (Scalar.subi (Scalar.extui (Scalar.cmpi .sgt (Scalar.subi (Scalar.addi v48 256#32) 1#32) 0#32)) (Scalar.extui (Scalar.cmpi .slt (Scalar.subi (Scalar.addi v48 256#32) 1#32) 0#32)))
          (Scalar.subi (Scalar.extui (Scalar.cmpi .sgt 256#32 0#32)) (Scalar.extui (Scalar.cmpi .slt 256#32 0#32))))
        (Scalar.cmpi .ne (Scalar.remsi (Scalar.subi (Scalar.addi v48 256#32) 1#32) 256#32) 0#32))
      (Scalar.subi (Scalar.divsi (Scalar.subi (Scalar.addi v48 256#32) 1#32) 256#32) 1#32)
      (Scalar.divsi (Scalar.subi (Scalar.addi v48 256#32) 1#32) 256#32))) 79#32

theorem off11_eq (i : grid0.Coords) (v48 : BitVec 32) : k0_off11 i v48 = ![(behind i v48).toNat] := rfl
theorem off12_eq (i : grid0.Coords) (v48 : BitVec 32) : k0_off12 i v48 = ![(behind i v48).toNat] := rfl
theorem cond3_eq (i : grid0.Coords) (v48 v72 : BitVec 32) : k0_cond3 i v48 v72 =
    Scalar.cmpi .ne (Scalar.extui (Scalar.andi (Scalar.cmpi .sgt (behind i v48) (BitVec.ofNat 32 (i 0).val)) (Scalar.cmpi .eq v72 1#32))) 0#32 := rfl

theorem behind_eq (i : grid0.Coords) (v48 : BitVec 32) (h0 : 0 < v48.toNat) (h1 : v48.toNat ≤ 20224) (h2 : (i 0).val + (v48.toNat + 255) / 256 ≤ 79) :
    (behind i v48).toNat = (i 0).val + (v48.toNat + 255) / 256 := by
  have hx : Scalar.subi (Scalar.addi v48 256#32) 1#32 = BitVec.ofNat 32 (v48.toNat + 255) := by
    apply BitVec.eq_of_toNat_eq
    simp only [Scalar.subi, Scalar.addi, IntOp.subi, IntOp.addi, BitVec.toNat_sub, BitVec.toNat_add, BitVec.toNat_ofNat]
    omega
  have hd : Scalar.divsi (BitVec.ofNat 32 (v48.toNat + 255)) 256#32 = BitVec.ofNat 32 ((v48.toNat + 255) / 256) :=
    Routing.divsi_word .scalar (by omega) (by decide) (by decide)
  have ht : (BitVec.ofNat 32 (v48.toNat + 255)).toInt = (v48.toNat : ℤ) + 255 := by
    rw [BitVec.toInt_eq_toNat_cond, BitVec.toNat_ofNat]; split_ifs <;> omega
  have hp : Scalar.cmpi .sgt (BitVec.ofNat 32 (v48.toNat + 255)) 0#32 = 1#1 := by
    show BitVec.ofBool (decide ((0 : ℤ) < (BitVec.ofNat 32 (v48.toNat + 255)).toInt)) = 1#1
    rw [ht, decide_eq_true (by omega)]; rfl
  have hq : Scalar.cmpi .slt (BitVec.ofNat 32 (v48.toNat + 255)) 0#32 = 0#1 := by
    show BitVec.ofBool (decide ((BitVec.ofNat 32 (v48.toNat + 255)).toInt < (0 : ℤ))) = 0#1
    rw [ht, decide_eq_false (by omega)]; rfl
  unfold behind
  rw [hx, hd, hp, hq]
  rw [show Scalar.cmpi .ne (Scalar.subi (Scalar.extui (1#1)) (Scalar.extui (0#1))) (Scalar.subi (Scalar.extui (Scalar.cmpi .sgt 256#32 0#32)) (Scalar.extui (Scalar.cmpi .slt 256#32 0#32))) = (0#1 : BitVec 1) from by decide]
  rw [show ∀ b : BitVec 1, Scalar.andi (0#1) b = 0#1 from by decide]
  have hl := (i 0).isLt
  generalize hk : (v48.toNat + 255) / 256 = k at *
  have hsel : ∀ a b : BitVec 32, Scalar.select 0#1 a b = b := fun a b => rfl
  rw [hsel]
  have : ∀ n : ℕ, n ≤ 79 → (Scalar.minsi (BitVec.ofNat 32 n) 79#32).toNat = n := fun n hn =>
    (by decide +kernel : ∀ n : Fin 80, (Scalar.minsi (BitVec.ofNat 32 n.val) 79#32).toNat = n.val) ⟨n, by omega⟩
  rw [← this _ h2]; congr 2
  exact BitVec.ofNat_add_ofNat _ _

/-- The condition of the next run's prefetch: the tile behind is valid. -/
theorem cond3_iff (i : grid0.Coords) (v48 v72 : BitVec 32) (h0 : 0 < v48.toNat) (h1 : v48.toNat ≤ 20224) (h2 : (i 0).val + (v48.toNat + 255) / 256 ≤ 79) :
    k0_cond3 i v48 v72 = 1#1 ↔ v72 = 1#32 := by
  have hb := behind_eq i v48 h0 h1 h2
  have hl : (i 0).val < 80 := (i 0).isLt
  have hp : Scalar.cmpi .sgt (behind i v48) (BitVec.ofNat 32 (i 0).val) = 1#1 := by
    show BitVec.ofBool (decide ((BitVec.ofNat 32 (i 0).val).toInt < (behind i v48).toInt)) = 1#1
    rw [decide_eq_true]; · rfl
    rw [BitVec.toInt_eq_toNat_cond, BitVec.toInt_eq_toNat_cond, hb, BitVec.toNat_ofNat]
    split_ifs <;> omega
  rw [cond3_eq, hp]
  show BitVec.ofBool (Scalar.extui (Scalar.andi 1#1 (BitVec.ofBool (v72 == 1#32))) != 0#32) = 1#1 ↔ _
  by_cases h : v72 = 1#32
  · subst h; simp only [iff_true]; decide
  · rw [show (v72 == 1#32) = false from by simpa using h]
    exact iff_of_false (by decide) h

theorem cond1_iff (i : grid0.Coords) (v3 : BitVec 32) : k0_cond1 i v3 = 1#1 ↔ v3 = 1#32 ∧ (i 0).val = 0 := by
  have hi : (BitVec.ofNat 32 (i 0).val == 0#32) = decide ((i 0).val = 0) :=
    (by decide +kernel : ∀ n : Fin 80, (BitVec.ofNat 32 n.val == 0#32) = decide (n.val = 0)) (i 0)
  show BitVec.ofBool (Scalar.extui (Scalar.andi (BitVec.ofBool (v3 == 1#32)) (BitVec.ofBool (BitVec.ofNat 32 (i 0).val == 0#32))) != 0#32) = 1#1 ↔ _
  rw [hi, show (v3 == 1#32) = decide (v3 = 1#32) from rfl]
  by_cases h : v3 = 1#32 <;> by_cases h' : (i 0).val = 0 <;> simp only [h, h', decide_true, decide_false, and_true, and_false, iff_true, iff_false] <;> decide

theorem cond2_iff (i : grid0.Coords) (v3 v6 v13 : BitVec 32) : k0_cond2 i v3 v6 v13 = 1#1 ↔ v3 = 1#32 ∧ ((i 0).val = 0 ∨ v6 ≠ v13) := by
  have hi : (BitVec.ofNat 32 (i 0).val == 0#32) = decide ((i 0).val = 0) :=
    (by decide +kernel : ∀ n : Fin 80, (BitVec.ofNat 32 n.val == 0#32) = decide (n.val = 0)) (i 0)
  show BitVec.ofBool (Scalar.extui (Scalar.andi (BitVec.ofBool (v3 == 1#32)) (Scalar.ori (BitVec.ofBool (BitVec.ofNat 32 (i 0).val == 0#32)) (BitVec.ofBool (v6 != v13)))) != 0#32) = 1#1 ↔ _
  rw [hi, show (v3 == 1#32) = decide (v3 = 1#32) from rfl, show (v6 != v13) = !decide (v6 = v13) from rfl]
  by_cases h : v3 = 1#32 <;> by_cases h' : (i 0).val = 0 <;> by_cases h'' : v6 = v13 <;>
    simp only [h, h', h'', decide_true, decide_false, and_true, and_false, iff_true, iff_false, ne_eq, not_true_eq_false, not_false_eq_true, or_true, or_false, true_or] <;> decide

theorem cond4_iff (v3 : BitVec 32) : k0_cond4 v3 = 1#1 ↔ v3 = 1#32 := by
  show BitVec.ofBool (Scalar.extui (BitVec.ofBool (v3 == 1#32)) != 0#32) = 1#1 ↔ _
  rw [show (v3 == 1#32) = decide (v3 = 1#32) from rfl]
  by_cases h : v3 = 1#32 <;> simp only [h, decide_true, decide_false, iff_true, iff_false] <;> decide
theorem cond5_iff (v3 : BitVec 32) : k0_cond5 v3 = 1#1 ↔ v3 = 0#32 := by
  show BitVec.ofBool (Scalar.extui (BitVec.ofBool (v3 == 0#32)) != 0#32) = 1#1 ↔ _
  rw [show (v3 == 0#32) = decide (v3 = 0#32) from rfl]
  by_cases h : v3 = 0#32 <;> simp only [h, decide_true, decide_false, iff_true, iff_false] <;> decide

theorem off4_eq (i : grid0.Coords) : k0_off4 i = ![(i 0).val - 1] := by
  have : (Scalar.maxsi (Scalar.subi (BitVec.ofNat 32 (i 0).val) 1#32) 0#32).toNat = (i 0).val - 1 :=
    (by decide +kernel : ∀ n : Fin 80, (Scalar.maxsi (Scalar.subi (BitVec.ofNat 32 n.val) 1#32) 0#32).toNat = n.val - 1) (i 0)
  exact congrArg (fun k : ℕ => ![k]) this
theorem off1_eq (i : grid0.Coords) : k0_off1 i = ![(i 0).val] := by
  have : (BitVec.ofNat 32 (i 0).val).toNat = (i 0).val :=
    (by decide +kernel : ∀ n : Fin 80, (BitVec.ofNat 32 n.val).toNat = n.val) (i 0)
  exact congrArg (fun k : ℕ => ![k]) this

/-! ## The side conditions the body assumes -/

theorem chk1_of (i : grid0.Coords) (v3 v6 : BitVec 32) (h : v6.toNat < 32) : k0_chk1 i v3 v6 := ⟨fun _ => inA v6 h, fun _ => inB v6 h⟩
theorem chk3_of (i : grid0.Coords) (v3 v6 v13 : BitVec 32) (h : v6.toNat < 32) : k0_chk3 i v3 v6 v13 :=
  ⟨fun _ => inA v6 h, fun _ => inB v6 h, fun _ a => by obtain rfl : a = 0 := Subsingleton.elim _ _; exact h⟩
theorem chk1_not (i : grid0.Coords) (v3 v6 : BitVec 32) (h : ¬ v3 = 1#32) : k0_chk1 i v3 v6 :=
  ⟨fun k => absurd ((cond1_iff i v3).mp k).1 h, fun k => absurd ((cond1_iff i v3).mp k).1 h⟩
theorem chk3_not (i : grid0.Coords) (v3 v6 v13 : BitVec 32) (h : ¬ v3 = 1#32) : k0_chk3 i v3 v6 v13 :=
  ⟨fun k => absurd ((cond2_iff i v3 v6 v13).mp k).1 h, fun k => absurd ((cond2_iff i v3 v6 v13).mp k).1 h, fun k => absurd ((cond2_iff i v3 v6 v13).mp k).1 h⟩
theorem chk2_one (i : grid0.Coords) (v3 v6 v13 : BitVec 32) : k0_chk2 i v3 v6 v13 1#32 :=
  ⟨fun _ => by decide, fun _ => by decide, fun _ => by decide, fun _ => by decide, fun _ => by decide⟩
theorem chk2_zero (i : grid0.Coords) (v3 v6 v13 : BitVec 32) : k0_chk2 i v3 v6 v13 0#32 :=
  ⟨fun _ => by decide, fun _ => by decide, fun _ => by decide, fun _ => by decide, fun _ => by decide⟩
theorem chk4_of (i : grid0.Coords) (v3 v6 v13 v48 : BitVec 32) (h : (behind i v48).toNat < 80) : k0_chk4 i v3 v6 v13 v48 :=
  fun _ a => by obtain rfl : a = 0 := Subsingleton.elim _ _; exact h
theorem chk5_one (i : grid0.Coords) (v3 v6 v13 v48 v72 : BitVec 32) (h : (behind i v48).toNat < 80) : k0_chk5 i v3 v6 v13 1#32 v48 v72 :=
  ⟨fun _ _ a => by obtain rfl : a = 0 := Subsingleton.elim _ _; exact h, fun _ _ => by decide, fun _ _ => by decide, fun _ _ => by decide, fun _ _ => by decide, fun _ _ => by decide⟩
theorem chk5_zero (i : grid0.Coords) (v3 v6 v13 v48 v72 : BitVec 32) (h : (behind i v48).toNat < 80) : k0_chk5 i v3 v6 v13 0#32 v48 v72 :=
  ⟨fun _ _ a => by obtain rfl : a = 0 := Subsingleton.elim _ _; exact h, fun _ _ => by decide, fun _ _ => by decide, fun _ _ => by decide, fun _ _ => by decide, fun _ _ => by decide⟩
theorem chk6_of (i : grid0.Coords) (v3 v6 v13 v48 v72 v99 : BitVec 32) (h : v99.toNat < 32) : k0_chk6 i v3 v6 v13 v48 v72 v99 :=
  ⟨fun _ _ => inA v99 h, fun _ _ => inB v99 h⟩

end Cert.Moe

end
-- ==== Proof.MoeDecode.lean ====
module

public import proofs.«01_k».proof.Proof.MoeTables
public import Idealize.ShloMosaic.Lib.Pointwise.Tactic
public import Idealize.ShloMosaic.Lib.Pipeline.Value
public import Idealize.ShloMosaic.Lib.Pipeline.Value

@[expose] public section

set_option maxRecDepth 16384

noncomputable section

namespace Cert.Moe

open Idealize.ShloMosaic Idealize.ShloMosaic.TcCoe Idealize.ShloMosaic.Tactic
open Cert.Pre_tiles_laid_out

variable {F : FTy → Type} [FloatOps F]

attribute [local instance] Cert.Pre_tiles_laid_out.Gen.facts

variable (a0 : FVec F S20480x2048 .f32) (T V : IVec S80 32) (N : IVec S32 32) (a4 a5 : FVec F S32x2048x512 .f32) (a6 : FVec F S32x512x2048 .f32)

theorem or_one (a b : BitVec 1) : IntOp.ori a b = 1#1 ↔ a = 1#1 ∨ b = 1#1 := by revert a b; decide
theorem and_one (a b : BitVec 1) : IntOp.andi a b = 1#1 ↔ a = 1#1 ∧ b = 1#1 := by revert a b; decide
theorem not_one (a : BitVec 1) : ~~~a = 1#1 ↔ ¬ a = 1#1 := by revert a; decide
theorem eq_one (a b : BitVec 32) : IntOp.cmpi .eq a b = 1#1 ↔ a = b := by
  show BitVec.ofBool (decide (a = b)) = 1#1 ↔ _
  by_cases h : a = b <;> simp only [h, decide_true, decide_false, iff_true, iff_false] <;> decide
theorem ne_one (a b : BitVec 32) : IntOp.cmpi .ne a b = 1#1 ↔ a ≠ b := by
  show BitVec.ofBool (!decide (a = b)) = 1#1 ↔ _
  by_cases h : a = b <;> simp only [h, decide_true, decide_false, ne_eq, not_true_eq_false, not_false_eq_true, iff_true, iff_false] <;> decide
theorem slt_one (a b : BitVec 32) : IntOp.cmpi .slt a b = 1#1 ↔ a.toInt < b.toInt := by
  show BitVec.ofBool (decide (a.toInt < b.toInt)) = 1#1 ↔ _
  by_cases h : a.toInt < b.toInt <;> simp only [h, decide_true, decide_false, iff_true, iff_false] <;> decide
theorem sge_one (a b : BitVec 32) : IntOp.cmpi .sge a b = 1#1 ↔ b.toInt ≤ a.toInt := by
  show BitVec.ofBool (decide (b.toInt ≤ a.toInt)) = 1#1 ↔ _
  by_cases h : b.toInt ≤ a.toInt <;> simp only [h, decide_true, decide_false, iff_true, iff_false] <;> decide
theorem apart_toInt (i j : Fin 80) : (IntOp.muli (IntOp.subi (BitVec.ofNat 32 j.val) (BitVec.ofNat 32 i.val)) 256#32).toInt = ((j.val : ℤ) - i.val) * 256 :=
  (by decide +kernel : ∀ i j : Fin 80, (IntOp.muli (IntOp.subi (BitVec.ofNat 32 j.val) (BitVec.ofNat 32 i.val)) 256#32).toInt = ((j.val : ℤ) - i.val) * 256) i j
theorem word_iff (x : BitVec 32) (k : Fin 32) : x = BitVec.ofNat 32 k.val ↔ x.toNat = k.val := by
  have hk : (BitVec.ofNat 32 k.val).toNat = k.val := by rw [BitVec.toNat_ofNat]; omega
  exact ⟨fun h => by rw [h, hk], fun h => BitVec.eq_of_toNat_eq (h.trans hk.symm)⟩

theorem dec_bit (h : (fn (F := F) a0 T V N a4 a5 a6).1 = fun _ => 1#1) (i : Fin 80) : V (ix1 i) = 0#32 ∨ V (ix1 i) = 1#32 := by
  have e := congrFun h (ix1 i)
  simp only [fn, fn_part1, fn_part2, fn_part3, fn_part4] at e
  pointwise at e
  simpa only [or_one, eq_one] using e
theorem dec_last (h : (fn (F := F) a0 T V N a4 a5 a6).2.1 = fun _ => 1#1) (i : Fin 80) (hi : i.val = 79) : V (ix1 i) = 0#32 := by
  have e := congrFun h ix0
  simp only [fn, fn_part1, fn_part2, fn_part3, fn_part4] at e
  have e2 : V (ix1 (⟨79, by omega⟩ : Fin 80)) = 0#32 := by
    rw [← eq_one]
    refine Eq.trans ?_ e
    refine congrArg (fun z => IntOp.cmpi .eq z 0#32) ?_
    refine Eq.trans ?_ (shapeCast_dropUnit_apply ![] (extractStridedSlice S1 ![79] V _) _ ix0).symm
    exact congrArg V (funext fun a => match a with | ⟨0, _⟩ => rfl)
  rw [← e2]; congr 2; exact Fin.ext hi
theorem dec_first (h : (fn (F := F) a0 T V N a4 a5 a6).2.2.1 = fun _ => 1#1) (p i : Fin 80) (hp : p.val + 1 = i.val) (hi : V (ix1 i) = 1#32) : ¬ V (ix1 p) = 0#32 := by
  have e := congrFun h (ix1 (⟨p.val, by omega⟩ : Fin 79))
  simp only [fn, fn_part1, fn_part2, fn_part3, fn_part4] at e
  pointwise at e
  simp only [or_one, eq_one] at e
  rw [show (⟨1 + p.val, by omega⟩ : Fin 80) = i from Fin.ext (by show 1 + p.val = _; omega), hi] at e
  rcases e with e | e
  · exact absurd e (by decide)
  · intro h0; rw [h0] at e; exact absurd e (by decide)
theorem dec_rng (h : (fn (F := F) a0 T V N a4 a5 a6).2.2.2.1 = fun _ => 1#1) (i : Fin 80) (hi : V (ix1 i) = 1#32) : (T (ix1 i)).toNat < 32 := by
  have e := congrFun h (ix1 i)
  simp only [fn, fn_part1, fn_part2, fn_part3, fn_part4] at e
  pointwise at e
  simp only [or_one, and_one, eq_one, sge_one, slt_one, hi] at e
  have e' := e.resolve_left (by decide)
  have hT := BitVec.toInt_eq_toNat_cond (T (ix1 i))
  have h0 : (0#32).toInt = 0 := by decide
  have h32 : (32#32).toInt = 32 := by decide
  rw [h0, h32] at e'
  split_ifs at hT <;> omega
theorem dec_near (h : (fn (F := F) a0 T V N a4 a5 a6).2.2.2.2.1 = fun _ => 1#1) (k : Fin 32) (i j : Fin 80) (hi : V (ix1 i) = 1#32) (hj : V (ix1 j) = 1#32)
    (hik : (T (ix1 i)).toNat = k.val) (hjk : (T (ix1 j)).toNat = k.val) : ((j.val : ℤ) - i.val) * 256 < (N (ix1 k)).toInt := by
  have e := congrFun h (ix3 i j k)
  simp only [fn, fn_part1, fn_part2, fn_part3, fn_part4] at e
  pointwise at e
  simp only [or_one, and_one, not_one, eq_one, slt_one, apart_toInt, word_iff] at e
  exact e.resolve_left fun h => h ⟨⟨hi, hik⟩, hj, hjk⟩
theorem dec_run (h : (fn (F := F) a0 T V N a4 a5 a6).2.2.2.2.2.1 = fun _ => 1#1) (k : Fin 32) (p i j : Fin 80) (hp : p.val + 1 = i.val) (hi : V (ix1 i) = 1#32)
    (hik : (T (ix1 i)).toNat = k.val) (hne : T (ix1 i) ≠ T (ix1 p)) (hij : i.val ≤ j.val) (hlt : ((j.val : ℤ) - i.val) * 256 < (N (ix1 k)).toInt) :
    V (ix1 j) = 1#32 ∧ (T (ix1 j)).toNat = k.val := by
  have e := congrFun h (ix3 (⟨p.val, by omega⟩ : Fin 79) j k)
  simp only [fn, fn_part1, fn_part2, fn_part3, fn_part4] at e
  pointwise at e
  rw [show (⟨1 + p.val, by omega⟩ : Fin 80) = i from Fin.ext (by show 1 + p.val = _; omega), show 1 + p.val = i.val from by omega] at e
  simp only [or_one, and_one, not_one, eq_one, ne_one, slt_one, sge_one, apart_toInt, word_iff] at e
  exact e.resolve_left fun h => h ⟨⟨⟨hi, hik⟩, hne⟩, by rw [show (0#32).toInt = 0 from by decide]; omega, hlt⟩
theorem dec_run0 (h : (fn (F := F) a0 T V N a4 a5 a6).2.2.2.2.2.2 = fun _ => 1#1) (k : Fin 32) (i j : Fin 80) (h0 : i.val = 0) (hi : V (ix1 i) = 1#32)
    (hik : (T (ix1 i)).toNat = k.val) (hlt : ((j.val : ℤ) - i.val) * 256 < (N (ix1 k)).toInt) :
    V (ix1 j) = 1#32 ∧ (T (ix1 j)).toNat = k.val := by
  have e := congrFun h (ix2 j k)
  simp only [fn, fn_part1, fn_part2, fn_part3, fn_part4] at e
  pointwise at e
  rw [or_one, not_one] at e
  have e' := e.resolve_left fun h => h (by
    rw [and_one]
    constructor
    · refine Eq.trans (shapeCast_dropUnit_apply ![32] _ _ (ix1 k)) ?_
      rw [show (Fin.cons ⟨0, Nat.one_pos⟩ (ix1 k) : Shape.Idx ⟨2, ![1, 32]⟩) = ix2 (0 : Fin 1) k from by funext a; match a with | ⟨0, _⟩ => rfl | ⟨1, _⟩ => rfl]
      pointwise
      simp only [and_one, eq_one, word_iff]
      obtain rfl : i = 0 := Fin.ext h0
      exact ⟨hi, hik⟩
    · refine Eq.trans (shapeCast_dropUnit_apply ![80, 32] _ _ (ix2 j k)) ?_
      rw [show (Fin.cons ⟨0, Nat.one_pos⟩ (ix2 j k) : Shape.Idx ⟨3, ![1, 80, 32]⟩) = ix3 (0 : Fin 1) j k from by funext a; match a with | ⟨0, _⟩ => rfl | ⟨1, _⟩ => rfl | ⟨2, _⟩ => rfl]
      pointwise
      simp only [and_one, slt_one, sge_one]
      obtain rfl : i = 0 := Fin.ext h0
      have := apart_toInt 0 j
      rw [show (0#32).toInt = 0 from by decide, show (IntOp.muli (IntOp.subi (BitVec.ofNat 32 j.val) 0#32) 256#32).toInt = ((j.val : ℤ) - (0 : Fin 80).val) * 256 from this]
      exact ⟨by have : ((0 : Fin 80).val : ℤ) = 0 := rfl
                omega, hlt⟩)
  simpa only [and_one, eq_one, word_iff] using e'

/-- The precondition, on words. -/
theorem laid_of (h1 : (fn (F := F) a0 T V N a4 a5 a6).1 = fun _ => 1#1) (h2 : (fn (F := F) a0 T V N a4 a5 a6).2.1 = fun _ => 1#1)
    (h3 : (fn (F := F) a0 T V N a4 a5 a6).2.2.1 = fun _ => 1#1) (h4 : (fn (F := F) a0 T V N a4 a5 a6).2.2.2.1 = fun _ => 1#1)
    (h5 : (fn (F := F) a0 T V N a4 a5 a6).2.2.2.2.1 = fun _ => 1#1) (h6 : (fn (F := F) a0 T V N a4 a5 a6).2.2.2.2.2.1 = fun _ => 1#1)
    (h7 : (fn (F := F) a0 T V N a4 a5 a6).2.2.2.2.2.2 = fun _ => 1#1) :
    Laid (fun i => T (ix1 i)) (fun i => V (ix1 i)) (fun e => N (ix1 e)) where
  bit := dec_bit a0 T V N a4 a5 a6 h1
  first := fun p i hp hi => (dec_bit a0 T V N a4 a5 a6 h1 p).resolve_left (dec_first a0 T V N a4 a5 a6 h3 p i hp hi)
  last := dec_last a0 T V N a4 a5 a6 h2
  rng := dec_rng a0 T V N a4 a5 a6 h4
  near := dec_near a0 T V N a4 a5 a6 h5
  run := fun e i j hi hik hs hij hlt => hs.elim (fun h0 => dec_run0 a0 T V N a4 a5 a6 h7 e i j h0 hi hik hlt)
    fun ⟨p, hp, hne⟩ => dec_run a0 T V N a4 a5 a6 h6 e p i j hp hi hik hne hij hlt

end Cert.Moe

end
-- ==== Proof.MoeRunA.lean ====
module

public import proofs.«01_k».proof.Proof.MoeBase
public import Idealize.ShloMosaic.Lib.VecWindow

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (Pipeline.UD sig nD τ) ℕ

/-- A tile that holds no rows: its block is zeros, and nothing else changes. -/
theorem run_empty (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (v3 v6 v13 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : ¬ k0_cond2 i v3 v6 v13 = 1#1) (w1 : k0_chk1 i v3 v6) (w3 : k0_chk3 i v3 v6 v13)
    (h4 : ¬ k0_cond4 v3 = 1#1) (h5 : k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ owes (c : Thread nD τ) 0 W
        ∗ ((ptHalf c tbE fE ∗ ptHalf c tbV fV ∗ ptHalf c tbC fC
            ∗ owns (c : Thread nD τ) arg4 fullShare x ∗ owns (c : Thread nD τ) arg8 fullShare k0_pay3
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13
  simp only [cc0_moe_eq_skeleton]; unfold cc0_moe_skel
  unfold owns
  iintro ⟨HE, HV, HC, ⟨%fx, %hfx, Hx⟩, ⟨%d8, %f8, -, H8⟩, HO, Hk⟩
  obtain rfl := harg4.eq_unread hfx
  sl_exec (disch := first | sl_exact h1 | sl_exact h2 | sl_exact w1 | sl_exact w3 | sl_exact h4 | sl_exact h5)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro; exact View.read_writes_full _ _ _ _ _
  iexists _; iexact HO
/-- A tile of the same expert as the one before: its block is the cast weights' feed-forward, which stay. -/
theorem run_same (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (v3 v6 v13 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : ¬ k0_cond2 i v3 v6 v13 = 1#1) (w1 : k0_chk1 i v3 v6) (w3 : k0_chk3 i v3 v6 v13)
    (h4 : k0_cond4 v3 = 1#1) (h5 : ¬ k0_cond5 v3 = 1#1)
    (gG : FVec F S2048x512 .bf16) (gU : FVec F S2048x512 .bf16) (gD : FVec F S512x2048 .bf16)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ scr c cG gG ∗ scr c cU gU ∗ scr c cD gD
        ∗ owes (c : Thread nD τ) 0 W
        ∗ ((ptHalf c tbE fE ∗ ptHalf c tbV fV ∗ ptHalf c tbC fC
            ∗ owns (c : Thread nD τ) arg4 fullShare x ∗ owns (c : Thread nD τ) arg8 fullShare (k0_pay2 x gG gU gD)
            ∗ scr c cG gG ∗ scr c cU gU ∗ scr c cD gD
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13
  simp only [cc0_moe_eq_skeleton]; unfold cc0_moe_skel
  unfold owns scr
  iintro ⟨HE, HV, HC, ⟨%fx, %hfx, Hx⟩, ⟨%d8, %f8, -, H8⟩, ⟨%cg, %hcg, HcG⟩, ⟨%cu, %hcu, HcU⟩, ⟨%cd, %hcd, HcD⟩, HO, Hk⟩
  obtain rfl := harg4.eq_unread hfx
  sl_exec (disch := first | sl_exact h1 | sl_exact h2 | sl_exact w1 | sl_exact w3 | sl_exact h4 | sl_exact h5)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, View.readAt_full, View.readAt_full, View.readAt_full, hfx, hcg, hcu, hcd]
  isplitl [HcG]; · iexists _; isplitr; swap; · iexact HcG
                   ipureintro; exact hcg
  isplitl [HcU]; · iexists _; isplitr; swap; · iexact HcU
                   ipureintro; exact hcu
  isplitl [HcD]; · iexists _; isplitr; swap; · iexact HcD
                   ipureintro; exact hcd
  iexists _; iexact HO

end Cert.Moe

end
-- ==== Proof.MoeRunB.lean ====
module

public import proofs.«01_k».proof.Proof.MoeBase
public import Idealize.ShloMosaic.Lib.VecWindow

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (Pipeline.UD sig nD τ) ℕ

set_option maxHeartbeats 1000000 in
/-- A tile that starts an expert whose weights are on their way to the first slot, with a next expert. -/
theorem run_next_one (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 v99 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : k0_cond2 i v3 v6 v13 = 1#1) (hv : v6.toNat < 32)
    (w1 : k0_chk1 i v3 v6) (w3 : k0_chk3 i v3 v6 v13) (w2 : k0_chk2 i v3 v6 v13 1#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : k0_cond3 i v48 v72 = 1#1)
    (w5 : k0_chk5 i v3 v6 v13 1#32 v48 v72)
    (e99 : tbE.view.readAt (Elt F) (Rect.unit (s := S80) (k0_off12 i v48) S1.size (k0_off12_inb i v3 v6 v13 1#32 v48 v72 w5 h2 h3)).toLoadRect fE (Shape.Idx.first (numel1_S1.symm ▸ Nat.one_pos)) = v99)
    (w6 : k0_chk6 i v3 v6 v13 v48 v72 v99) (hn : v99.toNat < 32)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ (wordIs (F := F) c 1#32 ∗ flying c fG fU fD v6 hv ![0, 0, 0] in0A in0B (.dma 4) ∗ slotsFree (F := F) c ![1, 0, 0] in1A in1B ∗ semVal ((c : Thread nD τ), SemLoc.dma 5) 0)
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ ahead c fG fU fD v99 hn
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72; subst e99
  simp only [cc0_moe_eq_skeleton]; unfold cc0_moe_skel
  unfold owns castsAny wordIs flying slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, ⟨%dG, %dU, %dD, HB, HwG, HwU, HwD⟩, ⟨⟨%b1, HbG⟩, ⟨%b2, HbU⟩, ⟨%b3, HbD⟩⟩, Hq5⟩, HO, Hk⟩
  obtain rfl := harg4.eq_unread hfx
  have hstHC2 : ∀ t, BI.Storable (upEmb : UEmb _ 𝕄) (deliv c fG fU fD b1 b2 b3 (k0_off7 (tbE.view.readAt (Elt F) (Rect.unit (s := S80) (k0_off12 i _) S1.size (k0_off12_inb i _ _ _ 1#32 _ _ w5 h2 h3)).toLoadRect fE (Shape.Idx.first (numel1_S1.symm ▸ Nat.one_pos)))) (inA _ hn) (inB _ hn) ![1, 0, 0] in1A in1B t) :=
    fun t => deliv_storable c fG fU fD b1 b2 b3 _ _ _ ![1, 0, 0] in1A in1B t
  imod (Transfers.batch_alloc' (Lvl := ℕ) (countersEmb (U := Pipeline.UD sig nD τ)) (c : Thread nD τ) () credit
    (deliv c fG fU fD b1 b2 b3 (k0_off7 _) (inA _ hn) (inB _ hn) ![1, 0, 0] in1A in1B) (sm := .dma 5) (E := Set.univ)) $$ Hq5 with HC2
  unfold deliv
  sl_exec (disch := first | sl_exact h1 | sl_exact h2 | sl_exact h3 | sl_exact h4 | sl_exact h5 | sl_exact w1 | sl_exact w3 | sl_exact w2 | sl_exact w4 | sl_exact w5 | sl_exact w6)
  ihave HwG := (show _ ⊢ pt c wG fG from .rfl) $$ HwG
  ihave HwU := (show _ ⊢ pt c wU fU from .rfl) $$ HwU
  ihave HwD := (show _ ⊢ pt c wD fD from .rfl) $$ HwD
  sl_exec (disch := first | sl_exact h1 | sl_exact h2 | sl_exact h3 | sl_exact h4 | sl_exact h5 | sl_exact w1 | sl_exact w3 | sl_exact w2 | sl_exact w4 | sl_exact w5 | sl_exact w6)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in0A _ _)
    · exact (View.readCov_full cU.view _ _ _ _).trans (pay5_landed bU in0A _ _)
    · exact (View.readCov_full cD.view _ _ _ _).trans (pay6_landed bD in0B _ _)
  isplitl [HcG HcU HcD]
  · unfold casts scr
    isplitl [HcG]
    · iexists _; isplitr; swap; · iexact HcG
      ipureintro; exact (View.read_writes_full cG.view _ _ _ _).trans (pay4_landed bG in0A _ _)
    isplitl [HcU]
    · iexists _; isplitr; swap; · iexact HcU
      ipureintro; exact (View.read_writes_full cU.view _ _ _ _).trans (pay5_landed bU in0A _ _)
    iexists _; isplitr; swap; · iexact HcD
    ipureintro; exact (View.read_writes_full cD.view _ _ _ _).trans (pay6_landed bD in0B _ _)
  isplitr [HO]; swap
  · iexists _; iexact HO
  unfold ahead wordIs flying slotsFree
  iexists _, _, _, _, _, (Side.zero)
  isplitl [HS]
  · iexists _; iexact HS
  isplitl [HC2 HwG HwU HwD]
  · iexists b1, b2, b3
    isplitl [HC2]; · iexact HC2
    isplitl [HwG]; · iexact HwG
    isplitl [HwU]; · iexact HwU
    iexact HwD
  isplitl [HB_dst0 HB_dst1 HB_dst2]
  · isplitl [HB_dst0]; · iexists _; iexact HB_dst0
    isplitl [HB_dst1]; · iexists _; iexact HB_dst1
    iexists _; iexact HB_dst2
  iexact HB

set_option maxHeartbeats 1000000 in
/-- The same from the second slot. -/
theorem run_next_zero (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 v99 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : k0_cond2 i v3 v6 v13 = 1#1) (hv : v6.toNat < 32)
    (w1 : k0_chk1 i v3 v6) (w3 : k0_chk3 i v3 v6 v13) (w2 : k0_chk2 i v3 v6 v13 0#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : k0_cond3 i v48 v72 = 1#1)
    (w5 : k0_chk5 i v3 v6 v13 0#32 v48 v72)
    (e99 : tbE.view.readAt (Elt F) (Rect.unit (s := S80) (k0_off12 i v48) S1.size (k0_off12_inb i v3 v6 v13 0#32 v48 v72 w5 h2 h3)).toLoadRect fE (Shape.Idx.first (numel1_S1.symm ▸ Nat.one_pos)) = v99)
    (w6 : k0_chk6 i v3 v6 v13 v48 v72 v99) (hn : v99.toNat < 32)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ (wordIs (F := F) c 0#32 ∗ flying c fG fU fD v6 hv ![1, 0, 0] in1A in1B (.dma 5) ∗ slotsFree (F := F) c ![0, 0, 0] in0A in0B ∗ semVal ((c : Thread nD τ), SemLoc.dma 4) 0)
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ ahead c fG fU fD v99 hn
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72; subst e99
  simp only [cc0_moe_eq_skeleton]; unfold cc0_moe_skel
  unfold owns castsAny wordIs flying slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, ⟨%dG, %dU, %dD, HB, HwG, HwU, HwD⟩, ⟨⟨%b1, HbG⟩, ⟨%b2, HbU⟩, ⟨%b3, HbD⟩⟩, Hq4⟩, HO, Hk⟩
  obtain rfl := harg4.eq_unread hfx
  have hstHC2 : ∀ t, BI.Storable (upEmb : UEmb _ 𝕄) (deliv c fG fU fD b1 b2 b3 (k0_off7 (tbE.view.readAt (Elt F) (Rect.unit (s := S80) (k0_off12 i _) S1.size (k0_off12_inb i _ _ _ 0#32 _ _ w5 h2 h3)).toLoadRect fE (Shape.Idx.first (numel1_S1.symm ▸ Nat.one_pos)))) (inA _ hn) (inB _ hn) ![0, 0, 0] in0A in0B t) :=
    fun t => deliv_storable c fG fU fD b1 b2 b3 _ _ _ ![0, 0, 0] in0A in0B t
  imod (Transfers.batch_alloc' (Lvl := ℕ) (countersEmb (U := Pipeline.UD sig nD τ)) (c : Thread nD τ) () credit
    (deliv c fG fU fD b1 b2 b3 (k0_off7 _) (inA _ hn) (inB _ hn) ![0, 0, 0] in0A in0B) (sm := .dma 4) (E := Set.univ)) $$ Hq4 with HC2
  unfold deliv
  sl_exec (disch := first | sl_exact h1 | sl_exact h2 | sl_exact h3 | sl_exact h4 | sl_exact h5 | sl_exact w1 | sl_exact w3 | sl_exact w2 | sl_exact w4 | sl_exact w5 | sl_exact w6)
  ihave HwG := (show _ ⊢ pt c wG fG from .rfl) $$ HwG
  ihave HwU := (show _ ⊢ pt c wU fU from .rfl) $$ HwU
  ihave HwD := (show _ ⊢ pt c wD fD from .rfl) $$ HwD
  sl_exec (disch := first | sl_exact h1 | sl_exact h2 | sl_exact h3 | sl_exact h4 | sl_exact h5 | sl_exact w1 | sl_exact w3 | sl_exact w2 | sl_exact w4 | sl_exact w5 | sl_exact w6)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in1A _ _)
    · exact (View.readCov_full cU.view _ _ _ _).trans (pay5_landed bU in1A _ _)
    · exact (View.readCov_full cD.view _ _ _ _).trans (pay6_landed bD in1B _ _)
  isplitl [HcG HcU HcD]
  · unfold casts scr
    isplitl [HcG]
    · iexists _; isplitr; swap; · iexact HcG
      ipureintro; exact (View.read_writes_full cG.view _ _ _ _).trans (pay4_landed bG in1A _ _)
    isplitl [HcU]
    · iexists _; isplitr; swap; · iexact HcU
      ipureintro; exact (View.read_writes_full cU.view _ _ _ _).trans (pay5_landed bU in1A _ _)
    iexists _; isplitr; swap; · iexact HcD
    ipureintro; exact (View.read_writes_full cD.view _ _ _ _).trans (pay6_landed bD in1B _ _)
  isplitr [HO]; swap
  · iexists _; iexact HO
  unfold ahead wordIs flying slotsFree
  iexists _, _, _, _, _, (Side.one)
  isplitl [HS]
  · iexists _; iexact HS
  isplitl [HC2 HwG HwU HwD]
  · iexists b1, b2, b3
    isplitl [HC2]; · iexact HC2
    isplitl [HwG]; · iexact HwG
    isplitl [HwU]; · iexact HwU
    iexact HwD
  isplitl [HB_dst0 HB_dst1 HB_dst2]
  · isplitl [HB_dst0]; · iexists _; iexact HB_dst0
    isplitl [HB_dst1]; · iexists _; iexact HB_dst1
    iexists _; iexact HB_dst2
  iexact HB

set_option maxHeartbeats 1000000 in
/-- A tile that starts the last expert, from the first slot. -/
theorem run_last_one (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : k0_cond2 i v3 v6 v13 = 1#1) (hv : v6.toNat < 32)
    (w1 : k0_chk1 i v3 v6) (w3 : k0_chk3 i v3 v6 v13) (w2 : k0_chk2 i v3 v6 v13 1#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : ¬ k0_cond3 i v48 v72 = 1#1)
    (w5 : k0_chk5 i v3 v6 v13 1#32 v48 v72)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ (wordIs (F := F) c 1#32 ∗ flying c fG fU fD v6 hv ![0, 0, 0] in0A in0B (.dma 4) ∗ slotsFree (F := F) c ![1, 0, 0] in1A in1B ∗ semVal ((c : Thread nD τ), SemLoc.dma 5) 0)
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ atRest c fG fU fD
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72
  simp only [cc0_moe_eq_skeleton]; unfold cc0_moe_skel
  unfold owns castsAny wordIs flying slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, ⟨%dG, %dU, %dD, HB, HwG, HwU, HwD⟩, ⟨⟨%b1, HbG⟩, ⟨%b2, HbU⟩, ⟨%b3, HbD⟩⟩, Hq5⟩, HO, Hk⟩
  obtain rfl := harg4.eq_unread hfx
  unfold deliv
  sl_exec (disch := first | sl_exact h1 | sl_exact h2 | sl_exact h3 | sl_exact h4 | sl_exact h5 | sl_exact w1 | sl_exact w3 | sl_exact w2 | sl_exact w4 | sl_exact w5)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in0A _ _)
    · exact (View.readCov_full cU.view _ _ _ _).trans (pay5_landed bU in0A _ _)
    · exact (View.readCov_full cD.view _ _ _ _).trans (pay6_landed bD in0B _ _)
  isplitl [HcG HcU HcD]
  · unfold casts scr
    isplitl [HcG]
    · iexists _; isplitr; swap; · iexact HcG
      ipureintro; exact (View.read_writes_full cG.view _ _ _ _).trans (pay4_landed bG in0A _ _)
    isplitl [HcU]
    · iexists _; isplitr; swap; · iexact HcU
      ipureintro; exact (View.read_writes_full cU.view _ _ _ _).trans (pay5_landed bU in0A _ _)
    iexists _; isplitr; swap; · iexact HcD
    ipureintro; exact (View.read_writes_full cD.view _ _ _ _).trans (pay6_landed bD in0B _ _)
  isplitr [HO]; swap
  · iexists _; iexact HO
  unfold atRest slotsFree
  isplitl [HS]
  · iexists _; iexact HS
  isplitl [HwG]; · iexact HwG
  isplitl [HwU]; · iexact HwU
  isplitl [HwD]; · iexact HwD
  isplitl [HB_dst0 HB_dst1 HB_dst2]
  · isplitl [HB_dst0]; · iexists _; iexact HB_dst0
    isplitl [HB_dst1]; · iexists _; iexact HB_dst1
    iexists _; iexact HB_dst2
  isplitl [HbG HbU HbD]
  · isplitl [HbG]; · iexists _; iexact HbG
    isplitl [HbU]; · iexists _; iexact HbU
    iexists _; iexact HbD
  isplitl [HB]; · iexact HB
  iexact Hq5

set_option maxHeartbeats 1000000 in
/-- The same from the second slot. -/
theorem run_last_zero (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : ¬ k0_cond1 i v3 = 1#1) (h2 : k0_cond2 i v3 v6 v13 = 1#1) (hv : v6.toNat < 32)
    (w1 : k0_chk1 i v3 v6) (w3 : k0_chk3 i v3 v6 v13) (w2 : k0_chk2 i v3 v6 v13 0#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : ¬ k0_cond3 i v48 v72 = 1#1)
    (w5 : k0_chk5 i v3 v6 v13 0#32 v48 v72)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ (wordIs (F := F) c 0#32 ∗ flying c fG fU fD v6 hv ![1, 0, 0] in1A in1B (.dma 5) ∗ slotsFree (F := F) c ![0, 0, 0] in0A in0B ∗ semVal ((c : Thread nD τ), SemLoc.dma 4) 0)
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ atRest c fG fU fD
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72
  simp only [cc0_moe_eq_skeleton]; unfold cc0_moe_skel
  unfold owns castsAny wordIs flying slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, ⟨%dG, %dU, %dD, HB, HwG, HwU, HwD⟩, ⟨⟨%b1, HbG⟩, ⟨%b2, HbU⟩, ⟨%b3, HbD⟩⟩, Hq4⟩, HO, Hk⟩
  obtain rfl := harg4.eq_unread hfx
  unfold deliv
  sl_exec (disch := first | sl_exact h1 | sl_exact h2 | sl_exact h3 | sl_exact h4 | sl_exact h5 | sl_exact w1 | sl_exact w3 | sl_exact w2 | sl_exact w4 | sl_exact w5)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in1A _ _)
    · exact (View.readCov_full cU.view _ _ _ _).trans (pay5_landed bU in1A _ _)
    · exact (View.readCov_full cD.view _ _ _ _).trans (pay6_landed bD in1B _ _)
  isplitl [HcG HcU HcD]
  · unfold casts scr
    isplitl [HcG]
    · iexists _; isplitr; swap; · iexact HcG
      ipureintro; exact (View.read_writes_full cG.view _ _ _ _).trans (pay4_landed bG in1A _ _)
    isplitl [HcU]
    · iexists _; isplitr; swap; · iexact HcU
      ipureintro; exact (View.read_writes_full cU.view _ _ _ _).trans (pay5_landed bU in1A _ _)
    iexists _; isplitr; swap; · iexact HcD
    ipureintro; exact (View.read_writes_full cD.view _ _ _ _).trans (pay6_landed bD in1B _ _)
  isplitr [HO]; swap
  · iexists _; iexact HO
  unfold atRest slotsFree
  isplitl [HS]
  · iexists _; iexact HS
  isplitl [HwG]; · iexact HwG
  isplitl [HwU]; · iexact HwU
  isplitl [HwD]; · iexact HwD
  isplitl [HbG HbU HbD]
  · isplitl [HbG]; · iexists _; iexact HbG
    isplitl [HbU]; · iexists _; iexact HbU
    iexists _; iexact HbD
  isplitl [HB_dst0 HB_dst1 HB_dst2]
  · isplitl [HB_dst0]; · iexists _; iexact HB_dst0
    isplitl [HB_dst1]; · iexists _; iexact HB_dst1
    iexists _; iexact HB_dst2
  isplitl [Hq4]; · iexact Hq4
  iexact HB

set_option maxHeartbeats 1000000 in
/-- The first tile, with a next expert: its own weights are sent for, and waited for. -/
theorem run_first_next (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 v99 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : k0_cond1 i v3 = 1#1) (h2 : k0_cond2 i v3 v6 v13 = 1#1) (hv : v6.toNat < 32)
    (w1 : k0_chk1 i v3 v6) (w3 : k0_chk3 i v3 v6 v13) (w2 : k0_chk2 i v3 v6 v13 1#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : k0_cond3 i v48 v72 = 1#1)
    (w5 : k0_chk5 i v3 v6 v13 1#32 v48 v72)
    (e99 : tbE.view.readAt (Elt F) (Rect.unit (s := S80) (k0_off12 i v48) S1.size (k0_off12_inb i v3 v6 v13 1#32 v48 v72 w5 h2 h3)).toLoadRect fE (Shape.Idx.first (numel1_S1.symm ▸ Nat.one_pos)) = v99)
    (w6 : k0_chk6 i v3 v6 v13 v48 v72 v99) (hn : v99.toNat < 32)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ atRest c fG fU fD
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ ahead c fG fU fD v99 hn
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72; subst e99
  simp only [cc0_moe_eq_skeleton]; unfold cc0_moe_skel
  unfold owns castsAny atRest slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, HwG, HwU, HwD, ⟨⟨%a1, HaG⟩, ⟨%a2, HaU⟩, ⟨%a3, HaD⟩⟩, ⟨⟨%b1, HbG⟩, ⟨%b2, HbU⟩, ⟨%b3, HbD⟩⟩, Hq4, Hq5⟩, HO, Hk⟩
  obtain rfl := harg4.eq_unread hfx
  have hstHB : ∀ t, BI.Storable (upEmb : UEmb _ 𝕄) (deliv c fG fU fD a1 a2 a3 (k0_off7 (tbE.view.readAt (Elt F) (Rect.unit (s := S80) (k0_off1 i) S1.size (k0_off1_inb i)).toLoadRect fE (Shape.Idx.first (numel1_S1.symm ▸ Nat.one_pos)))) (inA _ hv) (inB _ hv) ![0, 0, 0] in0A in0B t) :=
    fun t => deliv_storable c fG fU fD a1 a2 a3 _ _ _ ![0, 0, 0] in0A in0B t
  imod (Transfers.batch_alloc' (Lvl := ℕ) (countersEmb (U := Pipeline.UD sig nD τ)) (c : Thread nD τ) () credit
    (deliv c fG fU fD a1 a2 a3 (k0_off7 _) (inA _ hv) (inB _ hv) ![0, 0, 0] in0A in0B) (sm := .dma 4) (E := Set.univ)) $$ Hq4 with HB
  have hstHC2 : ∀ t, BI.Storable (upEmb : UEmb _ 𝕄) (deliv c fG fU fD b1 b2 b3 (k0_off7 (tbE.view.readAt (Elt F) (Rect.unit (s := S80) (k0_off12 i _) S1.size (k0_off12_inb i _ _ _ 1#32 _ _ w5 h2 h3)).toLoadRect fE (Shape.Idx.first (numel1_S1.symm ▸ Nat.one_pos)))) (inA _ hn) (inB _ hn) ![1, 0, 0] in1A in1B t) :=
    fun t => deliv_storable c fG fU fD b1 b2 b3 _ _ _ ![1, 0, 0] in1A in1B t
  imod (Transfers.batch_alloc' (Lvl := ℕ) (countersEmb (U := Pipeline.UD sig nD τ)) (c : Thread nD τ) () credit
    (deliv c fG fU fD b1 b2 b3 (k0_off7 _) (inA _ hn) (inB _ hn) ![1, 0, 0] in1A in1B) (sm := .dma 5) (E := Set.univ)) $$ Hq5 with HC2
  unfold deliv
  sl_exec (disch := first | sl_exact h1 | sl_exact h2 | sl_exact h3 | sl_exact h4 | sl_exact h5 | sl_exact w1 | sl_exact w3 | sl_exact w2 | sl_exact w4 | sl_exact w5 | sl_exact w6)
  ihave HwG := (show _ ⊢ pt c wG fG from .rfl) $$ HwG
  ihave HwU := (show _ ⊢ pt c wU fU from .rfl) $$ HwU
  ihave HwD := (show _ ⊢ pt c wD fD from .rfl) $$ HwD
  sl_exec (disch := first | sl_exact h1 | sl_exact h2 | sl_exact h3 | sl_exact h4 | sl_exact h5 | sl_exact w1 | sl_exact w3 | sl_exact w2 | sl_exact w4 | sl_exact w5 | sl_exact w6)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in0A _ _)
    · exact (View.readCov_full cU.view _ _ _ _).trans (pay5_landed bU in0A _ _)
    · exact (View.readCov_full cD.view _ _ _ _).trans (pay6_landed bD in0B _ _)
  isplitl [HcG HcU HcD]
  · unfold casts scr
    isplitl [HcG]
    · iexists _; isplitr; swap; · iexact HcG
      ipureintro; exact (View.read_writes_full cG.view _ _ _ _).trans (pay4_landed bG in0A _ _)
    isplitl [HcU]
    · iexists _; isplitr; swap; · iexact HcU
      ipureintro; exact (View.read_writes_full cU.view _ _ _ _).trans (pay5_landed bU in0A _ _)
    iexists _; isplitr; swap; · iexact HcD
    ipureintro; exact (View.read_writes_full cD.view _ _ _ _).trans (pay6_landed bD in0B _ _)
  isplitr [HO]; swap
  · iexists _; iexact HO
  unfold ahead wordIs flying slotsFree
  iexists _, _, _, _, _, (Side.zero)
  isplitl [HS]
  · iexists _; iexact HS
  isplitl [HC2 HwG HwU HwD]
  · iexists b1, b2, b3
    isplitl [HC2]; · iexact HC2
    isplitl [HwG]; · iexact HwG
    isplitl [HwU]; · iexact HwU
    iexact HwD
  isplitl [HB_dst0 HB_dst1 HB_dst2]
  · isplitl [HB_dst0]; · iexists _; iexact HB_dst0
    isplitl [HB_dst1]; · iexists _; iexact HB_dst1
    iexists _; iexact HB_dst2
  iexact HB

set_option maxHeartbeats 1000000 in
/-- The first tile, with no next expert. -/
theorem run_first_last (c : Dev nD) (i : grid0.Coords)
    (arg4 : Memref sig .tc .vmem S256x2048 .f32) (harg4 : arg4.IsWhole) (arg8 : Memref sig .tc .vmem S256x2048 .f32) (harg8 : arg8.IsWhole)
    (fE : Bf (F := F) c tbE) (fV : Bf (F := F) c tbV) (fC : Bf (F := F) c tbC)
    (x : Vec F S256x2048 .f32)
    (fG : Bf (F := F) c wG) (fU : Bf (F := F) c wU) (fD : Bf (F := F) c wD)
    (v3 v6 v13 v48 v72 : BitVec 32)
    (e3 : tbV.view.readAt (Elt F) (Rect.unit (s := S80) (k0_off1 i) S1.size (k0_off1_inb i)).toLoadRect fV (Shape.Idx.first (numel1_S1.symm ▸ Nat.one_pos)) = v3)
    (e6 : tbE.view.readAt (Elt F) (Rect.unit (s := S80) (k0_off1 i) S1.size (k0_off1_inb i)).toLoadRect fE (Shape.Idx.first (numel1_S1.symm ▸ Nat.one_pos)) = v6)
    (e13 : tbE.view.readAt (Elt F) (Rect.unit (s := S80) (k0_off4 i) S1.size (k0_off4_inb i)).toLoadRect fE (Shape.Idx.first (numel1_S1.symm ▸ Nat.one_pos)) = v13)
    (h1 : k0_cond1 i v3 = 1#1) (h2 : k0_cond2 i v3 v6 v13 = 1#1) (hv : v6.toNat < 32)
    (w1 : k0_chk1 i v3 v6) (w3 : k0_chk3 i v3 v6 v13) (w2 : k0_chk2 i v3 v6 v13 1#32)
    (e48 : tbC.view.readAt (Elt F) (Rect.unit (s := S32) (k0_off10 v6) S1.size (k0_off10_inb i v3 v6 v13 w3 h2)).toLoadRect fC (Shape.Idx.first (numel1_S1.symm ▸ Nat.one_pos)) = v48)
    (w4 : k0_chk4 i v3 v6 v13 v48)
    (e72 : tbV.view.readAt (Elt F) (Rect.unit (s := S80) (k0_off11 i v48) S1.size (k0_off11_inb i v3 v6 v13 v48 w4 h2)).toLoadRect fV (Shape.Idx.first (numel1_S1.symm ▸ Nat.one_pos)) = v72)
    (h3 : ¬ k0_cond3 i v48 v72 = 1#1)
    (w5 : k0_chk5 i v3 v6 v13 1#32 v48 v72)
    (h4 : k0_cond4 v3 = 1#1) (h5 : ¬ k0_cond5 v3 = 1#1)
    (W : Waits sig Unit) (K : PUnit → sProp 𝕄) :
    iprop(ptHalf c tbE fE ∗ ptHalf c tbV fV ∗ ptHalf c tbC fC
        ∗ owns (c : Thread nD τ) arg4 fullShare x ∗ (∃ d, owns (c : Thread nD τ) arg8 fullShare d)
        ∗ castsAny (F := F) c
        ∗ atRest c fG fU fD
        ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v6 hv) (castU c fU v6 hv) (castD c fD v6 hv))
            ∗ casts c fG fU fD v6 hv
            ∗ atRest c fG fU fD
            ∗ (∃ W', owes (c : Thread nD τ) 0 W')) -∗ K ⟨⟩))
      ⊢ wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K := by
  subst e3; subst e6; subst e13; subst e48; subst e72
  simp only [cc0_moe_eq_skeleton]; unfold cc0_moe_skel
  unfold owns castsAny atRest slotsFree
  iintro ⟨HE, HV, HC, ⟨%fx, %hfx, Hx⟩, ⟨%d8, %f8, -, H8⟩, ⟨⟨%gG, HcG⟩, ⟨%gU, HcU⟩, ⟨%gD, HcD⟩⟩, ⟨⟨%gS, HS⟩, HwG, HwU, HwD, ⟨⟨%a1, HaG⟩, ⟨%a2, HaU⟩, ⟨%a3, HaD⟩⟩, ⟨⟨%b1, HbG⟩, ⟨%b2, HbU⟩, ⟨%b3, HbD⟩⟩, Hq4, Hq5⟩, HO, Hk⟩
  obtain rfl := harg4.eq_unread hfx
  have hstHB : ∀ t, BI.Storable (upEmb : UEmb _ 𝕄) (deliv c fG fU fD a1 a2 a3 (k0_off7 (tbE.view.readAt (Elt F) (Rect.unit (s := S80) (k0_off1 i) S1.size (k0_off1_inb i)).toLoadRect fE (Shape.Idx.first (numel1_S1.symm ▸ Nat.one_pos)))) (inA _ hv) (inB _ hv) ![0, 0, 0] in0A in0B t) :=
    fun t => deliv_storable c fG fU fD a1 a2 a3 _ _ _ ![0, 0, 0] in0A in0B t
  imod (Transfers.batch_alloc' (Lvl := ℕ) (countersEmb (U := Pipeline.UD sig nD τ)) (c : Thread nD τ) () credit
    (deliv c fG fU fD a1 a2 a3 (k0_off7 _) (inA _ hv) (inB _ hv) ![0, 0, 0] in0A in0B) (sm := .dma 4) (E := Set.univ)) $$ Hq4 with HB
  unfold deliv
  sl_exec (disch := first | sl_exact h1 | sl_exact h2 | sl_exact h3 | sl_exact h4 | sl_exact h5 | sl_exact w1 | sl_exact w3 | sl_exact w2 | sl_exact w4 | sl_exact w5)
  sl_step
  iapply Hk
  isplitl [HE]; · iexact HE
  isplitl [HV]; · iexact HV
  isplitl [HC]; · iexact HC
  isplitl [Hx]
  · iexists _; isplitr; swap; · iexact Hx
    ipureintro; exact hfx
  isplitl [H8]
  · iexists _; isplitr; swap; · iexact H8
    ipureintro
    refine (View.read_writes_full _ _ _ _ _).trans ?_
    rw [View.readAt_full, hfx]
    refine congr (congr (congrArg (k0_pay2 x) ?_) ?_) ?_
    · exact (View.readCov_full cG.view _ _ _ _).trans (pay4_landed bG in0A _ _)
    · exact (View.readCov_full cU.view _ _ _ _).trans (pay5_landed bU in0A _ _)
    · exact (View.readCov_full cD.view _ _ _ _).trans (pay6_landed bD in0B _ _)
  isplitl [HcG HcU HcD]
  · unfold casts scr
    isplitl [HcG]
    · iexists _; isplitr; swap; · iexact HcG
      ipureintro; exact (View.read_writes_full cG.view _ _ _ _).trans (pay4_landed bG in0A _ _)
    isplitl [HcU]
    · iexists _; isplitr; swap; · iexact HcU
      ipureintro; exact (View.read_writes_full cU.view _ _ _ _).trans (pay5_landed bU in0A _ _)
    iexists _; isplitr; swap; · iexact HcD
    ipureintro; exact (View.read_writes_full cD.view _ _ _ _).trans (pay6_landed bD in0B _ _)
  isplitr [HO]; swap
  · iexists _; iexact HO

  isplitl [HS]
  · iexists _; iexact HS
  isplitl [HwG]; · iexact HwG
  isplitl [HwU]; · iexact HwU
  isplitl [HwD]; · iexact HwD
  isplitl [HB_dst0 HB_dst1 HB_dst2]
  · isplitl [HB_dst0]; · iexists _; iexact HB_dst0
    isplitl [HB_dst1]; · iexists _; iexact HB_dst1
    iexists _; iexact HB_dst2
  isplitl [HbG HbU HbD]
  · isplitl [HbG]; · iexists _; iexact HbG
    isplitl [HbU]; · iexists _; iexact HbU
    iexists _; iexact HbD
  isplitl [HB]; · iexact HB
  iexact Hq5

end Cert.Moe

end
-- ==== Proof.MoeSched.lean ====
module

public import proofs.«01_k».proof.Proof.MoeTables
public import proofs.«01_k».proof.Proof.MoeRunA
public import proofs.«01_k».proof.Proof.MoeRunB
public import Idealize.ShloMosaic.Lib.Pointwise.Tactic

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The next start -/

/-- `n` is the first valid start from tile `k` on. -/
def Next (T V : Fin 80 → BitVec 32) (k : ℕ) (n : Fin 80) : Prop :=
  k ≤ n.val ∧ V n = 1#32 ∧ Start T n ∧ ∀ j : Fin 80, k ≤ j.val → j.val < n.val → V j = 1#32 → ¬ Start T j

theorem Next.unique {T V : Fin 80 → BitVec 32} {k : ℕ} {n n' : Fin 80} (h : Next T V k n) (h' : Next T V k n') : n = n' := by
  rcases Nat.lt_trichotomy n.val n'.val with hlt | heq | hgt
  · exact absurd h.2.2.1 (h'.2.2.2 n h.1 hlt h.2.1)
  · exact Fin.ext heq
  · exact absurd h'.2.2.1 (h.2.2.2 n' h'.1 hgt h'.2.1)

namespace Laid

variable {T V : Fin 80 → BitVec 32} {N : Fin 32 → BitVec 32} (L : Laid T V N)
include L

/-- Within a run no tile starts. -/
theorem quiet {i : Fin 80} (hv : V i = 1#32) (hs : Start T i) (e : Fin 32) (he : (T i).toNat = e.val) (j : Fin 80) (hij : i.val + 1 ≤ j.val)
    (hj : j.val < i.val + ((N e).toNat + 255) / 256) : ¬ Start T j := by
  obtain ⟨h0, h1, h2, h3⟩ := L.start hv hs e he
  rintro (h | ⟨p, hp, hne⟩)
  · omega
  · exact hne ((h3 j (by omega) hj).2.trans (h3 p (by omega) (by omega)).2.symm)

/-- The tile behind a run is the next start, where it is valid. -/
theorem next_of {i n : Fin 80} (hv : V i = 1#32) (hs : Start T i) (e : Fin 32) (he : (T i).toNat = e.val)
    (hn : n.val = i.val + ((N e).toNat + 255) / 256) (hvn : V n = 1#32) : Next T V (i.val + 1) n := by
  obtain ⟨h0, h1, h2, h3⟩ := L.start hv hs e he
  exact ⟨by omega, hvn, L.next hv hs e he hn hvn, fun j hj hjn _ => L.quiet hv hs e he j hj (by omega)⟩

/-- Where it is not valid there is none. -/
theorem no_next {i n : Fin 80} (hv : V i = 1#32) (hs : Start T i) (e : Fin 32) (he : (T i).toNat = e.val)
    (hn : n.val = i.val + ((N e).toNat + 255) / 256) (hvn : ¬ V n = 1#32) : ¬ ∃ m, Next T V (i.val + 1) m := by
  rintro ⟨m, h1, h2, h3, -⟩
  have h0 : V n = 0#32 := (L.bit n).resolve_right hvn
  rcases Nat.lt_or_ge m.val n.val with h | h
  · exact L.quiet hv hs e he m h1 (by omega) h3
  · rw [L.none_after h0 m h] at h2; exact absurd h2 (by decide)

/-- Behind a tile that is not valid nothing starts. -/
theorem no_next_after {i : Fin 80} (h : ¬ V i = 1#32) {k : ℕ} (hk : i.val ≤ k) : ¬ ∃ m, Next T V k m := by
  rintro ⟨m, h1, h2, -⟩
  rw [L.none_after ((L.bit i).resolve_right h) m (by omega)] at h2; exact absurd h2 (by decide)

/-- A tile that does not start leaves the next start where it was. -/
theorem next_skip {i : Fin 80} (h : ¬ Start T i) (m : Fin 80) : Next T V i.val m ↔ Next T V (i.val + 1) m := by
  constructor
  · rintro ⟨h1, h2, h3, h4⟩
    have : i.val ≠ m.val := fun e => h (by rw [Fin.ext e]; exact h3)
    exact ⟨by omega, h2, h3, fun j hj => h4 j (by omega)⟩
  · rintro ⟨h1, h2, h3, h4⟩
    refine ⟨by omega, h2, h3, fun j hj hjm hvj => ?_⟩
    rcases Nat.eq_or_lt_of_le hj with e | hlt
    · rwa [← Fin.ext e]
    · exact h4 j hlt hjm hvj

end Laid

/-! ## The words read -/

theorem word80 (M : Memref sig .tc .smem S80 .i32) (f : M.view.ty.Contents (Elt F)) {off : Fin 1 → ℕ} (h : ∀ a, off a + S1.size a ≤ S80.size a)
    (p : 0 < S1.numel) (n : Fin 80) (e : off = ![n.val]) :
    M.view.readAt (Elt F) (Rect.unit (s := S80) off S1.size h).toLoadRect f (Shape.Idx.first p) = M.view.read (Elt F) f (ix1 n) := by
  subst e
  rw [View.readAt_apply]
  congr 1
  funext a; obtain rfl : a = 0 := Subsingleton.elim _ _
  apply Fin.ext; rfl
theorem word32 (M : Memref sig .tc .smem S32 .i32) (f : M.view.ty.Contents (Elt F)) {off : Fin 1 → ℕ} (h : ∀ a, off a + S1.size a ≤ S32.size a)
    (p : 0 < S1.numel) (n : Fin 32) (e : off = ![n.val]) :
    M.view.readAt (Elt F) (Rect.unit (s := S32) off S1.size h).toLoadRect f (Shape.Idx.first p) = M.view.read (Elt F) f (ix1 n) := by
  subst e
  rw [View.readAt_apply]
  congr 1
  funext a; obtain rfl : a = 0 := Subsingleton.elim _ _
  apply Fin.ext; rfl

/-! ## What is held before each tile -/

section Held

variable {T V : Fin 80 → BitVec 32} {N : Fin 32 → BitVec 32} (L : Laid T V N)
variable (c : Dev nD) (fG : Bf (F := F) c wG) (fU : Bf (F := F) c wU) (fD : Bf (F := F) c wD)

open Classical in
/-- Before tile `k` the next start's weights are in flight, if there is a next start; before the first tile nothing is. -/
def flight (k : ℕ) : sProp 𝕄 :=
  if h : k ≠ 0 ∧ ∃ n, Next T V k n then ahead c fG fU fD (T h.2.choose) (L.rng _ h.2.choose_spec.2.1) else atRest c fG fU fD

theorem flight_rest {k : ℕ} (h : k = 0 ∨ ¬ ∃ n, Next T V k n) : flight L c fG fU fD k = atRest c fG fU fD :=
  dif_neg fun h' => h.elim h'.1 fun g => g h'.2
theorem flight_ahead {k : ℕ} (hk : k ≠ 0) {n : Fin 80} (h : Next T V k n) (hr : (T n).toNat < 32) : flight L c fG fU fD k = ahead c fG fU fD (T n) hr := by
  have hx : k ≠ 0 ∧ ∃ n, Next T V k n := ⟨hk, n, h⟩
  unfold flight; rw [dif_pos hx]
  have e : hx.2.choose = n := hx.2.choose_spec.unique h
  congr 1; rw [e]
theorem flight_skip {i : Fin 80} (h0 : i.val ≠ 0) (h : ¬ Start T i) : flight L c fG fU fD (i.val + 1) = flight L c fG fU fD i.val := by
  by_cases hx : ∃ n, Next T V i.val n
  · obtain ⟨n, hn⟩ := hx
    rw [flight_ahead L c fG fU fD h0 hn (L.rng _ hn.2.1), flight_ahead L c fG fU fD (Nat.succ_ne_zero _) ((L.next_skip h n).mp hn) (L.rng _ hn.2.1)]
  · rw [flight_rest L c fG fU fD (Or.inr hx), flight_rest L c fG fU fD (Or.inr fun ⟨n, hn⟩ => hx ⟨n, (L.next_skip h n).mpr hn⟩)]

open Classical in
/-- Behind a valid tile the scratches hold its expert's cast weights. -/
def kept (k : ℕ) : sProp 𝕄 :=
  if h : ∃ p : Fin 80, p.val + 1 = k ∧ V p = 1#32 then casts c fG fU fD (T h.choose) (L.rng _ h.choose_spec.2) else castsAny c

theorem kept_valid {p : Fin 80} (h : V p = 1#32) {k : ℕ} (hk : p.val + 1 = k) (v : BitVec 32) (hv : v.toNat < 32) (ev : T p = v) :
    kept L c fG fU fD k = casts c fG fU fD v hv := by
  have hx : ∃ p : Fin 80, p.val + 1 = k ∧ V p = 1#32 := ⟨p, hk, h⟩
  unfold kept; rw [dif_pos hx]
  have e : hx.choose = p := Fin.ext (by have := hx.choose_spec.1; omega)
  subst ev
  congr 1; rw [e]
theorem kept_any {k : ℕ} (h : ¬ ∃ p : Fin 80, p.val + 1 = k ∧ V p = 1#32) : kept L c fG fU fD k = castsAny c := dif_neg h

theorem casts_forget (v : BitVec 32) (hv : v.toNat < 32) : casts c fG fU fD v hv ⊢ castsAny (F := F) c := by
  unfold casts castsAny scr
  iintro ⟨⟨%f, -, H1⟩, ⟨%g, -, H2⟩, ⟨%h, -, H3⟩⟩
  isplitl [H1]; · iexists f; iexact H1
  isplitl [H2]; · iexists g; iexact H2
  iexists h; iexact H3
theorem kept_forget (k : ℕ) : kept L c fG fU fD k ⊢ castsAny (F := F) c := by
  by_cases h : ∃ p : Fin 80, p.val + 1 = k ∧ V p = 1#32
  · obtain ⟨p, hp, h⟩ := h
    rw [kept_valid L c fG fU fD h hp _ (L.rng _ h) rfl]; exact casts_forget c fG fU fD _ _
  · rw [kept_any L c fG fU fD h]

open Classical in
/-- What a tile leaves in the result's block. -/
def tileOut (T V : Fin 80 → BitVec 32) (L : Laid T V N) (i : Fin 80) (x : Vec F S256x2048 .f32) : Vec F S256x2048 .f32 :=
  if h : V i = 1#32 then k0_pay2 x (castG c fG (T i) (L.rng _ h)) (castU c fU (T i) (L.rng _ h)) (castD c fD (T i) (L.rng _ h)) else k0_pay3

theorem tileOut_valid {i : Fin 80} (h : V i = 1#32) (x : Vec F S256x2048 .f32) (hr : (T i).toNat < 32) :
    tileOut c fG fU fD T V L i x = k0_pay2 x (castG c fG (T i) hr) (castU c fU (T i) hr) (castD c fD (T i) hr) := dif_pos h
theorem tileOut_empty {i : Fin 80} (h : ¬ V i = 1#32) (x : Vec F S256x2048 .f32) : tileOut c fG fU fD T V L i x = k0_pay3 := dif_neg h

end Held

end Cert.Moe

end
-- ==== Proof.MoeStep.lean ====
module

public import proofs.«01_k».proof.Proof.MoeSched

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The tables' words. -/
abbrev wordsE (c : Dev nD) (fE : Bf (F := F) c tbE) : Fin 80 → BitVec 32 := fun j => tbE.view.read (Elt F) fE (ix1 j)
abbrev wordsV (c : Dev nD) (fV : Bf (F := F) c tbV) : Fin 80 → BitVec 32 := fun j => tbV.view.read (Elt F) fV (ix1 j)
abbrev wordsC (c : Dev nD) (fC : Bf (F := F) c tbC) : Fin 32 → BitVec 32 := fun j => tbC.view.read (Elt F) fC (ix1 j)

section Step

variable (c : Dev nD) (i : grid0.Coords)
  (arg4 : Memref sig .tc .vmem S256x2048 .f32) (harg4 : arg4.IsWhole) (arg8 : Memref sig .tc .vmem S256x2048 .f32) (harg8 : arg8.IsWhole)
  (fE : Bf (F := F) c tbE) (fV : Bf (F := F) c tbV) (fC : Bf (F := F) c tbC)
  (x : Vec F S256x2048 .f32)
  (fG : Bf (F := F) c wG) (fU : Bf (F := F) c wU) (fD : Bf (F := F) c wD)
  (L : Laid (wordsE c fE) (wordsV c fV) (wordsC c fC))

/-- What the body is run from and leaves, at one tile. -/
def stepPre (W : Waits sig Unit) : sProp 𝕄 :=
  iprop(ptHalf c tbE fE ∗ ptHalf c tbV fV ∗ ptHalf c tbC fC
    ∗ owns (c : Thread nD τ) arg4 fullShare x ∗ (∃ d, owns (c : Thread nD τ) arg8 fullShare d)
    ∗ kept L c fG fU fD (i 0).val ∗ flight L c fG fU fD (i 0).val ∗ owes (c : Thread nD τ) 0 W)
def stepPost : sProp 𝕄 :=
  iprop(ptHalf c tbE fE ∗ ptHalf c tbV fV ∗ ptHalf c tbC fC
    ∗ owns (c : Thread nD τ) arg4 fullShare x ∗ owns (c : Thread nD τ) arg8 fullShare (tileOut c fG fU fD _ _ L (i 0) x)
    ∗ kept L c fG fU fD ((i 0).val + 1) ∗ flight L c fG fU fD ((i 0).val + 1) ∗ (∃ W', owes (c : Thread nD τ) 0 W'))

abbrev bodyRun (K : PUnit → sProp 𝕄) : sProp 𝕄 :=
  wp frame (wpE (defs₀ (F := F)) Variants.none c none) Set.univ
          (cc0_moe i tbE (Memref.isWhole_whole _) tbV (Memref.isWhole_whole _) tbC (Memref.isWhole_whole _) arg4 harg4
            wG (Memref.isWhole_whole _) wU (Memref.isWhole_whole _) wD (Memref.isWhole_whole _) arg8 harg8
            bG (Memref.isWhole_whole _) bU (Memref.isWhole_whole _) bD (Memref.isWhole_whole _)
            cG (Memref.isWhole_whole _) cU (Memref.isWhole_whole _) cD (Memref.isWhole_whole _) wS (Memref.isWhole_whole _) cc0_scratch7) K

/-- The word before a tile's own: the tile's own at the first. -/
abbrev prev (i : grid0.Coords) : Fin 80 := ⟨(i 0).val - 1, by have h : (i 0).val < 80 := (i 0).isLt; omega⟩

theorem prev_start (T : Fin 80 → BitVec 32) : ((i 0).val = 0 ∨ T (i 0) ≠ T (prev i)) ↔ Start T (i 0) := by
  constructor
  · rintro (h | h)
    · exact Or.inl h
    · by_cases h0 : (i 0).val = 0
      · exact Or.inl h0
      · exact Or.inr ⟨prev i, by show (i 0).val - 1 + 1 = _; omega, h⟩
  · rintro (h | ⟨p, hp, h⟩)
    · exact Or.inl h
    · refine Or.inr fun e => h (e.trans ?_)
      congr 1; apply Fin.ext; show (i 0).val - 1 = p.val; omega

theorem e3_of : tbV.view.readAt (Elt F) (Rect.unit (s := S80) (k0_off1 i) S1.size (k0_off1_inb i)).toLoadRect fV (Shape.Idx.first (numel1_S1.symm ▸ Nat.one_pos)) = wordsV c fV (i 0) :=
  word80 tbV fV _ _ (i 0) (off1_eq i)
theorem e6_of : tbE.view.readAt (Elt F) (Rect.unit (s := S80) (k0_off1 i) S1.size (k0_off1_inb i)).toLoadRect fE (Shape.Idx.first (numel1_S1.symm ▸ Nat.one_pos)) = wordsE c fE (i 0) :=
  word80 tbE fE _ _ (i 0) (off1_eq i)
theorem e13_of : tbE.view.readAt (Elt F) (Rect.unit (s := S80) (k0_off4 i) S1.size (k0_off4_inb i)).toLoadRect fE (Shape.Idx.first (numel1_S1.symm ▸ Nat.one_pos)) = wordsE c fE (prev i) :=
  word80 tbE fE _ _ (prev i) (off4_eq i)

/-- A tile that is not valid. -/
theorem step_empty (hv : ¬ wordsV c fV (i 0) = 1#32) (W : Waits sig Unit) (K : PUnit → sProp 𝕄) :
    iprop(stepPre c i arg4 arg8 fE fV fC x fG fU fD L W ∗ (stepPost c i arg4 arg8 fE fV fC x fG fU fD L -∗ K ⟨⟩)) ⊢ bodyRun c i arg4 harg4 arg8 harg8 K := by
  unfold stepPre stepPost
  have hk : kept L c fG fU fD ((i 0).val + 1) = castsAny c := kept_any L c fG fU fD fun ⟨p, hp, h⟩ => hv (by
    rwa [show p = i 0 from Fin.ext (by omega)] at h)
  have hf : flight L c fG fU fD ((i 0).val + 1) = flight L c fG fU fD (i 0).val := by
    rw [flight_rest L c fG fU fD (Or.inr (L.no_next_after hv (Nat.le_succ _))), flight_rest L c fG fU fD (Or.inr (L.no_next_after hv (Nat.le_refl _)))]
  rw [hk, hf, tileOut_empty L c fG fU fD hv]
  iintro ⟨⟨HE, HV, HC, Hx, H8, Hk, Hf, HO⟩, HK⟩
  iapply (run_empty c i arg4 harg4 arg8 harg8 fE fV fC x _ _ _ (e3_of c i fV) (e6_of c i fE) (e13_of c i fE)
    (fun h => hv ((cond1_iff i _).mp h).1) (fun h => hv ((cond2_iff i _ _ _).mp h).1) (chk1_not i _ _ hv) (chk3_not i _ _ _ hv)
    (fun h => hv ((cond4_iff _).mp h)) ((cond5_iff _).mpr ((L.bit (i 0)).resolve_right hv)) W K)
  isplitl [HE]; · iexact HE
  isplitl [HV]; · iexact HV
  isplitl [HC]; · iexact HC
  isplitl [Hx]; · iexact Hx
  isplitl [H8]; · iexact H8
  isplitl [HO]; · iexact HO
  iintro ⟨HE, HV, HC, Hx, H8, HO⟩
  iapply HK
  isplitl [HE]; · iexact HE
  isplitl [HV]; · iexact HV
  isplitl [HC]; · iexact HC
  isplitl [Hx]; · iexact Hx
  isplitl [H8]; · iexact H8
  isplitl [Hk]; · iapply (kept_forget L c fG fU fD _) $$ Hk
  isplitl [Hf]; · iexact Hf
  iexact HO

/-- A valid tile within a run. -/
theorem step_same (hv : wordsV c fV (i 0) = 1#32) (hs : ¬ Start (wordsE c fE) (i 0)) (W : Waits sig Unit) (K : PUnit → sProp 𝕄) :
    iprop(stepPre c i arg4 arg8 fE fV fC x fG fU fD L W ∗ (stepPost c i arg4 arg8 fE fV fC x fG fU fD L -∗ K ⟨⟩)) ⊢ bodyRun c i arg4 harg4 arg8 harg8 K := by
  unfold stepPre stepPost
  have h0 : (i 0).val ≠ 0 := fun h => hs (Or.inl h)
  have hp : (prev i).val + 1 = (i 0).val := by show (i 0).val - 1 + 1 = _; omega
  have hr := L.rng _ hv
  have he : wordsE c fE (prev i) = wordsE c fE (i 0) := by
    by_contra h; exact hs (Or.inr ⟨prev i, hp, fun e => h e.symm⟩)
  rw [kept_valid L c fG fU fD (L.first _ _ hp hv) hp _ hr he, kept_valid L c fG fU fD hv rfl _ hr rfl,
    flight_skip L c fG fU fD h0 hs, tileOut_valid L c fG fU fD hv x hr]
  have hc2 : ¬ k0_cond2 i (wordsV c fV (i 0)) (wordsE c fE (i 0)) (wordsE c fE (prev i)) = 1#1 :=
    fun h => hs ((prev_start i _).mp ((cond2_iff i _ _ _).mp h).2)
  unfold casts
  iintro ⟨⟨HE, HV, HC, Hx, H8, ⟨Hk1, Hk2, Hk3⟩, Hf, HO⟩, HK⟩
  iapply (run_same c i arg4 harg4 arg8 harg8 fE fV fC x _ _ _ (e3_of c i fV) (e6_of c i fE) (e13_of c i fE)
    (fun h => h0 ((cond1_iff i _).mp h).2) hc2 (chk1_of i _ _ hr) (chk3_of i _ _ _ hr)
    ((cond4_iff _).mpr hv) (fun h => by rw [(cond5_iff _).mp h] at hv; exact absurd hv (by decide)) _ _ _ W K)
  isplitl [HE]; · iexact HE
  isplitl [HV]; · iexact HV
  isplitl [HC]; · iexact HC
  isplitl [Hx]; · iexact Hx
  isplitl [H8]; · iexact H8
  isplitl [Hk1]; · iexact Hk1
  isplitl [Hk2]; · iexact Hk2
  isplitl [Hk3]; · iexact Hk3
  isplitl [HO]; · iexact HO
  iintro ⟨HE, HV, HC, Hx, H8, Hk1, Hk2, Hk3, HO⟩
  iapply HK
  isplitl [HE]; · iexact HE
  isplitl [HV]; · iexact HV
  isplitl [HC]; · iexact HC
  isplitl [Hx]; · iexact Hx
  isplitl [H8]; · iexact H8
  isplitl [Hk1 Hk2 Hk3]
  · isplitl [Hk1]; · iexact Hk1
    isplitl [Hk2]; · iexact Hk2
    iexact Hk3
  isplitl [Hf]; · iexact Hf
  iexact HO

/-- A run of the body that casts an expert's weights anew, from what it holds in flight to what it leaves. -/
theorem step_fit (P Q : sProp 𝕄) (v : BitVec 32) (hr : v.toNat < 32) (ev : wordsE c fE (i 0) = v) (hv : wordsV c fV (i 0) = 1#32)
    (hP : flight L c fG fU fD (i 0).val = P) (hQ : flight L c fG fU fD ((i 0).val + 1) = Q) (W : Waits sig Unit) (K : PUnit → sProp 𝕄)
    (h : iprop(ptHalf c tbE fE ∗ ptHalf c tbV fV ∗ ptHalf c tbC fC
        ∗ owns (c : Thread nD τ) arg4 fullShare x ∗ (∃ d, owns (c : Thread nD τ) arg8 fullShare d)
        ∗ castsAny (F := F) c ∗ P ∗ owes (c : Thread nD τ) 0 W
        ∗ ((ptHalf c tbE fE ∗ ptHalf c tbV fV ∗ ptHalf c tbC fC
            ∗ owns (c : Thread nD τ) arg4 fullShare x
            ∗ owns (c : Thread nD τ) arg8 fullShare (k0_pay2 x (castG c fG v hr) (castU c fU v hr) (castD c fD v hr))
            ∗ casts c fG fU fD v hr ∗ Q ∗ (∃ W', owes (c : Thread nD τ) 0 W')) -∗ K ⟨⟩)) ⊢ bodyRun c i arg4 harg4 arg8 harg8 K) :
    iprop(stepPre c i arg4 arg8 fE fV fC x fG fU fD L W ∗ (stepPost c i arg4 arg8 fE fV fC x fG fU fD L -∗ K ⟨⟩)) ⊢ bodyRun c i arg4 harg4 arg8 harg8 K := by
  subst ev
  unfold stepPre stepPost
  rw [hP, hQ, kept_valid L c fG fU fD hv rfl _ hr rfl, tileOut_valid L c fG fU fD hv x hr]
  refine BIBase.Entails.trans ?_ h
  iintro ⟨⟨HE, HV, HC, Hx, H8, Hk, Hf, HO⟩, HK⟩
  isplitl [HE]; · iexact HE
  isplitl [HV]; · iexact HV
  isplitl [HC]; · iexact HC
  isplitl [Hx]; · iexact Hx
  isplitl [H8]; · iexact H8
  isplitl [Hk]; · iapply (kept_forget L c fG fU fD _) $$ Hk
  isplitl [Hf]; · iexact Hf
  isplitl [HO]; · iexact HO
  iexact HK

/-- A valid tile that starts a run. -/
theorem step_start (hv : wordsV c fV (i 0) = 1#32) (hs : Start (wordsE c fE) (i 0)) (W : Waits sig Unit) (K : PUnit → sProp 𝕄) :
    iprop(stepPre c i arg4 arg8 fE fV fC x fG fU fD L W ∗ (stepPost c i arg4 arg8 fE fV fC x fG fU fD L -∗ K ⟨⟩)) ⊢ bodyRun c i arg4 harg4 arg8 harg8 K := by
  have hr := L.rng _ hv
  have h2 : k0_cond2 i (wordsV c fV (i 0)) (wordsE c fE (i 0)) (wordsE c fE (prev i)) = 1#1 := (cond2_iff i _ _ _).mpr ⟨hv, (prev_start i _).mpr hs⟩
  obtain ⟨n0, n1, n2, -⟩ := L.start hv hs ⟨_, hr⟩ rfl
  have hb := behind_eq i _ n0 n1 n2
  have hlt : (behind i (wordsC c fC ⟨_, hr⟩)).toNat < 80 := by omega
  have h3 := cond3_iff i (wordsC c fC ⟨_, hr⟩) (wordsV c fV ⟨_, hlt⟩) n0 n1 n2
  have w1 := chk1_of i (wordsV c fV (i 0)) _ hr
  have w3 := chk3_of i (wordsV c fV (i 0)) _ (wordsE c fE (prev i)) hr
  have h4 := (cond4_iff _).mpr hv
  have h5 : ¬ k0_cond5 (wordsV c fV (i 0)) = 1#1 := fun h => by rw [(cond5_iff _).mp h] at hv; exact absurd hv (by decide)
  have w4 := chk4_of i (wordsV c fV (i 0)) (wordsE c fE (i 0)) (wordsE c fE (prev i)) _ hlt
  have e48 := word32 tbC fC (k0_off10_inb i _ _ _ w3 h2) (numel1_S1.symm ▸ Nat.one_pos) ⟨_, hr⟩ rfl
  have e72 := word80 tbV fV (k0_off11_inb i _ _ _ _ w4 h2) (numel1_S1.symm ▸ Nat.one_pos) ⟨_, hlt⟩ rfl
  by_cases hvn : wordsV c fV ⟨_, hlt⟩ = 1#32
  · have hN := L.next_of hv hs ⟨_, hr⟩ rfl hb hvn
    have hn := L.rng _ hvn
    have w6 := chk6_of i (wordsV c fV (i 0)) (wordsE c fE (i 0)) (wordsE c fE (prev i)) (wordsC c fC ⟨_, hr⟩) (wordsV c fV ⟨_, hlt⟩) _ hn
    have hQ := flight_ahead L c fG fU fD (Nat.succ_ne_zero _) hN hn
    by_cases h0 : (i 0).val = 0
    · refine step_fit c i arg4 harg4 arg8 harg8 fE fV fC x fG fU fD L _ _ _ hr rfl hv (flight_rest L c fG fU fD (Or.inl h0)) hQ W K ?_
      exact run_first_next c i arg4 harg4 arg8 harg8 fE fV fC x fG fU fD _ _ _ _ _ _ (e3_of c i fV) (e6_of c i fE) (e13_of c i fE)
        ((cond1_iff i _).mpr ⟨hv, h0⟩) h2 hr w1 w3 (chk2_one i _ _ _) e48 w4 e72 (h3.mpr hvn) (chk5_one i _ _ _ _ _ hlt)
        (word80 tbE fE _ _ ⟨_, hlt⟩ rfl) w6 hn h4 h5 W K
    · refine step_fit c i arg4 harg4 arg8 harg8 fE fV fC x fG fU fD L _ _ _ hr rfl hv
        (flight_ahead L c fG fU fD h0 ⟨Nat.le_refl _, hv, hs, fun j a b => absurd a (by omega)⟩ hr) hQ W K ?_
      have h1 : ¬ k0_cond1 i (wordsV c fV (i 0)) = 1#1 := fun h => h0 ((cond1_iff i _).mp h).2
      conv in ahead c fG fU fD (wordsE c fE (i 0)) hr => unfold ahead
      iintro ⟨HE, HV, HC, Hx, H8, Hk, ⟨%w, %s, %n, %q, %r, %hS, Hf⟩, HO, HK⟩
      cases hS with
      | one =>
        iapply (run_next_one c i arg4 harg4 arg8 harg8 fE fV fC x fG fU fD _ _ _ _ _ _ (e3_of c i fV) (e6_of c i fE) (e13_of c i fE)
          h1 h2 hr w1 w3 (chk2_one i _ _ _) e48 w4 e72 (h3.mpr hvn) (chk5_one i _ _ _ _ _ hlt)
          (word80 tbE fE _ _ ⟨_, hlt⟩ rfl) w6 hn h4 h5 W K)
        isplitl [HE]; · iexact HE
        isplitl [HV]; · iexact HV
        isplitl [HC]; · iexact HC
        isplitl [Hx]; · iexact Hx
        isplitl [H8]; · iexact H8
        isplitl [Hk]; · iexact Hk
        isplitl [Hf]; · iexact Hf
        isplitl [HO]; · iexact HO
        iexact HK
      | zero =>
        iapply (run_next_zero c i arg4 harg4 arg8 harg8 fE fV fC x fG fU fD _ _ _ _ _ _ (e3_of c i fV) (e6_of c i fE) (e13_of c i fE)
          h1 h2 hr w1 w3 (chk2_zero i _ _ _) e48 w4 e72 (h3.mpr hvn) (chk5_zero i _ _ _ _ _ hlt)
          (word80 tbE fE _ _ ⟨_, hlt⟩ rfl) w6 hn h4 h5 W K)
        isplitl [HE]; · iexact HE
        isplitl [HV]; · iexact HV
        isplitl [HC]; · iexact HC
        isplitl [Hx]; · iexact Hx
        isplitl [H8]; · iexact H8
        isplitl [Hk]; · iexact Hk
        isplitl [Hf]; · iexact Hf
        isplitl [HO]; · iexact HO
        iexact HK
  · have hQ := flight_rest L c fG fU fD (Or.inr (L.no_next hv hs ⟨_, hr⟩ rfl hb hvn))
    by_cases h0 : (i 0).val = 0
    · refine step_fit c i arg4 harg4 arg8 harg8 fE fV fC x fG fU fD L _ _ _ hr rfl hv (flight_rest L c fG fU fD (Or.inl h0)) hQ W K ?_
      exact run_first_last c i arg4 harg4 arg8 harg8 fE fV fC x fG fU fD _ _ _ _ _ (e3_of c i fV) (e6_of c i fE) (e13_of c i fE)
        ((cond1_iff i _).mpr ⟨hv, h0⟩) h2 hr w1 w3 (chk2_one i _ _ _) e48 w4 e72 (fun h => hvn (h3.mp h)) (chk5_one i _ _ _ _ _ hlt)
        h4 h5 W K
    · refine step_fit c i arg4 harg4 arg8 harg8 fE fV fC x fG fU fD L _ _ _ hr rfl hv
        (flight_ahead L c fG fU fD h0 ⟨Nat.le_refl _, hv, hs, fun j a b => absurd a (by omega)⟩ hr) hQ W K ?_
      have h1 : ¬ k0_cond1 i (wordsV c fV (i 0)) = 1#1 := fun h => h0 ((cond1_iff i _).mp h).2
      conv in ahead c fG fU fD (wordsE c fE (i 0)) hr => unfold ahead
      iintro ⟨HE, HV, HC, Hx, H8, Hk, ⟨%w, %s, %n, %q, %r, %hS, Hf⟩, HO, HK⟩
      cases hS with
      | one =>
        iapply (run_last_one c i arg4 harg4 arg8 harg8 fE fV fC x fG fU fD _ _ _ _ _ (e3_of c i fV) (e6_of c i fE) (e13_of c i fE)
          h1 h2 hr w1 w3 (chk2_one i _ _ _) e48 w4 e72 (fun h => hvn (h3.mp h)) (chk5_one i _ _ _ _ _ hlt) h4 h5 W K)
        isplitl [HE]; · iexact HE
        isplitl [HV]; · iexact HV
        isplitl [HC]; · iexact HC
        isplitl [Hx]; · iexact Hx
        isplitl [H8]; · iexact H8
        isplitl [Hk]; · iexact Hk
        isplitl [Hf]; · iexact Hf
        isplitl [HO]; · iexact HO
        iexact HK
      | zero =>
        iapply (run_last_zero c i arg4 harg4 arg8 harg8 fE fV fC x fG fU fD _ _ _ _ _ (e3_of c i fV) (e6_of c i fE) (e13_of c i fE)
          h1 h2 hr w1 w3 (chk2_zero i _ _ _) e48 w4 e72 (fun h => hvn (h3.mp h)) (chk5_zero i _ _ _ _ _ hlt) h4 h5 W K)
        isplitl [HE]; · iexact HE
        isplitl [HV]; · iexact HV
        isplitl [HC]; · iexact HC
        isplitl [Hx]; · iexact Hx
        isplitl [H8]; · iexact H8
        isplitl [Hk]; · iexact Hk
        isplitl [Hf]; · iexact Hf
        isplitl [HO]; · iexact HO
        iexact HK

/-- The body at any tile. -/
theorem step (W : Waits sig Unit) (K : PUnit → sProp 𝕄) :
    iprop(stepPre c i arg4 arg8 fE fV fC x fG fU fD L W ∗ (stepPost c i arg4 arg8 fE fV fC x fG fU fD L -∗ K ⟨⟩)) ⊢ bodyRun c i arg4 harg4 arg8 harg8 K := by
  by_cases hv : wordsV c fV (i 0) = 1#32
  · by_cases hs : Start (wordsE c fE) (i 0)
    · exact step_start c i arg4 harg4 arg8 harg8 fE fV fC x fG fU fD L hv hs W K
    · exact step_same c i arg4 harg4 arg8 harg8 fE fV fC x fG fU fD L hv hs W K
  · exact step_empty c i arg4 harg4 arg8 harg8 fE fV fC x fG fU fD L hv W K

end Step

end Cert.Moe

end
-- ==== Proof.MoeSlots.lean ====
module

public import proofs.«01_k».proof.Proof.MoeStep
public import Idealize.ShloMosaic.Lib.Claim

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The two slots of a weight buffer -/

theorem unionA : (Rect.unit (s := S2x2048x512) ![0, 0, 0] S1x2048x512.size in0A).set ∪ (Rect.unit (s := S2x2048x512) ![1, 0, 0] S1x2048x512.size in1A).set = Finset.univ := by
  ext i
  simp only [Finset.mem_union, Rect.mem_set_unit, Finset.mem_univ, iff_true]
  have h0 : (i 0 : ℕ) < 2 := (i 0).isLt
  have h1 : (i 1 : ℕ) < 2048 := (i 1).isLt
  have h2 : (i 2 : ℕ) < 512 := (i 2).isLt
  rcases Nat.lt_or_ge (i 0 : ℕ) 1 with h | h
  · left; intro a; fin_cases a
    · exact ⟨Nat.zero_le _, h⟩
    · exact ⟨Nat.zero_le _, by show (i 1 : ℕ) < 0 + 2048; omega⟩
    · exact ⟨Nat.zero_le _, by show (i 2 : ℕ) < 0 + 512; omega⟩
  · right; intro a; fin_cases a
    · exact ⟨h, h0⟩
    · exact ⟨Nat.zero_le _, by show (i 1 : ℕ) < 0 + 2048; omega⟩
    · exact ⟨Nat.zero_le _, by show (i 2 : ℕ) < 0 + 512; omega⟩
theorem unionB : (Rect.unit (s := S2x512x2048) ![0, 0, 0] S1x512x2048.size in0B).set ∪ (Rect.unit (s := S2x512x2048) ![1, 0, 0] S1x512x2048.size in1B).set = Finset.univ := by
  ext i
  simp only [Finset.mem_union, Rect.mem_set_unit, Finset.mem_univ, iff_true]
  have h0 : (i 0 : ℕ) < 2 := (i 0).isLt
  have h1 : (i 1 : ℕ) < 512 := (i 1).isLt
  have h2 : (i 2 : ℕ) < 2048 := (i 2).isLt
  rcases Nat.lt_or_ge (i 0 : ℕ) 1 with h | h
  · left; intro a; fin_cases a
    · exact ⟨Nat.zero_le _, h⟩
    · exact ⟨Nat.zero_le _, by show (i 1 : ℕ) < 0 + 512; omega⟩
    · exact ⟨Nat.zero_le _, by show (i 2 : ℕ) < 0 + 2048; omega⟩
  · right; intro a; fin_cases a
    · exact ⟨h, h0⟩
    · exact ⟨Nat.zero_le _, by show (i 1 : ℕ) < 0 + 512; omega⟩
    · exact ⟨Nat.zero_le _, by show (i 2 : ℕ) < 0 + 2048; omega⟩
theorem apartA : Disjoint (Rect.unit (s := S2x2048x512) ![0, 0, 0] S1x2048x512.size in0A).set (Rect.unit (s := S2x2048x512) ![1, 0, 0] S1x2048x512.size in1A).set :=
  Rect.unit_disjoint 0 (Or.inl (by decide))
theorem apartB : Disjoint (Rect.unit (s := S2x512x2048) ![0, 0, 0] S1x512x2048.size in0B).set (Rect.unit (s := S2x512x2048) ![1, 0, 0] S1x512x2048.size in1B).set :=
  Rect.unit_disjoint 0 (Or.inl (by decide))

section Slots
variable (c : Dev nD)

theorem splitG (f : Bf (F := F) c bG) : pt c bG f ⊢ iprop(own c (slotA bG ![0, 0, 0] in0A) f ∗ own c (slotA bG ![1, 0, 0] in1A) f) := by
  unfold own
  rw [show (slotA bG ![0, 0, 0] in0A).view.set = (Rect.unit (s := S2x2048x512) ![0, 0, 0] S1x2048x512.size in0A).set from (View.set_reshape _ _).trans (View.set_slice_whole _ _),
    show (slotA bG ![1, 0, 0] in1A).view.set = (Rect.unit (s := S2x2048x512) ![1, 0, 0] S1x2048x512.size in1A).set from (View.set_reshape _ _).trans (View.set_slice_whole _ _)]
  unfold pt
  rw [← unionA]
  exact (pointsTo_union apartA).1
theorem joinG (f g : Bf (F := F) c bG) : iprop(own c (slotA bG ![0, 0, 0] in0A) f ∗ own c (slotA bG ![1, 0, 0] in1A) g) ⊢ iprop(∃ h, pt (F := F) c bG h) := by
  unfold own
  rw [show (slotA bG ![0, 0, 0] in0A).view.set = (Rect.unit (s := S2x2048x512) ![0, 0, 0] S1x2048x512.size in0A).set from (View.set_reshape _ _).trans (View.set_slice_whole _ _),
    show (slotA bG ![1, 0, 0] in1A).view.set = (Rect.unit (s := S2x2048x512) ![1, 0, 0] S1x2048x512.size in1A).set from (View.set_reshape _ _).trans (View.set_slice_whole _ _)]
  refine BIBase.Entails.trans (pointsTo_join apartA) ?_
  rw [unionA]
  iintro H; iexists _; iexact H

theorem splitU (f : Bf (F := F) c bU) : pt c bU f ⊢ iprop(own c (slotA bU ![0, 0, 0] in0A) f ∗ own c (slotA bU ![1, 0, 0] in1A) f) := by
  unfold own
  rw [show (slotA bU ![0, 0, 0] in0A).view.set = (Rect.unit (s := S2x2048x512) ![0, 0, 0] S1x2048x512.size in0A).set from (View.set_reshape _ _).trans (View.set_slice_whole _ _),
    show (slotA bU ![1, 0, 0] in1A).view.set = (Rect.unit (s := S2x2048x512) ![1, 0, 0] S1x2048x512.size in1A).set from (View.set_reshape _ _).trans (View.set_slice_whole _ _)]
  unfold pt
  rw [← unionA]
  exact (pointsTo_union apartA).1
theorem joinU (f g : Bf (F := F) c bU) : iprop(own c (slotA bU ![0, 0, 0] in0A) f ∗ own c (slotA bU ![1, 0, 0] in1A) g) ⊢ iprop(∃ h, pt (F := F) c bU h) := by
  unfold own
  rw [show (slotA bU ![0, 0, 0] in0A).view.set = (Rect.unit (s := S2x2048x512) ![0, 0, 0] S1x2048x512.size in0A).set from (View.set_reshape _ _).trans (View.set_slice_whole _ _),
    show (slotA bU ![1, 0, 0] in1A).view.set = (Rect.unit (s := S2x2048x512) ![1, 0, 0] S1x2048x512.size in1A).set from (View.set_reshape _ _).trans (View.set_slice_whole _ _)]
  refine BIBase.Entails.trans (pointsTo_join apartA) ?_
  rw [unionA]
  iintro H; iexists _; iexact H

theorem splitD (f : Bf (F := F) c bD) : pt c bD f ⊢ iprop(own c (slotB bD ![0, 0, 0] in0B) f ∗ own c (slotB bD ![1, 0, 0] in1B) f) := by
  unfold own
  rw [show (slotB bD ![0, 0, 0] in0B).view.set = (Rect.unit (s := S2x512x2048) ![0, 0, 0] S1x512x2048.size in0B).set from (View.set_reshape _ _).trans (View.set_slice_whole _ _),
    show (slotB bD ![1, 0, 0] in1B).view.set = (Rect.unit (s := S2x512x2048) ![1, 0, 0] S1x512x2048.size in1B).set from (View.set_reshape _ _).trans (View.set_slice_whole _ _)]
  unfold pt
  rw [← unionB]
  exact (pointsTo_union apartB).1
theorem joinD (f g : Bf (F := F) c bD) : iprop(own c (slotB bD ![0, 0, 0] in0B) f ∗ own c (slotB bD ![1, 0, 0] in1B) g) ⊢ iprop(∃ h, pt (F := F) c bD h) := by
  unfold own
  rw [show (slotB bD ![0, 0, 0] in0B).view.set = (Rect.unit (s := S2x512x2048) ![0, 0, 0] S1x512x2048.size in0B).set from (View.set_reshape _ _).trans (View.set_slice_whole _ _),
    show (slotB bD ![1, 0, 0] in1B).view.set = (Rect.unit (s := S2x512x2048) ![1, 0, 0] S1x512x2048.size in1B).set from (View.set_reshape _ _).trans (View.set_slice_whole _ _)]
  refine BIBase.Entails.trans (pointsTo_join apartB) ?_
  rw [unionB]
  iintro H; iexists _; iexact H

/-- The three weight buffers whole are their two slots, and back. -/
theorem slots_split (f : Bf (F := F) c bG) (g : Bf (F := F) c bU) (h : Bf (F := F) c bD) :
    iprop(pt c bG f ∗ pt c bU g ∗ pt c bD h) ⊢ iprop(slotsFree (F := F) c ![0, 0, 0] in0A in0B ∗ slotsFree (F := F) c ![1, 0, 0] in1A in1B) := by
  unfold slotsFree
  iintro ⟨H1, H2, H3⟩
  ihave H1 := (splitG c f) $$ H1
  ihave H2 := (splitU c g) $$ H2
  ihave H3 := (splitD c h) $$ H3
  icases H1 with ⟨A1, B1⟩
  icases H2 with ⟨A2, B2⟩
  icases H3 with ⟨A3, B3⟩
  isplitl [A1 A2 A3]
  · isplitl [A1]; · iexists _; iexact A1
    isplitl [A2]; · iexists _; iexact A2
    iexists _; iexact A3
  isplitl [B1]; · iexists _; iexact B1
  isplitl [B2]; · iexists _; iexact B2
  iexists _; iexact B3
theorem slots_join : iprop(slotsFree (F := F) c ![0, 0, 0] in0A in0B ∗ slotsFree (F := F) c ![1, 0, 0] in1A in1B)
    ⊢ iprop((∃ f, pt (F := F) c bG f) ∗ (∃ f, pt (F := F) c bU f) ∗ (∃ f, pt (F := F) c bD f)) := by
  unfold slotsFree
  iintro ⟨⟨⟨%f1, A1⟩, ⟨%f2, A2⟩, ⟨%f3, A3⟩⟩, ⟨⟨%g1, B1⟩, ⟨%g2, B2⟩, ⟨%g3, B3⟩⟩⟩
  isplitl [A1 B1]
  · iapply (joinG c f1 g1); isplitl [A1]; · iexact A1
    iexact B1
  isplitl [A2 B2]
  · iapply (joinU c f2 g2); isplitl [A2]; · iexact A2
    iexact B2
  iapply (joinD c f3 g3); isplitl [A3]; · iexact A3
  iexact B3

end Slots

end Cert.Moe

end
-- ==== Proof.MoeFrame.lean ====
module

public import proofs.«01_k».proof.Proof.MoeSlots

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 3) : V m c (pre0.ref j) = tbl m j := by obtain rfl : c = 0 := Subsingleton.elim _ _; rfl

/-- The tables as this certificate takes them. -/
abbrev Tables : Prop := Laid (wordsE (F := F) 0 (tbl m 0)) (wordsV (F := F) 0 (tbl m 1)) (wordsC (F := F) 0 (tbl m 2))

/-- The word the first window's index map reads. -/
theorem word_read (i : grid0.Coords) : (tbl m).at 1 (Rect.unit (s := S80) ![(Scalar.indexCast (BitVec.ofNat 32 (i 0).val)).toNat] S1.size (k0_off1_inb i)) numel1_S1
    = wordsV (F := F) 0 (tbl m 1) (i 0) := by
  show tbl m 1 _ = tbl m 1 _
  congr 1
  refine funext fun (a : Fin 1) => ?_
  obtain rfl : a = 0 := Subsingleton.elim _ _
  apply Fin.ext
  show (Scalar.indexCast (BitVec.ofNat 32 (i 0).val)).toNat + 1 * 0 = (i 0).val
  exact (by decide +kernel : ∀ n : Fin 80, (Scalar.indexCast (BitVec.ofNat 32 n.val)).toNat + 1 * 0 = n.val) (i 0)

/-- The block of the activations a point reads: its own, or block 0 where its tile is empty. -/
theorem block_read (i : grid0.Coords) : cc0_transform_0 k0_off1_inb numel1_S1 (tbl m) i
    = ![(Scalar.muli (BitVec.ofNat 32 (i 0).val) (wordsV (F := F) 0 (tbl m 1) (i 0))).toNat, 0] := by
  unfold cc0_transform_0
  dsimp only
  rw [word_read m i]
  rfl

/-- The pipeline's side condition of the tables, from them. -/
theorem ok_of (L : Tables m) : ok0 (F := F) (tbl m) := by
  intro i
  have hi : (i 0).val < 80 := (i 0).isLt
  have hb : (Scalar.muli (BitVec.ofNat 32 (i 0).val) (wordsV (F := F) 0 (tbl m 1) (i 0))).toNat < 80 := by
    rcases L.bit (i 0) with h | h <;> rw [h]
    · exact (by decide +kernel : ∀ n : Fin 80, (Scalar.muli (BitVec.ofNat 32 n.val) 0#32).toNat < 80) (i 0)
    · exact (by decide +kernel : ∀ n : Fin 80, (Scalar.muli (BitVec.ofNat 32 n.val) 1#32).toNat < 80) (i 0)
  refine ⟨fun a => ?_, Or.inl rfl⟩
  rw [block_read m i]
  fin_cases a
  · exact (by omega : ((Scalar.muli (BitVec.ofNat 32 (i 0).val) (wordsV (F := F) 0 (tbl m 1) (i 0))).toNat + 1) * 256 ≤ 20480)
  · show (0 + 1) * 2048 ≤ 2048
    omega

section Run

variable (L : Tables m)

abbrev adm : (pcfg0 (F := F)).Adm := ⟨tbl m, ok_of m L⟩
abbrev cfgM : Pipeline.Cfg sig Λ₀ := cfg0 (adm m L)

theorem PhiT0_eq (c : Dev nD) : (Pipeline.ΦT pre0 (tbl m) c : sProp 𝕄) = iprop(ptHalf c tbE (tbl m 0) ∗ ptHalf c tbV (tbl m 1) ∗ ptHalf c tbC (tbl m 2)) := by
  unfold Pipeline.ΦT Pipeline.prefHeld
  rw [bigSep_univ_eq_bigSepL [(0 : Fin 3), (1 : Fin 3), (2 : Fin 3)] (by decide) (by decide)]
  rfl

/-- Window `w`'s block at point `t`, off its array as the region finds it. -/
def iblk (c : Dev nD) (w : Fin (cfgM m L).W) (t : Fin (cfgM m L).N) : (((cfgM m L).win w).xblock ((cfgM m L).grid.coords t)).Idx → Elt F ((cfgM m L).win w).elt :=
  (((cfgM m L).win w).blk t).view.read (Elt F) (V m c (Pipeline.arrRef spec0 w))

theorem before0_0_of {c : Dev nD} (dat : Dat τ (Elt F) Unit ℕ (Pipeline.UD sig nD τ) ℕ (cfgM m L) c) (hA : dat.A 0 = V m c (Pipeline.arrRef spec0 0))
    (hafter : ∀ t, dat.after 0 t = iblk m L c 0 t) (t : Fin (cfgM m L).N) (d) : dat.before 0 t d = iblk m L c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The tile a point is. -/
theorem coord_val (t : Fin grid0.N) : ((grid0.coords t) 0).val = t.val :=
  (by decide +kernel : ∀ t : Fin grid0.N, ((grid0.coords t) 0).val = t.val) t

include L in
/-- The laid tables, on any core. -/
theorem laidAt (c : Dev nD) : Laid (wordsE (F := F) c (tbl m 0)) (wordsV (F := F) c (tbl m 1)) (wordsC (F := F) c (tbl m 2)) := L

/-- What is held before point `k`. -/
def inv (c : Dev nD) (k : ℕ) : sProp 𝕄 :=
  iprop(ptHalf (F := F) c tbE (tbl m 0) ∗ ptHalf (F := F) c tbV (tbl m 1) ∗ ptHalf (F := F) c tbC (tbl m 2) ∗ (∃ r, prngReg c r)
    ∗ kept (laidAt m L c) c (V m c main_arg4) (V m c main_arg5) (V m c main_arg6) k ∗ flight (laidAt m L c) c (V m c main_arg4) (V m c main_arg5) (V m c main_arg6) k)

/-- What a point leaves in the result's block. -/
def outAt (c : Dev nD) (t : Fin (cfgM m L).N) : Vec F S256x2048 .f32 :=
  tileOut c (V m c main_arg4) (V m c main_arg5) (V m c main_arg6) _ _ (laidAt m L c) ((grid0.coords t) 0) (iblk m L c 0 t)

def dats (_ : Fin 1) (c : Dev nD) : Dat τ (Elt F) Unit ℕ (Pipeline.UD sig nD τ) ℕ (cfgM m L) c where
  A w := V m c (Pipeline.arrRef spec0 w)
  after w t := match w with
    | ⟨0, _⟩ => iblk m L c 0 t
    | ⟨1, h⟩ => outAt m L c t
  Φ t := inv m L c t.val
  q _ := fullShare
  owed _ := 0

theorem A_eq (c : Dev nD) (w : Fin (cfgM m L).W) : (dats m L 0 c).A w = V m c (Pipeline.arrRef spec0 w) := by dsimp only [dats]
theorem after0_0 (c : Dev nD) (t : Fin (cfgM m L).N) : (dats m L 0 c).after 0 t = iblk m L c 0 t := by dsimp only [dats]; try rfl
theorem after0_1 (c : Dev nD) (t : Fin (cfgM m L).N) : (dats m L 0 c).after 1 t = outAt m L c t := by dsimp only [dats]; try rfl
theorem before0_0 (c : Dev nD) (t : Fin (cfgM m L).N) (d) : (dats m L 0 c).before 0 t d = iblk m L c 0 t :=
  before0_0_of m L (dats m L 0 c) (A_eq m L c 0) (after0_0 m L c) t d

abbrev ms0_0 (t : Fin (cfgM m L).N) : Memref sig .tc .vmem S256x2048 .f32 := spec0_0.stage ((cfgM m L).slots t 0)
abbrev hs0_0 (t : Fin (cfgM m L).N) : (ms0_0 m L t).IsWhole := hstage0_0 (((cfgM m L).slots t 0).cast nbuf0_0)
abbrev ms0_1 (t : Fin (cfgM m L).N) : Memref sig .tc .vmem S256x2048 .f32 := spec0_1.stage ((cfgM m L).slots t 1)
abbrev hs0_1 (t : Fin (cfgM m L).N) : (ms0_1 m L t).IsWhole := hstage0_1 (((cfgM m L).slots t 1).cast nbuf0_1)

/-- The body at point `t`. -/
abbrev bodyAt0 (t : Fin (cfgM m L).N) : Prog (TpuEff nD τ sig (Elt F) Λ₀ .tc) PUnit :=
  cc0_moe (grid0.coords t) tbE (Memref.isWhole_whole _) tbV (Memref.isWhole_whole _) tbC (Memref.isWhole_whole _) (ms0_0 m L t) (hs0_0 m L t)
    wG (Memref.isWhole_whole _) wU (Memref.isWhole_whole _) wD (Memref.isWhole_whole _) (ms0_1 m L t) (hs0_1 m L t)
    bG (Memref.isWhole_whole _) bU (Memref.isWhole_whole _) bD (Memref.isWhole_whole _)
    cG (Memref.isWhole_whole _) cU (Memref.isWhole_whole _) cD (Memref.isWhole_whole _) wS (Memref.isWhole_whole _) cc0_scratch7

def bodyPre (c : Dev nD) (t : Fin (cfgM m L).N) : sProp 𝕄 :=
  iprop((dats m L 0 c).Φ t.castSucc ∗ (dats m L 0 c).owesAt () t.castSucc
    ∗ (∃ d, owns (c : Thread nD τ) (ms0_0 m L t) fullShare ((dats m L 0 c).before 0 t d))
    ∗ (∃ d, owns (c : Thread nD τ) (ms0_1 m L t) fullShare ((dats m L 0 c).before 1 t d)))
def bodyPost (c : Dev nD) (t : Fin (cfgM m L).N) : sProp 𝕄 :=
  iprop((dats m L 0 c).Φ t.succ ∗ (dats m L 0 c).owesAt () t.succ
    ∗ owns (c : Thread nD τ) (ms0_0 m L t) fullShare ((dats m L 0 c).after 0 t)
    ∗ owns (c : Thread nD τ) (ms0_1 m L t) fullShare ((dats m L 0 c).after 1 t))

/-- The body at any point. -/
theorem sound_body (c : Dev nD) (t : Fin (cfgM m L).N) :
    bodyPre m L c t ⊢ wp frame (wpE (defs₀ (F := F)) Variants.none c none) Set.univ (bodyAt0 m L t) (fun _ => bodyPost m L c t) := by
  unfold bodyPre bodyPost
  simp only [before0_0]
  rw [after0_0, after0_1, show (dats m L 0 c).Φ t.castSucc = inv m L c t.val from rfl, show (dats m L 0 c).Φ t.succ = inv m L c (t.val + 1) from rfl]
  unfold Dat.owesAt Pipeline.owesWithin
  rw [show (dats m L 0 c).owed t.castSucc = 0 from rfl, show (dats m L 0 c).owed t.succ = 0 from rfl]
  unfold inv outAt
  iintro ⟨⟨HE, HV, HC, Hg, Hk, Hf⟩, ⟨%W, -, HW⟩, ⟨%d0, H0⟩, ⟨%d1, H1⟩⟩
  iapply (step c (grid0.coords t) (ms0_0 m L t) (hs0_0 m L t) (ms0_1 m L t) (hs0_1 m L t) (tbl m 0) (tbl m 1) (tbl m 2) (iblk m L c 0 t)
    (V m c main_arg4) (V m c main_arg5) (V m c main_arg6) (laidAt m L c) W _)
  unfold stepPre stepPost
  rw [coord_val]
  isplitl [HE HV HC Hk Hf HW H0 H1]
  · isplitl [HE]; · iexact HE
    isplitl [HV]; · iexact HV
    isplitl [HC]; · iexact HC
    isplitl [H0]; · iexact H0
    isplitl [H1]; · iexists _; iexact H1
    isplitl [Hk]; · iexact Hk
    isplitl [Hf]; · iexact Hf
    iexact HW
  iintro ⟨HE, HV, HC, H0, H1, Hk, Hf, ⟨%W', HW'⟩⟩
  isplitl [HE HV HC Hg Hk Hf]
  · isplitl [HE]; · iexact HE
    isplitl [HV]; · iexact HV
    isplitl [HC]; · iexact HC
    isplitl [Hg]; · iexact Hg
    isplitl [Hk]; · iexact Hk
    iexact Hf
  isplitl [HW']
  · iexists W'; isplitr; · ipureintro; exact fun _ _ => Or.inl trivial
    iexact HW'
  isplitl [H0]; · iexact H0
  iexact H1

theorem defs₀_row (t : Fin (cfgM m L).N) : defs₀ (F := F) .tc (cfgM m L).body ((cfgM m L).bodyArgs t ((cfgM m L).slots t)) = bodyAt0 m L t := by
  unfold defs₀; rw [Defs.onTc_tc]

include L in
/-- No point leaves the result's block alone. -/
theorem busy (i : grid0.Coords) : idle0 (F := F) (tbl m) 1 i = false := by
  have hw : (tbl m).atD 1 (k0_off1 i) = wordsV (F := F) 0 (tbl m 1) (i 0) := by
    have hh : ∀ a : Fin 1, k0_off1 i a + 1 ≤ S80.size a := fun a => by
      obtain rfl : a = 0 := Subsingleton.elim _ _
      exact k0_off1_inb i 0
    refine (dif_pos hh).trans ?_
    show tbl m 1 _ = tbl m 1 _
    congr 1
    refine funext fun (a : Fin 1) => ?_
    obtain rfl : a = 0 := Subsingleton.elim _ _
    apply Fin.ext
    exact congrFun (off1_eq i) 0
  have hw' : (tbl m).atD 1 (k0_off22 i) = wordsV (F := F) 0 (tbl m 1) (i 0) := hw
  show (!(k0_cond4 ((tbl m).atD 1 (k0_off1 i)) == 1#1) && !(k0_cond5 ((tbl m).atD 1 (k0_off22 i)) == 1#1)) = false
  rw [hw, hw']
  rcases L.bit (i 0) with h | h <;> rw [h] <;> decide

theorem notIdle {P Q : sProp 𝕄} : ∀ {b : Bool}, b = false → (Q ⊢ (match b with | true => P | false => Q)) := fun h => by subst h; exact .rfl

theorem body_obligation (c : Dev nD) : BodyObligation (dats (F := F) m L 0 c) (defs₀ (F := F)) Variants.none () Set.univ := fun t => by
  rw [bigSep_W0, bigSep_W0, defs₀_row m L]
  refine triple_restated (sound_body m L c t) rfl .rfl fun _ => ?_
  have hb : (cfgM m L).idle 1 ((cfgM m L).grid.coords t) = false := busy m L _
  exact sep_mono .rfl (sep_mono .rfl (sep_mono .rfl (notIdle hb)))

/-! ## The run -/

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {main_arg4, main_arg5, main_arg6}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(pt c wG (V m c main_arg4) ∗ pt c wU (V m c main_arg5) ∗ pt c wD (V m c main_arg6)) := by
  rw [BI.bigSep_eq_bigSepL_of_eq [main_arg4, main_arg5, main_arg6] (by decide) (by decide)]; rfl

theorem enter (c : Dev nD) : iprop(Pipeline.ΦD osem0 spec0 H0 (V m) c ∗ Pipeline.ΦT pre0 (tbl m) c) ⊢ (inv m L c 0 : sProp 𝕄) := by
  rw [Pipeline.ΦD_eq, scopedRest0_eq, ownSems00_eq, hbmPts0_eq, PhiT0_eq]
  unfold inv
  rw [flight_rest _ _ _ _ _ (Or.inl rfl), kept_any _ _ _ _ _ (fun ⟨p, hp, _⟩ => absurd hp (Nat.succ_ne_zero _))]
  unfold atRest castsAny
  iintro ⟨⟨⟨⟨%f0, S0⟩, ⟨%f1, S1⟩, ⟨%f2, S2⟩, S3, S4, S5, S6⟩, Hg, ⟨Hq4, Hq5⟩, ⟨HG, HU, HD⟩⟩, ⟨HE, HV, HC⟩⟩
  ihave Hs := (slots_split c f0 f1 f2) $$ [S0 S1 S2]
  · isplitl [S0]; · iexact S0
    isplitl [S1]; · iexact S1
    iexact S2
  icases Hs with ⟨HA, HB⟩
  isplitl [HE]; · iexact HE
  isplitl [HV]; · iexact HV
  isplitl [HC]; · iexact HC
  isplitl [Hg]; · iexact Hg
  isplitl [S3 S4 S5]
  · isplitl [S3]; · iexact S3
    isplitl [S4]; · iexact S4
    iexact S5
  isplitl [S6]; · iexact S6
  isplitl [HG]; · iexact HG
  isplitl [HU]; · iexact HU
  isplitl [HD]; · iexact HD
  isplitl [HA]; · iexact HA
  isplitl [HB]; · iexact HB
  isplitl [Hq4]; · iexact Hq4
  iexact Hq5

theorem leave (c : Dev nD) : (inv m L c 80 : sProp 𝕄) ⊢ Pipeline.ΦD osem0 spec0 H0 (V m) c := by
  rw [Pipeline.ΦD_eq, scopedRest0_eq, ownSems00_eq, hbmPts0_eq]
  unfold inv
  rw [flight_rest _ _ _ _ _ (Or.inr fun ⟨n, hn, _⟩ => by have := n.isLt; omega)]
  unfold atRest
  iintro ⟨-, -, -, Hg, Hk, S6, HG, HU, HD, HA, HB, Hq4, Hq5⟩
  ihave Hk := (kept_forget _ _ _ _ _ _) $$ Hk
  ihave Hs := (slots_join c) $$ [HA HB]
  · isplitl [HA]; · iexact HA
    iexact HB
  icases Hs with ⟨S0, S1, S2⟩
  unfold castsAny
  icases Hk with ⟨S3, S4, S5⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  isplitl [Hq4 Hq5]
  · isplitl [Hq4]; · iexact Hq4
    iexact Hq5
  isplitl [HG]; · iexact HG
  isplitl [HU]; · iexact HU
  iexact HD

set_option backward.isDefEq.respectTransparency.types false in
/-- The run: every result array at what the points leave, every other array as it was, every counter at zero. -/
theorem run_main : θ_run defs (onTc (τ := τ) (main (F := F))) (s₀ m ρ)
    (fun r => Pipeline.FramePost (Pipeline.pin pcfgs fun _ => adm m L) (dats m L) 0 (V m) r ∧ r.2.sem = fun _ => 0) :=
  Pipeline.θ_run_frameP_dma (Q' := _) pcfgs (fun _ => adm m L) (dats m L) (0 : Fin 1) launch0 osem0 defs₀ Variants.none ownSemFacts0 H0 H0_sub m ρ main
    (hbody := fun c => (body_obligation m L c).loose) (hshare := fun c => (dats m L 0 c).share_full fun _ => rfl)
    (howed := fun _ _ => rfl) (V := V m) (hmain := hmain m Variants.none) (hA := A_eq m L) (hpf := V_pre m)
    (hin := fun c => enter m L c) (hout := fun c => leave m L c)

/-- The argument arrays after the run. -/
theorem args_of (r : PUnit × MemSt nD τ sig (Elt F)) (h : Pipeline.FramePost (Pipeline.pin pcfgs fun _ => adm m L) (dats m L) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := ⟨
    ((h c).1 0).trans (((dats m L 0 c).arrAt_in 0 rfl _).trans (A_eq m L c 0)),
    (h c).2 main_arg1 (by decide : main_arg1 ∈ Pipeline.restRefs sig spec0),
    (h c).2 main_arg2 (by decide : main_arg2 ∈ Pipeline.restRefs sig spec0),
    (h c).2 main_arg3 (by decide : main_arg3 ∈ Pipeline.restRefs sig spec0),
    (h c).2 main_arg4 (by decide : main_arg4 ∈ Pipeline.restRefs sig spec0),
    (h c).2 main_arg5 (by decide : main_arg5 ∈ Pipeline.restRefs sig spec0),
    (h c).2 main_arg6 (by decide : main_arg6 ∈ Pipeline.restRefs sig spec0)⟩

include L in
/-- The argument arrays end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m L r h.1 c, h.2⟩) (run_main m ρ L)

end Run

end Cert.Moe

end
-- ==== Proof.MoeReference.lean ====
/- What the reference of the experts' layer computes, at the ideal instance: a row of a valid tile through its tile's
   expert, a row of an empty tile zero. -/
module

public import proofs.«01_k».proof.Proof.Gen.Reference2Ideal.Run
public import proofs.«01_k».proof.Proof.MoeTables
public import Idealize.ShloMosaic.Lib.Pipeline.ValueKit

@[expose] public section

set_option maxRecDepth 16384

noncomputable section

namespace Cert.Moe

open Idealize.ShloMosaic

/-- One hidden unit of an expert: row `r` by column `f` of its matrix. -/
def hidden (h : (⟨2, ![20480, 2048]⟩ : Shape).Idx → EReal) (g : (⟨3, ![32, 2048, 512]⟩ : Shape).Idx → EReal)
    (e : Fin 32) (r : Fin 20480) (f : Fin 512) : EReal := ∑ k : Fin 2048, h (ix2 r k) * g (ix3 e k f)

/-- Expert `e` on row `r`: the gate times its logistic times the other projection, projected back. -/
def expertOut (h : (⟨2, ![20480, 2048]⟩ : Shape).Idx → EReal) (g u : (⟨3, ![32, 2048, 512]⟩ : Shape).Idx → EReal)
    (d : (⟨3, ![32, 512, 2048]⟩ : Shape).Idx → EReal) (e : Fin 32) (r : Fin 20480) (j : Fin 2048) : EReal :=
  ∑ f : Fin 512, hidden h g e r f * Ideal.logistic (hidden h g e r f) * hidden h u e r f * d (ix3 e f j)

/-- The tile of a row, and the expert a word names. -/
def tileOf (r : Fin 20480) : Fin 80 := ⟨r.val / 256, by omega⟩
def expertOf (v : BitVec 32) : Fin 32 := ⟨v.toNat % 32, Nat.mod_lt _ (by decide)⟩

/-- The layer: a row of a valid tile by its tile's expert, any other zero. -/
def mixed (T V : Fin 80 → BitVec 32) (h : (⟨2, ![20480, 2048]⟩ : Shape).Idx → EReal) (g u : (⟨3, ![32, 2048, 512]⟩ : Shape).Idx → EReal)
    (d : (⟨3, ![32, 512, 2048]⟩ : Shape).Idx → EReal) (r : Fin 20480) (j : Fin 2048) : EReal :=
  if V (tileOf r) = 1#32 then expertOut h g u d (expertOf (T (tileOf r))) r j else 0

open Cert.Reference2Ideal Cert.Reference2Ideal.Gen

/-- The last product, at an index. -/
theorem sum_apply (A : FVec Ideal S32x20480x512 .f32) (d : FVec Ideal S32x512x2048 .f32) (r : Fin 20480) (j : Fin 2048) :
    (Host.dotGeneral dot_S32x20480x512_S32x512x2048_S20480x2048_02_01_1_2_n_n none A d : FVec Ideal S20480x2048 .f32) (ix2 r j)
      = ∑ e : Fin 32, ∑ f : Fin 512, A (ix3 e r f) * d (ix3 e f j) := by
  pointwise

/-- A projection of every row by every expert, at an index. -/
theorem hidden_apply (g : FVec Ideal S32x2048x512 .f32) (h : FVec Ideal S20480x2048 .f32) (e : Fin 32) (r : Fin 20480) (f : Fin 512) :
    (transpose S32x20480x512 [0, 2, 1] (Host.dotGeneral dot_S32x2048x512_S20480x2048_S32x512x20480_1_1_02_0_n_n none g h : FVec Ideal S32x512x20480 .f32)
      transposes_S32x512x20480_S32x20480x512_0_2_1) (ix3 e r f) = hidden h g e r f := by
  pointwise
  exact Finset.sum_congr rfl fun k _ => mul_comm _ _

/-- The logistic function as the reference's host operations write it. -/
theorem logistic_apply' (x : FVec Ideal S32x20480x512 .f32) (i : S32x20480x512.Idx) :
    (Host.divf (broadcastInDim S32x20480x512 ![] bcast_S_S32x20480x512 (constant S_ .f32 0x3F800000#32))
      (addf (broadcastInDim S32x20480x512 ![] bcast_S_S32x20480x512 (constant S_ .f32 0x3F800000#32)) (Host.exp (Host.negf x)))) i = Ideal.logistic (x i) := by
  pointwise
  rfl

/-- The combine weight of a row and an expert: one for the row's own expert in a valid tile, else zero. -/
theorem weight_apply (T V : IVec S80 32) (e : Fin 32) (r : Fin 20480) (f : Fin 512) :
    (broadcastInDim S32x20480x512 ![0, 1, 2] bcast_S32x20480x1_S32x20480x512_0_1_2 (broadcastInDim S32x20480x1 ![0, 1] bcast_S32x20480_S32x20480x1_0_1 (transpose S32x20480 [1, 0] (select (broadcastInDim S20480x32 ![0, 1] bcast_S20480x1_S20480x32_0_1 (broadcastInDim S20480x1 ![0] bcast_S20480_S20480x1_0 (cmpi .eq (shapeCast _ (broadcastInDim S80x256 ![0] bcast_S80_S80x256_0 V) shapeCasts_S80x256_S20480) (broadcastInDim S20480 ![] bcast_S_S20480 (constantI S_ 32 1#32))))) (uitofp (F := Ideal) .f32 (cmpi .eq (broadcastInDim S20480x32 ![0, 1] bcast_S20480x1_S20480x32_0_1 (broadcastInDim S20480x1 ![0] bcast_S20480_S20480x1_0 (shapeCast _ (broadcastInDim S80x256 ![0] bcast_S80_S80x256_0 T) shapeCasts_S80x256_S20480))) (broadcastInDim S20480x32 ![0, 1] bcast_S1x32_S20480x32_0_1 (iotaInDim S1x32 32 1)))) (broadcastInDim S20480x32 ![] bcast_S_S20480x32 (id (constant (F := Ideal) S_ .f32 0x00000000#32)))) transposes_S20480x32_S32x20480_1_0))) (ix3 e r f)
      = if V (ix1 (tileOf r)) = 1#32 ∧ T (ix1 (tileOf r)) = BitVec.ofNat 32 e.val then (1 : EReal) else 0 := by
  pointwise
  have h0 : (id (constant (F := Ideal) S_ .f32 0x00000000#32) ix0 : EReal) = 0 := by
    show (constant (F := Ideal) S_ .f32 0x00000000#32 ix0 : EReal) = 0
    pointwise
  rw [h0]
  show Scalar.select (BitVec.ofBool (decide (V (ix1 (tileOf r)) = 1#32)))
    (FloatOps.uitofp (F := Ideal) FTy.f32 (BitVec.ofBool (decide (T (ix1 (tileOf r)) = BitVec.ofNat 32 e.val)))) 0 = _
  by_cases hv : V (ix1 (tileOf r)) = 1#32
  · by_cases ht : T (ix1 (tileOf r)) = BitVec.ofNat 32 e.val
    · rw [if_pos ⟨hv, ht⟩, decide_eq_true hv, decide_eq_true ht]
      show (((1 : ℕ) : ℝ) : EReal) = 1
      simp
    · rw [if_neg fun h => ht h.2, decide_eq_true hv, decide_eq_false ht]
      show (((0 : ℕ) : ℝ) : EReal) = 0
      simp
  · rw [if_neg fun h => hv h.1, decide_eq_false hv]
    rfl

/-- A word below 32 is the number of the expert it names. -/
theorem word_eq (v : BitVec 32) (hv : v.toNat < 32) (e : Fin 32) : v = BitVec.ofNat 32 e.val ↔ e = expertOf v := by
  have he : (BitVec.ofNat 32 e.val).toNat = e.val := by rw [BitVec.toNat_ofNat]; omega
  constructor
  · intro h
    apply Fin.ext
    show e.val = v.toNat % 32
    rw [h, he]; omega
  · intro h
    apply BitVec.eq_of_toNat_eq
    rw [he, h]
    show v.toNat = v.toNat % 32
    omega

/-- THE REFERENCE'S RESULT is the layer. -/
theorem reference2_eq (h : FVec Ideal S20480x2048 .f32) (T V : IVec S80 32) (g u : FVec Ideal S32x2048x512 .f32) (d : FVec Ideal S32x512x2048 .f32)
    (rng : ∀ i : Fin 80, V (ix1 i) = 1#32 → (T (ix1 i)).toNat < 32) (i : S20480x2048.Idx) :
    (Host.dotGeneral dot_S32x20480x512_S32x512x2048_S20480x2048_02_01_1_2_n_n none (mulf (mulf (mulf (transpose S32x20480x512 [0, 2, 1] (Host.dotGeneral dot_S32x2048x512_S20480x2048_S32x512x20480_1_1_02_0_n_n none g h) transposes_S32x512x20480_S32x20480x512_0_2_1) (Host.divf (broadcastInDim S32x20480x512 ![] bcast_S_S32x20480x512 (constant S_ .f32 0x3F800000#32)) (addf (broadcastInDim S32x20480x512 ![] bcast_S_S32x20480x512 (constant S_ .f32 0x3F800000#32)) (Host.exp (Host.negf (transpose S32x20480x512 [0, 2, 1] (Host.dotGeneral dot_S32x2048x512_S20480x2048_S32x512x20480_1_1_02_0_n_n none g h) transposes_S32x512x20480_S32x20480x512_0_2_1)))))) (transpose S32x20480x512 [0, 2, 1] (Host.dotGeneral dot_S32x2048x512_S20480x2048_S32x512x20480_1_1_02_0_n_n none u h) transposes_S32x512x20480_S32x20480x512_0_2_1)) (broadcastInDim S32x20480x512 ![0, 1, 2] bcast_S32x20480x1_S32x20480x512_0_1_2 (broadcastInDim S32x20480x1 ![0, 1] bcast_S32x20480_S32x20480x1_0_1 (transpose S32x20480 [1, 0] (select (broadcastInDim S20480x32 ![0, 1] bcast_S20480x1_S20480x32_0_1 (broadcastInDim S20480x1 ![0] bcast_S20480_S20480x1_0 (cmpi .eq (shapeCast _ (broadcastInDim S80x256 ![0] bcast_S80_S80x256_0 V) shapeCasts_S80x256_S20480) (broadcastInDim S20480 ![] bcast_S_S20480 (constantI S_ 32 1#32))))) (uitofp .f32 (cmpi .eq (broadcastInDim S20480x32 ![0, 1] bcast_S20480x1_S20480x32_0_1 (broadcastInDim S20480x1 ![0] bcast_S20480_S20480x1_0 (shapeCast _ (broadcastInDim S80x256 ![0] bcast_S80_S80x256_0 T) shapeCasts_S80x256_S20480))) (broadcastInDim S20480x32 ![0, 1] bcast_S1x32_S20480x32_0_1 (iotaInDim S1x32 32 1)))) (broadcastInDim S20480x32 ![] bcast_S_S20480x32 (id (constant S_ .f32 0x00000000#32)))) transposes_S20480x32_S32x20480_1_0)))) d : FVec Ideal S20480x2048 .f32) i
      = mixed (fun i => T (ix1 i)) (fun i => V (ix1 i)) h g u d (i 0) (i 1) := by
  obtain ⟨r, j, rfl⟩ : ∃ (r : Fin 20480) (j : Fin 2048), i = ix2 r j := ⟨i 0, i 1, eq_ix2 i⟩
  show _ = mixed _ _ h g u d r j
  rw [sum_apply]
  have hA : ∀ (e : Fin 32) (f : Fin 512), _ = (hidden h g e r f * Ideal.logistic (hidden h g e r f) * hidden h u e r f)
      * (if V (ix1 (tileOf r)) = 1#32 ∧ T (ix1 (tileOf r)) = BitVec.ofNat 32 e.val then (1 : EReal) else 0) := fun e f =>
    congrArg₂ (fun a b : EReal => a * b) (congrArg₂ (fun a b : EReal => a * b) (congrArg₂ (fun a b : EReal => a * b) (hidden_apply g h e r f)
      ((logistic_apply' _ _).trans (congrArg Ideal.logistic (hidden_apply g h e r f)))) (hidden_apply u h e r f)) (weight_apply T V e r f)
  refine (Finset.sum_congr rfl fun e _ => Finset.sum_congr rfl fun f _ => congrArg (· * d (ix3 e f j)) (hA e f)).trans ?_
  unfold mixed
  by_cases hv : V (ix1 (tileOf r)) = 1#32
  · rw [if_pos hv]
    refine (Finset.sum_eq_single (expertOf (T (ix1 (tileOf r)))) (fun e _ he => ?_) fun hn => absurd (Finset.mem_univ _) hn).trans ?_
    · refine Finset.sum_eq_zero fun f _ => ?_
      rw [if_neg fun hh => he ((word_eq _ (rng _ hv) e).mp hh.2), mul_zero, zero_mul]
    · unfold expertOut
      refine Finset.sum_congr rfl fun f _ => ?_
      rw [if_pos ⟨hv, (word_eq _ (rng _ hv) _).mpr rfl⟩, mul_one]
  · rw [if_neg hv]
    refine Finset.sum_eq_zero fun e _ => Finset.sum_eq_zero fun f _ => ?_
    rw [if_neg fun hh => hv hh.1, mul_zero, zero_mul]

end Cert.Moe

end
-- ==== Proof.MoeValue.lean ====
/- What the experts' layer's result array holds after the run, at the ideal instance: the rows of a valid tile through the
   tile's expert, the rows of an empty tile zero. -/
module

public import proofs.«01_k».proof.Proof.MoeFrame
public import proofs.«01_k».proof.Proof.MoeReference
public import Idealize.ShloMosaic.Lib.Pipeline.ValueKit
public import Idealize.ShloMosaic.Lib.Pipeline.Value

@[expose] public section

set_option maxRecDepth 16384

noncomputable section

namespace Cert.Moe

open Idealize.ShloMosaic Idealize.ShloMosaic.TcCoe Idealize.SL.Sem
open Cert.Kernel2Ideal Cert.Kernel2Ideal.Gen

/-- An expert's block of a weight array, at an index. -/
theorem gate_apply (c : Dev nD) (f : Bf (F := Ideal) c wG) (v : BitVec 32) (hv : v.toNat < 32) (k : Fin 2048) (q : Fin 512) :
    castG (F := Ideal) c f v hv (ix2 k q) = f (ix3 (expertOf v) k q) := by
  unfold castG castA
  pointwise
  refine (congrFun (Memref.read_squeeze_slice wG _ (fun _ => rfl) squeezes_S1x2048x512_S2048x512 shapeCasts_S1x2048x512_S2048x512 f) _).trans
    ((shapeCast_dropUnit_apply ![2048, 512] _ _ (ix2 k q)).trans (congrArg f (funext fun a => ?_)))
  match a with
  | ⟨0, _⟩ => exact Fin.ext (show v.toNat + 1 * 0 = v.toNat % 32 by omega)
  | ⟨1, _⟩ => exact Fin.ext (show 0 + 1 * k.val = k.val by omega)
  | ⟨2, _⟩ => exact Fin.ext (show 0 + 1 * q.val = q.val by omega)
theorem up_apply (c : Dev nD) (f : Bf (F := Ideal) c wU) (v : BitVec 32) (hv : v.toNat < 32) (k : Fin 2048) (q : Fin 512) :
    castU (F := Ideal) c f v hv (ix2 k q) = f (ix3 (expertOf v) k q) := by
  unfold castU castA
  pointwise
  refine (congrFun (Memref.read_squeeze_slice wU _ (fun _ => rfl) squeezes_S1x2048x512_S2048x512 shapeCasts_S1x2048x512_S2048x512 f) _).trans
    ((shapeCast_dropUnit_apply ![2048, 512] _ _ (ix2 k q)).trans (congrArg f (funext fun a => ?_)))
  match a with
  | ⟨0, _⟩ => exact Fin.ext (show v.toNat + 1 * 0 = v.toNat % 32 by omega)
  | ⟨1, _⟩ => exact Fin.ext (show 0 + 1 * k.val = k.val by omega)
  | ⟨2, _⟩ => exact Fin.ext (show 0 + 1 * q.val = q.val by omega)
theorem down_apply (c : Dev nD) (f : Bf (F := Ideal) c wD) (v : BitVec 32) (hv : v.toNat < 32) (q : Fin 512) (j : Fin 2048) :
    castD (F := Ideal) c f v hv (ix2 q j) = f (ix3 (expertOf v) q j) := by
  unfold castD castB
  pointwise
  refine (congrFun (Memref.read_squeeze_slice wD _ (fun _ => rfl) squeezes_S1x512x2048_S512x2048 shapeCasts_S1x512x2048_S512x2048 f) _).trans
    ((shapeCast_dropUnit_apply ![512, 2048] _ _ (ix2 q j)).trans (congrArg f (funext fun a => ?_)))
  match a with
  | ⟨0, _⟩ => exact Fin.ext (show v.toNat + 1 * 0 = v.toNat % 32 by omega)
  | ⟨1, _⟩ => exact Fin.ext (show 0 + 1 * q.val = q.val by omega)
  | ⟨2, _⟩ => exact Fin.ext (show 0 + 1 * j.val = j.val by omega)

/-- A tile's product, at an index. -/
theorem tile_apply (x : Vec Ideal S256x2048 .f32) (g u : Vec Ideal S2048x512 .bf16) (d : Vec Ideal S512x2048 .bf16) (a : Fin 256) (j : Fin 2048) :
    k0_pay2 x g u d (ix2 a j) = ∑ f : Fin 512, (∑ k : Fin 2048, x (ix2 a k) * g (ix2 k f)) * Ideal.logistic (∑ k : Fin 2048, x (ix2 a k) * g (ix2 k f))
      * (∑ k : Fin 2048, x (ix2 a k) * u (ix2 k f)) * d (ix2 f j) := by
  unfold k0_pay2
  pointwise
theorem empty_apply (i : S256x2048.Idx) : k0_pay3 (F := Ideal) i = 0 := by
  unfold k0_pay3
  pointwise
  try rfl

variable (m : (ℓ : Loc nD τ sig) → Buf (Elt Ideal) ℓ) (ρ : Dev nD → PrngReg) (L : Tables m)

/-- The two windows' block indices at a point. -/
abbrev at0 (t : Fin (cfgM m L).N) : Fin 2 → ℕ := ((cfgM m L).win 0).index t
abbrev at1 (t : Fin (cfgM m L).N) : Fin 2 → ℕ := ((cfgM m L).win 1).index t

/-- A valid tile's rows of the activations. -/
theorem rows_apply (c : Dev nD) (t : Fin (cfgM m L).N) (hv : wordsV (F := Ideal) c (tbl m 1) ((grid0.coords t) 0) = 1#32) (a : Fin 256) (k : Fin 2048) (r : Fin 20480)
    (hr : r.val = 256 * t.val + a.val) :
    iblk m L c 0 t (ix2 a k) = m ((c : Thread nD τ).loc main_arg0) (ix2 r k) := by
  have hi : (((grid0.coords t) 0)).val = t.val := coord_val t
  have hx : at0 m L t = ![t.val, 0] := by
    refine (block_read m (grid0.coords t)).trans ?_
    rw [show wordsV (F := Ideal) 0 (tbl m 1) ((grid0.coords t) 0) = 1#32 from hv,
      (by decide +kernel : ∀ n : Fin 80, (Scalar.muli (BitVec.ofNat 32 n.val) 1#32).toNat = n.val) ((grid0.coords t) 0), hi]
  have h0 : at0 m L t 0 = t.val := congrFun hx 0
  have h1 : at0 m L t 1 = 0 := congrFun hx 1
  show m ((c : Thread nD τ).loc main_arg0) ((((cfgM m L).win 0).blk t).view.emb (ix2 a k)) = _
  refine congrArg _ (funext fun b => ?_)
  match b with
  | ⟨0, _⟩ => exact Fin.ext (show at0 m L t 0 * 256 + 1 * a.val = r.val by rw [h0]; omega)
  | ⟨1, _⟩ => exact Fin.ext (show at0 m L t 1 * 2048 + 1 * k.val = k.val by rw [h1]; omega)

/-- What the result's array ends holding. -/
abbrev layer (c : Dev nD) : Buf (Elt Ideal) ((c : Thread nD τ).loc main_v0) := fun i =>
  mixed (wordsE (F := Ideal) c (tbl m 0)) (wordsV (F := Ideal) c (tbl m 1)) (m ((c : Thread nD τ).loc main_arg0)) (m ((c : Thread nD τ).loc main_arg4))
    (m ((c : Thread nD τ).loc main_arg5)) (m ((c : Thread nD τ).loc main_arg6)) (i 0) (i 1)

/-- The result's block of a point is the point's own. -/
theorem out_index (t : Fin (cfgM m L).N) : at1 m L t = ![t.val, 0] :=
  (by decide +kernel : ∀ t : Fin grid0.N, cc0_transform_4 (grid0.coords t) = ![t.val, 0]) t

/-- Every point writes its block back. -/
theorem flushed (t : Fin (cfgM m L).N) : ((cfgM m L).win 1).flush t = true :=
  (fun t => (Pipeline.Window.flushOf_reads cc0_transform_4 reads0_1 hreads0_1 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true) t

/-- What a point leaves, at an index. -/
theorem outAt_apply (c : Dev nD) (t : Fin (cfgM m L).N) (a : Fin 256) (j : Fin 2048) (r : Fin 20480) (hr : r.val = 256 * t.val + a.val) :
    outAt m L c t (ix2 a j) = layer m c (ix2 r j) := by
  have hi : (grid0.coords t) 0 = tileOf r := Fin.ext (by
    rw [coord_val]
    show t.val = r.val / 256
    omega)
  show _ = mixed _ _ _ _ _ _ r j
  unfold outAt mixed
  by_cases hv : wordsV (F := Ideal) c (tbl m 1) ((grid0.coords t) 0) = 1#32
  · refine (congrFun (tileOut_valid (laidAt m L c) c _ _ _ hv _ (L.rng _ hv)) _).trans ?_
    refine (tile_apply (iblk m L c 0 t) _ _ _ a j).trans ?_
    rw [← hi, if_pos hv]
    unfold expertOut hidden
    refine Finset.sum_congr rfl fun f _ => ?_
    simp only [gate_apply, up_apply, down_apply, rows_apply m L c t hv a _ r hr]
  · refine (congrFun (tileOut_empty (laidAt m L c) c _ _ _ hv _) _).trans ?_
    rw [empty_apply, ← hi, if_neg hv]

/-- The point that writes a row, and that it does. -/
abbrev pointOf (r : Fin 20480) : Fin (cfgM m L).N := ⟨r.val / 256, lt_of_lt_of_eq (by omega : r.val / 256 < 80) N_0.symm⟩
theorem covered (i : S20480x2048.Idx) (r : Fin 20480) (hr : r.val = (i 0).val) : i ∈ (((cfgM m L).win 1).blk (pointOf m L r)).view.set := by
  have hi1 : (i 1).val < 2048 := (i 1).isLt
  have h0 : at1 m L (pointOf m L r) 0 = r.val / 256 := congrFun (out_index m L _) 0
  have h1 : at1 m L (pointOf m L r) 1 = 0 := congrFun (out_index m L _) 1
  refine (congrArg (fun s => i ∈ s) (View.set_slice_whole (b := main_v0) (((cfgM m L).win 1).rect (pointOf m L r)))).mpr ?_
  refine Rect.mem_set_unit.mpr (fun (a : Fin 2) => ?_)
  match a with
  | ⟨0, _⟩ => exact (by rw [h0]; omega : at1 m L (pointOf m L r) 0 * 256 ≤ (i 0).val ∧ (i 0).val < at1 m L (pointOf m L r) 0 * 256 + 256)
  | ⟨1, _⟩ => exact (by rw [h1]; omega : at1 m L (pointOf m L r) 1 * 2048 ≤ (i 1).val ∧ (i 1).val < at1 m L (pointOf m L r) 1 * 2048 + 2048)
theorem cover (i : S20480x2048.Idx) : ∃ t : Fin (cfgM m L).N, ((cfgM m L).win 1).flush t = true ∧ i ∈ (((cfgM m L).win 1).blk t).view.set :=
  ⟨pointOf m L ⟨(i 0).val, (i 0).isLt⟩, flushed m L _, covered m L i ⟨(i 0).val, (i 0).isLt⟩ rfl⟩

/-- THE RESULT ARRAY is the layer. -/
theorem final (c : Dev nD) : (dats m L 0 c).arrAt 1 (cfgM m L).N = layer m c := by
  refine (dats m L 0 c).arrAt_eq_of_cover 1 (layer m c) (fun t hf => ?_) (cover m L)
  · refine funext fun (y : S256x2048.Idx) => ?_
    obtain ⟨a, j, rfl⟩ : ∃ (a : Fin 256) (j : Fin 2048), y = ix2 a j := ⟨y 0, y 1, eq_ix2 y⟩
    have ht : t.val < 80 := lt_of_lt_of_eq t.isLt N_0
    refine (outAt_apply m L c t a j ⟨256 * t.val + a.val, by omega⟩ rfl).trans ?_
    have h0 : at1 m L t 0 = t.val := congrFun (out_index m L t) 0
    have h1 : at1 m L t 1 = 0 := congrFun (out_index m L t) 1
    show layer m c _ = layer m c ((((cfgM m L).win 1).blk t).view.emb (ix2 a j))
    refine congrArg _ (funext fun (b : Fin 2) => ?_)
    match b with
    | ⟨0, _⟩ => exact Fin.ext (show 256 * t.val + a.val = at1 m L t 0 * 256 + 1 * a.val by rw [h0]; omega)
    | ⟨1, _⟩ => exact Fin.ext (show j.val = at1 m L t 1 * 2048 + 1 * j.val by rw [h1]; omega)

include L in
/-- The run: the result is the layer, the arguments unchanged, every counter zero. -/
theorem value_main : θ_run defs (onTc (τ := τ) (main (F := Ideal))) ⟨m, fun _ => 0, ρ⟩ (fun r => ∀ c : Dev nD,
      r.2.mem ((c.tc : Thread nD τ).loc main_v0) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 1).trans (final m L c), args_of m L r h.1 c⟩) (run_main m ρ L)

end Cert.Moe

end
-- ==== Proof.AttnSpec.lean ====
/- Differential attention of one head over 256 keys on the extended reals: two softmax maps of the halves of a head, the
   second taken off the first `lam` times, the mixed values normalised by their mean square. And what joins the kernel's
   way of computing it to the plain one: a power of two moves through an inner product, and a softmax row of finite
   scores has a sum that isn't zero, so multiplying by its reciprocal divides. -/
module

public import Idealize.ShloMosaic.Lib.Pipeline.ValueKit

@[expose] public section

noncomputable section

namespace Cert.Attn

open Idealize.ShloMosaic

/-- The largest score of a row. -/
def rowMax (s : Fin 256 → EReal) : EReal := Finset.univ.fold max (Ideal.ofBits .f32 0xFF800000#32) s
/-- A row's weight at a key, before it is divided by the row's sum. -/
def weight (s : Fin 256 → EReal) (k : Fin 256) : EReal := Ideal.exp (s k - rowMax s)
/-- A row's softmax. -/
def prob (s : Fin 256 → EReal) (k : Fin 256) : EReal := Ideal.div (weight s k) (∑ x, weight s x)
/-- A score: the inner product, times one eighth. -/
def score (q k : Fin 64 → EReal) : EReal := (∑ d, q d * k d) * Ideal.ofBits .f32 0x3E000000#32
/-- The values under the difference of the two maps. -/
def mix (lam : EReal) (s0 s1 : Fin 256 → EReal) (v : Fin 256 → EReal) : EReal := ∑ k, (prob s0 k - lam * prob s1 k) * v k
/-- A row divided by the root of its mean square, times the norm's weight and 0.8. -/
def normed (c sub : Fin 128 → EReal) (j : Fin 128) : EReal :=
  c j * Ideal.rsqrt (Ideal.div (∑ x, c x * c x) (Ideal.ofBits .f32 0x43000000#32) + Ideal.ofBits .f32 0x358637BD#32) * sub j
    * Ideal.ofBits .f32 0x3F4CCCCD#32
/-- The halves of a head's columns. -/
def first (x : Fin 128 → EReal) (d : Fin 64) : EReal := x ⟨d.val, by omega⟩
def second (x : Fin 128 → EReal) (d : Fin 64) : EReal := x ⟨64 + d.val, by omega⟩
/-- ONE HEAD at query `a` and column `j`. -/
def head (lam : EReal) (q k v : Fin 256 → Fin 128 → EReal) (sub : Fin 128 → EReal) (a : Fin 256) (j : Fin 128) : EReal :=
  normed (fun e => mix lam (fun b => score (first (q a)) (first (k b))) (fun b => score (second (q a)) (second (k b))) fun b => v b e)
    sub j
/-- The weight of the second map. -/
def lamOf (x : (⟨3, ![1, 4, 64]⟩ : Shape).Idx → EReal) : EReal :=
  Ideal.exp (∑ i : Fin 64, x (ix3 0 0 i) * x (ix3 0 1 i)) - Ideal.exp (∑ i : Fin 64, x (ix3 0 2 i) * x (ix3 0 3 i))
    + Ideal.ofBits .f32 0x3E4CCCCD#32

theorem eighth_f32 : Ideal.ofBits .f32 0x3E000000#32 = ((1 / 8 : ℝ) : EReal) := by
  simp [Ideal.ofBits, Ideal.ieee, -EReal.coe_mul]; norm_num
theorem eighth_bf16 : Ideal.ofBits .bf16 0x3E00#16 = ((1 / 8 : ℝ) : EReal) := by
  simp [Ideal.ofBits, Ideal.ieee, -EReal.coe_mul]; norm_num
theorem least : Ideal.ofBits .f32 0xFF800000#32 = (⊥ : EReal) := by
  simp [Ideal.ofBits, Ideal.ieee]

theorem sum_mul_const {ι : Type} (s : Finset ι) (f : ι → EReal) (c : EReal) (h0 : 0 ≤ c) (h1 : c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 h1, ih]

/-- The kernel's score, scaled in the query, is the score. -/
theorem score_eq (q k : Fin 64 → EReal) : ∑ x, q x * Ideal.ofBits .bf16 0x3E00#16 * k x = score q k := by
  unfold score
  rw [eighth_f32, eighth_bf16, sum_mul_const _ _ _ (by exact_mod_cast (by norm_num : (0 : ℝ) ≤ 1 / 8)) (EReal.coe_ne_top _)]
  exact Finset.sum_congr rfl fun x _ => mul_right_comm _ _ _

/-- A finite number. -/
def Real' (x : EReal) : Prop := ∃ r : ℝ, x = r
theorem Real'.mul {x y : EReal} (hx : Real' x) (hy : Real' y) : Real' (x * y) := by
  obtain ⟨r, rfl⟩ := hx
  obtain ⟨s, rfl⟩ := hy
  exact ⟨r * s, (EReal.coe_mul r s).symm⟩
theorem score_real {q k : Fin 64 → EReal} (hq : ∀ d, Real' (q d)) (hk : ∀ d, Real' (k d)) : Real' (score q k) := by
  refine Real'.mul (Finset.sum_induction _ Real' (fun x y hx hy => ?_) ⟨0, rfl⟩ fun d _ => (hq d).mul (hk d)) ⟨1 / 8, eighth_f32⟩
  obtain ⟨r, rfl⟩ := hx
  obtain ⟨s, rfl⟩ := hy
  exact ⟨r + s, (EReal.coe_add r s).symm⟩

theorem exp_nonneg (x : EReal) : 0 ≤ Ideal.exp x := by
  induction x with
  | bot => exact le_refl _
  | top => exact le_top
  | coe r => exact EReal.coe_nonneg.mpr (Real.exp_pos r).le

/-- A row of finite scores has a sum that isn't zero. -/
theorem sum_ne_zero (s : Fin 256 → EReal) (h : ∀ k, Real' (s k)) : ∑ x, weight s x ≠ 0 := by
  obtain ⟨k0, -, hk⟩ := Finset.exists_max_image Finset.univ s Finset.univ_nonempty
  have hm : rowMax s = s k0 := by
    unfold rowMax
    refine le_antisymm ((Finset.fold_max_le _).mpr ⟨by rw [least]; exact bot_le, hk⟩) ((Finset.le_fold_max _).mpr (.inr ⟨k0, Finset.mem_univ _, le_refl _⟩))
  have h1 : weight s k0 = 1 := by
    unfold weight
    rw [hm]
    obtain ⟨r, hr⟩ := h k0
    rw [hr, ← EReal.coe_sub, sub_self]
    exact congrArg (fun r : ℝ => (r : EReal)) Real.exp_zero
  have hle : weight s k0 ≤ ∑ x, weight s x :=
    Finset.single_le_sum (f := weight s) (fun x _ => exp_nonneg _) (Finset.mem_univ k0)
  intro h0
  rw [h0, h1] at hle
  exact absurd hle (not_le.mpr zero_lt_one)

/-- Multiplying by the reciprocal of the sum divides. -/
theorem prob_eq (s : Fin 256 → EReal) (h : ∀ k, Real' (s k)) (k : Fin 256) :
    weight s k * Ideal.div 1 (∑ x, weight s x) = prob s k := by
  unfold prob Ideal.div
  rw [if_neg (sum_ne_zero s h), if_neg (sum_ne_zero s h), one_mul]

/-- A row's maximum from minus infinity once more. -/
theorem max_least (x : EReal) : max (Ideal.ofBits .f32 0xFF800000#32) x = x := by
  rw [least]; exact max_eq_right bot_le

end Cert.Attn

end
-- ==== Proof.AttnHead.lean ====
/- What the attention kernel's body stores for one batch row: the eight heads side by side, and the keys and the values of
   each head on their own. The body writes the heads one after another, in the same words up to the cut into parts, so
   one head's value is stated and read once. -/
module

public import proofs.«01_k».proof.Proof.Gen.Kernel3Ideal.Frame
public import proofs.«01_k».proof.Proof.AttnSpec
public import Idealize.ShloMosaic.Lib.Pipeline.ReadBack

@[expose] public section

noncomputable section

namespace Cert.Attn

open Idealize.ShloMosaic
open Cert.Kernel3Ideal Cert.Kernel3Ideal.Gen

/-- One head as the body computes it. -/
def headVec (l : FVec Ideal S1x1 .f32) (q k v : Vec Ideal S256x128 .bf16) (sub : Vec Ideal S1x128 .f32) : FVec Ideal S256x128 .bf16 :=
  k0_pay84 (k0_pay75 l v (k0_pay45 (k0_pay38 k (k0_pay23 q))) (k0_pay68 (k0_pay60 (k0_pay54 k (k0_pay23 q)))))
    (k0_pay83 l v (k0_pay45 (k0_pay38 k (k0_pay23 q))) (k0_pay68 (k0_pay60 (k0_pay54 k (k0_pay23 q))))) sub

section
variable (l : FVec Ideal S1x1 .f32) (q k v : Vec Ideal S256x128 .bf16) (sub : Vec Ideal S1x128 .f32)

theorem scores0 (a b : Fin 256) : k0_pay54 k (k0_pay23 q) (ix2 a b)
    = score (second fun d => q (ix2 a d)) (second fun d => k (ix2 b d)) := by
  rw [← score_eq]
  unfold k0_pay54 k0_pay23 second
  pointwise

theorem weights1 (s : FVec Ideal S256x256 .f32) (a b : Fin 256) : k0_pay60 s (ix2 a b) = weight (fun x => s (ix2 a x)) b := by
  unfold k0_pay60 weight rowMax
  pointwise

theorem divided (e : FVec Ideal S256x256 .f32) (a b : Fin 256) :
    k0_pay68 e (ix2 a b) = e (ix2 a b) * Ideal.div 1 (∑ x : Fin 256, e (ix2 a x)) := by
  unfold k0_pay68
  pointwise

theorem weights0 (a b : Fin 256) : k0_pay38 k (k0_pay23 q) (ix2 a b)
    = weight (fun x => score (first fun d => q (ix2 a d)) (first fun d => k (ix2 x d))) b := by
  simp only [← score_eq]
  unfold k0_pay38 k0_pay23 first weight rowMax
  pointwise

theorem probs0 (hq : ∀ i, Real' (q i)) (hk : ∀ i, Real' (k i)) (a b : Fin 256) : k0_pay45 (k0_pay38 k (k0_pay23 q)) (ix2 a b)
    = prob (fun x => score (first fun d => q (ix2 a d)) (first fun d => k (ix2 x d))) b := by
  refine (divided _ a b).trans ?_
  simp only [weights0]
  exact prob_eq _ (fun x => score_real (fun _ => hq _) fun _ => hk _) b

theorem probs1 (hq : ∀ i, Real' (q i)) (hk : ∀ i, Real' (k i)) (a b : Fin 256) :
    k0_pay68 (k0_pay60 (k0_pay54 k (k0_pay23 q))) (ix2 a b)
      = prob (fun x => score (second fun d => q (ix2 a d)) (second fun d => k (ix2 x d))) b := by
  refine (divided _ a b).trans ?_
  simp only [weights1, scores0]
  exact prob_eq _ (fun x => score_real (fun _ => hq _) fun _ => hk _) b

theorem mixed (p r : FVec Ideal S256x256 .f32) (a : Fin 256) (b : Fin 128) :
    k0_pay75 l v p r (ix2 a b) = ∑ x : Fin 256, (p (ix2 a x) - l (ix2 0 0) * r (ix2 a x)) * v (ix2 x b) := by
  unfold k0_pay75
  pointwise

theorem squares (p r : FVec Ideal S256x256 .f32) (a : Fin 256) :
    k0_pay83 l v p r (ix1 a) = ∑ x : Fin 128, k0_pay75 l v p r (ix2 a x) * k0_pay75 l v p r (ix2 a x) := by
  unfold k0_pay83
  generalize k0_pay75 l v p r = c
  pointwise

theorem scaled (c : FVec Ideal S256x128 .f32) (n : FVec Ideal S256 .f32) (a : Fin 256) (b : Fin 128) :
    k0_pay84 c n sub (ix2 a b) = c (ix2 a b) * Ideal.rsqrt (Ideal.div (n (ix1 a)) (Ideal.ofBits .f32 0x43000000#32)
      + Ideal.ofBits .f32 0x358637BD#32) * sub (ix2 0 b) * Ideal.ofBits .f32 0x3F4CCCCD#32 := by
  unfold k0_pay84
  pointwise

/-- ONE HEAD of the body, at an index. -/
theorem headVec_apply (hq : ∀ i, Real' (q i)) (hk : ∀ i, Real' (k i)) (a : Fin 256) (j : Fin 128) :
    headVec l q k v sub (ix2 a j) = head (l (ix2 0 0)) (fun a d => q (ix2 a d)) (fun a d => k (ix2 a d)) (fun a d => v (ix2 a d))
      (fun d => sub (ix2 0 d)) a j := by
  unfold headVec
  refine (scaled sub _ _ a j).trans ?_
  rw [squares]
  simp only [mixed, probs0 q k hq hk, probs1 q k hq hk]
  rfl

end

variable (x0 x1 x2 : Vec Ideal S256x1024 .bf16) (x3 x4 : Vec Ideal S1x128 .f32)

theorem piece1 : k0_pay84 (k0_pay75 (k0_pay95 x0 x1 x2 x3 x4) (View.ld x2 r0_1) (k0_pay101 x0 x1 x2 x3 x4) (k0_pay103 x0 x1 x2 x3 x4)) (k0_pay83 (k0_pay95 x0 x1 x2 x3 x4) (View.ld x2 r0_1) (k0_pay101 x0 x1 x2 x3 x4) (k0_pay103 x0 x1 x2 x3 x4)) (View.ld x4 r0_17)
    = headVec (k0_pay3 (View.ld x3 r0_0)) (View.ld x0 r0_1) (View.ld x1 r0_1) (View.ld x2 r0_1) (View.ld x4 r0_17) := rfl
theorem piece2 : k0_pay85 (k0_pay76 (k0_pay95 x0 x1 x2 x3 x4) (View.ld x2 r0_2) (k0_pay46 (k0_pay31 (View.ld x1 r0_2) (k0_pay97 x0 x1 x2 x3 x4))) (k0_pay69 (k0_pay61 (k0_pay55 (View.ld x1 r0_2) (k0_pay97 x0 x1 x2 x3 x4))))) (View.ld x4 r0_17)
    = headVec (k0_pay3 (View.ld x3 r0_0)) (View.ld x0 r0_2) (View.ld x1 r0_2) (View.ld x2 r0_2) (View.ld x4 r0_17) := rfl
theorem piece3 : k0_pay88 (k0_pay104 x0 x1 x2 x3 x4) (k0_pay86 (k0_pay104 x0 x1 x2 x3 x4)) (k0_pay87 (F := Ideal)) (View.ld x4 r0_17)
    = headVec (k0_pay3 (View.ld x3 r0_0)) (View.ld x0 r0_3) (View.ld x1 r0_3) (View.ld x2 r0_3) (View.ld x4 r0_17) := rfl
theorem piece4 : k0_pay89 (k0_pay78 (k0_pay95 x0 x1 x2 x3 x4) (View.ld x2 r0_4) (k0_pay49 (k0_pay40 (k0_pay33 (View.ld x1 r0_4) (k0_pay99 x0 x1 x2 x3 x4)))) (k0_pay71 (k0_pay63 (k0_pay57 (k0_pay99 x0 x1 x2 x3 x4)) (k0_pay58 (View.ld x1 r0_4)) (constant S256x256 .f32 0x00000000#32)))) (View.ld x4 r0_17)
    = headVec (k0_pay3 (View.ld x3 r0_0)) (View.ld x0 r0_4) (View.ld x1 r0_4) (View.ld x2 r0_4) (View.ld x4 r0_17) := rfl
theorem piece5 : k0_pay91 (k0_pay90 (k0_pay79 (k0_pay95 x0 x1 x2 x3 x4) (View.ld x2 r0_5) (k0_pay50 (k0_pay41 (k0_pay34 (View.ld x1 r0_5) (View.ld x0 r0_5)))) (k0_pay72 (k0_pay64 (View.ld x1 r0_5) (k0_pay27 (View.ld x0 r0_5)))))) (View.ld x4 r0_17)
    = headVec (k0_pay3 (View.ld x3 r0_0)) (View.ld x0 r0_5) (View.ld x1 r0_5) (View.ld x2 r0_5) (View.ld x4 r0_17) := rfl
theorem piece6 : k0_pay92 (k0_pay80 (k0_pay95 x0 x1 x2 x3 x4) (View.ld x2 r0_6) (k0_pay51 (k0_pay42 (k0_pay35 (View.ld x1 r0_6) (View.ld x0 r0_6)))) (k0_pay73 (k0_pay65 (View.ld x1 r0_6) (k0_pay28 (View.ld x0 r0_6))))) (View.ld x4 r0_17)
    = headVec (k0_pay3 (View.ld x3 r0_0)) (View.ld x0 r0_6) (View.ld x1 r0_6) (View.ld x2 r0_6) (View.ld x4 r0_17) := rfl
theorem piece7 : k0_pay1 (k0_pay93 (k0_pay81 (k0_pay95 x0 x1 x2 x3 x4) (View.ld x2 r0_7) (k0_pay52 (k0_pay43 (k0_pay36 (View.ld x1 r0_7) (View.ld x0 r0_7)))) (k0_pay102 x0 x1 x2 x3 x4) (k0_pay74 (k0_pay102 x0 x1 x2 x3 x4))) (View.ld x4 r0_17)) (k0_pay94 (F := Ideal))
    = headVec (k0_pay3 (View.ld x3 r0_0)) (View.ld x0 r0_7) (View.ld x1 r0_7) (View.ld x2 r0_7) (View.ld x4 r0_17) := rfl
theorem piece8 : k0_pay2 (k0_pay82 (k0_pay95 x0 x1 x2 x3 x4) (View.ld x2 r0_8) (k0_pay53 (k0_pay44 (k0_pay37 (View.ld x1 r0_8) (View.ld x0 r0_8)))) (k0_pay67 (k0_pay59 (View.ld x1 r0_8) (k0_pay30 (View.ld x0 r0_8))))) (View.ld x4 r0_17)
    = headVec (k0_pay3 (View.ld x3 r0_0)) (View.ld x0 r0_8) (View.ld x1 r0_8) (View.ld x2 r0_8) (View.ld x4 r0_17) := rfl

/-- A head's columns of a block. -/
def cols (x : Vec Ideal S256x1024 .bf16) (h : Fin 8) (a : Fin 256) (d : Fin 128) : EReal := x (ix2 a ⟨128 * h.val + d.val, by omega⟩)
/-- The block of the result: head `j / 128` at column `j % 128`. -/
def heads (a : Fin 256) (j : Fin 1024) : EReal :=
  head (x3 (ix2 0 0)) (cols x0 ⟨j.val / 128, by omega⟩) (cols x1 ⟨j.val / 128, by omega⟩) (cols x2 ⟨j.val / 128, by omega⟩)
    (fun d => x4 (ix2 0 d)) a ⟨j.val % 128, Nat.mod_lt _ (by decide)⟩

theorem tile_eq (hx0 : ∀ i, Real' (x0 i)) (hx1 : ∀ i, Real' (x1 i)) (h : Fin 8) (inb)
    (a : Fin 256) (j : Fin 1024) (x : S256x128.Idx) (e0 : a.val = (x 0).val) (e1 : j.val = 128 * h.val + (x 1).val) :
    headVec (k0_pay3 (View.ld x3 r0_0)) (View.ld x0 (Rect.unit (s := S256x1024) ![0, 128 * h.val] S256x128.size inb))
        (View.ld x1 (Rect.unit (s := S256x1024) ![0, 128 * h.val] S256x128.size inb))
        (View.ld x2 (Rect.unit (s := S256x1024) ![0, 128 * h.val] S256x128.size inb)) (View.ld x4 r0_17) x = heads x0 x1 x2 x3 x4 a j := by
  obtain ⟨p, d, rfl⟩ : ∃ (p : Fin 256) (d : Fin 128), x = ix2 p d := ⟨x 0, x 1, eq_ix2 x⟩
  refine (headVec_apply _ _ _ _ _ (fun _ => hx0 _) (fun _ => hx1 _) p d).trans ?_
  obtain rfl : a = p := Fin.ext e0
  have e1' : j.val = 128 * h.val + d.val := e1
  have hj : (⟨j.val / 128, by omega⟩ : Fin 8) = h := Fin.ext (by show j.val / 128 = h.val; omega)
  have hd : (⟨j.val % 128, Nat.mod_lt _ (by decide)⟩ : Fin 128) = d := Fin.ext (by show j.val % 128 = d.val; omega)
  unfold heads
  rw [hj, hd]
  have hc : ∀ (y : Vec Ideal S256x1024 .bf16), (fun (a : Fin 256) (d : Fin 128) =>
      View.ld y (Rect.unit (s := S256x1024) ![0, 128 * h.val] S256x128.size inb) (ix2 a d)) = cols y h := fun y => by
    funext a d
    refine congrArg y (funext fun (b : Fin 2) => ?_)
    match b with
    | ⟨0, _⟩ => exact Fin.ext (show 0 + 1 * a.val = a.val by omega)
    | ⟨1, _⟩ => exact Fin.ext (show 128 * h.val + 1 * d.val = 128 * h.val + d.val by omega)
  rw [hc x0, hc x1, hc x2]
  have hl : k0_pay3 (View.ld x3 r0_0) (ix2 0 0) = x3 (ix2 0 0) := by
    unfold k0_pay3
    pointwise
  have hs : (fun d : Fin 128 => View.ld x4 r0_17 (ix2 0 d)) = fun d => x4 (ix2 0 d) := by
    funext d
    refine congrArg x4 (funext fun (b : Fin 2) => ?_)
    match b with
    | ⟨0, _⟩ => rfl
    | ⟨1, _⟩ => exact Fin.ext (show 0 + 1 * d.val = d.val by omega)
  rw [hl, hs]

/-- THE RESULT'S BLOCK. -/
theorem out5_apply (hx0 : ∀ i, Real' (x0 i)) (hx1 : ∀ i, Real' (x1 i)) (a : Fin 256) (j : Fin 1024) :
    out0_5 x0 x1 x2 x3 x4 (ix2 a j) = heads x0 x1 x2 x3 x4 a j := by
  unfold out0_5
  rw [piece1, piece2, piece3, piece4, piece5, piece6, piece7, piece8]
  refine View.canon_eq_of_allAt _ _ _ (cover0_5 _ _ _ _ _ _ _ _ _) ?_
  refine View.allAt_cons_unit _ _ _ _ _ (fun x hx => tile_eq x0 x1 x2 x3 x4 hx0 hx1 7 _ a j x ((hx 0).trans (Nat.zero_add _)) (hx 1)) ?_
  refine View.allAt_cons_unit _ _ _ _ _ (fun x hx => tile_eq x0 x1 x2 x3 x4 hx0 hx1 6 _ a j x ((hx 0).trans (Nat.zero_add _)) (hx 1)) ?_
  refine View.allAt_cons_unit _ _ _ _ _ (fun x hx => tile_eq x0 x1 x2 x3 x4 hx0 hx1 5 _ a j x ((hx 0).trans (Nat.zero_add _)) (hx 1)) ?_
  refine View.allAt_cons_unit _ _ _ _ _ (fun x hx => tile_eq x0 x1 x2 x3 x4 hx0 hx1 4 _ a j x ((hx 0).trans (Nat.zero_add _)) (hx 1)) ?_
  refine View.allAt_cons_unit _ _ _ _ _ (fun x hx => tile_eq x0 x1 x2 x3 x4 hx0 hx1 3 _ a j x ((hx 0).trans (Nat.zero_add _)) (hx 1)) ?_
  refine View.allAt_cons_unit _ _ _ _ _ (fun x hx => tile_eq x0 x1 x2 x3 x4 hx0 hx1 2 _ a j x ((hx 0).trans (Nat.zero_add _)) (hx 1)) ?_
  refine View.allAt_cons_unit _ _ _ _ _ (fun x hx => tile_eq x0 x1 x2 x3 x4 hx0 hx1 1 _ a j x ((hx 0).trans (Nat.zero_add _)) (hx 1)) ?_
  refine View.allAt_cons_unit _ _ _ _ _ (fun x hx => tile_eq x0 x1 x2 x3 x4 hx0 hx1 0 _ a j x ((hx 0).trans (Nat.zero_add _)) (hx 1)) ?_
  exact View.allAt_nil _ _

/-- A head's keys or values as the body stores them. -/
def kept (x : Vec Ideal S256x128 .bf16) : FVec Ideal S1x1x1x256x128 .f32 := k0_pay16 x
theorem kept_apply (x : Vec Ideal S256x128 .bf16) (u v w : Fin 1) (a : Fin 256) (d : Fin 128) : kept x (ix5 u v w a d) = x (ix2 a d) := by
  unfold kept k0_pay16
  pointwise

theorem kept_tile (x : Vec Ideal S256x1024 .bf16) (h : Fin 8) (inb) (y : S1x1x8x256x128.Idx) (z : S1x1x1x256x128.Idx)
    (e2 : (y 2).val = h.val + (z 2).val) (e3 : (y 3).val = 0 + (z 3).val) (e4 : (y 4).val = 0 + (z 4).val) :
    kept (View.ld x (Rect.unit (s := S256x1024) ![0, 128 * h.val] S256x128.size inb)) z = cols x (y 2) (y 3) (y 4) := by
  obtain ⟨u, v, w, a, d, rfl⟩ : ∃ (u v w : Fin 1) (a : Fin 256) (d : Fin 128), z = ix5 u v w a d := ⟨z 0, z 1, z 2, z 3, z 4, eq_ix5 z⟩
  refine (kept_apply _ u v w a d).trans ?_
  have hw : w.val = 0 := by omega
  have f2 : (y 2).val = h.val := e2.trans (by show h.val + w.val = h.val; omega)
  have f3 : (y 3).val = a.val := e3.trans (Nat.zero_add _)
  have f4 : (y 4).val = d.val := e4.trans (Nat.zero_add _)
  refine congrArg x (funext fun (b : Fin 2) => ?_)
  match b with
  | ⟨0, _⟩ => exact Fin.ext (show 0 + 1 * a.val = (y 3).val by omega)
  | ⟨1, _⟩ => exact Fin.ext (show 128 * h.val + 1 * d.val = 128 * (y 2).val + (y 4).val by omega)

/-- THE KEYS' BLOCK and THE VALUES' BLOCK: the heads' columns. -/
theorem out6_apply (y : S1x1x8x256x128.Idx) : out0_6 x0 x1 x2 x3 x4 y = cols x1 (y 2) (y 3) (y 4) := by
  unfold out0_6
  refine View.canon_eq_of_allAt _ _ _ (cover0_6 _ _ _ _ _ _ _ _ _) ?_
  refine View.allAt_cons_unit _ _ _ _ _ (fun z hz => kept_tile x1 7 inb_S256x1024_S256x128_0_896 y z (hz 2) (hz 3) (hz 4)) ?_
  refine View.allAt_cons_unit _ _ _ _ _ (fun z hz => kept_tile x1 6 inb_S256x1024_S256x128_0_768 y z (hz 2) (hz 3) (hz 4)) ?_
  refine View.allAt_cons_unit _ _ _ _ _ (fun z hz => kept_tile x1 5 inb_S256x1024_S256x128_0_640 y z (hz 2) (hz 3) (hz 4)) ?_
  refine View.allAt_cons_unit _ _ _ _ _ (fun z hz => kept_tile x1 4 inb_S256x1024_S256x128_0_512 y z (hz 2) (hz 3) (hz 4)) ?_
  refine View.allAt_cons_unit _ _ _ _ _ (fun z hz => kept_tile x1 3 inb_S256x1024_S256x128_0_384 y z (hz 2) (hz 3) (hz 4)) ?_
  refine View.allAt_cons_unit _ _ _ _ _ (fun z hz => kept_tile x1 2 inb_S256x1024_S256x128_0_256 y z (hz 2) (hz 3) (hz 4)) ?_
  refine View.allAt_cons_unit _ _ _ _ _ (fun z hz => kept_tile x1 1 inb_S256x1024_S256x128_0_128 y z (hz 2) (hz 3) (hz 4)) ?_
  refine View.allAt_cons_unit _ _ _ _ _ (fun z hz => kept_tile x1 0 inb_S256x1024_S256x128_0_0 y z (hz 2) (hz 3) (hz 4)) ?_
  exact View.allAt_nil _ _
theorem out7_apply (y : S1x1x8x256x128.Idx) : out0_7 x0 x1 x2 x3 x4 y = cols x2 (y 2) (y 3) (y 4) := by
  unfold out0_7
  refine View.canon_eq_of_allAt _ _ _ (cover0_7 _ _ _ _ _ _ _ _ _) ?_
  refine View.allAt_cons_unit _ _ _ _ _ (fun z hz => kept_tile x2 7 inb_S256x1024_S256x128_0_896 y z (hz 2) (hz 3) (hz 4)) ?_
  refine View.allAt_cons_unit _ _ _ _ _ (fun z hz => kept_tile x2 6 inb_S256x1024_S256x128_0_768 y z (hz 2) (hz 3) (hz 4)) ?_
  refine View.allAt_cons_unit _ _ _ _ _ (fun z hz => kept_tile x2 5 inb_S256x1024_S256x128_0_640 y z (hz 2) (hz 3) (hz 4)) ?_
  refine View.allAt_cons_unit _ _ _ _ _ (fun z hz => kept_tile x2 4 inb_S256x1024_S256x128_0_512 y z (hz 2) (hz 3) (hz 4)) ?_
  refine View.allAt_cons_unit _ _ _ _ _ (fun z hz => kept_tile x2 3 inb_S256x1024_S256x128_0_384 y z (hz 2) (hz 3) (hz 4)) ?_
  refine View.allAt_cons_unit _ _ _ _ _ (fun z hz => kept_tile x2 2 inb_S256x1024_S256x128_0_256 y z (hz 2) (hz 3) (hz 4)) ?_
  refine View.allAt_cons_unit _ _ _ _ _ (fun z hz => kept_tile x2 1 inb_S256x1024_S256x128_0_128 y z (hz 2) (hz 3) (hz 4)) ?_
  refine View.allAt_cons_unit _ _ _ _ _ (fun z hz => kept_tile x2 0 inb_S256x1024_S256x128_0_0 y z (hz 2) (hz 3) (hz 4)) ?_
  exact View.allAt_nil _ _

end Cert.Attn

end
-- ==== Proof.AttnReference.lean ====
/- What the reference of the attention computes, at the ideal instance, one stage after another. -/
module

public import proofs.«01_k».proof.Proof.Gen.Reference3Ideal.Run
public import proofs.«01_k».proof.Proof.AttnSpec

@[expose] public section

noncomputable section

namespace Cert.Attn

open Idealize.ShloMosaic Idealize.ShloMosaic.TcCoe Idealize.SL.Sem

/-- The result: batch row `r / 256`, query `r % 256`, head `j / 128`, column `j % 128` of the attention over the activations' columns. -/
def part (z : (⟨2, ![6144, 11264]⟩ : Shape).Idx → EReal) (o : ℕ) (ho : o ≤ 10240) (b : Fin 16) (h : Fin 8) (a : Fin 256) (d : Fin 128) : EReal :=
  z (ix2 ⟨256 * b.val + a.val, by omega⟩ ⟨o + (128 * h.val + d.val), by omega⟩)
def context (z : (⟨2, ![6144, 11264]⟩ : Shape).Idx → EReal) (x : (⟨3, ![1, 4, 64]⟩ : Shape).Idx → EReal) (w : (⟨2, ![1, 128]⟩ : Shape).Idx → EReal)
    (b : Fin 16) (h : Fin 8) (a : Fin 256) (j : Fin 128) : EReal :=
  head (lamOf x) (part z 4096 (by omega) b h) (part z 5120 (by omega) b h) (part z 6144 (by omega) b h) (fun d => w (ix2 0 d)) a j

theorem at_eq {n k : ℕ} (z : (⟨2, ![n, k]⟩ : Shape).Idx → EReal) {r r' : Fin n} {j j' : Fin k} (hr : r.val = r'.val) (hj : j.val = j'.val) : z (ix2 r j) = z (ix2 r' j') := by
  rw [Fin.ext hr, Fin.ext hj]

theorem rowMax_gen {n0 n1 n2 n3 n4 : ℕ} (s : FVec Ideal ⟨5, ![n0, n1, n2, n3, n4]⟩ .f32)
    (h : (⟨5, ![n0, n1, n2, n3, n4]⟩ : Shape).ReducesTo [4] ⟨4, ![n0, n1, n2, n3]⟩) {u : Shape} (c : FVec Ideal u .f32) (hu : 0 < u.numel)
    (i : Fin n0) (j : Fin n1) (k : Fin n2) (l : Fin n3) :
    Host.reduce FloatOps.maximumf s c h hu (ix4 i j k l)
      = Finset.univ.fold max (c (Shape.Idx.first hu)) fun x : Fin n4 => s (ix5 i j k l x) := by
  pointwise

open Cert.Reference3Ideal Cert.Reference3Ideal.Gen

/-- The halves of the queries' or the keys' heads, and the values' heads. -/
def rHalves (o : Fin 2 → ℕ) (hs : S4096x11264.Slices o S4096x1024) (z : FVec Ideal S6144x11264 .bf16) : FVec Ideal S16x256x8x2x64 .f32 :=
  shapeCast _ (extractStridedSlice S4096x1024 o (extf .f32 (extractStridedSlice S4096x11264 ![0, 0] z slices_S6144x11264_S4096x11264_0_0) bitsLt_bf16_f32) hs) shapeCasts_S4096x1024_S16x256x8x2x64
def rValues (z : FVec Ideal S6144x11264 .bf16) : FVec Ideal S16x256x8x128 .f32 :=
  shapeCast _ (extractStridedSlice S4096x1024 ![0, 6144] (extf .f32 (extractStridedSlice S4096x11264 ![0, 0] z slices_S6144x11264_S4096x11264_0_0) bitsLt_bf16_f32) slices_S4096x11264_S4096x1024_0_6144) shapeCasts_S4096x1024_S16x256x8x128
def rScores (q k : FVec Ideal S16x256x8x2x64 .f32) : FVec Ideal S16x8x2x256x256 .f32 :=
  mulf (Host.dotGeneral dot_S16x256x8x2x64_S16x256x8x2x64_S16x8x2x256x256_4_4_1_1_023_023 none q k) (broadcastInDim S16x8x2x256x256 ![] bcast_S_S16x8x2x256x256 (constant S_ .f32 0x3E000000#32))
def rMax (s : FVec Ideal S16x8x2x256x256 .f32) : FVec Ideal S16x8x2x256 .f32 :=
  Host.reduce FloatOps.maximumf s (constant S_ .f32 0xFF800000#32) reducesTo_S16x8x2x256x256_S16x8x2x256_d4 h_S_
def rExp (s : FVec Ideal S16x8x2x256x256 .f32) (M : FVec Ideal S16x8x2x256 .f32) : FVec Ideal S16x8x2x256x256 .f32 :=
  Host.exp (subf s (broadcastInDim S16x8x2x256x256 ![0, 1, 2, 3, 4] bcast_S16x8x2x256x1_S16x8x2x256x256_0_1_2_3_4 (broadcastInDim S16x8x2x256x1 ![0, 1, 2, 3] bcast_S16x8x2x256_S16x8x2x256x1_0_1_2_3 (maximumf (broadcastInDim S16x8x2x256 ![] bcast_S_S16x8x2x256 (constant S_ .f32 0xFF800000#32)) M))))
def rSum (e : FVec Ideal S16x8x2x256x256 .f32) : FVec Ideal S16x8x2x256 .f32 :=
  Host.reduceAdd e (constant S_ .f32 0x00000000#32) reducesTo_S16x8x2x256x256_S16x8x2x256_d4 h_S_
def rProb (e : FVec Ideal S16x8x2x256x256 .f32) (S : FVec Ideal S16x8x2x256 .f32) : FVec Ideal S16x8x2x256x256 .f32 :=
  Host.divf e (broadcastInDim S16x8x2x256x256 ![0, 1, 2, 3, 4] bcast_S16x8x2x256x1_S16x8x2x256x256_0_1_2_3_4 (broadcastInDim S16x8x2x256x1 ![0, 1, 2, 3] bcast_S16x8x2x256_S16x8x2x256x1_0_1_2_3 S))
def rRow (k : Fin 2 → ℕ) (hs : S4x64.Slices k S1x64) (x : FVec Ideal S1x4x64 .f32) : FVec Ideal S64 .f32 :=
  shapeCast _ (extractStridedSlice S1x64 k (shapeCast _ x shapeCasts_S1x4x64_S4x64) hs) shapeCasts_S1x64_S64
def rLam (x : FVec Ideal S1x4x64 .f32) : FVec Ideal S_ .f32 :=
  addf (subf (Host.exp (Host.reduceAdd (mulf (rRow ![0, 0] slices_S4x64_S1x64_0_0 x) (rRow ![1, 0] slices_S4x64_S1x64_1_0 x)) (constant S_ .f32 0x00000000#32) reducesTo_S64_S_d0 h_S_))
    (Host.exp (Host.reduceAdd (mulf (rRow ![2, 0] slices_S4x64_S1x64_2_0 x) (rRow ![3, 0] slices_S4x64_S1x64_3_0 x)) (constant S_ .f32 0x00000000#32) reducesTo_S64_S_d0 h_S_)))
    (constant S_ .f32 0x3E4CCCCD#32)
def rMix (l : FVec Ideal S_ .f32) (P : FVec Ideal S16x8x2x256x256 .f32) : FVec Ideal S16x8x256x256 .f32 :=
  subf (shapeCast _ (extractStridedSlice S16x8x1x256x256 ![0, 0, 0, 0, 0] P slices_S16x8x2x256x256_S16x8x1x256x256_0_0_0_0_0) shapeCasts_S16x8x1x256x256_S16x8x256x256)
    (mulf (broadcastInDim S16x8x256x256 ![] bcast_S_S16x8x256x256 l)
      (shapeCast _ (extractStridedSlice S16x8x1x256x256 ![0, 0, 1, 0, 0] P slices_S16x8x2x256x256_S16x8x1x256x256_0_0_1_0_0) shapeCasts_S16x8x1x256x256_S16x8x256x256))
def rCtx (v : FVec Ideal S16x256x8x128 .f32) (A : FVec Ideal S16x8x256x256 .f32) : FVec Ideal S16x256x8x128 .f32 :=
  transpose S16x256x8x128 [0, 3, 1, 2] (Host.dotGeneral dot_S16x256x8x128_S16x8x256x256_S16x8x128x256_1_3_3_2_02_01 none v A) transposes_S16x8x128x256_S16x256x8x128_0_3_1_2
def rSquares (c : FVec Ideal S16x256x8x128 .f32) : FVec Ideal S16x256x8 .f32 :=
  Host.reduceAdd (mulf c c) (constant S_ .f32 0x00000000#32) reducesTo_S16x256x8x128_S16x256x8_d3 h_S_
def rNorm (c : FVec Ideal S16x256x8x128 .f32) (S : FVec Ideal S16x256x8 .f32) (w : FVec Ideal S1x128 .f32) : FVec Ideal S16x256x8x128 .f32 :=
  mulf (mulf (mulf c (broadcastInDim S16x256x8x128 ![0, 1, 2, 3] bcast_S16x256x8x1_S16x256x8x128_0_1_2_3
      (Host.rsqrt (addf (Host.divf (broadcastInDim S16x256x8x1 ![0, 1, 2] bcast_S16x256x8_S16x256x8x1_0_1_2 S)
        (broadcastInDim S16x256x8x1 ![] bcast_S_S16x256x8x1 (constant S_ .f32 0x43000000#32)))
        (broadcastInDim S16x256x8x1 ![] bcast_S_S16x256x8x1 (constant S_ .f32 0x358637BD#32))))))
    (broadcastInDim S16x256x8x128 ![0, 1, 2, 3] bcast_S1x1x1x128_S16x256x8x128_0_1_2_3 (broadcastInDim S1x1x1x128 ![3] bcast_S128_S1x1x1x128_3 (shapeCast _ w shapeCasts_S1x128_S128))))
    (broadcastInDim S16x256x8x128 ![] bcast_S_S16x256x8x128 (constant S_ .f32 0x3F4CCCCD#32))
def rOut (n : FVec Ideal S16x256x8x128 .f32) : FVec Ideal S4096x1024 .bf16 :=
  truncf .bf16 (shapeCast _ n shapeCasts_S16x256x8x128_S4096x1024) bitsLt_bf16_f32
def rKept (n : FVec Ideal S16x256x8x128 .f32) : FVec Ideal S16x1x8x256x128 .f32 :=
  broadcastInDim S16x1x8x256x128 ![0, 2, 3, 4] bcast_S16x8x256x128_S16x1x8x256x128_0_2_3_4 (transpose S16x8x256x128 [0, 2, 1, 3] n transposes_S16x256x8x128_S16x8x256x128_0_2_1_3)

theorem rHalves_apply (o : ℕ) (ho : o ≤ 10240) (hs : S4096x11264.Slices ![0, o] S4096x1024) (z : FVec Ideal S6144x11264 .bf16) (b : Fin 16) (a : Fin 256)
    (h : Fin 8) (d : Fin 64) : rHalves ![0, o] hs z (ix5 b a h 0 d) = first (part z o ho b h a) d
      ∧ rHalves ![0, o] hs z (ix5 b a h 1 d) = second (part z o ho b h a) d := by
  unfold rHalves first second part
  constructor
  · pointwise
    refine at_eq z ?_ ?_ <;> dsimp only <;> omega
  · pointwise
    refine at_eq z ?_ ?_ <;> dsimp only <;> omega
theorem rValues_apply (z : FVec Ideal S6144x11264 .bf16) (b : Fin 16) (a : Fin 256) (h : Fin 8) (d : Fin 128) :
    rValues z (ix4 b a h d) = part z 6144 (by omega) b h a d := by
  unfold rValues part
  pointwise
  refine at_eq z ?_ ?_ <;> dsimp only <;> omega
theorem rScores_apply (q k : FVec Ideal S16x256x8x2x64 .f32) (b : Fin 16) (h : Fin 8) (m : Fin 2) (a x : Fin 256) :
    rScores q k (ix5 b h m a x) = score (fun d => q (ix5 b a h m d)) (fun d => k (ix5 b x h m d)) := by
  unfold rScores score
  pointwise
theorem rMax_apply (s : FVec Ideal S16x8x2x256x256 .f32) (b : Fin 16) (h : Fin 8) (m : Fin 2) (a : Fin 256) :
    rMax s (ix4 b h m a) = rowMax (fun x => s (ix5 b h m a x)) := rowMax_gen s _ _ _ b h m a
theorem rExp_apply (s : FVec Ideal S16x8x2x256x256 .f32) (M : FVec Ideal S16x8x2x256 .f32) (b : Fin 16) (h : Fin 8) (m : Fin 2) (a x : Fin 256)
    (hM : M (ix4 b h m a) = rowMax (fun x => s (ix5 b h m a x))) :
    rExp s M (ix5 b h m a x) = weight (fun x => s (ix5 b h m a x)) x := by
  unfold weight
  rw [← hM, ← max_least (M (ix4 b h m a))]
  unfold rExp
  pointwise
theorem rSum_apply (e : FVec Ideal S16x8x2x256x256 .f32) (b : Fin 16) (h : Fin 8) (m : Fin 2) (a : Fin 256) :
    rSum e (ix4 b h m a) = ∑ x : Fin 256, e (ix5 b h m a x) := by
  unfold rSum
  pointwise
theorem rProb_apply (e : FVec Ideal S16x8x2x256x256 .f32) (S : FVec Ideal S16x8x2x256 .f32) (b : Fin 16) (h : Fin 8) (m : Fin 2) (a x : Fin 256) :
    rProb e S (ix5 b h m a x) = Ideal.div (e (ix5 b h m a x)) (S (ix4 b h m a)) := by
  unfold rProb
  pointwise
theorem rLam_apply (x : FVec Ideal S1x4x64 .f32) (i : S_.Idx) : rLam x i = lamOf x := by
  unfold rLam lamOf rRow
  pointwise
theorem rMix_apply (l : FVec Ideal S_ .f32) (P : FVec Ideal S16x8x2x256x256 .f32) (b : Fin 16) (h : Fin 8) (a x : Fin 256) :
    rMix l P (ix4 b h a x) = P (ix5 b h 0 a x) - l ix0 * P (ix5 b h 1 a x) := by
  unfold rMix
  pointwise
theorem rCtx_apply (v : FVec Ideal S16x256x8x128 .f32) (A : FVec Ideal S16x8x256x256 .f32) (b : Fin 16) (a : Fin 256) (h : Fin 8) (d : Fin 128) :
    rCtx v A (ix4 b a h d) = ∑ x : Fin 256, A (ix4 b h a x) * v (ix4 b x h d) := by
  unfold rCtx
  pointwise
  exact Finset.sum_congr rfl fun x _ => mul_comm _ _
theorem rSquares_apply (c : FVec Ideal S16x256x8x128 .f32) (b : Fin 16) (a : Fin 256) (h : Fin 8) :
    rSquares c (ix3 b a h) = ∑ x : Fin 128, c (ix4 b a h x) * c (ix4 b a h x) := by
  unfold rSquares
  pointwise
theorem rNorm_apply (c : FVec Ideal S16x256x8x128 .f32) (S : FVec Ideal S16x256x8 .f32) (w : FVec Ideal S1x128 .f32) (b : Fin 16) (a : Fin 256) (h : Fin 8) (d : Fin 128)
    (hS : S (ix3 b a h) = ∑ x : Fin 128, c (ix4 b a h x) * c (ix4 b a h x)) :
    rNorm c S w (ix4 b a h d) = normed (fun x => c (ix4 b a h x)) (fun x => w (ix2 0 x)) d := by
  unfold normed
  rw [← hS]
  unfold rNorm
  pointwise
theorem rOut_apply (n : FVec Ideal S16x256x8x128 .f32) (r : Fin 4096) (j : Fin 1024) :
    rOut n (ix2 r j) = n (ix4 ⟨r.val / 256, by omega⟩ ⟨r.val % 256, by omega⟩ ⟨j.val / 128, by omega⟩ ⟨j.val % 128, by omega⟩) := by
  unfold rOut
  pointwise
theorem rKept_apply (n : FVec Ideal S16x256x8x128 .f32) (b : Fin 16) (u : Fin 1) (h : Fin 8) (a : Fin 256) (d : Fin 128) :
    rKept n (ix5 b u h a d) = n (ix4 b a h d) := by
  unfold rKept
  pointwise

/-- A softmax map of the scores. -/
def rSoftmax (s : FVec Ideal S16x8x2x256x256 .f32) : FVec Ideal S16x8x2x256x256 .f32 := rProb (rExp s (rMax s)) (rSum (rExp s (rMax s)))
theorem rSoftmax_apply (s : FVec Ideal S16x8x2x256x256 .f32) (b : Fin 16) (h : Fin 8) (m : Fin 2) (a x : Fin 256) :
    rSoftmax s (ix5 b h m a x) = prob (fun x => s (ix5 b h m a x)) x := by
  have he : ∀ y, rExp s (rMax s) (ix5 b h m a y) = weight (fun x => s (ix5 b h m a x)) y := fun y => rExp_apply s _ b h m a y (rMax_apply s b h m a)
  refine (rProb_apply _ _ b h m a x).trans ?_
  unfold prob
  exact congrArg₂ Ideal.div (he x) ((rSum_apply _ b h m a).trans (Finset.sum_congr rfl fun y _ => he y))
/-- The mixed values, normalised. -/
def rHeads (l : FVec Ideal S_ .f32) (q k : FVec Ideal S16x256x8x2x64 .f32) (v : FVec Ideal S16x256x8x128 .f32) : FVec Ideal S16x256x8x128 .f32 :=
  rCtx v (rMix l (rSoftmax (rScores q k)))
theorem rHeads_apply (l : FVec Ideal S_ .f32) (q k : FVec Ideal S16x256x8x2x64 .f32) (v : FVec Ideal S16x256x8x128 .f32) (b : Fin 16) (a : Fin 256) (h : Fin 8) (d : Fin 128) :
    rHeads l q k v (ix4 b a h d) = mix (l ix0) (fun x => score (fun e => q (ix5 b a h 0 e)) (fun e => k (ix5 b x h 0 e)))
      (fun x => score (fun e => q (ix5 b a h 1 e)) (fun e => k (ix5 b x h 1 e))) (fun x => v (ix4 b x h d)) := by
  refine (rCtx_apply _ _ b a h d).trans (Finset.sum_congr rfl fun x _ => congrArg (· * v (ix4 b x h d)) ?_)
  refine (rMix_apply _ _ b h a x).trans ?_
  have hs : ∀ m : Fin 2, rSoftmax (rScores q k) (ix5 b h m a x) = prob (fun x => score (fun e => q (ix5 b a h m e)) (fun e => k (ix5 b x h m e))) x := fun m =>
    (rSoftmax_apply _ b h m a x).trans (congrArg (prob · x) (funext fun y => rScores_apply q k b h m a y))
  rw [hs 0, hs 1]

/-- The reference's three results. -/
def ob (z : FVec Ideal S6144x11264 .bf16) (x : FVec Ideal S1x4x64 .f32) (w : FVec Ideal S1x128 .f32) : FVec Ideal S4096x1024 .bf16 :=
  let C := rHeads (rLam x) (rHalves ![0, 4096] slices_S4096x11264_S4096x1024_0_4096 z) (rHalves ![0, 5120] slices_S4096x11264_S4096x1024_0_5120 z) (rValues z)
  rOut (rNorm C (rSquares C) w)
theorem ob_apply (z : FVec Ideal S6144x11264 .bf16) (x : FVec Ideal S1x4x64 .f32) (w : FVec Ideal S1x128 .f32) (r : Fin 4096) (j : Fin 1024) :
    ob z x w (ix2 r j) = context z x w ⟨r.val / 256, by omega⟩ ⟨j.val / 128, by omega⟩ ⟨r.val % 256, by omega⟩ ⟨j.val % 128, by omega⟩ := by
  refine (rOut_apply _ r j).trans ((rNorm_apply _ _ w _ _ _ _ (rSquares_apply _ _ _ _)).trans ?_)
  unfold context head
  refine congrArg (normed · _ _) (funext fun e => ?_)
  refine (rHeads_apply _ _ _ _ _ _ _ e).trans ?_
  simp only [rLam_apply, (rHalves_apply _ (by omega : 4096 ≤ 10240) _ z _ _ _ _).1, (rHalves_apply _ (by omega : 4096 ≤ 10240) _ z _ _ _ _).2,
    (rHalves_apply _ (by omega : 5120 ≤ 10240) _ z _ _ _ _).1, (rHalves_apply _ (by omega : 5120 ≤ 10240) _ z _ _ _ _).2, rValues_apply]
/-- The same as functions of an index. -/
def obOf (z : FVec Ideal S6144x11264 .bf16) (x : FVec Ideal S1x4x64 .f32) (w : FVec Ideal S1x128 .f32) (i : S4096x1024.Idx) : EReal :=
  context z x w ⟨(i 0).val / 256, Nat.div_lt_of_lt_mul (i 0).isLt⟩ ⟨(i 1).val / 128, Nat.div_lt_of_lt_mul (i 1).isLt⟩ ⟨(i 0).val % 256, Nat.mod_lt _ (by decide)⟩
    ⟨(i 1).val % 128, Nat.mod_lt _ (by decide)⟩
def keptOf (o : ℕ) (ho : o ≤ 10240) (z : FVec Ideal S6144x11264 .bf16) (y : S16x1x8x256x128.Idx) : EReal := part z o ho (y 0) (y 2) (y 3) (y 4)

variable (m : (ℓ : Loc nD τ sig) → Buf (Elt Ideal) ℓ) (c : Dev nD)

theorem reference_ob : Cert.Reference3Ideal.Value.res_main_v68 m c
    = obOf (m ((c.tc : Thread nD τ).loc main_arg0)) (m ((c.tc : Thread nD τ).loc main_arg1)) (m ((c.tc : Thread nD τ).loc main_arg2)) := by
  refine Eq.trans (b := ob (m ((c.tc : Thread nD τ).loc main_arg0)) (m ((c.tc : Thread nD τ).loc main_arg1)) (m ((c.tc : Thread nD τ).loc main_arg2))) ?_ (funext fun i => ?_)
  · unfold Cert.Reference3Ideal.Value.res_main_v68
    rfl
  · obtain ⟨r, j, rfl⟩ : ∃ (r : Fin 4096) (j : Fin 1024), i = ix2 r j := ⟨i 0, i 1, eq_ix2 i⟩
    exact ob_apply _ _ _ r j

/-- The key heads from their halves. -/
theorem joined_apply (z : FVec Ideal S6144x11264 .bf16) (b : Fin 16) (a : Fin 256) (h : Fin 8) (d : Fin 128) :
    shapeCast S16x256x8x128 (rHalves ![0, 5120] slices_S4096x11264_S4096x1024_0_5120 z) shapeCasts_S16x256x8x2x64_S16x256x8x128 (ix4 b a h d)
      = part z 5120 (by omega) b h a d := by
  unfold rHalves part
  pointwise
  refine at_eq z ?_ ?_ <;> dsimp only <;> omega
theorem keys_eq (z : FVec Ideal S6144x11264 .bf16) :
    rKept (shapeCast _ (rHalves ![0, 5120] slices_S4096x11264_S4096x1024_0_5120 z) shapeCasts_S16x256x8x2x64_S16x256x8x128) = keptOf 5120 (by omega) z := by
  funext y
  obtain ⟨b, u, h, a, d, rfl⟩ : ∃ (b : Fin 16) (u : Fin 1) (h : Fin 8) (a : Fin 256) (d : Fin 128), y = ix5 b u h a d := ⟨y 0, y 1, y 2, y 3, y 4, eq_ix5 y⟩
  exact (rKept_apply _ b u h a d).trans (joined_apply z b a h d)
theorem values_eq (z : FVec Ideal S6144x11264 .bf16) : rKept (rValues z) = keptOf 6144 (by omega) z := by
  funext y
  obtain ⟨b, u, h, a, d, rfl⟩ : ∃ (b : Fin 16) (u : Fin 1) (h : Fin 8) (a : Fin 256) (d : Fin 128), y = ix5 b u h a d := ⟨y 0, y 1, y 2, y 3, y 4, eq_ix5 y⟩
  exact (rKept_apply _ b u h a d).trans (rValues_apply z b a h d)

end Cert.Attn

end
-- ==== Proof.Attn.lean ====
/- What the attention kernel's result arrays hold after the run, at the ideal instance. -/
module

public import proofs.«01_k».proof.Proof.AttnHead
public import proofs.«01_k».proof.Proof.AttnReference

@[expose] public section

set_option maxRecDepth 16384

noncomputable section

namespace Cert.Attn

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- Where the windows stand at grid point `t`: row block `t`, the queries', keys' and values' columns. -/
theorem places : ∀ t : Fin cfg0.N, win0_0.index t = ![t.val, 4] ∧ win0_1.index t = ![t.val, 5] ∧ win0_2.index t = ![t.val, 6]
    ∧ win0_3.index t = ![0, 0] ∧ win0_4.index t = ![0, 0] ∧ win0_5.index t = ![t.val, 0] ∧ win0_6.index t = ![t.val, 0, 0, 0, 0]
    ∧ win0_7.index t = ![t.val, 0, 0, 0, 0] :=
  (by decide +kernel : ∀ t : Fin grid0.N, win0_0.index t = ![t.val, 4] ∧ win0_1.index t = ![t.val, 5] ∧ win0_2.index t = ![t.val, 6]
    ∧ win0_3.index t = ![0, 0] ∧ win0_4.index t = ![0, 0] ∧ win0_5.index t = ![t.val, 0] ∧ win0_6.index t = ![t.val, 0, 0, 0, 0]
    ∧ win0_7.index t = ![t.val, 0, 0, 0, 0])

/-- The activations, the second map's vectors and the norm's weight. -/
abbrev Z (c : Dev nD) : S6144x11264.Idx → EReal := m ((c : Thread nD τ).loc main_arg0)
abbrev X (c : Dev nD) : S1x4x64.Idx → EReal := m ((c : Thread nD τ).loc main_arg1)
abbrev W (c : Dev nD) : S1x128.Idx → EReal := m ((c : Thread nD τ).loc main_arg2)

theorem q_apply (c : Dev nD) (t : Fin cfg0.N) (b : Fin 16) (hb : b.val = t.val) (h : Fin 8) :
    cols (iblk m c 0 t) h = part (Z m c) 4096 (by omega) b h := by
  obtain ⟨e0, e1, e2, e3, e4, e5, e6, e7⟩ := places t
  funext a d
  unfold cols part
  blk_ext [iblk, V, e0]
theorem k_apply (c : Dev nD) (t : Fin cfg0.N) (b : Fin 16) (hb : b.val = t.val) (h : Fin 8) :
    cols (iblk m c 1 t) h = part (Z m c) 5120 (by omega) b h := by
  obtain ⟨e0, e1, e2, e3, e4, e5, e6, e7⟩ := places t
  funext a d
  unfold cols part
  blk_ext [iblk, V, e1]
theorem v_apply (c : Dev nD) (t : Fin cfg0.N) (b : Fin 16) (hb : b.val = t.val) (h : Fin 8) :
    cols (iblk m c 2 t) h = part (Z m c) 6144 (by omega) b h := by
  obtain ⟨e0, e1, e2, e3, e4, e5, e6, e7⟩ := places t
  funext a d
  unfold cols part
  blk_ext [iblk, V, e2]
theorem lam_apply (c : Dev nD) (t : Fin cfg0.N) : iblk m c 3 t (ix2 0 0) = lamOf (X m c) := by
  obtain ⟨e0, e1, e2, e3, e4, e5, e6, e7⟩ := places t
  have hV : V m c main_v17 (ix2 0 0) = lamOf (X m c) := by
    entry_read
    unfold lamOf
    pointwise
  rw [← hV]
  blk_ext [iblk, V, e3]
theorem sub_apply (c : Dev nD) (t : Fin cfg0.N) (d : Fin 128) : iblk m c 4 t (ix2 0 d) = W m c (ix2 0 d) := by
  obtain ⟨e0, e1, e2, e3, e4, e5, e6, e7⟩ := places t
  have hV : V m c main_v19 (ix2 0 d) = W m c (ix2 0 d) := by
    entry_read
    pointwise
  rw [← hV]
  blk_ext [iblk, V, e4]

/-- The scores' columns hold finite numbers. -/
def Finite (z : S6144x11264.Idx → EReal) : Prop := ∀ (r : Fin 4096) (j : Fin 2048), Real' (z (ix2 ⟨r.val, by omega⟩ ⟨4096 + j.val, by omega⟩))

theorem q_real (c : Dev nD) (hz : Finite (Z m c)) (t : Fin cfg0.N) (i : S256x1024.Idx) : Real' (iblk m c 0 t i) := by
  have ht : t.val < 16 := lt_of_lt_of_eq t.isLt N_0
  obtain ⟨a, j, rfl⟩ : ∃ (a : Fin 256) (j : Fin 1024), i = ix2 a j := ⟨i 0, i 1, eq_ix2 i⟩
  obtain ⟨e0, e1, e2, e3, e4, e5, e6, e7⟩ := places t
  have e : iblk m c 0 t (ix2 a j) = Z m c (ix2 ⟨256 * t.val + a.val, by omega⟩ ⟨4096 + j.val, by omega⟩) := by
    blk_ext [iblk, V, e0]
  exact e ▸ hz ⟨256 * t.val + a.val, by omega⟩ ⟨j.val, by omega⟩
theorem k_real (c : Dev nD) (hz : Finite (Z m c)) (t : Fin cfg0.N) (i : S256x1024.Idx) : Real' (iblk m c 1 t i) := by
  have ht : t.val < 16 := lt_of_lt_of_eq t.isLt N_0
  obtain ⟨a, j, rfl⟩ : ∃ (a : Fin 256) (j : Fin 1024), i = ix2 a j := ⟨i 0, i 1, eq_ix2 i⟩
  obtain ⟨e0, e1, e2, e3, e4, e5, e6, e7⟩ := places t
  have e : iblk m c 1 t (ix2 a j) = Z m c (ix2 ⟨256 * t.val + a.val, by omega⟩ ⟨4096 + (1024 + j.val), by omega⟩) := by
    blk_ext [iblk, V, e1]
  exact e ▸ hz ⟨256 * t.val + a.val, by omega⟩ ⟨1024 + j.val, by omega⟩

abbrev pointOf (b : ℕ) (hb : b < 16) : Fin cfg0.N := ⟨b, lt_of_lt_of_eq hb N_0.symm⟩

theorem final5 (c : Dev nD) (hz : Finite (Z m c)) : (dats m 0 c).arrAt 5 cfg0.N = obOf (Z m c) (X m c) (W m c) := by
  refine (dats m 0 c).arrAt_eq_of_cover 5 (obOf (Z m c) (X m c) (W m c)) (fun t hf => ?_) (fun (i : S4096x1024.Idx) => ?_)
  · refine (after0_5 m c t).trans (funext fun (y : S256x1024.Idx) => ?_)
    obtain ⟨a, j, rfl⟩ : ∃ (a : Fin 256) (j : Fin 1024), y = ix2 a j := ⟨y 0, y 1, eq_ix2 y⟩
    have ht : t.val < 16 := lt_of_lt_of_eq t.isLt N_0
    obtain ⟨e0, e1, e2, e3, e4, e5, e6, e7⟩ := places t
    refine (out5_apply _ _ _ _ _ (q_real m c hz t) (k_real m c hz t) a j).trans ?_
    have hi : ((cfg0.win 5).blk t).view.emb (ix2 a j) = (ix2 (⟨256 * t.val + a.val, by omega⟩ : Fin 4096) j : S4096x1024.Idx) := funext fun (b : Fin 2) => by
      match b with
      | ⟨0, _⟩ => exact Fin.ext (show win0_5.index t 0 * 256 + 1 * a.val = 256 * t.val + a.val by rw [e5]; show t.val * 256 + 1 * a.val = _; omega)
      | ⟨1, _⟩ => exact Fin.ext (show win0_5.index t 1 * 1024 + 1 * j.val = j.val by rw [e5]; show 0 * 1024 + 1 * j.val = _; omega)
    show _ = obOf (Z m c) (X m c) (W m c) (((cfg0.win 5).blk t).view.emb (ix2 a j))
    rw [hi]
    have hb : (⟨(256 * t.val + a.val) / 256, by omega⟩ : Fin 16) = ⟨t.val, ht⟩ := Fin.ext (by show (256 * t.val + a.val) / 256 = t.val; omega)
    have ha : (⟨(256 * t.val + a.val) % 256, by omega⟩ : Fin 256) = a := Fin.ext (by show (256 * t.val + a.val) % 256 = a.val; omega)
    show heads _ _ _ _ _ a j = context (Z m c) (X m c) (W m c) ⟨(256 * t.val + a.val) / 256, _⟩ ⟨j.val / 128, _⟩ ⟨(256 * t.val + a.val) % 256, _⟩ ⟨j.val % 128, _⟩
    rw [hb, ha]
    unfold heads context
    rw [lam_apply, q_apply m c t ⟨t.val, ht⟩ rfl, k_apply m c t ⟨t.val, ht⟩ rfl, v_apply m c t ⟨t.val, ht⟩ rfl]
    simp only [sub_apply]
  · have h0 : (i 0).val < 4096 := (i 0).isLt
    have h1 : (i 1).val < 1024 := (i 1).isLt
    refine ⟨pointOf ((i 0).val / 256) (by omega), flush0_5 _, ?_⟩
    obtain ⟨e0, e1, e2, e3, e4, e5, e6, e7⟩ := places (pointOf ((i 0).val / 256) (by omega))
    refine (congrArg (fun s => i ∈ s) (View.set_slice_whole (b := main_v20_0) ((cfg0.win 5).rect _))).mpr ?_
    refine Rect.mem_set_unit.mpr (fun (a : Fin 2) => ?_)
    match a with
    | ⟨0, _⟩ => exact (by rw [e5]; show (i 0).val / 256 * 256 ≤ _ ∧ _ < (i 0).val / 256 * 256 + 256; omega : win0_5.index (pointOf ((i 0).val / 256) (by omega)) 0 * 256 ≤ (i 0).val ∧ (i 0).val < win0_5.index (pointOf ((i 0).val / 256) (by omega)) 0 * 256 + 256)
    | ⟨1, _⟩ => exact (by rw [e5]; show 0 * 1024 ≤ _ ∧ _ < 0 * 1024 + 1024; omega : win0_5.index (pointOf ((i 0).val / 256) (by omega)) 1 * 1024 ≤ (i 1).val ∧ (i 1).val < win0_5.index (pointOf ((i 0).val / 256) (by omega)) 1 * 1024 + 1024)

theorem final6 (c : Dev nD) : (dats m 0 c).arrAt 6 cfg0.N = keptOf 5120 (by omega) (Z m c) := by
  refine (dats m 0 c).arrAt_eq_of_cover 6 (keptOf 5120 (by omega) (Z m c)) (fun t hf => ?_) (fun (i : S16x1x8x256x128.Idx) => ?_)
  · refine (after0_6 m c t).trans (funext fun (y : S1x1x8x256x128.Idx) => ?_)
    have ht : t.val < 16 := lt_of_lt_of_eq t.isLt N_0
    obtain ⟨e0, e1, e2, e3, e4, e5, e6, e7⟩ := places t
    obtain ⟨b, u, h, a, d, rfl⟩ : ∃ (b : Fin 1) (u : Fin 1) (h : Fin 8) (a : Fin 256) (d : Fin 128), y = ix5 b u h a d := ⟨y 0, y 1, y 2, y 3, y 4, eq_ix5 y⟩
    refine (out6_apply _ _ _ _ _ _).trans ?_
    have hi : ((cfg0.win 6).blk t).view.emb (ix5 b u h a d) = (ix5 (⟨t.val, ht⟩ : Fin 16) u h a d : S16x1x8x256x128.Idx) := funext fun (s : Fin 5) => by
      match s with
      | ⟨0, _⟩ => exact Fin.ext (show win0_6.index t 0 * 1 + 1 * b.val = t.val by rw [e6]; show t.val * 1 + 1 * b.val = _; omega)
      | ⟨1, _⟩ => exact Fin.ext (show win0_6.index t 1 * 1 + 1 * u.val = u.val by rw [e6]; show 0 * 1 + 1 * u.val = _; omega)
      | ⟨2, _⟩ => exact Fin.ext (show win0_6.index t 2 * 8 + 1 * h.val = h.val by rw [e6]; show 0 * 8 + 1 * h.val = _; omega)
      | ⟨3, _⟩ => exact Fin.ext (show win0_6.index t 3 * 256 + 1 * a.val = a.val by rw [e6]; show 0 * 256 + 1 * a.val = _; omega)
      | ⟨4, _⟩ => exact Fin.ext (show win0_6.index t 4 * 128 + 1 * d.val = d.val by rw [e6]; show 0 * 128 + 1 * d.val = _; omega)
    show _ = keptOf 5120 (by omega) (Z m c) (((cfg0.win 6).blk t).view.emb (ix5 b u h a d))
    rw [hi]
    exact congrFun (congrFun (k_apply m c t ⟨t.val, ht⟩ rfl h) a) d
  · have h0 : (i 0).val < 16 := (i 0).isLt
    have h1 : (i 1).val < 1 := (i 1).isLt
    have h2 : (i 2).val < 8 := (i 2).isLt
    have h3 : (i 3).val < 256 := (i 3).isLt
    have h4 : (i 4).val < 128 := (i 4).isLt
    refine ⟨pointOf (i 0).val h0, flush0_6 _, ?_⟩
    obtain ⟨e0, e1, e2, e3, e4, e5, e6, e7⟩ := places (pointOf (i 0).val h0)
    refine (congrArg (fun s => i ∈ s) (View.set_slice_whole (b := main_v20_1) ((cfg0.win 6).rect _))).mpr ?_
    refine Rect.mem_set_unit.mpr (fun (a : Fin 5) => ?_)
    match a with
    | ⟨0, _⟩ => exact (by rw [e6]; show (i 0).val * 1 ≤ _ ∧ _ < (i 0).val * 1 + 1; omega : win0_6.index (pointOf (i 0).val h0) 0 * 1 ≤ (i 0).val ∧ (i 0).val < win0_6.index (pointOf (i 0).val h0) 0 * 1 + 1)
    | ⟨1, _⟩ => exact (by rw [e6]; show 0 * 1 ≤ _ ∧ _ < 0 * 1 + 1; omega : win0_6.index (pointOf (i 0).val h0) 1 * 1 ≤ (i 1).val ∧ (i 1).val < win0_6.index (pointOf (i 0).val h0) 1 * 1 + 1)
    | ⟨2, _⟩ => exact (by rw [e6]; show 0 * 8 ≤ _ ∧ _ < 0 * 8 + 8; omega : win0_6.index (pointOf (i 0).val h0) 2 * 8 ≤ (i 2).val ∧ (i 2).val < win0_6.index (pointOf (i 0).val h0) 2 * 8 + 8)
    | ⟨3, _⟩ => exact (by rw [e6]; show 0 * 256 ≤ _ ∧ _ < 0 * 256 + 256; omega : win0_6.index (pointOf (i 0).val h0) 3 * 256 ≤ (i 3).val ∧ (i 3).val < win0_6.index (pointOf (i 0).val h0) 3 * 256 + 256)
    | ⟨4, _⟩ => exact (by rw [e6]; show 0 * 128 ≤ _ ∧ _ < 0 * 128 + 128; omega : win0_6.index (pointOf (i 0).val h0) 4 * 128 ≤ (i 4).val ∧ (i 4).val < win0_6.index (pointOf (i 0).val h0) 4 * 128 + 128)
theorem final7 (c : Dev nD) : (dats m 0 c).arrAt 7 cfg0.N = keptOf 6144 (by omega) (Z m c) := by
  refine (dats m 0 c).arrAt_eq_of_cover 7 (keptOf 6144 (by omega) (Z m c)) (fun t hf => ?_) (fun (i : S16x1x8x256x128.Idx) => ?_)
  · refine (after0_7 m c t).trans (funext fun (y : S1x1x8x256x128.Idx) => ?_)
    have ht : t.val < 16 := lt_of_lt_of_eq t.isLt N_0
    obtain ⟨e0, e1, e2, e3, e4, e5, e6, e7⟩ := places t
    obtain ⟨b, u, h, a, d, rfl⟩ : ∃ (b : Fin 1) (u : Fin 1) (h : Fin 8) (a : Fin 256) (d : Fin 128), y = ix5 b u h a d := ⟨y 0, y 1, y 2, y 3, y 4, eq_ix5 y⟩
    refine (out7_apply _ _ _ _ _ _).trans ?_
    have hi : ((cfg0.win 7).blk t).view.emb (ix5 b u h a d) = (ix5 (⟨t.val, ht⟩ : Fin 16) u h a d : S16x1x8x256x128.Idx) := funext fun (s : Fin 5) => by
      match s with
      | ⟨0, _⟩ => exact Fin.ext (show win0_7.index t 0 * 1 + 1 * b.val = t.val by rw [e7]; show t.val * 1 + 1 * b.val = _; omega)
      | ⟨1, _⟩ => exact Fin.ext (show win0_7.index t 1 * 1 + 1 * u.val = u.val by rw [e7]; show 0 * 1 + 1 * u.val = _; omega)
      | ⟨2, _⟩ => exact Fin.ext (show win0_7.index t 2 * 8 + 1 * h.val = h.val by rw [e7]; show 0 * 8 + 1 * h.val = _; omega)
      | ⟨3, _⟩ => exact Fin.ext (show win0_7.index t 3 * 256 + 1 * a.val = a.val by rw [e7]; show 0 * 256 + 1 * a.val = _; omega)
      | ⟨4, _⟩ => exact Fin.ext (show win0_7.index t 4 * 128 + 1 * d.val = d.val by rw [e7]; show 0 * 128 + 1 * d.val = _; omega)
    show _ = keptOf 6144 (by omega) (Z m c) (((cfg0.win 7).blk t).view.emb (ix5 b u h a d))
    rw [hi]
    exact congrFun (congrFun (v_apply m c t ⟨t.val, ht⟩ rfl h) a) d
  · have h0 : (i 0).val < 16 := (i 0).isLt
    have h1 : (i 1).val < 1 := (i 1).isLt
    have h2 : (i 2).val < 8 := (i 2).isLt
    have h3 : (i 3).val < 256 := (i 3).isLt
    have h4 : (i 4).val < 128 := (i 4).isLt
    refine ⟨pointOf (i 0).val h0, flush0_7 _, ?_⟩
    obtain ⟨e0, e1, e2, e3, e4, e5, e6, e7⟩ := places (pointOf (i 0).val h0)
    refine (congrArg (fun s => i ∈ s) (View.set_slice_whole (b := main_v20_2) ((cfg0.win 7).rect _))).mpr ?_
    refine Rect.mem_set_unit.mpr (fun (a : Fin 5) => ?_)
    match a with
    | ⟨0, _⟩ => exact (by rw [e7]; show (i 0).val * 1 ≤ _ ∧ _ < (i 0).val * 1 + 1; omega : win0_7.index (pointOf (i 0).val h0) 0 * 1 ≤ (i 0).val ∧ (i 0).val < win0_7.index (pointOf (i 0).val h0) 0 * 1 + 1)
    | ⟨1, _⟩ => exact (by rw [e7]; show 0 * 1 ≤ _ ∧ _ < 0 * 1 + 1; omega : win0_7.index (pointOf (i 0).val h0) 1 * 1 ≤ (i 1).val ∧ (i 1).val < win0_7.index (pointOf (i 0).val h0) 1 * 1 + 1)
    | ⟨2, _⟩ => exact (by rw [e7]; show 0 * 8 ≤ _ ∧ _ < 0 * 8 + 8; omega : win0_7.index (pointOf (i 0).val h0) 2 * 8 ≤ (i 2).val ∧ (i 2).val < win0_7.index (pointOf (i 0).val h0) 2 * 8 + 8)
    | ⟨3, _⟩ => exact (by rw [e7]; show 0 * 256 ≤ _ ∧ _ < 0 * 256 + 256; omega : win0_7.index (pointOf (i 0).val h0) 3 * 256 ≤ (i 3).val ∧ (i 3).val < win0_7.index (pointOf (i 0).val h0) 3 * 256 + 256)
    | ⟨4, _⟩ => exact (by rw [e7]; show 0 * 128 ≤ _ ∧ _ < 0 * 128 + 128; omega : win0_7.index (pointOf (i 0).val h0) 4 * 128 ≤ (i 4).val ∧ (i 4).val < win0_7.index (pointOf (i 0).val h0) 4 * 128 + 128)

/-- The run: the results are the attention, the keys and the values; the arguments stay. -/
theorem value_main (hz : ∀ c : Dev nD, Finite (Z m c)) : θ_run defs (onTc (τ := τ) (main (F := Ideal))) ⟨m, fun _ => 0, ρ⟩ (fun r => ∀ c : Dev nD,
      r.2.mem ((c.tc : Thread nD τ).loc main_v20_0) = obOf (Z m c) (X m c) (W m c)
      ∧ r.2.mem ((c.tc : Thread nD τ).loc main_v20_1) = keptOf 5120 (by omega) (Z m c)
      ∧ r.2.mem ((c.tc : Thread nD τ).loc main_v20_2) = keptOf 6144 (by omega) (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 5).trans (final5 m c (hz c)), ((h c).1 6).trans (final6 m c), ((h c).1 7).trans (final7 m c),
    ((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)
end Cert.Attn

end
-- ==== Proof.AttnDecode.lean ====
/- The attention's precondition read back: every activation in the queries' and the keys' columns is a finite number. -/
module

public import proofs.«01_k».proof.Proof.Attn
public import proofs.«01_k».proof.Proof.Gen.Pre_finite_scores
public import Idealize.ShloMosaic.Lib.ReduceAll
public import Idealize.ShloMosaic.Lib.Pointwise.Tactic

@[expose] public section

noncomputable section

namespace Cert.Attn

open Idealize.ShloMosaic Cert.Pre_finite_scores

attribute [local instance] Cert.Pre_finite_scores.Gen.facts

theorem infinity : Ideal.ofBits .f32 0x7F800000#32 = (⊤ : EReal) := by
  simp [Ideal.ofBits, Ideal.ieee]
/-- A number whose magnitude is below infinity is finite. -/
theorem real_of_abs (x : EReal) (h : max x (-x) < ⊤) : Real' x := by
  induction x using EReal.rec with
  | bot => simp at h
  | coe r => exact ⟨r, rfl⟩
  | top => simp at h

theorem finite_of (z : FVec Ideal S6144x11264 .bf16) (x : FVec Ideal S1x4x64 .f32) (w : FVec Ideal S1x128 .f32)
    (h : fn (F := Ideal) z x w = fun _ => 1#1) : Finite z := fun r j => by
  have e := Host.reduce_andi_all _ _ _ _ ix0 (congrFun h ix0) (ix2 r j)
  pointwise at e
  refine real_of_abs _ ?_
  have e' := of_decide_eq_true ((by decide : ∀ b : Bool, BitVec.ofBool b = 1#1 → b = true) _ e)
  rw [infinity] at e'
  exact e'

end Cert.Attn

end
-- ==== Proof.CombBase.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Batch
public import Idealize.ShloMosaic.Lib.Ring
public import Idealize.ShloMosaic.Lib.Pointwise.Reshape
public import Idealize.ShloMosaic.Lib.Tactic

@[expose] public section

set_option maxRecDepth 16384

noncomputable section

namespace Cert.Comb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the pipeline's beside the transfers' counters. -/
local notation "𝕄" => MT nD τ sig Unit (Elt F) ℕ (Pipeline.UD sig nD τ) ℕ

/-! ## The body's operands -/

/-- The table of rows as the body is handed it, the array of the experts' rows, and the two slots the rows land in. -/
abbrev tbP : Memref sig .tc .smem S12288 .i32 := Memref.whole main_arg1
abbrev yA : Memref sig .tc .hbm S20480x2048 .f32 := Memref.whole main_arg0
abbrev bS : Memref sig .tc .vmem S2x2x256x2048 .f32 := Memref.whole cc0_scratch0

abbrev Bf (c : Dev nD) {sp : Space} {S : Shape} {e : EltTy} (M : Memref sig .tc sp S e) : Type := Buf (Elt F) (M.view.loc (c : Thread nD τ))
abbrev ptHalf (c : Dev nD) {sp : Space} {S : Shape} {e : EltTy} (M : Memref sig .tc sp S e) (f : Bf (F := F) c M) : sProp 𝕄 :=
  M.view.loc (c : Thread nD τ) ↦{fullShare.right} f

/-! ## One row of a slot, one row of the experts' array -/

/-- Slot `s`'s elements, those of its row `t / 2` for choice `t % 2`, and row `p` of the experts' array. -/
def sset (s : ℕ) : Finset S2x2x256x2048.Idx := Finset.univ.filter fun i => (i 0).val = s
def dset (s t : ℕ) : Finset S2x2x256x2048.Idx := Finset.univ.filter fun i => (i 0).val = s ∧ 2 * (i 2).val + (i 1).val = t
def yset (p : ℕ) : Finset S20480x2048.Idx := Finset.univ.filter fun i => (i 0).val = p

theorem mem_sset {s : ℕ} {i : S2x2x256x2048.Idx} : i ∈ sset s ↔ (i 0).val = s := by simp [sset]
theorem mem_dset {s t : ℕ} {i : S2x2x256x2048.Idx} : i ∈ dset s t ↔ (i 0).val = s ∧ 2 * (i 2).val + (i 1).val = t := by simp [dset]
theorem mem_yset {p : ℕ} {i : S20480x2048.Idx} : i ∈ yset p ↔ (i 0).val = p := by simp [yset]

theorem sset_union : (Finset.univ : Finset S2x2x256x2048.Idx) = sset 0 ∪ sset 1 := by
  ext i
  have : (i 0).val < 2 := (i 0).isLt
  simp only [Finset.mem_univ, Finset.mem_union, mem_sset, true_iff]
  omega
theorem sset_disj : Disjoint (sset 0) (sset 1) := Finset.disjoint_left.mpr fun i h h' => by
  rw [mem_sset] at h h'; omega
theorem sset_biUnion (s : ℕ) : sset s = (Finset.univ : Finset (Fin 512)).biUnion fun t => dset s t.val := by
  ext i
  have h1 : (i 1).val < 2 := (i 1).isLt
  have h2 : (i 2).val < 256 := (i 2).isLt
  simp only [Finset.mem_biUnion, Finset.mem_univ, true_and, mem_sset, mem_dset]
  exact ⟨fun h => ⟨⟨2 * (i 2).val + (i 1).val, by omega⟩, h, rfl⟩, fun ⟨_, h, _⟩ => h⟩
theorem dset_disj (s : ℕ) : ∀ t ∈ (Finset.univ : Finset (Fin 512)), ∀ t' ∈ (Finset.univ : Finset (Fin 512)), t ≠ t' → Disjoint (dset s t.val) (dset s t'.val) := by
  intro t _ t' _ hne
  refine Finset.disjoint_left.mpr fun i h h' => hne (Fin.ext ?_)
  rw [mem_dset] at h h'
  omega

abbrev rowS (o : Fin 4 → ℕ) (h : ∀ a, o a + S1x1x1x2048.size a ≤ S2x2x256x2048.size a) : Memref sig .tc .vmem S1x2048 .f32 :=
  (bS.slice (Rect.unit (s := S2x2x256x2048) o S1x1x1x2048.size h) (fun _ => rfl)).squeeze S1x2048 squeezes_S1x1x1x2048_S1x2048
abbrev rowY (o : Fin 2 → ℕ) (h : ∀ a, o a + S1x2048.size a ≤ S20480x2048.size a) : Memref sig .tc .hbm S1x2048 .f32 :=
  yA.slice (Rect.unit (s := S20480x2048) o S1x2048.size h) (fun _ => rfl)

theorem rowS_emb (o : Fin 4 → ℕ) (h) (x : S1x2048.Idx) (a : Fin 4) :
    (((rowS o h).view.emb x : S2x2x256x2048.Idx) a).val = o a + (if a = 3 then (x 1).val else 0) := by
  have hx : (x 0).val = 0 := by have : (x 0).val < 1 := (x 0).isLt; omega
  have e : (rowS o h).view.emb x = (Rect.unit (s := S2x2x256x2048) o S1x1x1x2048.size h).emb (ix4 (0 : Fin 1) (0 : Fin 1) (0 : Fin 1) (x 1)) := by
    show (Rect.unit (s := S2x2x256x2048) o S1x1x1x2048.size h).emb (Shape.reshapeEquiv _ x) = _
    congr 1
    refine Shape.reshapeEquiv_eq_of_vals _ _ _ _ _ (rowMajor_val4 _ 2048 2048 2048 rfl rfl rfl) (rowMajor_val2 _ 2048 rfl) ?_
    rw [hx]
    show 0 * 2048 + 0 * 2048 + 0 * 2048 + (x 1).val = 0 * 2048 + (x 1).val
    omega
  rw [e]
  fin_cases a
  · show o 0 + 1 * 0 = o 0 + 0; omega
  · show o 1 + 1 * 0 = o 1 + 0; omega
  · show o 2 + 1 * 0 = o 2 + 0; omega
  · show o 3 + 1 * (x 1).val = o 3 + (x 1).val; omega
theorem rowY_emb (o : Fin 2 → ℕ) (h) (x : S1x2048.Idx) (a : Fin 2) :
    (((rowY o h).view.emb x : S20480x2048.Idx) a).val = o a + (x a).val := by
  show o a + 1 * (x a).val = _
  omega

theorem rowS_set (s t : ℕ) (h) : (rowS ![s, t % 2, t / 2, 0] h).view.set = dset s t := by
  rw [View.set_reshape, View.set_slice_whole]
  ext i
  rw [Rect.mem_set_unit, mem_dset]
  constructor
  · intro k
    have k0 : s ≤ (i 0).val ∧ (i 0).val < s + 1 := k 0
    have k1 : t % 2 ≤ (i 1).val ∧ (i 1).val < t % 2 + 1 := k 1
    have k2 : t / 2 ≤ (i 2).val ∧ (i 2).val < t / 2 + 1 := k 2
    omega
  · rintro ⟨k0, k1⟩ a
    have h1 : (i 1).val < 2 := (i 1).isLt
    have h3 : (i 3).val < 2048 := (i 3).isLt
    fin_cases a
    · show s ≤ (i 0).val ∧ (i 0).val < s + 1; omega
    · show t % 2 ≤ (i 1).val ∧ (i 1).val < t % 2 + 1; omega
    · show t / 2 ≤ (i 2).val ∧ (i 2).val < t / 2 + 1; omega
    · show 0 ≤ (i 3).val ∧ (i 3).val < 0 + 2048; omega
theorem rowY_set (p : ℕ) (h) : (rowY ![p, 0] h).view.set = yset p := by
  rw [View.set_slice_whole]
  ext i
  rw [Rect.mem_set_unit, mem_yset]
  constructor
  · intro k
    have k0 : p ≤ (i 0).val ∧ (i 0).val < p + 1 := k 0
    omega
  · intro k a
    have h1 : (i 1).val < 2048 := (i 1).isLt
    fin_cases a
    · show p ≤ (i 0).val ∧ (i 0).val < p + 1; omega
    · show 0 ≤ (i 1).val ∧ (i 1).val < 0 + 2048; omega

/-! ## The rows of a tile -/

/-- The row that word `j` of the table names. -/
def pos (c : Dev nD) (tb : Bf (F := F) c tbP) (j : ℕ) : ℕ := ((tb : S12288.Idx → BitVec 32) (ix1 ⟨j % 12288, Nat.mod_lt _ (by decide)⟩)).toNat

/-- A slot once the rows whose words start at `b` have landed: row `r` of choice `k` is the row word `b + 2 r + k` names. -/
def landedAt (c : Dev nD) (fy : Bf (F := F) c yA) (tb : Bf (F := F) c tbP) (b : ℕ) : Bf (F := F) c bS := fun i : S2x2x256x2048.Idx =>
  (fy : S20480x2048.Idx → F .f32) (ix2 ⟨pos c tb (b + (2 * (i 2).val + (i 1).val)) % 20480, Nat.mod_lt _ (by decide)⟩ (i 3))

/-- The half of the experts' array that slot `s` reads from. -/
def half : ℕ → PosShare TreeShare
  | 0 => fullShare.left
  | _ => fullShare.right

/-- Transfer `t` into slot `s` of the tile whose words start at `b`, delivered. -/
def deliv (c : Dev nD) (fy : Bf (F := F) c yA) (tb : Bf (F := F) c tbP) (s b : ℕ) (t : Fin 512) : sProp 𝕄 :=
  iprop((bS.view.loc (c : Thread nD τ) ↦[dset s t.val]{fullShare} landedAt c fy tb b)
    ∗ (yA.view.loc (c : Thread nD τ) ↦[yset (pos c tb (b + t.val))]{Transfers.shareTok (half s) 512 t} fy))

instance deliv_storable (c : Dev nD) (fy : Bf (F := F) c yA) (tb : Bf (F := F) c tbP) (s b : ℕ) (t : Fin 512) :
    Storable (upEmb : UEmb _ 𝕄) (deliv c fy tb s b t) := by
  unfold deliv; infer_instance

/-- What transfer `t` needs, and what it leaves behind once issued. -/
def need (c : Dev nD) (fy : Bf (F := F) c yA) (s : ℕ) (t : Fin 512) : sProp 𝕄 :=
  iprop((∃ f : Bf (F := F) c bS, bS.view.loc (c : Thread nD τ) ↦[dset s t.val]{fullShare} f)
    ∗ (yA.view.loc (c : Thread nD τ) ↦{Transfers.shareTok (half s) 512 t} fy))
def rest (c : Dev nD) (fy : Bf (F := F) c yA) (tb : Bf (F := F) c tbP) (s b : ℕ) (t : Fin 512) : sProp 𝕄 :=
  yA.view.loc (c : Thread nD τ) ↦[Finset.univ \ yset (pos c tb (b + t.val))]{Transfers.shareTok (half s) 512 t} fy

abbrev credit : ℕ := 256

abbrev batch (c : Dev nD) (fy : Bf (F := F) c yA) (tb : Bf (F := F) c tbP) (s b : ℕ) (q : SemLoc sig) (k u : ℕ) : sProp 𝕄 :=
  Transfers.Batch (countersEmb (U := Pipeline.UD sig nD τ)) (c : Thread nD τ) q () credit (deliv c fy tb s b) k u

theorem pos_lt_mod {p : ℕ} (h : p < 20480) : p % 20480 = p := Nat.mod_eq_of_lt h

/-- A row copied over its place is what the landed slot holds there. -/
theorem landed_row (c : Dev nD) (fy : Bf (F := F) c yA) (tb : Bf (F := F) c tbP) (s b t : ℕ) (hp : pos c tb (b + t) < 20480) (h h') (f : Bf (F := F) c bS) :
    ∀ i ∈ dset s t, (rowS ![s, t % 2, t / 2, 0] h).view.write (Elt F) f
      (ReadAs.same.apply ((rowY ![pos c tb (b + t), 0] h').view.read (Elt F) fy)) Finset.univ i = landedAt c fy tb b i := by
  intro i hi
  rw [← rowS_set s t h] at hi
  obtain ⟨x, -, rfl⟩ := Finset.mem_map.mp hi
  refine (View.write_emb_of_mem _ _ (Finset.mem_univ x)).trans ?_
  show (fy : S20480x2048.Idx → F .f32) ((rowY ![pos c tb (b + t), 0] h').view.emb x) = (fy : S20480x2048.Idx → F .f32) _
  congr 1
  have e1 := rowS_emb ![s, t % 2, t / 2, 0] h x 1
  have e2 := rowS_emb ![s, t % 2, t / 2, 0] h x 2
  have e3 := rowS_emb ![s, t % 2, t / 2, 0] h x 3
  have f1 : ((((rowS ![s, t % 2, t / 2, 0] h).view.emb x : S2x2x256x2048.Idx) 1).val) = t % 2 := e1
  have f2 : ((((rowS ![s, t % 2, t / 2, 0] h).view.emb x : S2x2x256x2048.Idx) 2).val) = t / 2 := e2
  have f3 : ((((rowS ![s, t % 2, t / 2, 0] h).view.emb x : S2x2x256x2048.Idx) 3).val) = 0 + (x 1).val := e3
  refine funext fun (a : Fin 2) => Fin.ext ?_
  rw [rowY_emb]
  have hx : (x 0).val = 0 := by have : (x 0).val < 1 := (x 0).isLt; omega
  fin_cases a
  · show pos c tb (b + t) + (x 0).val = pos c tb (b + (2 * _ + _)) % 20480
    rw [f1, f2, hx, show 2 * (t / 2) + t % 2 = t by omega, pos_lt_mod hp]
    rfl
  · show 0 + (x 1).val = _
    exact f3.symm

variable {defs : Defs nD τ sig (Elt F) Λ₀}

/-- One transfer issued. -/
theorem issue_one (c : Dev nD) (fy : Bf (F := F) c yA) (tb : Bf (F := F) c tbP) (s b : ℕ) (q : SemLoc sig) (t : Fin 512) (hp : pos c tb (b + t.val) < 20480)
    (q' : DmaSem sig) (hq : q = .dma q')
    (oS : Fin 4 → ℕ) (hS) (oY : Fin 2 → ℕ) (hY) (eS : oS = ![s, t.val % 2, t.val / 2, 0]) (eY : oY = ![pos c tb (b + t.val), 0]) (h1 h2 h3) :
    iprop(batch c fy tb s b q t.val 0 ∗ need c fy s t)
      ⊢ wp frame (wpE (defs₀ (F := F)) Variants.none (c : Thread nD τ) none) Set.univ
        (Prog.lift (TpuEff.enqueueDma (rowY oY hY) (.here (rowS oS hS)) (.dma q') h1 h2 h3))
        (fun _ => iprop(batch c fy tb s b q (t.val + 1) 0 ∗ rest c fy tb s b t)) := by
  subst hq eS eY
  unfold need rest
  iintro ⟨HB, ⟨%f, Hd⟩, Hy⟩
  ihave Hy := (Entails.of_eq (show (yA.view.loc (c : Thread nD τ) ↦{Transfers.shareTok (half s) 512 t} fy : sProp 𝕄)
    = (yA.view.loc (c : Thread nD τ) ↦[yset (pos c tb (b + t.val)) ∪ (Finset.univ \ yset (pos c tb (b + t.val)))]{Transfers.shareTok (half s) 512 t} fy)
    from by rw [Finset.union_sdiff_of_subset (Finset.subset_univ _)])) $$ Hy
  ihave Hy := (pointsTo_union (Finset.disjoint_sdiff)).1 $$ Hy
  icases Hy with ⟨Hy, Hr⟩
  iapply (Transfers.wp_dmaBatch (countersEmb (U := Pipeline.UD sig nD τ)) Variants.none (c : Thread nD τ) none (src := rowY ![pos c tb (b + t.val), 0] hY)
    (dst := rowS ![s, t.val % 2, t.val / 2, 0] hS) (Sd := dset s t.val) (q := Transfers.shareTok (half s) 512 t) (fs := fy) (fd := f) () credit rfl
    (by rw [rowS_set]) (D := deliv c fy tb s b) (j := t.val) (u := 0) t.isLt (Nat.zero_le _) (by
      unfold deliv
      rw [rowY_set]
      exact sep_mono (Entails.of_eq (pointsTo_congr (landed_row c fy tb s b t.val hp hS hY f))) .rfl)) $$ [HB Hd Hy]
  · isplitl [Hy]
    · rw [rowY_set]; iexact Hy
    isplitl [Hd]; · iexact Hd
    iexact HB
  iintro HB
  iapply le_wp_ret
  isplitl [HB]; · iexact HB
  iexact Hr

end Cert.Comb

end
-- ==== Proof.CombLoop.lean ====
module

public import proofs.«01_k».proof.Proof.CombBase

@[expose] public section

set_option maxRecDepth 16384

noncomputable section

namespace Cert.Comb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The trips of the three loops -/

/-- A table offset, a place in a slot, a slot's semaphore, and a row of the experts' array, each inside its buffer. -/
abbrev InT (o : Fin 1 → ℕ) : Prop := ∀ a, o a + S1.size a ≤ S12288.size a
abbrev InS (o : Fin 4 → ℕ) : Prop := ∀ a, o a + S1x1x1x2048.size a ≤ S2x2x256x2048.size a
abbrev InG (o : Fin 1 → ℕ) : Prop := ∀ a, o a + S1.size a ≤ S2.size a
abbrev InY (v : BitVec 32) : Prop := ∀ a, (![v.toNat, 0] : Fin 2 → ℕ) a + S1x2048.size a ≤ S20480x2048.size a

abbrev semAt (g : Fin 1 → ℕ) (hg : InG g) : DmaSem sig :=
  (((cc0_scratch1).slice (Rect.unit (s := S2) g S1.size hg)).squeeze S_ squeezes_S1_S_).sem

/-- One half of a trip of an issuing loop: a word read, checked, and its row's copy started. -/
def issue (o : Fin 1 → ℕ) (ho : InT o) (C : BitVec 32 → Prop) (d : ∀ v, Decidable (C v)) (g : Fin 1 → ℕ) (hg : InG g)
    (s : Fin 4 → ℕ) (hs : InS s) (hy : ∀ v, C v → InY v) : Prog (TpuEff nD τ sig (Elt F) Λ₀ .tc) PUnit := do
  let v : Elt F .i32 ← smemLoad tbP (Rect.unit (s := S12288) o S1.size ho) numel1_S1 rfl
  have hw : C v := (← Prog.lift (TpuEff.assume (C v) (d v))).down
  Prog.lift (.enqueueDma (rowY ![v.toNat, 0] (hy v hw)) (.here (rowS s hs)) (.dma (semAt g hg)) (View.wordExact_bits rfl) ((View.wordExact_bits rfl).reshape _ _) ⟨Or.inl rfl, trivial⟩)

/-- One half of a trip of the draining loop: a word read, checked, and one copy waited for. -/
def drain (o : Fin 1 → ℕ) (ho : InT o) (C : BitVec 32 → Prop) (d : ∀ v, Decidable (C v)) (g : Fin 1 → ℕ) (hg : InG g)
    (s : Fin 4 → ℕ) (hs : InS s) (hy : ∀ v, C v → InY v) : Prog (TpuEff nD τ sig (Elt F) Λ₀ .tc) PUnit := do
  let v : Elt F .i32 ← smemLoad tbP (Rect.unit (s := S12288) o S1.size ho) numel1_S1 rfl
  have hw : C v := (← Prog.lift (TpuEff.assume (C v) (d v))).down
  Prog.lift (.waitDma2 (semAt g hg) (rowY ![v.toNat, 0] (hy v hw)) (rowS s hs) (View.wordExact_bits rfl) ((View.wordExact_bits rfl).reshape _ _))

/-- Slot `s`'s semaphore. -/
def qOf : ℕ → SemLoc sig
  | 0 => .dma 8
  | _ => .dma 9

theorem sem_zero : InG ![0] := by decide
theorem sem_one : InG ![1] := by decide
theorem semAt_zero : SemLoc.dma 8 = SemLoc.dma (semAt ![0] sem_zero) := by decide
theorem semAt_one : SemLoc.dma 9 = SemLoc.dma (semAt ![1] sem_one) := by decide

theorem semAt_eq (s : ℕ) (hs : s < 2) (g : Fin 1 → ℕ) (hg : InG g) (e : g = ![s]) : (qOf s) = .dma (semAt g hg) := by
  subst e
  obtain rfl | rfl : s = 0 ∨ s = 1 := by omega
  · exact semAt_zero
  · exact semAt_one

/-- Word `j` of the table, as a load reads it. -/
theorem word_at (c : Dev nD) (tb : Bf (F := F) c tbP) (j : ℕ) (hj : j < 12288) (o : Fin 1 → ℕ) (ho : InT o) (e : o = ![j]) (x) :
    (tbP.access (Rect.unit (s := S12288) o S1.size ho)).read (Elt F) tb x = (tb : S12288.Idx → BitVec 32) (ix1 ⟨j % 12288, Nat.mod_lt _ (by decide)⟩) := by
  subst e
  show (tb : S12288.Idx → BitVec 32) _ = (tb : S12288.Idx → BitVec 32) _
  congr 1
  refine funext fun (a : Fin 1) => ?_
  obtain rfl : a = 0 := Subsingleton.elim _ _
  apply Fin.ext
  show j + 1 * (x 0).val = j % 12288
  have : (x 0).val < 1 := (x 0).isLt
  rw [Nat.mod_eq_of_lt hj]; omega

theorem issue_wp (c : Dev nD) (fy : Bf (F := F) c yA) (tb : Bf (F := F) c tbP) (s b : ℕ) (hs2 : s < 2) (t : Fin 512)
    (hb : b + t.val < 12288) (hp : pos c tb (b + t.val) < 20480)
    (o : Fin 1 → ℕ) (ho : InT o) (C : BitVec 32 → Prop) (d : ∀ v, Decidable (C v)) (g : Fin 1 → ℕ) (hg : InG g)
    (r : Fin 4 → ℕ) (hr : InS r) (hy : ∀ v, C v → InY v) (eo : o = ![b + t.val]) (eg : g = ![s]) (er : r = ![s, t.val % 2, t.val / 2, 0])
    (hC : ∀ v : BitVec 32, v.toNat < 20480 → C v) :
    iprop(ptHalf c tbP tb ∗ batch c fy tb s b (qOf s) t.val 0 ∗ need c fy s t)
      ⊢ wp frame (wpE (defs₀ (F := F)) Variants.none (c : Thread nD τ) none) Set.univ (issue o ho C d g hg r hr hy)
        (fun _ => iprop(ptHalf c tbP tb ∗ batch c fy tb s b (qOf s) (t.val + 1) 0 ∗ rest c fy tb s b t)) := by
  unfold issue
  rw [wp_bind]
  iintro ⟨Ht, H⟩
  unfold smemLoad
  iapply (wp_smemLoadElt Variants.none (c : Thread nD τ) none Set.univ (m := tbP) (r := Rect.unit (s := S12288) o S1.size ho) (S := Finset.univ) (f := tb) (Finset.subset_univ _)) $$ Ht
  iintro Ht
  iapply le_wp_ret
  rw [word_at c tb (b + t.val) hb o ho eo]
  rw [wp_bind]
  iapply (wp_assume Variants.none (c : Thread nD τ) none Set.univ (hC _ hp))
  iapply le_wp_ret
  ihave H := (issue_one c fy tb s b (qOf s) t hp (semAt g hg) (semAt_eq s hs2 g hg eg) r hr ![pos c tb (b + t.val), 0] (hy _ (hC _ hp)) er rfl
    (View.wordExact_bits rfl) ((View.wordExact_bits rfl).reshape _ _) ⟨Or.inl rfl, trivial⟩) $$ H
  iapply (wp_wand_r frame _ _)
  isplitl [H]; · iexact H
  iintro %_ H
  isplitl [Ht]; · iexact Ht
  iexact H

/-- What the draining loop holds after `u` copies waited for. -/
def drained (c : Dev nD) (fy : Bf (F := F) c yA) (tb : Bf (F := F) c tbP) (s b u : ℕ) : sProp 𝕄 :=
  if u < 512 then batch c fy tb s b (qOf s) 512 (u * credit)
  else iprop(bigSep Finset.univ (deliv c fy tb s b) ∗ semVal ((c : Thread nD τ), qOf s) 0)

theorem drain_wp (c : Dev nD) (fy : Bf (F := F) c yA) (tb : Bf (F := F) c tbP) (s b : ℕ) (hs2 : s < 2) (t : Fin 512)
    (hb : b + t.val < 12288) (hp : pos c tb (b + t.val) < 20480)
    (o : Fin 1 → ℕ) (ho : InT o) (C : BitVec 32 → Prop) (d : ∀ v, Decidable (C v)) (g : Fin 1 → ℕ) (hg : InG g)
    (r : Fin 4 → ℕ) (hr : InS r) (hy : ∀ v, C v → InY v) (eo : o = ![b + t.val]) (eg : g = ![s])
    (hC : ∀ v : BitVec 32, v.toNat < 20480 → C v) :
    iprop(ptHalf c tbP tb ∗ (∃ W, owes (c : Thread nD τ) 0 W) ∗ drained c fy tb s b t.val)
      ⊢ wp frame (wpE (defs₀ (F := F)) Variants.none (c : Thread nD τ) none) Set.univ (drain o ho C d g hg r hr hy)
        (fun _ => iprop(ptHalf c tbP tb ∗ (∃ W, owes (c : Thread nD τ) 0 W) ∗ drained c fy tb s b (t.val + 1))) := by
  unfold drain drained
  have ht := t.isLt
  rw [if_pos ht, semAt_eq s hs2 g hg eg]
  by_cases hl : t.val + 1 < 512
  · rw [if_pos hl, Nat.add_mul, Nat.one_mul]
    rw [wp_bind]
    iintro ⟨Ht, ⟨%W, HW⟩, H⟩
    unfold smemLoad
    iapply (wp_smemLoadElt Variants.none (c : Thread nD τ) none Set.univ (m := tbP) (r := Rect.unit (s := S12288) o S1.size ho) (S := Finset.univ) (f := tb) (Finset.subset_univ _)) $$ Ht
    iintro Ht
    iapply le_wp_ret
    rw [word_at c tb (b + t.val) hb o ho eo]
    rw [wp_bind]
    iapply (wp_assume Variants.none (c : Thread nD τ) none Set.univ (hC _ hp))
    iapply le_wp_ret
    iapply (Transfers.wp_waitBatch (countersEmb (U := Pipeline.UD sig nD τ)) Variants.none (c : Thread nD τ) none (sem := semAt g hg) (srcw := rowY _ (hy _ (hC _ hp))) (dstw := rowS r hr) () (N := credit) rfl
      (D := deliv c fy tb s b) (u := t.val * credit) (by show t.val * 256 + 256 < 256 * 512; omega)) $$ [H HW]
    · isplitl [H]; · iexact H
      iexact HW
    iintro ⟨H, HW⟩
    iapply le_wp_ret
    isplitl [Ht]; · iexact Ht
    isplitl [HW]; · iexists _; iexact HW
    iexact H
  · rw [if_neg hl]
    rw [wp_bind]
    iintro ⟨Ht, ⟨%W, HW⟩, H⟩
    unfold smemLoad
    iapply (wp_smemLoadElt Variants.none (c : Thread nD τ) none Set.univ (m := tbP) (r := Rect.unit (s := S12288) o S1.size ho) (S := Finset.univ) (f := tb) (Finset.subset_univ _)) $$ Ht
    iintro Ht
    iapply le_wp_ret
    rw [word_at c tb (b + t.val) hb o ho eo]
    rw [wp_bind]
    iapply (wp_assume Variants.none (c : Thread nD τ) none Set.univ (hC _ hp))
    iapply le_wp_ret
    iapply (Transfers.wp_waitBatchLast (countersEmb (U := Pipeline.UD sig nD τ)) Variants.none (c : Thread nD τ) none (sem := semAt g hg) (srcw := rowY _ (hy _ (hC _ hp))) (dstw := rowS r hr) () (N := credit) rfl (by decide)
      (D := deliv c fy tb s b) (u := t.val * credit) (by show t.val * 256 + 256 = 256 * 512; omega)) $$ [H HW]
    · isplitl [H]; · iexact H
      iexact HW
    iintro ⟨H, Hq, HW⟩
    iapply le_wp_ret
    isplitl [Ht]; · iexact Ht
    isplitl [HW]; · iexists _; iexact HW
    isplitl [H]; · iexact H
    iexact Hq

/-! ## The loops -/

/-- Before trip `k` of an issuing loop. -/
def issuing (c : Dev nD) (fy : Bf (F := F) c yA) (tb : Bf (F := F) c tbP) (s b k : ℕ) : sProp 𝕄 :=
  iprop(ptHalf c tbP tb ∗ batch c fy tb s b (qOf s) (2 * k) 0 ∗ bigSep (Ring.rangeSet 512 (2 * k) 512) (need c fy s)
    ∗ bigSep (Ring.rangeSet 512 0 (2 * k)) (rest c fy tb s b))

theorem two_halves (c : Dev nD) (fy : Bf (F := F) c yA) (tb : Bf (F := F) c tbP) (s b k : ℕ) (hk : k < 256)
    {A B : Prog (TpuEff nD τ sig (Elt F) Λ₀ .tc) PUnit}
    (hA : iprop(ptHalf c tbP tb ∗ batch c fy tb s b (qOf s) (2 * k) 0 ∗ need c fy s ⟨2 * k, by omega⟩)
      ⊢ wp frame (wpE (defs₀ (F := F)) Variants.none (c : Thread nD τ) none) Set.univ A
        (fun _ => iprop(ptHalf c tbP tb ∗ batch c fy tb s b (qOf s) (2 * k + 1) 0 ∗ rest c fy tb s b ⟨2 * k, by omega⟩)))
    (hB : iprop(ptHalf c tbP tb ∗ batch c fy tb s b (qOf s) (2 * k + 1) 0 ∗ need c fy s ⟨2 * k + 1, by omega⟩)
      ⊢ wp frame (wpE (defs₀ (F := F)) Variants.none (c : Thread nD τ) none) Set.univ B
        (fun _ => iprop(ptHalf c tbP tb ∗ batch c fy tb s b (qOf s) (2 * k + 1 + 1) 0 ∗ rest c fy tb s b ⟨2 * k + 1, by omega⟩))) :
    issuing c fy tb s b k
      ⊢ wp frame (wpE (defs₀ (F := F)) Variants.none (c : Thread nD τ) none) Set.univ (do A; B; pure ()) (fun _ => issuing c fy tb s b (k + 1)) := by
  unfold issuing
  rw [show 2 * (k + 1) = 2 * k + 1 + 1 by omega, Ring.bigSep_rangeSet_head (NB := 512) (lo := 2 * k) (hi := 512) (by omega) (by omega),
    Ring.bigSep_rangeSet_head (NB := 512) (lo := 2 * k + 1) (hi := 512) (by omega) (by omega),
    Ring.bigSep_rangeSet_last (NB := 512) (lo := 0) (hi := 2 * k + 1 + 1) (by omega) (by omega)]
  simp only [Nat.add_sub_cancel]
  rw [Ring.bigSep_rangeSet_last (NB := 512) (lo := 0) (hi := 2 * k + 1) (by omega) (by omega)]
  simp only [Nat.add_sub_cancel]
  iintro ⟨Ht, HB, ⟨N0, N1, N⟩, R⟩
  rw [wp_bind]
  ihave H := hA $$ [Ht HB N0]
  · isplitl [Ht]; · iexact Ht
    isplitl [HB]; · iexact HB
    iexact N0
  iapply (wp_wand_r frame _ _)
  isplitl [H]; · iexact H
  iintro %_ ⟨Ht, HB, R0⟩
  rw [wp_bind]
  ihave H := hB $$ [Ht HB N1]
  · isplitl [Ht]; · iexact Ht
    isplitl [HB]; · iexact HB
    iexact N1
  iapply (wp_wand_r frame _ _)
  isplitl [H]; · iexact H
  iintro %_ ⟨Ht, HB, R1⟩
  iapply le_wp_ret
  isplitl [Ht]; · iexact Ht
  isplitl [HB]; · iexact HB
  isplitl [N]; · iexact N
  isplitl [R1]; · iexact R1
  isplitl [R0]; · iexact R0
  iexact R

/-- Before trip `k` of the draining loop. -/
def draining (c : Dev nD) (fy : Bf (F := F) c yA) (tb : Bf (F := F) c tbP) (s b k : ℕ) : sProp 𝕄 :=
  iprop(ptHalf c tbP tb ∗ (∃ W, owes (c : Thread nD τ) 0 W) ∗ drained c fy tb s b (2 * k))

theorem two_drains (c : Dev nD) (fy : Bf (F := F) c yA) (tb : Bf (F := F) c tbP) (s b k : ℕ)
    {A B : Prog (TpuEff nD τ sig (Elt F) Λ₀ .tc) PUnit}
    (hA : draining c fy tb s b k ⊢ wp frame (wpE (defs₀ (F := F)) Variants.none (c : Thread nD τ) none) Set.univ A
        (fun _ => iprop(ptHalf c tbP tb ∗ (∃ W, owes (c : Thread nD τ) 0 W) ∗ drained c fy tb s b (2 * k + 1))))
    (hB : iprop(ptHalf c tbP tb ∗ (∃ W, owes (c : Thread nD τ) 0 W) ∗ drained c fy tb s b (2 * k + 1))
      ⊢ wp frame (wpE (defs₀ (F := F)) Variants.none (c : Thread nD τ) none) Set.univ B
        (fun _ => iprop(ptHalf c tbP tb ∗ (∃ W, owes (c : Thread nD τ) 0 W) ∗ drained c fy tb s b (2 * k + 1 + 1)))) :
    draining c fy tb s b k
      ⊢ wp frame (wpE (defs₀ (F := F)) Variants.none (c : Thread nD τ) none) Set.univ (do A; B; pure ()) (fun _ => draining c fy tb s b (k + 1)) := by
  rw [wp_bind]
  refine hA.trans (wp_mono _ _ _ fun _ => ?_)
  rw [wp_bind]
  refine hB.trans (wp_mono _ _ _ fun _ => ?_)
  unfold draining
  iintro H
  iapply le_wp_ret
  iexact H

/-! ### The offsets -/

theorem trips1 : k0_t1_loop.trips = 256 := by decide
theorem trips2 : k0_t2_loop.trips = 256 := by decide
theorem trips3 : k0_t3_loop.trips = 256 := by decide
theorem off8_eq : ∀ i : grid0.Coords, k0_off8 i = ![1 - (i 0).val % 2] := by decide +kernel
theorem off12_eq : ∀ i : grid0.Coords, k0_off12 i = ![1 - (i 0).val % 2] := by decide +kernel
theorem off16_eq : ∀ i : grid0.Coords, k0_off16 i = ![(i 0).val % 2] := by decide +kernel
theorem off20_eq : ∀ i : grid0.Coords, k0_off20 i = ![(i 0).val % 2] := by decide +kernel
theorem off9_eq : ∀ (i : grid0.Coords) (k : Fin k0_t2_loop.trips), k0_off9 i k = ![1 - (i 0).val % 2, 0, k.val, 0] := by decide +kernel
theorem off13_eq : ∀ (i : grid0.Coords) (k : Fin k0_t2_loop.trips), k0_off13 i k = ![1 - (i 0).val % 2, 1, k.val, 0] := by decide +kernel

/-! ### The loops' bodies -/

abbrev Inr (c : Dev nD) (tb : Bf (F := F) c tbP) : Prop := ∀ j, pos c tb j < 20480

theorem okY (v : BitVec 32) (h : v.toNat < 20480) : InY v := by
  intro a; fin_cases a
  · show v.toNat + 1 ≤ 20480; omega
  · show 0 + 2048 ≤ 2048; omega

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}

theorem coord_lt : (i 0).val < 16 := (i 0).isLt

theorem body1 (c : Dev nD) (fy : Bf (F := F) c yA) (tb : Bf (F := F) c tbP) (hI : Inr c tb) (h : k0_cond1 i = 1#1) (k : Fin k0_t1_loop.trips) (u : Unit) :
    issuing c fy tb 0 0 k.val
      ⊢ wp frame (wpE (defs₀ (F := F)) Variants.none (c : Thread nD τ) none) Set.univ
        (k0_t1_body (F := F) i tbP (Memref.isWhole_whole _) yA (Memref.isWhole_whole _) M3 h3 M4 h4 M5 h5 M6 h6 M7 h7 bS (Memref.isWhole_whole _) cc0_scratch1 h k u)
        (fun _ => issuing c fy tb 0 0 (k.val + 1)) := by
  have hk : k.val < 256 := Nat.lt_of_lt_of_eq k.isLt trips1
  exact two_halves c fy tb 0 0 k.val hk
    (A := issue (k0_off1 k) (k0_off1_inb i k h) (k0_chk1 i) (k0_chk1.dec i) ![0] Facts₀.inb_S2_S1_0 (k0_off2 k) (k0_off2_inb i k h) (fun v hw => k0_off3_inb i v hw h))
    (B := issue (k0_off4 k) (k0_off4_inb i k h) (k0_chk2 i) (k0_chk2.dec i) ![0] Facts₀.inb_S2_S1_0 (k0_off5 k) (k0_off5_inb i k h) (fun v hw => k0_off6_inb i v hw h))
    (issue_wp c fy tb 0 0 (by decide) ⟨2 * k.val, by omega⟩ (by show 0 + 2 * k.val < 12288; omega) (hI _) _ _ _ _ _ _ _ _ _
      ((k0_off1_eq k).trans (by show ![2 * k.val] = ![0 + 2 * k.val]; rw [Nat.zero_add])) rfl
      ((k0_off2_eq k).trans (by show ![0, 0, k.val, 0] = ![0, 2 * k.val % 2, 2 * k.val / 2, 0]; rw [show 2 * k.val % 2 = 0 by omega, show 2 * k.val / 2 = k.val by omega]))
      (fun v hv _ => okY v hv))
    (issue_wp c fy tb 0 0 (by decide) ⟨2 * k.val + 1, by omega⟩ (by show 0 + (2 * k.val + 1) < 12288; omega) (hI _) _ _ _ _ _ _ _ _ _
      ((k0_off4_eq k).trans (by show ![2 * k.val + 1] = ![0 + (2 * k.val + 1)]; rw [Nat.zero_add])) rfl
      ((k0_off5_eq k).trans (by show ![0, 1, k.val, 0] = ![0, (2 * k.val + 1) % 2, (2 * k.val + 1) / 2, 0]; rw [show (2 * k.val + 1) % 2 = 1 by omega, show (2 * k.val + 1) / 2 = k.val by omega]))
      (fun v hv _ => okY v hv))

theorem body2 (c : Dev nD) (fy : Bf (F := F) c yA) (tb : Bf (F := F) c tbP) (hI : Inr c tb) (h : k0_cond2 i = 1#1) (hlt : (i 0).val + 1 < 16)
    (k : Fin k0_t2_loop.trips) (u : Unit) :
    issuing c fy tb (1 - (i 0).val % 2) (512 * ((i 0).val + 1)) k.val
      ⊢ wp frame (wpE (defs₀ (F := F)) Variants.none (c : Thread nD τ) none) Set.univ
        (k0_t2_body (F := F) i tbP (Memref.isWhole_whole _) yA (Memref.isWhole_whole _) M3 h3 M4 h4 M5 h5 M6 h6 M7 h7 bS (Memref.isWhole_whole _) cc0_scratch1 h k u)
        (fun _ => issuing c fy tb (1 - (i 0).val % 2) (512 * ((i 0).val + 1)) (k.val + 1)) := by
  have hk : k.val < 256 := Nat.lt_of_lt_of_eq k.isLt trips2
  exact two_halves c fy tb (1 - (i 0).val % 2) (512 * ((i 0).val + 1)) k.val hk
    (A := issue (k0_off7 i k) (k0_off7_inb i k h) (k0_chk3 i) (k0_chk3.dec i) (k0_off8 i) (k0_off8_inb i h) (k0_off9 i k) (k0_off9_inb i k h) (fun v hw => k0_off10_inb i v hw h))
    (B := issue (k0_off11 i k) (k0_off11_inb i k h) (k0_chk4 i) (k0_chk4.dec i) (k0_off12 i) (k0_off12_inb i h) (k0_off13 i k) (k0_off13_inb i k h) (fun v hw => k0_off14_inb i v hw h))
    (issue_wp c fy tb _ _ (by omega) ⟨2 * k.val, by omega⟩ (by show 512 * ((i 0).val + 1) + 2 * k.val < 12288; omega) (hI _) _ _ _ _ _ _ _ _ _
      ((k0_off7_eq i k).trans (congrArg (fun z => ![z]) (by show 512 * (i 0).val + 2 * k.val + 512 = 512 * ((i 0).val + 1) + 2 * k.val; omega))) (off8_eq i)
      ((off9_eq i k).trans (by show _ = ![1 - (i 0).val % 2, 2 * k.val % 2, 2 * k.val / 2, 0]; rw [show 2 * k.val % 2 = 0 by omega, show 2 * k.val / 2 = k.val by omega]))
      (fun v hv _ => okY v hv))
    (issue_wp c fy tb _ _ (by omega) ⟨2 * k.val + 1, by omega⟩ (by show 512 * ((i 0).val + 1) + (2 * k.val + 1) < 12288; omega) (hI _) _ _ _ _ _ _ _ _ _
      ((k0_off11_eq i k).trans (congrArg (fun z => ![z]) (by show 512 * (i 0).val + 2 * k.val + 513 = 512 * ((i 0).val + 1) + (2 * k.val + 1); omega))) (off12_eq i)
      ((off13_eq i k).trans (by show _ = ![1 - (i 0).val % 2, (2 * k.val + 1) % 2, (2 * k.val + 1) / 2, 0]; rw [show (2 * k.val + 1) % 2 = 1 by omega, show (2 * k.val + 1) / 2 = k.val by omega]))
      (fun v hv _ => okY v hv))

theorem body3 (c : Dev nD) (fy : Bf (F := F) c yA) (tb : Bf (F := F) c tbP) (hI : Inr c tb) (k : Fin k0_t3_loop.trips) (u : Unit) :
    draining c fy tb ((i 0).val % 2) (512 * (i 0).val) k.val
      ⊢ wp frame (wpE (defs₀ (F := F)) Variants.none (c : Thread nD τ) none) Set.univ
        (k0_t3_body (F := F) i tbP (Memref.isWhole_whole _) yA (Memref.isWhole_whole _) M3 h3 M4 h4 M5 h5 M6 h6 M7 h7 bS (Memref.isWhole_whole _) cc0_scratch1 k u)
        (fun _ => draining c fy tb ((i 0).val % 2) (512 * (i 0).val) (k.val + 1)) := by
  have hk : k.val < 256 := Nat.lt_of_lt_of_eq k.isLt trips3
  have hi := coord_lt i
  exact two_drains c fy tb ((i 0).val % 2) (512 * (i 0).val) k.val
    (A := drain (k0_off15 i k) (k0_off15_inb i k) k0_chk5 k0_chk5.dec (k0_off16 i) (k0_off16_inb i) (k0_off17 i k) (k0_off17_inb i k) (fun v hw => k0_off18_inb v hw))
    (B := drain (k0_off19 i k) (k0_off19_inb i k) k0_chk6 k0_chk6.dec (k0_off20 i) (k0_off20_inb i) (k0_off21 i k) (k0_off21_inb i k) (fun v hw => k0_off22_inb v hw))
    (drain_wp c fy tb _ _ (by omega) ⟨2 * k.val, by omega⟩ (by show 512 * (i 0).val + 2 * k.val < 12288; omega) (hI _) _ _ _ _ _ _ _ _ _
      (k0_off15_eq i k) (off16_eq i) (fun v hv => okY v hv))
    (drain_wp c fy tb _ _ (by omega) ⟨2 * k.val + 1, by omega⟩ (by show 512 * (i 0).val + (2 * k.val + 1) < 12288; omega) (hI _) _ _ _ _ _ _ _ _ _
      ((k0_off19_eq i k).trans (congrArg (fun z => ![z]) (by show 512 * (i 0).val + 2 * k.val + 1 = 512 * (i 0).val + (2 * k.val + 1); omega))) (off20_eq i) (fun v hv => okY v hv))

end Cert.Comb

end
-- ==== Proof.CombSlots.lean ====
module

public import proofs.«01_k».proof.Proof.CombLoop

@[expose] public section

set_option maxRecDepth 16384

noncomputable section

namespace Cert.Comb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a slot holds between the loops -/

variable (c : Dev nD) (fy : Bf (F := F) c yA) (tb : Bf (F := F) c tbP)

/-- Nothing on the way: the slot, its half of the experts' array, its semaphore at zero. -/
def free (s : ℕ) : sProp 𝕄 :=
  iprop((∃ f : Bf (F := F) c bS, bS.view.loc (c : Thread nD τ) ↦[sset s]{fullShare} f) ∗ (yA.view.loc (c : Thread nD τ) ↦{half s} fy)
    ∗ semVal ((c : Thread nD τ), qOf s) 0)
/-- The 512 rows whose words start at `b` on the way. -/
def flying (s b : ℕ) : sProp 𝕄 :=
  iprop(batch c fy tb s b (qOf s) 512 0 ∗ (yA.view.loc (c : Thread nD τ) ↦{Transfers.shareDrop (half s) 512} fy)
    ∗ bigSep Finset.univ (rest c fy tb s b))
/-- Those rows arrived. -/
def landed (s b : ℕ) : sProp 𝕄 :=
  iprop((bS.view.loc (c : Thread nD τ) ↦[sset s]{fullShare} landedAt c fy tb b) ∗ (yA.view.loc (c : Thread nD τ) ↦{half s} fy)
    ∗ semVal ((c : Thread nD τ), qOf s) 0)

theorem landed_free (s b : ℕ) : (landed c fy tb s b : sProp 𝕄) ⊢ free c fy s := by
  unfold landed free
  iintro ⟨H, Hy, Hq⟩
  isplitl [H]; · iexists _; iexact H
  isplitl [Hy]; · iexact Hy
  iexact Hq

/-- The slot cut into the places of its 512 rows. -/
theorem slot_rows (s : ℕ) (f : Bf (F := F) c bS) :
    (bS.view.loc (c : Thread nD τ) ↦[sset s]{fullShare} f : sProp 𝕄)
      = bigSep Finset.univ fun t : Fin 512 => (bS.view.loc (c : Thread nD τ) ↦[dset s t.val]{fullShare} f : sProp 𝕄) := by
  refine Eq.trans (congrArg (fun S : Finset (Idx (bS.view.loc (c : Thread nD τ))) => (bS.view.loc (c : Thread nD τ) ↦[S]{fullShare} f : sProp 𝕄)) ?_)
    (pointsTo_biUnion (ℓ := bS.view.loc (c : Thread nD τ)) (q := fullShare) (f := f) Finset.univ (fun t : Fin 512 => dset s t.val) fun t _ t' _ h => ?_)
  · exact sset_biUnion s
  · exact dset_disj s t (Finset.mem_univ _) t' (Finset.mem_univ _) h

theorem need_of (s : ℕ) (f : Bf (F := F) c bS) (t : Fin 512) :
    iprop((bS.view.loc (c : Thread nD τ) ↦[dset s t.val]{fullShare} f) ∗ (yA.view.loc (c : Thread nD τ) ↦{Transfers.shareTok (half s) 512 t} fy))
      ⊢ (need c fy s t : sProp 𝕄) := by
  unfold need
  iintro ⟨H1, H2⟩
  isplitl [H1]; · iexists f; iexact H1
  iexact H2
theorem deliv_of (s b : ℕ) (t : Fin 512) :
    iprop(deliv c fy tb s b t ∗ rest c fy tb s b t)
      ⊢ (iprop((bS.view.loc (c : Thread nD τ) ↦[dset s t.val]{fullShare} landedAt c fy tb b) ∗ (yA.view.loc (c : Thread nD τ) ↦{Transfers.shareTok (half s) 512 t} fy)) : sProp 𝕄) := by
  unfold deliv rest
  iintro ⟨⟨H1, H2⟩, H3⟩
  isplitl [H1]; · iexact H1
  iapply (Entails.of_eq (show (yA.view.loc (c : Thread nD τ) ↦[yset (pos c tb (b + t.val)) ∪ (Finset.univ \ yset (pos c tb (b + t.val)))]{Transfers.shareTok (half s) 512 t} fy : sProp 𝕄)
    = (yA.view.loc (c : Thread nD τ) ↦{Transfers.shareTok (half s) 512 t} fy) from by rw [Finset.union_sdiff_of_subset (Finset.subset_univ _)]))
  iapply (pointsTo_union (Finset.disjoint_sdiff)).2
  isplitl [H2]; · iexact H2
  iexact H3

/-- Ready to start. -/
theorem begin (s b : ℕ) :
    (free c fy s : sProp 𝕄) ⊢ |={Set.univ}=> iprop(batch c fy tb s b (qOf s) 0 0 ∗ bigSep Finset.univ (need c fy s)
      ∗ (yA.view.loc (c : Thread nD τ) ↦{Transfers.shareDrop (half s) 512} fy)) := by
  unfold free
  iintro ⟨⟨%f, H⟩, Hy, Hq⟩
  imod (Transfers.batch_alloc' (Lvl := ℕ) (countersEmb (U := Pipeline.UD sig nD τ)) (c : Thread nD τ) () credit (deliv c fy tb s b) (sm := qOf s) (E := Set.univ)) $$ Hq with HB
  ihave Hy := (Transfers.pointsTo_toks (half s) 512).1 $$ Hy
  icases Hy with ⟨Hd, Ht⟩
  ihave H := (Entails.of_eq (slot_rows c s f)) $$ H
  imodintro
  isplitl [HB]; · iexact HB
  isplitl [H Ht]
  · iapply (show iprop((bigSep Finset.univ fun t : Fin 512 => (bS.view.loc (c : Thread nD τ) ↦[dset s t.val]{fullShare} f : sProp 𝕄))
        ∗ bigSep Finset.univ fun t : Fin 512 => (yA.view.loc (c : Thread nD τ) ↦{Transfers.shareTok (half s) 512 t} fy : sProp 𝕄)) ⊢ bigSep Finset.univ (need c fy s) from by
      rw [← bigSep_sep']
      exact bigSep_mono fun t _ => need_of c fy s f t)
    isplitl [H]; · iexact H
    iexact Ht
  iexact Hd

/-- All arrived. -/
theorem collect (s b : ℕ) :
    iprop((bigSep Finset.univ (deliv c fy tb s b) ∗ semVal ((c : Thread nD τ), qOf s) 0)
      ∗ (yA.view.loc (c : Thread nD τ) ↦{Transfers.shareDrop (half s) 512} fy) ∗ bigSep Finset.univ (rest c fy tb s b)) ⊢ (landed c fy tb s b : sProp 𝕄) := by
  unfold landed
  iintro ⟨⟨HD, Hq⟩, Hd, HR⟩
  ihave H := (show iprop(bigSep Finset.univ (deliv c fy tb s b) ∗ bigSep Finset.univ (rest c fy tb s b))
      ⊢ iprop((bigSep Finset.univ fun t : Fin 512 => (bS.view.loc (c : Thread nD τ) ↦[dset s t.val]{fullShare} landedAt c fy tb b : sProp 𝕄))
        ∗ bigSep Finset.univ fun t : Fin 512 => (yA.view.loc (c : Thread nD τ) ↦{Transfers.shareTok (half s) 512 t} fy : sProp 𝕄)) from by
    rw [← bigSep_sep', ← bigSep_sep']
    exact bigSep_mono fun t _ => deliv_of c fy tb s b t) $$ [HD HR]
  · isplitl [HD]; · iexact HD
    iexact HR
  icases H with ⟨H, Ht⟩
  isplitl [H]; · iapply (Entails.of_eq (slot_rows c s (landedAt c fy tb b)).symm) $$ H
  isplitl [Hd Ht]
  · iapply (Transfers.pointsTo_toks (half s) 512).2
    isplitl [Hd]; · iexact Hd
    iexact Ht
  iexact Hq

/-! ## The loops, whole -/

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}
  (hI : Inr c tb)

theorem issuing_start (s b : ℕ) :
    iprop(ptHalf c tbP tb ∗ batch c fy tb s b (qOf s) 0 0 ∗ bigSep Finset.univ (need c fy s)) ⊢ (issuing c fy tb s b 0 : sProp 𝕄) := by
  unfold issuing
  rw [show 2 * 0 = 0 from rfl, Ring.rangeSet_univ, Ring.bigSep_rangeSet_empty (NB := 512) (lo := 0) (hi := 0) le_rfl]
  iintro ⟨H1, H2, H3⟩
  isplitl [H1]; · iexact H1
  isplitl [H2]; · iexact H2
  isplitl [H3]; · iexact H3
  iempintro
theorem issuing_end (s b : ℕ) :
    (issuing c fy tb s b 256 : sProp 𝕄) ⊢ iprop(ptHalf c tbP tb ∗ batch c fy tb s b (qOf s) 512 0 ∗ bigSep Finset.univ (rest c fy tb s b)) := by
  unfold issuing
  rw [show 2 * 256 = 512 from rfl, Ring.rangeSet_univ]
  iintro ⟨H1, H2, -, H3⟩
  isplitl [H1]; · iexact H1
  isplitl [H2]; · iexact H2
  iexact H3

theorem loop_end1 (s b : ℕ) :
    (issuing c fy tb s b k0_t1_loop.trips : sProp 𝕄) ⊢ iprop(ptHalf c tbP tb ∗ batch c fy tb s b (qOf s) 512 0 ∗ bigSep Finset.univ (rest c fy tb s b)) := by
  rw [trips1]; exact issuing_end c fy tb s b
theorem loop_end2 (s b : ℕ) :
    (issuing c fy tb s b k0_t2_loop.trips : sProp 𝕄) ⊢ iprop(ptHalf c tbP tb ∗ batch c fy tb s b (qOf s) 512 0 ∗ bigSep Finset.univ (rest c fy tb s b)) := by
  rw [trips2]; exact issuing_end c fy tb s b
theorem drain_start (s b : ℕ) :
    iprop(ptHalf c tbP tb ∗ (∃ W, owes (c : Thread nD τ) 0 W) ∗ batch c fy tb s b (qOf s) 512 0) ⊢ (draining c fy tb s b 0 : sProp 𝕄) := by
  unfold draining drained
  rw [show 2 * 0 = 0 from rfl, if_pos (by decide : 0 < 512), Nat.zero_mul]
theorem loop_end3 (s b : ℕ) :
    (draining c fy tb s b k0_t3_loop.trips : sProp 𝕄)
      ⊢ iprop(ptHalf c tbP tb ∗ (∃ W, owes (c : Thread nD τ) 0 W) ∗ (bigSep Finset.univ (deliv c fy tb s b) ∗ semVal ((c : Thread nD τ), qOf s) 0)) := by
  rw [trips3]; unfold draining drained; rw [if_neg (by decide : ¬ 2 * 256 < 512)]

include hI in
theorem loop1 (h : k0_cond1 i = 1#1) :
    iprop(ptHalf c tbP tb ∗ free c fy 0)
      ⊢ wp frame (wpE (defs₀ (F := F)) Variants.none (c : Thread nD τ) none) Set.univ
        (Scf.Loop.for k0_t1_loop (k0_t1_ok i h) ⟨⟩ (k0_t1_body (F := F) i tbP (Memref.isWhole_whole _) yA (Memref.isWhole_whole _) M3 h3 M4 h4 M5 h5 M6 h6 M7 h7 bS (Memref.isWhole_whole _) cc0_scratch1 h))
        (fun _ => iprop(ptHalf c tbP tb ∗ flying c fy tb 0 0)) := by
  unfold flying
  iintro ⟨Ht, Hf⟩
  imod (begin c fy tb 0 0) $$ Hf with ⟨HB, HN, Hd⟩
  iapply (Scf.wp_for _ _ _ _ _ _ _ _ _ (fun k _ => issuing c fy tb 0 0 k) (fun k u => body1 i c fy tb hI h k u))
  isplitl [Ht HB HN]
  · iapply (issuing_start c fy tb 0 0)
    isplitl [Ht]; · iexact Ht
    isplitl [HB]; · iexact HB
    iexact HN
  iintro %_ H
  ihave H := (loop_end1 c fy tb 0 0) $$ H
  icases H with ⟨Ht, HB, HR⟩
  isplitl [Ht]; · iexact Ht
  isplitl [HB]; · iexact HB
  isplitl [Hd]; · iexact Hd
  iexact HR

include hI in
theorem loop2 (h : k0_cond2 i = 1#1) (hlt : (i 0).val + 1 < 16) :
    iprop(ptHalf c tbP tb ∗ free c fy (1 - (i 0).val % 2))
      ⊢ wp frame (wpE (defs₀ (F := F)) Variants.none (c : Thread nD τ) none) Set.univ
        (Scf.Loop.for k0_t2_loop (k0_t2_ok i h) ⟨⟩ (k0_t2_body (F := F) i tbP (Memref.isWhole_whole _) yA (Memref.isWhole_whole _) M3 h3 M4 h4 M5 h5 M6 h6 M7 h7 bS (Memref.isWhole_whole _) cc0_scratch1 h))
        (fun _ => iprop(ptHalf c tbP tb ∗ flying c fy tb (1 - (i 0).val % 2) (512 * ((i 0).val + 1)))) := by
  unfold flying
  iintro ⟨Ht, Hf⟩
  imod (begin c fy tb (1 - (i 0).val % 2) (512 * ((i 0).val + 1))) $$ Hf with ⟨HB, HN, Hd⟩
  iapply (Scf.wp_for _ _ _ _ _ _ _ _ _ (fun k _ => issuing c fy tb (1 - (i 0).val % 2) (512 * ((i 0).val + 1)) k) (fun k u => body2 i c fy tb hI h hlt k u))
  isplitl [Ht HB HN]
  · iapply (issuing_start c fy tb (1 - (i 0).val % 2) (512 * ((i 0).val + 1)))
    isplitl [Ht]; · iexact Ht
    isplitl [HB]; · iexact HB
    iexact HN
  iintro %_ H
  ihave H := (loop_end2 c fy tb _ _) $$ H
  icases H with ⟨Ht, HB, HR⟩
  isplitl [Ht]; · iexact Ht
  isplitl [HB]; · iexact HB
  isplitl [Hd]; · iexact Hd
  iexact HR

include hI in
theorem loop3 :
    iprop(ptHalf c tbP tb ∗ (∃ W, owes (c : Thread nD τ) 0 W) ∗ flying c fy tb ((i 0).val % 2) (512 * (i 0).val))
      ⊢ wp frame (wpE (defs₀ (F := F)) Variants.none (c : Thread nD τ) none) Set.univ
        (Scf.Loop.for k0_t3_loop k0_t3_ok ⟨⟩ (k0_t3_body (F := F) i tbP (Memref.isWhole_whole _) yA (Memref.isWhole_whole _) M3 h3 M4 h4 M5 h5 M6 h6 M7 h7 bS (Memref.isWhole_whole _) cc0_scratch1))
        (fun _ => iprop(ptHalf c tbP tb ∗ (∃ W, owes (c : Thread nD τ) 0 W) ∗ landed c fy tb ((i 0).val % 2) (512 * (i 0).val))) := by
  unfold flying
  iintro ⟨Ht, HW, HB, Hd, HR⟩
  iapply (Scf.wp_for _ _ _ _ _ _ _ _ _ (fun k _ => draining c fy tb ((i 0).val % 2) (512 * (i 0).val) k) (fun k u => body3 i c fy tb hI k u))
  isplitl [Ht HW HB]
  · iapply (drain_start c fy tb _ _)
    isplitl [Ht]; · iexact Ht
    isplitl [HW]; · iexact HW
    iexact HB
  iintro %_ H
  ihave H := (loop_end3 c fy tb _ _) $$ H
  icases H with ⟨Ht, HW, HD⟩
  isplitl [Ht]; · iexact Ht
  isplitl [HW]; · iexact HW
  iapply (collect c fy tb ((i 0).val % 2) (512 * (i 0).val))
  isplitl [HD]; · iexact HD
  isplitl [Hd]; · iexact Hd
  iexact HR

end Cert.Comb

end
-- ==== Proof.CombStep.lean ====
module

public import proofs.«01_k».proof.Proof.CombSlots
public import Idealize.ShloMosaic.Lib.VecWindow

@[expose] public section

set_option maxRecDepth 16384

noncomputable section

namespace Cert.Comb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One point -/

variable (c : Dev nD) (fy : Bf (F := F) c yA) (tb : Bf (F := F) c tbP)

/-- The rows of the experts' array a point's words name, first (`k = 0`) or second (`k = 1`) of each pair. -/
def rowsOf (b : ℕ) (k : ℕ) : Vec F S1x1x256x2048 .f32 :=
  fun j => fy (ix2 (⟨pos c tb (b + (2 * (j 2).val + k)) % 20480, Nat.mod_lt _ (by decide)⟩ : Fin 20480) (j 3))

/-- What is held of the slots before point `n`. -/
def state (n : ℕ) : sProp 𝕄 :=
  if 0 < n ∧ n < 16 then iprop(flying c fy tb (n % 2) (512 * n) ∗ free c fy (1 - n % 2)) else iprop(free c fy 0 ∗ free c fy 1)

theorem state_mid {n : ℕ} (h : 0 < n ∧ n < 16) : (state c fy tb n : sProp 𝕄) = iprop(flying c fy tb (n % 2) (512 * n) ∗ free c fy (1 - n % 2)) := if_pos h
theorem state_end {n : ℕ} (h : ¬ (0 < n ∧ n < 16)) : (state c fy tb n : sProp 𝕄) = iprop(free c fy 0 ∗ free c fy 1) := if_neg h

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}
  (hI : Inr c tb)

theorem off23_eq : ∀ i : grid0.Coords, k0_off23 i = ![(i 0).val % 2, 0, 0, 0] := by decide +kernel
theorem off24_eq : ∀ i : grid0.Coords, k0_off24 i = ![(i 0).val % 2, 1, 0, 0] := by decide +kernel

abbrev InR (o : Fin 4 → ℕ) : Prop := ∀ a, o a + S1x1x256x2048.size a ≤ S2x2x256x2048.size a

theorem slab_sub (s k : ℕ) (o : Fin 4 → ℕ) (ho : InR o) (e : o = ![s, k, 0, 0]) :
    bS.view.setOn ((Rect.unit (s := S2x2x256x2048) o S1x1x256x2048.size ho).toLoadRect).set ⊆ sset s := by
  subst e
  intro x hx
  obtain ⟨y, hy, rfl⟩ := Finset.mem_map.mp hx
  rw [mem_sset]
  have := (Rect.mem_set_unit (inb := ho)).mp hy 0
  have h1 : s ≤ (y 0).val := this.1
  have h2 : (y 0).val < s + 1 := this.2
  show (y 0).val = s
  omega

theorem slab_read (s k b : ℕ) (o : Fin 4 → ℕ) (ho : InR o) (e : o = ![s, k, 0, 0]) :
    bS.view.readAt (Elt F) (Rect.unit (s := S2x2x256x2048) o S1x1x256x2048.size ho).toLoadRect (landedAt c fy tb b) = rowsOf c fy tb b k := by
  subst e
  funext j
  have h1 : (j 1).val < 1 := (j 1).isLt
  show fy _ = fy _
  congr 1
  refine congrArg₂ ix2 (Fin.ext ?_) (Fin.ext ?_)
  · show pos c tb (b + (2 * (0 + 1 * (j 2).val) + (k + 1 * (j 1).val))) % 20480 = pos c tb (b + (2 * (j 2).val + k)) % 20480
    rw [show 2 * (0 + 1 * (j 2).val) + (k + 1 * (j 1).val) = 2 * (j 2).val + k from by omega]
  · show 0 + 1 * (j 3).val = (j 3).val
    omega

abbrev Part1 (i : grid0.Coords) (M3 : Memref sig .tc .vmem S256x128 .f32) (h3 : M3.IsWhole) (M4 : Memref sig .tc .vmem S256x2048 .f32) (h4 : M4.IsWhole)
    (M5 : Memref sig .tc .vmem S1x1x2048 .f32) (h5 : M5.IsWhole) (M6 : Memref sig .tc .vmem S1x2048 .f32) (h6 : M6.IsWhole) (M7 : Memref sig .tc .vmem S256x2048 .f32) (h7 : M7.IsWhole) :=
  k0_part1 (F := F) i tbP (Memref.isWhole_whole _) yA (Memref.isWhole_whole _) M3 h3 M4 h4 M5 h5 M6 h6 M7 h7 bS (Memref.isWhole_whole _) cc0_scratch1

/-- The three reads after the loops, and the two rows of every pair weighed and added. -/
def reads (M3 : Memref sig .tc .vmem S256x128 .f32) : Prog (TpuEff nD τ sig (Elt F) Λ₀ .tc) (FVec F S256x2048 .f32) := do
  let v18 : Vec F S256x128 .f32 ← Prog.lift (.load M3 (Rect.unit (s := S256x128) ![0, 0] S256x128.size inb_S256x128_S256x128_0_0).toLoadRect (View.loadsAt_vmem h_S256x128))
  let v21 : Vec F S1x1x256x2048 .f32 ← Prog.lift (.load bS (Rect.unit (s := S2x2x256x2048) (k0_off23 i) S1x1x256x2048.size (k0_off23_inb i)).toLoadRect (View.loadsAt_vmem h_S1x1x256x2048))
  let v27 : Vec F S1x1x256x2048 .f32 ← Prog.lift (.load bS (Rect.unit (s := S2x2x256x2048) (k0_off24 i) S1x1x256x2048.size (k0_off24_inb i)).toLoadRect (View.loadsAt_vmem h_S1x1x256x2048))
  pure (k0_pay2 v18 v21 v27)

theorem reads_wp (X3 : Vec F S256x128 .f32) :
    iprop(owns (c : Thread nD τ) M3 fullShare X3 ∗ landed c fy tb ((i 0).val % 2) (512 * (i 0).val))
      ⊢ wp frame (wpE (defs₀ (F := F)) Variants.none (c : Thread nD τ) none) Set.univ (reads (F := F) i M3)
        (fun v => iprop(⌜v = k0_pay2 X3 (rowsOf c fy tb (512 * (i 0).val) 0) (rowsOf c fy tb (512 * (i 0).val) 1)⌝ ∗ owns (c : Thread nD τ) M3 fullShare X3
          ∗ landed c fy tb ((i 0).val % 2) (512 * (i 0).val))) := by
  unfold reads landed owns
  iintro ⟨⟨%f, %hf, H3⟩, H, Hy, Hq⟩
  iapply (wp_load Variants.none (c : Thread nD τ) none Set.univ (m := M3) (S := M3.view.set) (f := f) (View.setOn_subset_set _ _)) $$ H3
  iintro H3
  iapply (wp_load Variants.none (c : Thread nD τ) none Set.univ (m := bS) (S := sset ((i 0).val % 2)) (f := landedAt c fy tb (512 * (i 0).val)) (slab_sub _ 0 _ _ (off23_eq i))) $$ H
  iintro H
  iapply (wp_load Variants.none (c : Thread nD τ) none Set.univ (m := bS) (S := sset ((i 0).val % 2)) (f := landedAt c fy tb (512 * (i 0).val)) (slab_sub _ 1 _ _ (off24_eq i))) $$ H
  iintro H
  iapply le_wp_ret
  rw [slab_read c fy tb _ 0 _ _ _ (off23_eq i), slab_read c fy tb _ 1 _ _ _ (off24_eq i), View.readAt_full, hf]
  isplitr; · ipureintro; rfl
  isplitl [H3]
  · iexists f; isplitr; · ipureintro; exact hf
    iexact H3
  isplitl [H]; · iexact H
  isplitl [Hy]; · iexact Hy
  iexact Hq

theorem cond1_iff : ∀ i : grid0.Coords, k0_cond1 i = 1#1 ↔ (i 0).val = 0 := by decide +kernel
theorem cond2_iff : ∀ i : grid0.Coords, k0_cond2 i = 1#1 ↔ (i 0).val + 1 < 16 := by decide +kernel

include hI in
/-- The draining loop and the reads. -/
theorem tail_wp (X3 : Vec F S256x128 .f32) :
    iprop(ptHalf c tbP tb ∗ (∃ W, owes (c : Thread nD τ) 0 W) ∗ flying c fy tb ((i 0).val % 2) (512 * (i 0).val) ∗ owns (c : Thread nD τ) M3 fullShare X3)
      ⊢ wp frame (wpE (defs₀ (F := F)) Variants.none (c : Thread nD τ) none) Set.univ
        (Scf.Loop.for k0_t3_loop k0_t3_ok ⟨⟩ (k0_t3_body (F := F) i tbP (Memref.isWhole_whole _) yA (Memref.isWhole_whole _) M3 h3 M4 h4 M5 h5 M6 h6 M7 h7 bS (Memref.isWhole_whole _) cc0_scratch1)
          >>= fun _ => reads (F := F) i M3)
        (fun v => iprop(⌜v = k0_pay2 X3 (rowsOf c fy tb (512 * (i 0).val) 0) (rowsOf c fy tb (512 * (i 0).val) 1)⌝ ∗ owns (c : Thread nD τ) M3 fullShare X3
          ∗ ptHalf c tbP tb ∗ (∃ W, owes (c : Thread nD τ) 0 W) ∗ free c fy ((i 0).val % 2))) := by
  rw [wp_bind]
  iintro ⟨Ht, HW, Hf, H3⟩
  iapply (wp_wand_r frame _ _)
  isplitl [Ht HW Hf]
  · iapply (loop3 c fy tb i hI)
    isplitl [Ht]; · iexact Ht
    isplitl [HW]; · iexact HW
    iexact Hf
  iintro %_ ⟨Ht, HW, Hl⟩
  iapply (wp_wand_r frame _ _)
  isplitl [Hl H3]
  · iapply (reads_wp c fy tb i X3)
    isplitl [H3]; · iexact H3
    iexact Hl
  iintro %v ⟨%hv, H3, Hl⟩
  isplitr; · ipureintro; exact hv
  isplitl [H3]; · iexact H3
  isplitl [Ht]; · iexact Ht
  isplitl [HW]; · iexact HW
  iapply (landed_free c fy tb _ _) $$ Hl

theorem state_zero (hz : (i 0).val = 0) : (state c fy tb (i 0).val : sProp 𝕄) ⊢ iprop(free c fy 0 ∗ free c fy (1 - (i 0).val % 2)) := by
  rw [hz, state_end c fy tb (by omega)]
theorem flying_zero (hz : (i 0).val = 0) : (flying c fy tb 0 0 : sProp 𝕄) ⊢ flying c fy tb ((i 0).val % 2) (512 * (i 0).val) := by
  rw [hz]
theorem state_pos (hz : ¬ (i 0).val = 0) : (state c fy tb (i 0).val : sProp 𝕄) ⊢ iprop(flying c fy tb ((i 0).val % 2) (512 * (i 0).val) ∗ free c fy (1 - (i 0).val % 2)) := by
  rw [state_mid c fy tb ⟨Nat.pos_of_ne_zero hz, coord_lt i⟩]
theorem state_next (hlt : (i 0).val + 1 < 16) :
    iprop(flying c fy tb (1 - (i 0).val % 2) (512 * ((i 0).val + 1)) ∗ free c fy ((i 0).val % 2)) ⊢ (state c fy tb ((i 0).val + 1) : sProp 𝕄) := by
  rw [state_mid c fy tb ⟨Nat.succ_pos _, hlt⟩, show 1 - (i 0).val % 2 = ((i 0).val + 1) % 2 from by omega, show 1 - ((i 0).val + 1) % 2 = (i 0).val % 2 from by omega]
theorem state_last (hlt : ¬ (i 0).val + 1 < 16) :
    iprop(free c fy (1 - (i 0).val % 2) ∗ free c fy ((i 0).val % 2)) ⊢ (state c fy tb ((i 0).val + 1) : sProp 𝕄) := by
  have := coord_lt i
  rw [state_end c fy tb (by omega), show 1 - (i 0).val % 2 = 0 from by omega, show (i 0).val % 2 = 1 from by omega]

include hI in
theorem part1_wp (X3 : Vec F S256x128 .f32) :
    iprop(ptHalf c tbP tb ∗ (∃ W, owes (c : Thread nD τ) 0 W) ∗ state c fy tb (i 0).val ∗ owns (c : Thread nD τ) M3 fullShare X3)
      ⊢ wp frame (wpE (defs₀ (F := F)) Variants.none (c : Thread nD τ) none) Set.univ (Part1 (F := F) i M3 h3 M4 h4 M5 h5 M6 h6 M7 h7)
        (fun v => iprop(⌜v = k0_pay2 X3 (rowsOf c fy tb (512 * (i 0).val) 0) (rowsOf c fy tb (512 * (i 0).val) 1)⌝ ∗ owns (c : Thread nD τ) M3 fullShare X3
          ∗ ptHalf c tbP tb ∗ (∃ W, owes (c : Thread nD τ) 0 W) ∗ state c fy tb ((i 0).val + 1))) := by
  unfold Part1
  rw [k0_part1_eq_skeleton]
  unfold k0_part1_skel
  have hlt := coord_lt i
  by_cases hz : (i 0).val = 0
  · have h1 := (cond1_iff i).mpr hz
    have h2' : (i 0).val + 1 < 16 := by omega
    have h2 := (cond2_iff i).mpr h2'
    rw [dif_pos h1, dif_pos h2, wp_bind]
    iintro ⟨Ht, HW, Hs, H3⟩
    ihave Hs := (state_zero c fy tb i hz) $$ Hs
    icases Hs with ⟨Hf0, Hf1⟩
    iapply (wp_wand_r frame _ _)
    isplitl [Ht Hf0]
    · iapply (loop1 c fy tb i hI h1)
      isplitl [Ht]; · iexact Ht
      iexact Hf0
    iintro %_ ⟨Ht, Hf0⟩
    ihave Hf0 := (flying_zero c fy tb i hz) $$ Hf0
    dsimp only
    rw [wp_bind]
    iapply (wp_wand_r frame _ _)
    isplitl [Ht Hf1]
    · iapply (loop2 c fy tb i hI h2 h2')
      isplitl [Ht]; · iexact Ht
      iexact Hf1
    iintro %_ ⟨Ht, Hf1⟩
    dsimp only
    iapply (wp_wand_r frame _ _)
    isplitl [Ht HW Hf0 H3]
    · iapply (tail_wp c fy tb i hI X3)
      isplitl [Ht]; · iexact Ht
      isplitl [HW]; · iexact HW
      isplitl [Hf0]; · iexact Hf0
      iexact H3
    iintro %v ⟨%hv, H3, Ht, HW, Hf⟩
    isplitr; · ipureintro; exact hv
    isplitl [H3]; · iexact H3
    isplitl [Ht]; · iexact Ht
    isplitl [HW]; · iexact HW
    iapply (state_next c fy tb i h2')
    isplitl [Hf1]; · iexact Hf1
    iexact Hf
  · have h1 : ¬ k0_cond1 i = 1#1 := fun h => hz ((cond1_iff i).mp h)
    by_cases h2' : (i 0).val + 1 < 16
    · have h2 := (cond2_iff i).mpr h2'
      rw [dif_neg h1, dif_pos h2]
      dsimp only
      rw [wp_bind]
      iintro ⟨Ht, HW, Hs, H3⟩
      ihave Hs := (state_pos c fy tb i hz) $$ Hs
      icases Hs with ⟨Hf0, Hf1⟩
      iapply (wp_wand_r frame _ _)
      isplitl [Ht Hf1]
      · iapply (loop2 c fy tb i hI h2 h2')
        isplitl [Ht]; · iexact Ht
        iexact Hf1
      iintro %_ ⟨Ht, Hf1⟩
      dsimp only
      iapply (wp_wand_r frame _ _)
      isplitl [Ht HW Hf0 H3]
      · iapply (tail_wp c fy tb i hI X3)
        isplitl [Ht]; · iexact Ht
        isplitl [HW]; · iexact HW
        isplitl [Hf0]; · iexact Hf0
        iexact H3
      iintro %v ⟨%hv, H3, Ht, HW, Hf⟩
      isplitr; · ipureintro; exact hv
      isplitl [H3]; · iexact H3
      isplitl [Ht]; · iexact Ht
      isplitl [HW]; · iexact HW
      iapply (state_next c fy tb i h2')
      isplitl [Hf1]; · iexact Hf1
      iexact Hf
    · have h2 : ¬ k0_cond2 i = 1#1 := fun h => h2' ((cond2_iff i).mp h)
      rw [dif_neg h1, dif_neg h2]
      dsimp only
      iintro ⟨Ht, HW, Hs, H3⟩
      ihave Hs := (state_pos c fy tb i hz) $$ Hs
      icases Hs with ⟨Hf0, Hf1⟩
      iapply (wp_wand_r frame _ _)
      isplitl [Ht HW Hf0 H3]
      · iapply (tail_wp c fy tb i hI X3)
        isplitl [Ht]; · iexact Ht
        isplitl [HW]; · iexact HW
        isplitl [Hf0]; · iexact Hf0
        iexact H3
      iintro %v ⟨%hv, H3, Ht, HW, Hf⟩
      isplitr; · ipureintro; exact hv
      isplitl [H3]; · iexact H3
      isplitl [Ht]; · iexact Ht
      isplitl [HW]; · iexact HW
      iapply (state_last c fy tb i h2')
      isplitl [Hf1]; · iexact Hf1
      iexact Hf

/-- What a point leaves in the result's block. -/
def tileOut (b : ℕ) (X3 : Vec F S256x128 .f32) (X4 : Vec F S256x2048 .f32) (X5 : Vec F S1x1x2048 .f32) (X6 : Vec F S1x2048 .f32) : Vec F S256x2048 .f32 :=
  k0_pay1 (k0_pay2 X3 (rowsOf c fy tb b 0) (rowsOf c fy tb b 1)) X4 X5 X6

include hI in
/-- The body at a point. -/
theorem step (X3 : Vec F S256x128 .f32) (X4 : Vec F S256x2048 .f32) (X5 : Vec F S1x1x2048 .f32) (X6 : Vec F S1x2048 .f32) :
    iprop(ptHalf c tbP tb ∗ (∃ W, owes (c : Thread nD τ) 0 W) ∗ state c fy tb (i 0).val ∗ owns (c : Thread nD τ) M3 fullShare X3
        ∗ owns (c : Thread nD τ) M4 fullShare X4 ∗ owns (c : Thread nD τ) M5 fullShare X5 ∗ owns (c : Thread nD τ) M6 fullShare X6
        ∗ (∃ d, owns (c : Thread nD τ) M7 fullShare d))
      ⊢ wp frame (wpE (defs₀ (F := F)) Variants.none (c : Thread nD τ) none) Set.univ
        (cc0_combine (F := F) i tbP (Memref.isWhole_whole _) yA (Memref.isWhole_whole _) M3 h3 M4 h4 M5 h5 M6 h6 M7 h7 bS (Memref.isWhole_whole _) cc0_scratch1)
        (fun _ => iprop(ptHalf c tbP tb ∗ (∃ W, owes (c : Thread nD τ) 0 W) ∗ state c fy tb ((i 0).val + 1) ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare (tileOut c fy tb (512 * (i 0).val) X3 X4 X5 X6))) := by
  rw [cc0_combine_eq_skeleton]
  unfold cc0_combine_skel
  rw [wp_bind]
  iintro ⟨Ht, HW, Hs, H3, H4, H5, H6, ⟨%d, H7⟩⟩
  iapply (wp_wand_r frame _ _)
  isplitl [Ht HW Hs H3]
  · iapply (part1_wp c fy tb i hI X3)
    isplitl [Ht]; · iexact Ht
    isplitl [HW]; · iexact HW
    isplitl [Hs]; · iexact Hs
    iexact H3
  iintro %v ⟨%hv, H3, Ht, HW, Hs⟩
  subst hv
  unfold owns
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  sl_exec
  sl_step
  isplitl [Ht]; · iexact Ht
  isplitl [HW]; · iexact HW
  isplitl [Hs]; · iexact Hs
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  iexists _; isplitr; swap; · iexact H7
  ipureintro
  refine (View.read_writes_full _ _ _ _ _).trans ?_
  unfold tileOut
  rw [View.readAt_full, View.readAt_full, View.readAt_full, e4, e5, e6]

end Cert.Comb

end
-- ==== Proof.CombFrame.lean ====
module

public import proofs.«01_k».proof.Proof.CombStep
public import Idealize.ShloMosaic.Lib.Pipeline.FrameSuffix

@[expose] public section

set_option maxRecDepth 16384

noncomputable section

namespace Cert.Comb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- Core `c`'s buffers when the region is entered: as launched but for the gain as one row. -/
abbrev V₀ (c : Dev nD) : Valuation τ sig (Elt F) := StableHlo.after [hostOps0].flatten (fun b => m (c, b))
abbrev V (c : Dev nD) (b : Ref sig .tc) : Buf (Elt F) ((c : Thread nD τ).loc b) := V₀ m c (Proc.devRef .tc b)

theorem V_kept (c : Dev nD) (b : Ref sig .tc) (h : b ≠ main_v0) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.Forall, StableHlo.unary_writes, Finset.mem_singleton]
  exact StableHlo.devRef_ne_of_ne h

theorem hmain (𝒱₀ : Variants) : Pipeline.HMainPK (Ix := Unit) (Name := ℕ) (U := Pipeline.UD sig nD τ) (Lvl := ℕ) pcfgs 0 defs₀ 𝒱₀ m (main (F := F))
    (fun c b => V₀ m c (Proc.devRef .tc b)) (fun _ => Pipeline.chain ([hostOps1].map StableHlo.seq)) :=
  Pipeline.hmainP_around pcfgs 0 defs₀ 𝒱₀ m main [hostOps0] [hostOps1] hostOps0_sub rfl main_chain

/-- The table's contents. -/
def tbl : pre0.Contents (Elt F) := fun j => V m (0 : Dev nD) (pre0.ref j)
theorem V_pre (c : Dev nD) (j : Fin 1) : V m c (pre0.ref j) = tbl m j := by obtain rfl : c = 0 := Subsingleton.elim _ _; rfl

/-- The table as this certificate takes it: every word names a row of the experts' array. -/
abbrev Table : Prop := Inr (F := F) 0 (tbl m 0)

theorem laidAt (L : Table m) (c : Dev nD) : Inr (F := F) c (tbl m 0) := L

abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = ptHalf c tbP (tbl m 0) := by
  unfold Pipeline.ΦT Pipeline.prefHeld
  rw [bigSep_univ_eq_bigSepL [(0 : Fin 1)] (by decide) (by decide)]
  rfl

/-- Window `w`'s block at point `t`, off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The tile a point is. -/
theorem coord_val (t : Fin grid0.N) : ((grid0.coords t) 0).val = t.val :=
  (by decide +kernel : ∀ t : Fin grid0.N, ((grid0.coords t) 0).val = t.val) t

/-- What is held before point `k`. -/
def inv (c : Dev nD) (k : ℕ) : sProp 𝕄 :=
  iprop(ptHalf (F := F) c tbP (tbl m 0) ∗ (∃ r, prngReg c r) ∗ state c (V m c main_arg0) (tbl m 0) k)

/-- What a point leaves in the result's block. -/
def outAt (c : Dev nD) (t : Fin (cfgM m).N) : Vec F S256x2048 .f32 :=
  tileOut c (V m c main_arg0) (tbl m 0) (512 * t.val) (iblk m c 0 t) (iblk m c 1 t) (iblk m c 2 t) (iblk m c 3 t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => outAt m c t
  Φ t := inv m c t.val
  q _ := fullShare
  owed _ := 0

theorem A_eq (c : Dev nD) (w : Fin (cfgM m).W) : (dats m 0 c).A w = V m c (Pipeline.arrRef spec0 w) := by dsimp only [dats]
theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  before0_1_of m (dats m 0 c) (A_eq m c 1) (after0_1 m c) t d
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  before0_2_of m (dats m 0 c) (A_eq m c 2) (after0_2 m c) t d
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  before0_3_of m (dats m 0 c) (A_eq m c 3) (after0_3 m c) t d
theorem after0_4 (c : Dev nD) (t : Fin (cfgM m).N) : (dats m 0 c).after 4 t = outAt m c t := by dsimp only [dats]; try rfl

abbrev ms0_0 (t : Fin (cfgM m).N) : Memref sig .tc .vmem S256x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S256x2048 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1x2048 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2048 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S256x2048 .f32 := spec0_4.stage ((cfgM m).slots t 4)
abbrev hs0_4 (t : Fin (cfgM m).N) : (ms0_4 m t).IsWhole := hstage0_4 (((cfgM m).slots t 4).cast nbuf0_4)

/-- The body at point `t`. -/
abbrev bodyAt0 (t : Fin (cfgM m).N) : Prog (TpuEff nD τ sig (Elt F) Λ₀ .tc) PUnit :=
  cc0_combine (grid0.coords t) tbP (Memref.isWhole_whole _) yA (Memref.isWhole_whole _) (ms0_0 m t) (hs0_0 m t) (ms0_1 m t) (hs0_1 m t)
    (ms0_2 m t) (hs0_2 m t) (ms0_3 m t) (hs0_3 m t) (ms0_4 m t) (hs0_4 m t) bS (Memref.isWhole_whole _) cc0_scratch1

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t))

section Run

variable (L : Table m)

include L in
/-- The body at any point. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost
  simp only [before0_0, before0_1, before0_2, before0_3]
  rw [after0_0, after0_1, after0_2, after0_3, after0_4, show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv outAt
  have hs := step c (V m c main_arg0) (tbl m 0) (grid0.coords t) (M3 := ms0_0 m t) (h3 := hs0_0 m t) (M4 := ms0_1 m t) (h4 := hs0_1 m t)
    (M5 := ms0_2 m t) (h5 := hs0_2 m t) (M6 := ms0_3 m t) (h6 := hs0_3 m t) (M7 := ms0_4 m t) (h7 := hs0_4 m t) (laidAt m L c)
    (iblk m c 0 t) (iblk m c 1 t) (iblk m c 2 t) (iblk m c 3 t)
  rw [coord_val t] at hs
  iintro ⟨⟨Ht, Hg, Hs⟩, ⟨%W, -, HW⟩, ⟨%d0, H0⟩, ⟨%d1, H1⟩, ⟨%d2, H2⟩, ⟨%d3, H3⟩, ⟨%d4, H4⟩⟩
  iapply (wp_wand_r frame _ _)
  isplitl [Ht HW Hs H0 H1 H2 H3 H4]
  · iapply hs
    isplitl [Ht]; · iexact Ht
    isplitl [HW]; · iexists W; iexact HW
    isplitl [Hs]; · iexact Hs
    isplitl [H0]; · iexact H0
    isplitl [H1]; · iexact H1
    isplitl [H2]; · iexact H2
    isplitl [H3]; · iexact H3
    iexists _; iexact H4
  iintro %_ ⟨Ht, ⟨%W', HW'⟩, Hs, H0, H1, H2, H3, H4⟩
  isplitl [Ht Hg Hs]
  · isplitl [Ht]; · iexact Ht
    isplitl [Hg]; · iexact Hg
    iexact Hs
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin (cfgM m).N) : defs₀ (F := F) .tc (cfgM m).body ((cfgM m).bodyArgs t ((cfgM m).slots t)) = bodyAt0 m t := by
  unfold defs₀; rw [Defs.onTc_tc]

include L in
theorem body_obligation (c : Dev nD) : BodyObligation (dats (F := F) m 0 c) (defs₀ (F := F)) Variants.none () Set.univ := fun t => by
  rw [bigSep_W0, bigSep_W0, defs₀_row m]
  exact triple_restated (sound_body m L c t) rfl .rfl fun _ => .rfl

/-! ## The run -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = (yA.view.loc (c : Thread nD τ) ↦{fullShare} V m c main_arg0) := by
  rw [BI.bigSep_eq_bigSepL_of_eq [main_arg0] (by decide) (by decide)]; rfl

/-- The scratch as its two slots. -/
theorem slots_split (c : Dev nD) (f : Bf (F := F) c bS) : (bS.view.loc (c : Thread nD τ) ↦{fullShare} f : sProp 𝕄)
    ⊢ iprop((bS.view.loc (c : Thread nD τ) ↦[sset 0]{fullShare} f) ∗ (bS.view.loc (c : Thread nD τ) ↦[sset 1]{fullShare} f)) := by
  refine BIBase.Entails.trans (Entails.of_eq (congrArg (fun S : Finset (Idx (bS.view.loc (c : Thread nD τ))) => (bS.view.loc (c : Thread nD τ) ↦[S]{fullShare} f : sProp 𝕄)) sset_union)) ?_
  exact (pointsTo_union sset_disj).1
theorem slots_join (c : Dev nD) (f g : Bf (F := F) c bS) : iprop((bS.view.loc (c : Thread nD τ) ↦[sset 0]{fullShare} f) ∗ (bS.view.loc (c : Thread nD τ) ↦[sset 1]{fullShare} g))
    ⊢ (iprop(∃ h : Bf (F := F) c bS, (bS.view.loc (c : Thread nD τ) ↦{fullShare} h)) : sProp 𝕄) := by
  refine BIBase.Entails.trans (pointsTo_join sset_disj) ?_
  refine BIBase.Entails.trans (Entails.of_eq (congrArg (fun S : Finset (Idx (bS.view.loc (c : Thread nD τ))) => (bS.view.loc (c : Thread nD τ) ↦[S]{fullShare} ((sset 1).piecewise g f) : sProp 𝕄)) sset_union.symm)) ?_
  iintro H; iexists _; iexact H

theorem rest_split (c : Dev nD) (fy : Bf (F := F) c yA) (tb : Bf (F := F) c tbP) :
    iprop((∃ f : Bf (F := F) c bS, bS.view.loc (c : Thread nD τ) ↦{fullShare} f) ∗ (semVal ((c : Thread nD τ), SemLoc.dma 8) 0 ∗ semVal ((c : Thread nD τ), SemLoc.dma 9) 0)
      ∗ (yA.view.loc (c : Thread nD τ) ↦{fullShare} fy)) ⊢ (state c fy tb 0 : sProp 𝕄) := by
  rw [state_end c fy tb (by omega)]
  unfold free
  iintro ⟨⟨%f, H⟩, ⟨Hq8, Hq9⟩, Hy⟩
  ihave H := (slots_split c f) $$ H
  icases H with ⟨HA, HB⟩
  ihave Hy := (pointsTo_share (PosShare.mem_left_op_right fullShare)).1 $$ Hy
  icases Hy with ⟨YA, YB⟩
  isplitl [HA YA Hq8]
  · isplitl [HA]; · iexists _; iexact HA
    isplitl [YA]; · iexact YA
    iexact Hq8
  isplitl [HB]; · iexists _; iexact HB
  isplitl [YB]; · iexact YB
  iexact Hq9
theorem rest_join (c : Dev nD) (fy : Bf (F := F) c yA) (tb : Bf (F := F) c tbP) :
    (state c fy tb 16 : sProp 𝕄) ⊢ iprop((∃ f : Bf (F := F) c bS, bS.view.loc (c : Thread nD τ) ↦{fullShare} f)
      ∗ (semVal ((c : Thread nD τ), SemLoc.dma 8) 0 ∗ semVal ((c : Thread nD τ), SemLoc.dma 9) 0) ∗ (yA.view.loc (c : Thread nD τ) ↦{fullShare} fy)) := by
  rw [state_end c fy tb (by omega)]
  unfold free
  iintro ⟨⟨⟨%f, HA⟩, YA, Hq8⟩, ⟨⟨%g, HB⟩, YB, Hq9⟩⟩
  isplitl [HA HB]
  · iapply (slots_join c f g)
    isplitl [HA]; · iexact HA
    iexact HB
  isplitl [Hq8 Hq9]
  · isplitl [Hq8]; · iexact Hq8
    iexact Hq9
  iapply (pointsTo_share (PosShare.mem_left_op_right fullShare)).2
  isplitl [YA]; · iexact YA
  iexact YB

theorem enter (c : Dev nD) : iprop(Pipeline.ΦD osem0 spec0 H0 (V m) c ∗ Pipeline.ΦT pre0 (tbl m) c) ⊢ (inv m c 0 : sProp 𝕄) := by
  rw [Pipeline.ΦD_eq, scopedRest0_eq, ownSems00_eq, hbmPts0_eq, PhiT0_eq]
  unfold inv
  iintro ⟨⟨HS, Hg, Hq, HY⟩, Ht⟩
  isplitl [Ht]; · iexact Ht
  isplitl [Hg]; · iexact Hg
  iapply (rest_split c (V m c main_arg0) (tbl m 0))
  isplitl [HS]; · iexact HS
  isplitl [Hq]; · iexact Hq
  iexact HY

theorem leave (c : Dev nD) : (inv m c 16 : sProp 𝕄) ⊢ Pipeline.ΦD osem0 spec0 H0 (V m) c := by
  rw [Pipeline.ΦD_eq, scopedRest0_eq, ownSems00_eq, hbmPts0_eq]
  unfold inv
  iintro ⟨-, Hg, Hs⟩
  ihave Hs := (rest_join c (V m c main_arg0) (tbl m 0)) $$ Hs
  icases Hs with ⟨HS, Hq, HY⟩
  isplitl [HS]; · iexact HS
  isplitl [Hg]; · iexact Hg
  isplitl [Hq]; · iexact Hq
  iexact HY

theorem sfx_but : ∀ ops ∈ ([hostOps1] : List (List (HloOp τ sig (Elt F)))), ∀ op ∈ ops, op.bufs ⊆ Pipeline.tailRefsBut sig pre0 spec0 H0 := by
  intro ops hops op hop
  obtain rfl := List.mem_singleton.mp hops
  refine Pipeline.sub_tailRefsBut pre0 spec0 H0 op ((List.forall_iff_forall_mem.mp hostOps1_sub) op hop) ?_ ?_
  all_goals obtain rfl := List.mem_singleton.mp hop
  · intro k; obtain rfl : k = 0 := Subsingleton.elim _ _
    rw [StableHlo.reshape_bufs, Finset.mem_insert, Finset.mem_singleton]
    exact not_or.mpr ⟨StableHlo.devRef_ne_of_ne (by decide), StableHlo.devRef_ne_of_ne (by decide)⟩
  · intro b hb; obtain rfl := Finset.mem_singleton.mp hb
    rw [StableHlo.reshape_bufs, Finset.mem_insert, Finset.mem_singleton]
    exact not_or.mpr ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl
theorem sfx_keeps : ∀ ops ∈ ([hostOps1] : List (List (HloOp τ sig (Elt F)))), ∀ op ∈ ops, ∀ w, Proc.devRef .tc (Pipeline.arrRef spec0 w) ∉ op.writes := by
  intro ops hops op hop
  obtain rfl := List.mem_singleton.mp hops
  obtain rfl := List.mem_singleton.mp hop
  intro w
  fin_cases w <;> simp only [StableHlo.reshape_writes, Finset.mem_singleton] <;> exact StableHlo.devRef_ne_of_ne (by decide)

/-- The buffers after the run. -/
abbrev Vend (c : Dev nD) (b : Ref sig .tc) : Buf (Elt F) ((c : Thread nD τ).loc b) :=
  Pipeline.afterTail pcfgs (fun _ => adm m) (dats m) 0 (V₀ m) [hostOps1] c b

include L in
set_option backward.isDefEq.respectTransparency.types false in
/-- The run: every result array at what the points leave, the others as they were or as the lines around the region leave them, every counter at zero. -/
theorem run_main : θ_run defs (onTc (τ := τ) (main (F := F))) (s₀ m ρ)
    (fun r => Pipeline.FramePost (Pipeline.pin pcfgs fun _ => adm m) (dats m) 0 (Vend m) r ∧ r.2.sem = fun _ => 0) :=
  Pipeline.θ_run_frameP_dma_around (Q' := _) pcfgs (fun _ => adm m) (dats m) (0 : Fin 1) launch0 osem0 defs₀ Variants.none ownSemFacts0 H0 H0_sub m ρ main
    (hbody := fun c => (body_obligation m L c).loose) (hshare := fun c => (dats m 0 c).share_full fun _ => rfl)
    (howed := fun _ _ => rfl) (V₀ := V₀ m) (opss := [hostOps1]) (hsub := sfx_but) (hfresh := sfx_fresh) (hkeep := sfx_keeps)
    (hmain := hmain m Variants.none) (hA := A_eq m) (hpf := V_pre m)
    (hin := fun c => enter m c) (hout := fun c => leave m c)

theorem Vend_kept (c : Dev nD) (b : Ref sig .tc) (h : b ≠ main_v2) (hw : ∀ w, Pipeline.arrRef spec0 w ≠ b) : Vend m c b = V m c b := by
  unfold Vend Pipeline.afterTail
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h))]
  exact Pipeline.withArrays_of_ne spec0 c (V₀ m c) _ b hw

/-- The argument arrays after the run. -/
theorem args_of (r : PUnit × MemSt nD τ sig (Elt F)) (h : Pipeline.FramePost (Pipeline.pin pcfgs fun _ => adm m) (dats m) 0 (Vend m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := ⟨
    ((h c).2 main_arg0 (by decide : main_arg0 ∈ Pipeline.restRefs sig spec0)).trans ((Vend_kept m c main_arg0 (by decide) (by decide)).trans (V_kept m c main_arg0 (by decide))),
    ((h c).2 main_arg1 (by decide : main_arg1 ∈ Pipeline.restRefs sig spec0)).trans ((Vend_kept m c main_arg1 (by decide) (by decide)).trans (V_kept m c main_arg1 (by decide))),
    ((h c).1 0).trans (((dats m 0 c).arrAt_in 0 rfl _).trans ((A_eq m c 0).trans (V_kept m c main_arg2 (by decide)))),
    ((h c).1 1).trans (((dats m 0 c).arrAt_in 1 rfl _).trans ((A_eq m c 1).trans (V_kept m c main_arg3 (by decide)))),
    ((h c).1 2).trans (((dats m 0 c).arrAt_in 2 rfl _).trans ((A_eq m c 2).trans (V_kept m c main_arg4 (by decide)))),
    ((h c).2 main_arg5 (by decide : main_arg5 ∈ Pipeline.restRefs sig spec0)).trans ((Vend_kept m c main_arg5 (by decide) (by decide)).trans (V_kept m c main_arg5 (by decide)))⟩

include L in
/-- The argument arrays end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main m ρ L)

end Run

end Cert.Comb

end
-- ==== Proof.CombSpec.lean ====
/- The combination of the experts' rows, as mathematics: a row's two experts' rows weighted, gated and added to the row, then
   normalised. -/
module

public import Idealize.ShloMosaic.Lib.Pipeline.ValueKit

@[expose] public section

noncomputable section

namespace Cert.Mixing

open Idealize.ShloMosaic

/-- The row a word names. -/
def rowAt (p : (⟨1, ![12288]⟩ : Shape).Idx → BitVec 32) (j : Fin 12288) : Fin 20480 := ⟨(p (ix1 j)).toNat % 20480, Nat.mod_lt _ (by decide)⟩

/-- Row `n` and its two experts' rows, weighted by the columns 2 and 3 of its routing and gated by row `s` of the gates. -/
def mixedRow (y : (⟨2, ![20480, 2048]⟩ : Shape).Idx → EReal) (p : (⟨1, ![12288]⟩ : Shape).Idx → BitVec 32) (w : (⟨2, ![6144, 128]⟩ : Shape).Idx → EReal)
    (x : (⟨2, ![6144, 2048]⟩ : Shape).Idx → EReal) (g : (⟨3, ![8, 1, 2048]⟩ : Shape).Idx → EReal) (n : Fin 6144) (s : Fin 8) (d : Fin 2048) : EReal :=
  x (ix2 n d) + g (ix3 s 0 d) * (w (ix2 n 2) * y (ix2 (rowAt p ⟨2 * n.val, by omega⟩) d) + w (ix2 n 3) * y (ix2 (rowAt p ⟨2 * n.val + 1, by omega⟩) d))

/-- A row divided by the root of its mean square, times the gain. -/
def normedRow (v : Fin 2048 → EReal) (f : (⟨1, ![2048]⟩ : Shape).Idx → EReal) (d : Fin 2048) : EReal :=
  v d * Ideal.rsqrt (Ideal.div (∑ e, v e * v e) (Ideal.ofBits .f32 0x45000000#32) + Ideal.ofBits .f32 0x358637BD#32) * f (ix1 d)

/-- A row of the combination. -/
def combined (y : (⟨2, ![20480, 2048]⟩ : Shape).Idx → EReal) (p : (⟨1, ![12288]⟩ : Shape).Idx → BitVec 32) (w : (⟨2, ![6144, 128]⟩ : Shape).Idx → EReal)
    (x : (⟨2, ![6144, 2048]⟩ : Shape).Idx → EReal) (g : (⟨3, ![8, 1, 2048]⟩ : Shape).Idx → EReal) (f : (⟨1, ![2048]⟩ : Shape).Idx → EReal)
    (n : Fin 6144) (s : Fin 8) (d : Fin 2048) : EReal := normedRow (mixedRow y p w x g n s) f d

/-- A word below 20480 is the row's number. -/
theorem word_row (p : (⟨1, ![12288]⟩ : Shape).Idx → BitVec 32) (j : Fin 12288) (h : (p (ix1 j)).toNat < 20480) : p (ix1 j) = BitVec.ofNat 32 (rowAt p j).val := by
  apply BitVec.eq_of_toNat_eq
  rw [BitVec.toNat_ofNat]
  show _ = (p (ix1 j)).toNat % 20480 % 2 ^ 32
  omega

end Cert.Mixing

end
-- ==== Proof.CombValue.lean ====
/- What the combination's result array holds after the run, at the ideal instance: each row the combination of the reference. -/
module

public import proofs.«01_k».proof.Proof.CombFrame
public import proofs.«01_k».proof.Proof.CombSpec
public import Idealize.ShloMosaic.Lib.Pipeline.ValueKit
public import Idealize.ShloMosaic.Lib.Pipeline.Value

@[expose] public section

set_option maxRecDepth 16384

noncomputable section

namespace Cert.Comb

open Idealize.ShloMosaic Idealize.ShloMosaic.TcCoe Idealize.SL.Sem
open Cert.Mixing
open Cert.Kernel4Ideal Cert.Kernel4Ideal.Gen

/-- The row of the activations that a row of the result is, and its gate. -/
def nRow (q : Fin 4096) : Fin 6144 := ⟨q.val, by omega⟩
def nGate (q : Fin 4096) : Fin 8 := ⟨0, by omega⟩

/-- The two experts' rows, weighted, at an index. -/
theorem pay2_apply (X3 : Vec Ideal S256x128 .f32) (y0 y1 : Vec Ideal S1x1x256x2048 .f32) (a : Fin 256) (d : Fin 2048) :
    k0_pay2 X3 y0 y1 (ix2 a d) = X3 (ix2 a 2) * y0 (ix4 0 0 a d) + X3 (ix2 a 3) * y1 (ix4 0 0 a d) := by
  unfold k0_pay2
  pointwise
/-- The normalised row, at an index. -/
theorem pay1_apply (v : FVec Ideal S256x2048 .f32) (x : Vec Ideal S256x2048 .f32) (g : Vec Ideal S1x1x2048 .f32) (f : Vec Ideal S1x2048 .f32) (a : Fin 256) (d : Fin 2048) :
    k0_pay1 v x g f (ix2 a d) = normedRow (fun e => x (ix2 a e) + g (ix3 0 0 e) * v (ix2 a e)) (fun i => f (ix2 0 (i 0))) d := by
  unfold k0_pay1 normedRow
  pointwise

variable (m : (ℓ : Loc nD τ sig) → Buf (Elt Ideal) ℓ) (ρ : Dev nD → PrngReg)

abbrev at0 (t : Fin (cfgM m).N) : Fin 2 → ℕ := ((cfgM m).win 0).index t
abbrev at1 (t : Fin (cfgM m).N) : Fin 2 → ℕ := ((cfgM m).win 1).index t
abbrev at2 (t : Fin (cfgM m).N) : Fin 3 → ℕ := ((cfgM m).win 2).index t
abbrev at3 (t : Fin (cfgM m).N) : Fin 2 → ℕ := ((cfgM m).win 3).index t
abbrev at4 (t : Fin (cfgM m).N) : Fin 2 → ℕ := ((cfgM m).win 4).index t
theorem at0_eq (t : Fin (cfgM m).N) : at0 m t = ![t.val, 0] :=
  (by decide +kernel : ∀ t : Fin grid0.N, cc0_transform_1 (grid0.coords t) = ![t.val, 0]) t
theorem at1_eq (t : Fin (cfgM m).N) : at1 m t = ![t.val, 0] :=
  (by decide +kernel : ∀ t : Fin grid0.N, cc0_transform_2 (grid0.coords t) = ![t.val, 0]) t
theorem at2_eq (t : Fin (cfgM m).N) : at2 m t = ![0, 0, 0] :=
  (by decide +kernel : ∀ t : Fin grid0.N, cc0_transform_3 (grid0.coords t) = ![0, 0, 0]) t
theorem at3_eq (t : Fin (cfgM m).N) : at3 m t = ![0, 0] :=
  (by decide +kernel : ∀ t : Fin grid0.N, cc0_transform_4 (grid0.coords t) = ![0, 0]) t
theorem at4_eq (t : Fin (cfgM m).N) : at4 m t = ![t.val, 0] :=
  (by decide +kernel : ∀ t : Fin grid0.N, cc0_transform_5 (grid0.coords t) = ![t.val, 0]) t

theorem route_apply (c : Dev nD) (t : Fin (cfgM m).N) (a : Fin 256) (k : Fin 128) (q : Fin 4096) (hq : q.val = 256 * t.val + a.val) :
    iblk m c 0 t (ix2 a k) = m ((c : Thread nD τ).loc main_arg2) (ix2 (nRow q) k) := by
  have h0 : at0 m t 0 = t.val := congrFun (at0_eq m t) 0
  have h1 : at0 m t 1 = 0 := congrFun (at0_eq m t) 1
  show V m c main_arg2 ((((cfgM m).win 0).blk t).view.emb (ix2 a k)) = _
  rw [V_kept m c main_arg2 (by decide)]
  refine congrArg _ (funext fun b => ?_)
  match b with
  | ⟨0, _⟩ => exact Fin.ext (show at0 m t 0 * 256 + 1 * a.val = (nRow q).val by rw [h0]; unfold nRow; dsimp only; omega)
  | ⟨1, _⟩ => exact Fin.ext (show at0 m t 1 * 128 + 1 * k.val = k.val by rw [h1]; omega)
theorem acts_apply (c : Dev nD) (t : Fin (cfgM m).N) (a : Fin 256) (k : Fin 2048) (q : Fin 4096) (hq : q.val = 256 * t.val + a.val) :
    iblk m c 1 t (ix2 a k) = m ((c : Thread nD τ).loc main_arg3) (ix2 (nRow q) k) := by
  have h0 : at1 m t 0 = t.val := congrFun (at1_eq m t) 0
  have h1 : at1 m t 1 = 0 := congrFun (at1_eq m t) 1
  show V m c main_arg3 ((((cfgM m).win 1).blk t).view.emb (ix2 a k)) = _
  rw [V_kept m c main_arg3 (by decide)]
  refine congrArg _ (funext fun b => ?_)
  match b with
  | ⟨0, _⟩ => exact Fin.ext (show at1 m t 0 * 256 + 1 * a.val = (nRow q).val by rw [h0]; unfold nRow; dsimp only; omega)
  | ⟨1, _⟩ => exact Fin.ext (show at1 m t 1 * 2048 + 1 * k.val = k.val by rw [h1]; omega)
theorem gate_apply (c : Dev nD) (t : Fin (cfgM m).N) (a : Fin 256) (k : Fin 2048) (q : Fin 4096) (hq : q.val = 256 * t.val + a.val) :
    iblk m c 2 t (ix3 0 0 k) = m ((c : Thread nD τ).loc main_arg4) (ix3 (nGate q) 0 k) := by
  have h0 : at2 m t 0 = 0 := congrFun (at2_eq m t) 0
  have h1 : at2 m t 1 = 0 := congrFun (at2_eq m t) 1
  have h2 : at2 m t 2 = 0 := congrFun (at2_eq m t) 2
  show V m c main_arg4 ((((cfgM m).win 2).blk t).view.emb (ix3 0 0 k)) = _
  rw [V_kept m c main_arg4 (by decide)]
  refine congrArg _ (funext fun b => ?_)
  match b with
  | ⟨0, _⟩ => exact Fin.ext (show at2 m t 0 * 1 + 1 * 0 = (nGate q).val by rw [h0] <;> unfold nGate <;> (try dsimp only) <;> (try omega))
  | ⟨1, _⟩ => exact Fin.ext (show at2 m t 1 * 1 + 1 * 0 = 0 by rw [h1])
  | ⟨2, _⟩ => exact Fin.ext (show at2 m t 2 * 2048 + 1 * k.val = k.val by rw [h2]; omega)
/-- The gain as the region finds it. -/
theorem gain_V (c : Dev nD) (k : Fin 2048) : V m c main_v0 (ix2 0 k) = m ((c : Thread nD τ).loc main_arg5) (ix1 k) := by
  unfold V V₀
  simp only [hostOps0, List.flatten_cons, List.flatten_nil, List.append_nil, StableHlo.after_cons, StableHlo.after_nil]
  rw [StableHlo.unary_result']
  pointwise
theorem gain_apply (c : Dev nD) (t : Fin (cfgM m).N) (k : Fin 2048) :
    iblk m c 3 t (ix2 0 k) = m ((c : Thread nD τ).loc main_arg5) (ix1 k) := by
  have h0 : at3 m t 0 = 0 := congrFun (at3_eq m t) 0
  have h1 : at3 m t 1 = 0 := congrFun (at3_eq m t) 1
  refine Eq.trans ?_ (gain_V m c k)
  show V m c main_v0 ((((cfgM m).win 3).blk t).view.emb (ix2 0 k)) = _
  refine congrArg _ (funext fun b => ?_)
  match b with
  | ⟨0, _⟩ => exact Fin.ext (show at3 m t 0 * 1 + 1 * 0 = 0 by rw [h0])
  | ⟨1, _⟩ => exact Fin.ext (show at3 m t 1 * 2048 + 1 * k.val = k.val by rw [h1]; omega)

/-- What the region's array ends holding. -/
abbrev layer (c : Dev nD) : Buf (Elt Ideal) ((c : Thread nD τ).loc main_v1) := fun i : S4096x2048.Idx =>
  combined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (nRow (i 0)) (nGate (i 0)) (i 1)

/-- A point's rows of the experts' array. -/
theorem rows_apply (c : Dev nD) (t : Fin (cfgM m).N) (k : ℕ) (hk : k < 2) (a : Fin 256) (d : Fin 2048) (q : Fin 4096) (hq : q.val = 256 * t.val + a.val) :
    rowsOf c (V m c main_arg0) (tbl m 0) (512 * t.val) k (ix4 0 0 a d)
      = m ((c : Thread nD τ).loc main_arg0) (ix2 (rowAt (m ((c : Thread nD τ).loc main_arg1)) ⟨2 * (nRow q).val + k, by omega⟩) d) := by
  obtain rfl : c = 0 := Subsingleton.elim _ _
  unfold rowsOf
  rw [V_kept m 0 main_arg0 (by decide)]
  refine congrArg (fun z => m (((0 : Dev nD) : Thread nD τ).loc main_arg0) (ix2 z d)) (Fin.ext ?_)
  show pos 0 (tbl m 0) (512 * t.val + (2 * a.val + k)) % 20480 = (m (((0 : Dev nD) : Thread nD τ).loc main_arg1) (ix1 ⟨2 * (nRow q).val + k, by omega⟩)).toNat % 20480
  refine congrArg (· % 20480) ?_
  unfold pos tbl
  refine congrArg (fun z => (m (((0 : Dev nD) : Thread nD τ).loc main_arg1) (ix1 z)).toNat) (Fin.ext ?_)
  have := q.isLt
  unfold nRow
  dsimp only
  omega

/-- What a point leaves, at an index. -/
theorem outAt_apply (c : Dev nD) (t : Fin (cfgM m).N) (a : Fin 256) (d : Fin 2048) (q : Fin 4096) (hq : q.val = 256 * t.val + a.val) :
    outAt m c t (ix2 a d) = layer m c (ix2 q d) := by
  show _ = combined _ _ _ _ _ _ (nRow q) (nGate q) d
  unfold outAt tileOut
  refine (pay1_apply _ _ _ _ a d).trans ?_
  unfold combined
  refine congrArg₂ (normedRow · · d) (funext fun e => ?_) (funext fun i => ?_)
  · unfold mixedRow
    refine congrArg₂ (fun x y : EReal => x + y) (acts_apply m c t a e q hq) (congrArg₂ (fun x y : EReal => x * y) (gate_apply m c t a e q hq) ?_)
    refine (pay2_apply _ _ _ a e).trans ?_
    exact congrArg₂ (fun x y : EReal => x + y)
      (congrArg₂ (fun x y : EReal => x * y) (route_apply m c t a 2 q hq) (rows_apply m c t 0 (by omega) a e q hq))
      (congrArg₂ (fun x y : EReal => x * y) (route_apply m c t a 3 q hq) (rows_apply m c t 1 (by omega) a e q hq))
  · refine (gain_apply m c t (i 0)).trans (congrArg _ (eq_ix1 i).symm)

/-- Every point writes its block back. -/
theorem flushed (t : Fin (cfgM m).N) : ((cfgM m).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true) t

/-- The point that writes a row, and that it does. -/
abbrev pointOf (q : Fin 4096) : Fin (cfgM m).N := ⟨q.val / 256, lt_of_lt_of_eq (by omega : q.val / 256 < 16) N_0.symm⟩
theorem covered (i : S4096x2048.Idx) (q : Fin 4096) (hq : q.val = (i 0).val) : i ∈ (((cfgM m).win 4).blk (pointOf m q)).view.set := by
  have hi1 : (i 1).val < 2048 := (i 1).isLt
  have h0 : at4 m (pointOf m q) 0 = q.val / 256 := congrFun (at4_eq m _) 0
  have h1 : at4 m (pointOf m q) 1 = 0 := congrFun (at4_eq m _) 1
  refine (congrArg (fun s => i ∈ s) (View.set_slice_whole (b := main_v1) (((cfgM m).win 4).rect (pointOf m q)))).mpr ?_
  refine Rect.mem_set_unit.mpr (fun (a : Fin 2) => ?_)
  match a with
  | ⟨0, _⟩ => exact (by rw [h0]; omega : at4 m (pointOf m q) 0 * 256 ≤ (i 0).val ∧ (i 0).val < at4 m (pointOf m q) 0 * 256 + 256)
  | ⟨1, _⟩ => exact (by rw [h1]; omega : at4 m (pointOf m q) 1 * 2048 ≤ (i 1).val ∧ (i 1).val < at4 m (pointOf m q) 1 * 2048 + 2048)
theorem cover (i : S4096x2048.Idx) : ∃ t : Fin (cfgM m).N, ((cfgM m).win 4).flush t = true ∧ i ∈ (((cfgM m).win 4).blk t).view.set :=
  ⟨pointOf m ⟨(i 0).val, (i 0).isLt⟩, flushed m _, covered m i ⟨(i 0).val, (i 0).isLt⟩ rfl⟩

/-- THE REGION'S ARRAY is the combination. -/
theorem final (c : Dev nD) : (dats m 0 c).arrAt 4 (cfgM m).N = layer m c := by
  refine (dats m 0 c).arrAt_eq_of_cover 4 (layer m c) (fun t hf => ?_) (cover m)
  · refine funext fun (y : S256x2048.Idx) => ?_
    obtain ⟨a, j, rfl⟩ : ∃ (a : Fin 256) (j : Fin 2048), y = ix2 a j := ⟨y 0, y 1, eq_ix2 y⟩
    have ht : t.val < 16 := lt_of_lt_of_eq t.isLt N_0
    refine (outAt_apply m c t a j ⟨256 * t.val + a.val, by omega⟩ rfl).trans ?_
    have h0 : at4 m t 0 = t.val := congrFun (at4_eq m t) 0
    have h1 : at4 m t 1 = 0 := congrFun (at4_eq m t) 1
    show layer m c _ = layer m c ((((cfgM m).win 4).blk t).view.emb (ix2 a j))
    refine congrArg _ (funext fun (b : Fin 2) => ?_)
    match b with
    | ⟨0, _⟩ => exact Fin.ext (show 256 * t.val + a.val = at4 m t 0 * 256 + 1 * a.val by rw [h0]; omega)
    | ⟨1, _⟩ => exact Fin.ext (show j.val = at4 m t 1 * 2048 + 1 * j.val by rw [h1]; omega)

/-- The result: the region's array by tiles. -/
theorem Vend_result (c : Dev nD) (b : Fin 16) (r : Fin 256) (d : Fin 2048) :
    (Vend m c main_v2 : FVec Ideal S16x256x2048 .f32) (ix3 b r d) = layer m c (ix2 (⟨256 * b.val + r.val, by omega⟩ : Fin 4096) d) := by
  unfold Vend Pipeline.afterTail
  simp only [hostOps1, List.flatten_cons, List.flatten_nil, List.append_nil, StableHlo.after_cons, StableHlo.after_nil]
  rw [StableHlo.reshape_result']
  have hA := (Pipeline.withArrays_arr spec0 (launch0 (F := Ideal)).win.arr_inj c (V₀ m c) (fun w => (dats m 0 c).arrAt w (cfgM m).N) 4).trans (final m c)
  refine (congrArg (fun z : S4096x2048.Idx → EReal => shapeCast S16x256x2048 z shapeCasts_S4096x2048_S16x256x2048 (ix3 b r d)) hA).trans ?_
  generalize layer m c = z
  pointwise
  simp only [Nat.mul_comm b.val]

variable (L : Table m)

include L in
/-- The run: the result is the combination, the arguments unchanged. -/
theorem value_main : θ_run defs (onTc (τ := τ) (main (F := Ideal))) ⟨m, fun _ => 0, ρ⟩ (fun r => ∀ c : Dev nD,
      r.2.mem ((c.tc : Thread nD τ).loc main_v2) = Vend m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).2 main_v2 (by decide : main_v2 ∈ Pipeline.restRefs sig spec0), args_of m r h.1 c⟩) (run_main m ρ L)

end Cert.Comb

end
-- ==== Proof.CombReference.lean ====
/- What the reference of the combination computes, at the ideal instance, for the first 4096 rows. -/
module

public import proofs.«01_k».proof.Proof.Gen.Reference4Ideal.Run
public import proofs.«01_k».proof.Proof.CombSpec
public import Idealize.ShloMosaic.Lib.Routing.Ops

@[expose] public section

noncomputable section

namespace Cert.Comb

open Idealize.ShloMosaic Idealize.ShloMosaic.TcCoe Idealize.SL.Sem
open Cert.Mixing
open Cert.Reference4Ideal Cert.Reference4Ideal.Gen

/-- The words of choice `k`. -/
def rWord (o : Fin 2 → ℕ) (hs : S4096x2.Slices o S4096x1) (p : IVec S12288 32) : IVec S4096x1 32 :=
  broadcastInDim S4096x1 ![0] bcast_S4096_S4096x1_0 (shapeCast _ (extractStridedSlice S4096x1 o (extractStridedSlice S4096x2 ![0, 0] (shapeCast _ p shapeCasts_S12288_S6144x2) slices_S6144x2_S4096x2_0_0) hs) shapeCasts_S4096x1_S4096)
/-- The weights of a choice, along the columns. -/
def rWeight (o : Fin 2 → ℕ) (hs : S4096x2.Slices o S4096x1) (w : FVec Ideal S6144x128 .f32) : FVec Ideal S4096x2048 .f32 :=
  broadcastInDim S4096x2048 ![0, 1] bcast_S4096x1_S4096x2048_0_1 (extractStridedSlice S4096x1 o (extractStridedSlice S4096x2 ![0, 2] w slices_S6144x128_S4096x2_0_2) hs)
/-- The rows of a choice. -/
def rRows (y : FVec Ideal S20480x2048 .f32) (j : IVec S4096x1 32) : FVec Ideal S4096x2048 .f32 :=
  Host.gather gather_S20480x2048_S4096x1_S4096x2048_1_0_n_n_0_1_12048 y j
/-- The rows, gated and added. -/
def rMixed (x : FVec Ideal S6144x2048 .f32) (g : FVec Ideal S8x1x2048 .f32) (A B C D : FVec Ideal S4096x2048 .f32) : FVec Ideal S16x256x2048 .f32 :=
  addf (shapeCast _ (extractStridedSlice S4096x2048 ![0, 0] x slices_S6144x2048_S4096x2048_0_0) shapeCasts_S4096x2048_S16x256x2048)
    (mulf (broadcastInDim S16x256x2048 ![0, 1, 2] bcast_S1x1x2048_S16x256x2048_0_1_2 (extractStridedSlice S1x1x2048 ![0, 0, 0] g slices_S8x1x2048_S1x1x2048_0_0_0))
      (shapeCast _ (addf (mulf A B) (mulf C D)) shapeCasts_S4096x2048_S16x256x2048))
def rSquares (v : FVec Ideal S16x256x2048 .f32) : FVec Ideal S16x256 .f32 :=
  Host.reduceAdd (mulf v v) (constant S_ .f32 0x00000000#32) reducesTo_S16x256x2048_S16x256_d2 h_S_
def rNorm (v : FVec Ideal S16x256x2048 .f32) (S : FVec Ideal S16x256 .f32) (f : FVec Ideal S2048 .f32) : FVec Ideal S16x256x2048 .f32 :=
  mulf (mulf v (broadcastInDim S16x256x2048 ![0, 1, 2] bcast_S16x256x1_S16x256x2048_0_1_2 (Host.rsqrt (addf (Host.divf (broadcastInDim S16x256x1 ![0, 1] bcast_S16x256_S16x256x1_0_1 S)
      (broadcastInDim S16x256x1 ![] bcast_S_S16x256x1 (constant S_ .f32 0x45000000#32))) (broadcastInDim S16x256x1 ![] bcast_S_S16x256x1 (constant S_ .f32 0x358637BD#32))))))
    (broadcastInDim S16x256x2048 ![0, 1, 2] bcast_S1x1x2048_S16x256x2048_0_1_2 (broadcastInDim S1x1x2048 ![2] bcast_S2048_S1x1x2048_2 f))

/-- The row a tile's row is, and its gate. -/
def rowOf (b : Fin 16) (r : Fin 256) : Fin 6144 := ⟨256 * b.val + r.val, by omega⟩
def gateOf (b : Fin 16) : Fin 8 := ⟨0, by omega⟩
def localOf (b : Fin 16) (r : Fin 256) : Fin 4096 := ⟨256 * b.val + r.val, by omega⟩

theorem rWord_apply (k : Fin 2) (hs : S4096x2.Slices ![0, k.val] S4096x1) (p : IVec S12288 32) (b : Fin 16) (r : Fin 256) :
    rWord ![0, k.val] hs p (ix2 (localOf b r) (0 : Fin 1)) = p (ix1 ⟨2 * (rowOf b r).val + k.val, by omega⟩) := by
  unfold rWord localOf rowOf
  pointwise
  refine congrArg p (congrArg ix1 (Fin.ext ?_))
  dsimp only
  omega
theorem rRows_apply (k : Fin 2) (hs : S4096x2.Slices ![0, k.val] S4096x1) (y : FVec Ideal S20480x2048 .f32) (p : IVec S12288 32) (b : Fin 16) (r : Fin 256) (d : Fin 2048)
    (h : (p (ix1 ⟨2 * (rowOf b r).val + k.val, by omega⟩)).toNat < 20480) :
    rRows y (rWord ![0, k.val] hs p) (ix2 (localOf b r) d) = y (ix2 (rowAt p ⟨2 * (rowOf b r).val + k.val, by omega⟩) d) :=
  Routing.gather_row gather_S20480x2048_S4096x1_S4096x2048_1_0_n_n_0_1_12048 rfl rfl rfl rfl rfl y _ (localOf b r) d _
    ((rWord_apply k hs p b r).trans (word_row p _ h)) (by norm_num)
theorem rWeight_apply (k : Fin 2) (hs : S4096x2.Slices ![0, k.val] S4096x1) (w : FVec Ideal S6144x128 .f32) (b : Fin 16) (r : Fin 256) (d : Fin 2048) :
    rWeight ![0, k.val] hs w (ix2 (localOf b r) d) = w (ix2 (rowOf b r) ⟨2 + k.val, by omega⟩) := by
  unfold rWeight localOf rowOf
  pointwise
theorem rMixed_apply (x : FVec Ideal S6144x2048 .f32) (g : FVec Ideal S8x1x2048 .f32) (A B C D : FVec Ideal S4096x2048 .f32) (b : Fin 16) (r : Fin 256) (d : Fin 2048) :
    rMixed x g A B C D (ix3 b r d) = x (ix2 (rowOf b r) d) + g (ix3 (gateOf b) 0 d)
      * (A (ix2 (localOf b r) d) * B (ix2 (localOf b r) d) + C (ix2 (localOf b r) d) * D (ix2 (localOf b r) d)) := by
  unfold rMixed localOf rowOf gateOf
  pointwise
  simp only [Nat.mul_comm b.val]
theorem rSquares_apply (v : FVec Ideal S16x256x2048 .f32) (b : Fin 16) (r : Fin 256) :
    rSquares v (ix2 b r) = ∑ e : Fin 2048, v (ix3 b r e) * v (ix3 b r e) := by
  unfold rSquares
  pointwise
theorem rNorm_apply (v : FVec Ideal S16x256x2048 .f32) (f : FVec Ideal S2048 .f32) (b : Fin 16) (r : Fin 256) (d : Fin 2048) :
    rNorm v (rSquares v) f (ix3 b r d) = normedRow (fun e => v (ix3 b r e)) f d := by
  have hS := rSquares_apply v b r
  generalize rSquares v = S at hS ⊢
  unfold normedRow
  rw [← hS]
  unfold rNorm
  pointwise

/-- THE REFERENCE'S RESULT is the combination. -/
theorem reference4_eq (m : (ℓ : Loc nD τ sig) → Buf (Elt Ideal) ℓ) (c : Dev nD)
    (rng : ∀ j : Fin 12288, (((m ((c.tc : Thread nD τ).loc main_arg1)) : IVec S12288 32) (ix1 j)).toNat < 20480) (b : Fin 16) (r : Fin 256) (d : Fin 2048) :
    (Cert.Reference4Ideal.Value.res_main_v37 m c : FVec Ideal S16x256x2048 .f32) (ix3 b r d)
      = combined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (rowOf b r) (gateOf b) d := by
  generalize hp : (m ((c.tc : Thread nD τ).loc main_arg1)) = p at rng
  refine Eq.trans (b := (fun v => rNorm v (rSquares v) (m ((c.tc : Thread nD τ).loc main_arg5))) (rMixed (m ((c.tc : Thread nD τ).loc main_arg3)) (m ((c.tc : Thread nD τ).loc main_arg4))
    (rWeight ![0, (0 : Fin 2).val] slices_S4096x2_S4096x1_0_0 (m ((c.tc : Thread nD τ).loc main_arg2)))
    (rRows (m ((c.tc : Thread nD τ).loc main_arg0)) (rWord ![0, (0 : Fin 2).val] slices_S4096x2_S4096x1_0_0 p))
    (rWeight ![0, (1 : Fin 2).val] slices_S4096x2_S4096x1_0_1 (m ((c.tc : Thread nD τ).loc main_arg2)))
    (rRows (m ((c.tc : Thread nD τ).loc main_arg0)) (rWord ![0, (1 : Fin 2).val] slices_S4096x2_S4096x1_0_1 p))) (ix3 b r d)) ?_ ?_
  · subst hp
    unfold Cert.Reference4Ideal.Value.res_main_v37
    rfl
  · refine (rNorm_apply _ _ b r d).trans ?_
    unfold combined
    refine congrArg (normedRow · _ d) (funext fun e => ?_)
    refine (rMixed_apply _ _ _ _ _ _ b r e).trans ?_
    rw [rWeight_apply, rWeight_apply, rRows_apply _ _ _ _ _ _ _ (rng _), rRows_apply _ _ _ _ _ _ _ (rng _)]
    rfl

end Cert.Comb

end
-- ==== Proof.CombDecode.lean ====
/- The combination's precondition read back: every word names a row of the experts' array. -/
module

public import proofs.«01_k».proof.Proof.Gen.Pre_rows_in_range
public import Idealize.ShloMosaic.Lib.Pointwise.Tactic

@[expose] public section

noncomputable section

namespace Cert.Mixing

open Idealize.ShloMosaic Cert.Pre_rows_in_range

attribute [local instance] Cert.Pre_rows_in_range.Gen.facts

variable {F : FTy → Type} [FloatOps F]

theorem both (a b : Bool) (h : BitVec.ofBool a &&& BitVec.ofBool b = 1#1) : a = true ∧ b = true := by
  revert h; cases a <;> cases b <;> decide

theorem rows_of (y : FVec F S20480x2048 .f32) (p : IVec S12288 32) (w : FVec F S6144x128 .f32) (x : FVec F S6144x2048 .f32) (g : FVec F S8x1x2048 .f32) (f : FVec F S2048 .f32)
    (h : fn (F := F) y p w x g f = fun _ => 1#1) (j : Fin 12288) : (p (ix1 j)).toNat < 20480 := by
  have e := congrFun h (ix1 j)
  change BitVec.ofBool ((0#32).sle (p (ix1 j))) &&& BitVec.ofBool ((p (ix1 j)).slt 20480#32) = 1#1 at e
  obtain ⟨h0, h1⟩ := both _ _ e
  have h0' := BitVec.sle_iff_toInt_le.mp h0
  have h1' := BitVec.slt_iff_toInt_lt.mp h1
  rw [show (0#32).toInt = 0 from rfl] at h0'
  rw [show (20480#32).toInt = 20480 from rfl] at h1'
  have hb := (p (ix1 j)).isLt
  rw [BitVec.toInt_eq_toNat_cond] at h0' h1'
  split at h0' <;> omega

end Cert.Mixing

end
-- ==== Proof.CombBBase.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Batch
public import Idealize.ShloMosaic.Lib.Ring
public import Idealize.ShloMosaic.Lib.Pointwise.Reshape
public import Idealize.ShloMosaic.Lib.Tactic

@[expose] public section

set_option maxRecDepth 16384

noncomputable section

namespace Cert.CombB

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof: the pipeline's beside the transfers' counters. -/
local notation "𝕄" => MT nD τ sig Unit (Elt F) ℕ (Pipeline.UD sig nD τ) ℕ

/-! ## The body's operands -/

/-- The table of rows as the body is handed it, the array of the experts' rows, and the two slots the rows land in. -/
abbrev tbP : Memref sig .tc .smem S12288 .i32 := Memref.whole main_arg1
abbrev yA : Memref sig .tc .hbm S20480x2048 .f32 := Memref.whole main_arg0
abbrev bS : Memref sig .tc .vmem S2x2x256x2048 .f32 := Memref.whole cc0_scratch0

abbrev Bf (c : Dev nD) {sp : Space} {S : Shape} {e : EltTy} (M : Memref sig .tc sp S e) : Type := Buf (Elt F) (M.view.loc (c : Thread nD τ))
abbrev ptHalf (c : Dev nD) {sp : Space} {S : Shape} {e : EltTy} (M : Memref sig .tc sp S e) (f : Bf (F := F) c M) : sProp 𝕄 :=
  M.view.loc (c : Thread nD τ) ↦{fullShare.right} f

/-! ## One row of a slot, one row of the experts' array -/

/-- Slot `s`'s elements, those of its row `t / 2` for choice `t % 2`, and row `p` of the experts' array. -/
def sset (s : ℕ) : Finset S2x2x256x2048.Idx := Finset.univ.filter fun i => (i 0).val = s
def dset (s t : ℕ) : Finset S2x2x256x2048.Idx := Finset.univ.filter fun i => (i 0).val = s ∧ 2 * (i 2).val + (i 1).val = t
def yset (p : ℕ) : Finset S20480x2048.Idx := Finset.univ.filter fun i => (i 0).val = p

theorem mem_sset {s : ℕ} {i : S2x2x256x2048.Idx} : i ∈ sset s ↔ (i 0).val = s := by simp [sset]
theorem mem_dset {s t : ℕ} {i : S2x2x256x2048.Idx} : i ∈ dset s t ↔ (i 0).val = s ∧ 2 * (i 2).val + (i 1).val = t := by simp [dset]
theorem mem_yset {p : ℕ} {i : S20480x2048.Idx} : i ∈ yset p ↔ (i 0).val = p := by simp [yset]

theorem sset_union : (Finset.univ : Finset S2x2x256x2048.Idx) = sset 0 ∪ sset 1 := by
  ext i
  have : (i 0).val < 2 := (i 0).isLt
  simp only [Finset.mem_univ, Finset.mem_union, mem_sset, true_iff]
  omega
theorem sset_disj : Disjoint (sset 0) (sset 1) := Finset.disjoint_left.mpr fun i h h' => by
  rw [mem_sset] at h h'; omega
theorem sset_biUnion (s : ℕ) : sset s = (Finset.univ : Finset (Fin 512)).biUnion fun t => dset s t.val := by
  ext i
  have h1 : (i 1).val < 2 := (i 1).isLt
  have h2 : (i 2).val < 256 := (i 2).isLt
  simp only [Finset.mem_biUnion, Finset.mem_univ, true_and, mem_sset, mem_dset]
  exact ⟨fun h => ⟨⟨2 * (i 2).val + (i 1).val, by omega⟩, h, rfl⟩, fun ⟨_, h, _⟩ => h⟩
theorem dset_disj (s : ℕ) : ∀ t ∈ (Finset.univ : Finset (Fin 512)), ∀ t' ∈ (Finset.univ : Finset (Fin 512)), t ≠ t' → Disjoint (dset s t.val) (dset s t'.val) := by
  intro t _ t' _ hne
  refine Finset.disjoint_left.mpr fun i h h' => hne (Fin.ext ?_)
  rw [mem_dset] at h h'
  omega

abbrev rowS (o : Fin 4 → ℕ) (h : ∀ a, o a + S1x1x1x2048.size a ≤ S2x2x256x2048.size a) : Memref sig .tc .vmem S1x2048 .f32 :=
  (bS.slice (Rect.unit (s := S2x2x256x2048) o S1x1x1x2048.size h) (fun _ => rfl)).squeeze S1x2048 squeezes_S1x1x1x2048_S1x2048
abbrev rowY (o : Fin 2 → ℕ) (h : ∀ a, o a + S1x2048.size a ≤ S20480x2048.size a) : Memref sig .tc .hbm S1x2048 .f32 :=
  yA.slice (Rect.unit (s := S20480x2048) o S1x2048.size h) (fun _ => rfl)

theorem rowS_emb (o : Fin 4 → ℕ) (h) (x : S1x2048.Idx) (a : Fin 4) :
    (((rowS o h).view.emb x : S2x2x256x2048.Idx) a).val = o a + (if a = 3 then (x 1).val else 0) := by
  have hx : (x 0).val = 0 := by have : (x 0).val < 1 := (x 0).isLt; omega
  have e : (rowS o h).view.emb x = (Rect.unit (s := S2x2x256x2048) o S1x1x1x2048.size h).emb (ix4 (0 : Fin 1) (0 : Fin 1) (0 : Fin 1) (x 1)) := by
    show (Rect.unit (s := S2x2x256x2048) o S1x1x1x2048.size h).emb (Shape.reshapeEquiv _ x) = _
    congr 1
    refine Shape.reshapeEquiv_eq_of_vals _ _ _ _ _ (rowMajor_val4 _ 2048 2048 2048 rfl rfl rfl) (rowMajor_val2 _ 2048 rfl) ?_
    rw [hx]
    show 0 * 2048 + 0 * 2048 + 0 * 2048 + (x 1).val = 0 * 2048 + (x 1).val
    omega
  rw [e]
  fin_cases a
  · show o 0 + 1 * 0 = o 0 + 0; omega
  · show o 1 + 1 * 0 = o 1 + 0; omega
  · show o 2 + 1 * 0 = o 2 + 0; omega
  · show o 3 + 1 * (x 1).val = o 3 + (x 1).val; omega
theorem rowY_emb (o : Fin 2 → ℕ) (h) (x : S1x2048.Idx) (a : Fin 2) :
    (((rowY o h).view.emb x : S20480x2048.Idx) a).val = o a + (x a).val := by
  show o a + 1 * (x a).val = _
  omega

theorem rowS_set (s t : ℕ) (h) : (rowS ![s, t % 2, t / 2, 0] h).view.set = dset s t := by
  rw [View.set_reshape, View.set_slice_whole]
  ext i
  rw [Rect.mem_set_unit, mem_dset]
  constructor
  · intro k
    have k0 : s ≤ (i 0).val ∧ (i 0).val < s + 1 := k 0
    have k1 : t % 2 ≤ (i 1).val ∧ (i 1).val < t % 2 + 1 := k 1
    have k2 : t / 2 ≤ (i 2).val ∧ (i 2).val < t / 2 + 1 := k 2
    omega
  · rintro ⟨k0, k1⟩ a
    have h1 : (i 1).val < 2 := (i 1).isLt
    have h3 : (i 3).val < 2048 := (i 3).isLt
    fin_cases a
    · show s ≤ (i 0).val ∧ (i 0).val < s + 1; omega
    · show t % 2 ≤ (i 1).val ∧ (i 1).val < t % 2 + 1; omega
    · show t / 2 ≤ (i 2).val ∧ (i 2).val < t / 2 + 1; omega
    · show 0 ≤ (i 3).val ∧ (i 3).val < 0 + 2048; omega
theorem rowY_set (p : ℕ) (h) : (rowY ![p, 0] h).view.set = yset p := by
  rw [View.set_slice_whole]
  ext i
  rw [Rect.mem_set_unit, mem_yset]
  constructor
  · intro k
    have k0 : p ≤ (i 0).val ∧ (i 0).val < p + 1 := k 0
    omega
  · intro k a
    have h1 : (i 1).val < 2048 := (i 1).isLt
    fin_cases a
    · show p ≤ (i 0).val ∧ (i 0).val < p + 1; omega
    · show 0 ≤ (i 1).val ∧ (i 1).val < 0 + 2048; omega

/-! ## The rows of a tile -/

/-- The row that word `j` of the table names. -/
def pos (c : Dev nD) (tb : Bf (F := F) c tbP) (j : ℕ) : ℕ := ((tb : S12288.Idx → BitVec 32) (ix1 ⟨j % 12288, Nat.mod_lt _ (by decide)⟩)).toNat

/-- A slot once the rows whose words start at `b` have landed: row `r` of choice `k` is the row word `b + 2 r + k` names. -/
def landedAt (c : Dev nD) (fy : Bf (F := F) c yA) (tb : Bf (F := F) c tbP) (b : ℕ) : Bf (F := F) c bS := fun i : S2x2x256x2048.Idx =>
  (fy : S20480x2048.Idx → F .f32) (ix2 ⟨pos c tb (b + (2 * (i 2).val + (i 1).val)) % 20480, Nat.mod_lt _ (by decide)⟩ (i 3))

/-- The half of the experts' array that slot `s` reads from. -/
def half : ℕ → PosShare TreeShare
  | 0 => fullShare.left
  | _ => fullShare.right

/-- Transfer `t` into slot `s` of the tile whose words start at `b`, delivered. -/
def deliv (c : Dev nD) (fy : Bf (F := F) c yA) (tb : Bf (F := F) c tbP) (s b : ℕ) (t : Fin 512) : sProp 𝕄 :=
  iprop((bS.view.loc (c : Thread nD τ) ↦[dset s t.val]{fullShare} landedAt c fy tb b)
    ∗ (yA.view.loc (c : Thread nD τ) ↦[yset (pos c tb (b + t.val))]{Transfers.shareTok (half s) 512 t} fy))

instance deliv_storable (c : Dev nD) (fy : Bf (F := F) c yA) (tb : Bf (F := F) c tbP) (s b : ℕ) (t : Fin 512) :
    Storable (upEmb : UEmb _ 𝕄) (deliv c fy tb s b t) := by
  unfold deliv; infer_instance

/-- What transfer `t` needs, and what it leaves behind once issued. -/
def need (c : Dev nD) (fy : Bf (F := F) c yA) (s : ℕ) (t : Fin 512) : sProp 𝕄 :=
  iprop((∃ f : Bf (F := F) c bS, bS.view.loc (c : Thread nD τ) ↦[dset s t.val]{fullShare} f)
    ∗ (yA.view.loc (c : Thread nD τ) ↦{Transfers.shareTok (half s) 512 t} fy))
def rest (c : Dev nD) (fy : Bf (F := F) c yA) (tb : Bf (F := F) c tbP) (s b : ℕ) (t : Fin 512) : sProp 𝕄 :=
  yA.view.loc (c : Thread nD τ) ↦[Finset.univ \ yset (pos c tb (b + t.val))]{Transfers.shareTok (half s) 512 t} fy

abbrev credit : ℕ := 256

abbrev batch (c : Dev nD) (fy : Bf (F := F) c yA) (tb : Bf (F := F) c tbP) (s b : ℕ) (q : SemLoc sig) (k u : ℕ) : sProp 𝕄 :=
  Transfers.Batch (countersEmb (U := Pipeline.UD sig nD τ)) (c : Thread nD τ) q () credit (deliv c fy tb s b) k u

theorem pos_lt_mod {p : ℕ} (h : p < 20480) : p % 20480 = p := Nat.mod_eq_of_lt h

/-- A row copied over its place is what the landed slot holds there. -/
theorem landed_row (c : Dev nD) (fy : Bf (F := F) c yA) (tb : Bf (F := F) c tbP) (s b t : ℕ) (hp : pos c tb (b + t) < 20480) (h h') (f : Bf (F := F) c bS) :
    ∀ i ∈ dset s t, (rowS ![s, t % 2, t / 2, 0] h).view.write (Elt F) f
      (ReadAs.same.apply ((rowY ![pos c tb (b + t), 0] h').view.read (Elt F) fy)) Finset.univ i = landedAt c fy tb b i := by
  intro i hi
  rw [← rowS_set s t h] at hi
  obtain ⟨x, -, rfl⟩ := Finset.mem_map.mp hi
  refine (View.write_emb_of_mem _ _ (Finset.mem_univ x)).trans ?_
  show (fy : S20480x2048.Idx → F .f32) ((rowY ![pos c tb (b + t), 0] h').view.emb x) = (fy : S20480x2048.Idx → F .f32) _
  congr 1
  have e1 := rowS_emb ![s, t % 2, t / 2, 0] h x 1
  have e2 := rowS_emb ![s, t % 2, t / 2, 0] h x 2
  have e3 := rowS_emb ![s, t % 2, t / 2, 0] h x 3
  have f1 : ((((rowS ![s, t % 2, t / 2, 0] h).view.emb x : S2x2x256x2048.Idx) 1).val) = t % 2 := e1
  have f2 : ((((rowS ![s, t % 2, t / 2, 0] h).view.emb x : S2x2x256x2048.Idx) 2).val) = t / 2 := e2
  have f3 : ((((rowS ![s, t % 2, t / 2, 0] h).view.emb x : S2x2x256x2048.Idx) 3).val) = 0 + (x 1).val := e3
  refine funext fun (a : Fin 2) => Fin.ext ?_
  rw [rowY_emb]
  have hx : (x 0).val = 0 := by have : (x 0).val < 1 := (x 0).isLt; omega
  fin_cases a
  · show pos c tb (b + t) + (x 0).val = pos c tb (b + (2 * _ + _)) % 20480
    rw [f1, f2, hx, show 2 * (t / 2) + t % 2 = t by omega, pos_lt_mod hp]
    rfl
  · show 0 + (x 1).val = _
    exact f3.symm

variable {defs : Defs nD τ sig (Elt F) Λ₀}

/-- One transfer issued. -/
theorem issue_one (c : Dev nD) (fy : Bf (F := F) c yA) (tb : Bf (F := F) c tbP) (s b : ℕ) (q : SemLoc sig) (t : Fin 512) (hp : pos c tb (b + t.val) < 20480)
    (q' : DmaSem sig) (hq : q = .dma q')
    (oS : Fin 4 → ℕ) (hS) (oY : Fin 2 → ℕ) (hY) (eS : oS = ![s, t.val % 2, t.val / 2, 0]) (eY : oY = ![pos c tb (b + t.val), 0]) (h1 h2 h3) :
    iprop(batch c fy tb s b q t.val 0 ∗ need c fy s t)
      ⊢ wp frame (wpE (defs₀ (F := F)) Variants.none (c : Thread nD τ) none) Set.univ
        (Prog.lift (TpuEff.enqueueDma (rowY oY hY) (.here (rowS oS hS)) (.dma q') h1 h2 h3))
        (fun _ => iprop(batch c fy tb s b q (t.val + 1) 0 ∗ rest c fy tb s b t)) := by
  subst hq eS eY
  unfold need rest
  iintro ⟨HB, ⟨%f, Hd⟩, Hy⟩
  ihave Hy := (Entails.of_eq (show (yA.view.loc (c : Thread nD τ) ↦{Transfers.shareTok (half s) 512 t} fy : sProp 𝕄)
    = (yA.view.loc (c : Thread nD τ) ↦[yset (pos c tb (b + t.val)) ∪ (Finset.univ \ yset (pos c tb (b + t.val)))]{Transfers.shareTok (half s) 512 t} fy)
    from by rw [Finset.union_sdiff_of_subset (Finset.subset_univ _)])) $$ Hy
  ihave Hy := (pointsTo_union (Finset.disjoint_sdiff)).1 $$ Hy
  icases Hy with ⟨Hy, Hr⟩
  iapply (Transfers.wp_dmaBatch (countersEmb (U := Pipeline.UD sig nD τ)) Variants.none (c : Thread nD τ) none (src := rowY ![pos c tb (b + t.val), 0] hY)
    (dst := rowS ![s, t.val % 2, t.val / 2, 0] hS) (Sd := dset s t.val) (q := Transfers.shareTok (half s) 512 t) (fs := fy) (fd := f) () credit rfl
    (by rw [rowS_set]) (D := deliv c fy tb s b) (j := t.val) (u := 0) t.isLt (Nat.zero_le _) (by
      unfold deliv
      rw [rowY_set]
      exact sep_mono (Entails.of_eq (pointsTo_congr (landed_row c fy tb s b t.val hp hS hY f))) .rfl)) $$ [HB Hd Hy]
  · isplitl [Hy]
    · rw [rowY_set]; iexact Hy
    isplitl [Hd]; · iexact Hd
    iexact HB
  iintro HB
  iapply le_wp_ret
  isplitl [HB]; · iexact HB
  iexact Hr

end Cert.CombB

end
-- ==== Proof.CombBLoop.lean ====
module

public import proofs.«01_k».proof.Proof.CombBBase

@[expose] public section

set_option maxRecDepth 16384

noncomputable section

namespace Cert.CombB

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The trips of the three loops -/

/-- A table offset, a place in a slot, a slot's semaphore, and a row of the experts' array, each inside its buffer. -/
abbrev InT (o : Fin 1 → ℕ) : Prop := ∀ a, o a + S1.size a ≤ S12288.size a
abbrev InS (o : Fin 4 → ℕ) : Prop := ∀ a, o a + S1x1x1x2048.size a ≤ S2x2x256x2048.size a
abbrev InG (o : Fin 1 → ℕ) : Prop := ∀ a, o a + S1.size a ≤ S2.size a
abbrev InY (v : BitVec 32) : Prop := ∀ a, (![v.toNat, 0] : Fin 2 → ℕ) a + S1x2048.size a ≤ S20480x2048.size a

abbrev semAt (g : Fin 1 → ℕ) (hg : InG g) : DmaSem sig :=
  (((cc0_scratch1).slice (Rect.unit (s := S2) g S1.size hg)).squeeze S_ squeezes_S1_S_).sem

/-- One half of a trip of an issuing loop: a word read, checked, and its row's copy started. -/
def issue (o : Fin 1 → ℕ) (ho : InT o) (C : BitVec 32 → Prop) (d : ∀ v, Decidable (C v)) (g : Fin 1 → ℕ) (hg : InG g)
    (s : Fin 4 → ℕ) (hs : InS s) (hy : ∀ v, C v → InY v) : Prog (TpuEff nD τ sig (Elt F) Λ₀ .tc) PUnit := do
  let v : Elt F .i32 ← smemLoad tbP (Rect.unit (s := S12288) o S1.size ho) numel1_S1 rfl
  have hw : C v := (← Prog.lift (TpuEff.assume (C v) (d v))).down
  Prog.lift (.enqueueDma (rowY ![v.toNat, 0] (hy v hw)) (.here (rowS s hs)) (.dma (semAt g hg)) (View.wordExact_bits rfl) ((View.wordExact_bits rfl).reshape _ _) ⟨Or.inl rfl, trivial⟩)

/-- One half of a trip of the draining loop: a word read, checked, and one copy waited for. -/
def drain (o : Fin 1 → ℕ) (ho : InT o) (C : BitVec 32 → Prop) (d : ∀ v, Decidable (C v)) (g : Fin 1 → ℕ) (hg : InG g)
    (s : Fin 4 → ℕ) (hs : InS s) (hy : ∀ v, C v → InY v) : Prog (TpuEff nD τ sig (Elt F) Λ₀ .tc) PUnit := do
  let v : Elt F .i32 ← smemLoad tbP (Rect.unit (s := S12288) o S1.size ho) numel1_S1 rfl
  have hw : C v := (← Prog.lift (TpuEff.assume (C v) (d v))).down
  Prog.lift (.waitDma2 (semAt g hg) (rowY ![v.toNat, 0] (hy v hw)) (rowS s hs) (View.wordExact_bits rfl) ((View.wordExact_bits rfl).reshape _ _))

/-- Slot `s`'s semaphore. -/
def qOf : ℕ → SemLoc sig
  | 0 => .dma 9
  | _ => .dma 10

theorem sem_zero : InG ![0] := by decide
theorem sem_one : InG ![1] := by decide
theorem semAt_zero : SemLoc.dma 9 = SemLoc.dma (semAt ![0] sem_zero) := by decide
theorem semAt_one : SemLoc.dma 10 = SemLoc.dma (semAt ![1] sem_one) := by decide

theorem semAt_eq (s : ℕ) (hs : s < 2) (g : Fin 1 → ℕ) (hg : InG g) (e : g = ![s]) : (qOf s) = .dma (semAt g hg) := by
  subst e
  obtain rfl | rfl : s = 0 ∨ s = 1 := by omega
  · exact semAt_zero
  · exact semAt_one

/-- Word `j` of the table, as a load reads it. -/
theorem word_at (c : Dev nD) (tb : Bf (F := F) c tbP) (j : ℕ) (hj : j < 12288) (o : Fin 1 → ℕ) (ho : InT o) (e : o = ![j]) (x) :
    (tbP.access (Rect.unit (s := S12288) o S1.size ho)).read (Elt F) tb x = (tb : S12288.Idx → BitVec 32) (ix1 ⟨j % 12288, Nat.mod_lt _ (by decide)⟩) := by
  subst e
  show (tb : S12288.Idx → BitVec 32) _ = (tb : S12288.Idx → BitVec 32) _
  congr 1
  refine funext fun (a : Fin 1) => ?_
  obtain rfl : a = 0 := Subsingleton.elim _ _
  apply Fin.ext
  show j + 1 * (x 0).val = j % 12288
  have : (x 0).val < 1 := (x 0).isLt
  rw [Nat.mod_eq_of_lt hj]; omega

theorem issue_wp (c : Dev nD) (fy : Bf (F := F) c yA) (tb : Bf (F := F) c tbP) (s b : ℕ) (hs2 : s < 2) (t : Fin 512)
    (hb : b + t.val < 12288) (hp : pos c tb (b + t.val) < 20480)
    (o : Fin 1 → ℕ) (ho : InT o) (C : BitVec 32 → Prop) (d : ∀ v, Decidable (C v)) (g : Fin 1 → ℕ) (hg : InG g)
    (r : Fin 4 → ℕ) (hr : InS r) (hy : ∀ v, C v → InY v) (eo : o = ![b + t.val]) (eg : g = ![s]) (er : r = ![s, t.val % 2, t.val / 2, 0])
    (hC : ∀ v : BitVec 32, v.toNat < 20480 → C v) :
    iprop(ptHalf c tbP tb ∗ batch c fy tb s b (qOf s) t.val 0 ∗ need c fy s t)
      ⊢ wp frame (wpE (defs₀ (F := F)) Variants.none (c : Thread nD τ) none) Set.univ (issue o ho C d g hg r hr hy)
        (fun _ => iprop(ptHalf c tbP tb ∗ batch c fy tb s b (qOf s) (t.val + 1) 0 ∗ rest c fy tb s b t)) := by
  unfold issue
  rw [wp_bind]
  iintro ⟨Ht, H⟩
  unfold smemLoad
  iapply (wp_smemLoadElt Variants.none (c : Thread nD τ) none Set.univ (m := tbP) (r := Rect.unit (s := S12288) o S1.size ho) (S := Finset.univ) (f := tb) (Finset.subset_univ _)) $$ Ht
  iintro Ht
  iapply le_wp_ret
  rw [word_at c tb (b + t.val) hb o ho eo]
  rw [wp_bind]
  iapply (wp_assume Variants.none (c : Thread nD τ) none Set.univ (hC _ hp))
  iapply le_wp_ret
  ihave H := (issue_one c fy tb s b (qOf s) t hp (semAt g hg) (semAt_eq s hs2 g hg eg) r hr ![pos c tb (b + t.val), 0] (hy _ (hC _ hp)) er rfl
    (View.wordExact_bits rfl) ((View.wordExact_bits rfl).reshape _ _) ⟨Or.inl rfl, trivial⟩) $$ H
  iapply (wp_wand_r frame _ _)
  isplitl [H]; · iexact H
  iintro %_ H
  isplitl [Ht]; · iexact Ht
  iexact H

/-- What the draining loop holds after `u` copies waited for. -/
def drained (c : Dev nD) (fy : Bf (F := F) c yA) (tb : Bf (F := F) c tbP) (s b u : ℕ) : sProp 𝕄 :=
  if u < 512 then batch c fy tb s b (qOf s) 512 (u * credit)
  else iprop(bigSep Finset.univ (deliv c fy tb s b) ∗ semVal ((c : Thread nD τ), qOf s) 0)

theorem drain_wp (c : Dev nD) (fy : Bf (F := F) c yA) (tb : Bf (F := F) c tbP) (s b : ℕ) (hs2 : s < 2) (t : Fin 512)
    (hb : b + t.val < 12288) (hp : pos c tb (b + t.val) < 20480)
    (o : Fin 1 → ℕ) (ho : InT o) (C : BitVec 32 → Prop) (d : ∀ v, Decidable (C v)) (g : Fin 1 → ℕ) (hg : InG g)
    (r : Fin 4 → ℕ) (hr : InS r) (hy : ∀ v, C v → InY v) (eo : o = ![b + t.val]) (eg : g = ![s])
    (hC : ∀ v : BitVec 32, v.toNat < 20480 → C v) :
    iprop(ptHalf c tbP tb ∗ (∃ W, owes (c : Thread nD τ) 0 W) ∗ drained c fy tb s b t.val)
      ⊢ wp frame (wpE (defs₀ (F := F)) Variants.none (c : Thread nD τ) none) Set.univ (drain o ho C d g hg r hr hy)
        (fun _ => iprop(ptHalf c tbP tb ∗ (∃ W, owes (c : Thread nD τ) 0 W) ∗ drained c fy tb s b (t.val + 1))) := by
  unfold drain drained
  have ht := t.isLt
  rw [if_pos ht, semAt_eq s hs2 g hg eg]
  by_cases hl : t.val + 1 < 512
  · rw [if_pos hl, Nat.add_mul, Nat.one_mul]
    rw [wp_bind]
    iintro ⟨Ht, ⟨%W, HW⟩, H⟩
    unfold smemLoad
    iapply (wp_smemLoadElt Variants.none (c : Thread nD τ) none Set.univ (m := tbP) (r := Rect.unit (s := S12288) o S1.size ho) (S := Finset.univ) (f := tb) (Finset.subset_univ _)) $$ Ht
    iintro Ht
    iapply le_wp_ret
    rw [word_at c tb (b + t.val) hb o ho eo]
    rw [wp_bind]
    iapply (wp_assume Variants.none (c : Thread nD τ) none Set.univ (hC _ hp))
    iapply le_wp_ret
    iapply (Transfers.wp_waitBatch (countersEmb (U := Pipeline.UD sig nD τ)) Variants.none (c : Thread nD τ) none (sem := semAt g hg) (srcw := rowY _ (hy _ (hC _ hp))) (dstw := rowS r hr) () (N := credit) rfl
      (D := deliv c fy tb s b) (u := t.val * credit) (by show t.val * 256 + 256 < 256 * 512; omega)) $$ [H HW]
    · isplitl [H]; · iexact H
      iexact HW
    iintro ⟨H, HW⟩
    iapply le_wp_ret
    isplitl [Ht]; · iexact Ht
    isplitl [HW]; · iexists _; iexact HW
    iexact H
  · rw [if_neg hl]
    rw [wp_bind]
    iintro ⟨Ht, ⟨%W, HW⟩, H⟩
    unfold smemLoad
    iapply (wp_smemLoadElt Variants.none (c : Thread nD τ) none Set.univ (m := tbP) (r := Rect.unit (s := S12288) o S1.size ho) (S := Finset.univ) (f := tb) (Finset.subset_univ _)) $$ Ht
    iintro Ht
    iapply le_wp_ret
    rw [word_at c tb (b + t.val) hb o ho eo]
    rw [wp_bind]
    iapply (wp_assume Variants.none (c : Thread nD τ) none Set.univ (hC _ hp))
    iapply le_wp_ret
    iapply (Transfers.wp_waitBatchLast (countersEmb (U := Pipeline.UD sig nD τ)) Variants.none (c : Thread nD τ) none (sem := semAt g hg) (srcw := rowY _ (hy _ (hC _ hp))) (dstw := rowS r hr) () (N := credit) rfl (by decide)
      (D := deliv c fy tb s b) (u := t.val * credit) (by show t.val * 256 + 256 = 256 * 512; omega)) $$ [H HW]
    · isplitl [H]; · iexact H
      iexact HW
    iintro ⟨H, Hq, HW⟩
    iapply le_wp_ret
    isplitl [Ht]; · iexact Ht
    isplitl [HW]; · iexists _; iexact HW
    isplitl [H]; · iexact H
    iexact Hq

/-! ## The loops -/

/-- Before trip `k` of an issuing loop. -/
def issuing (c : Dev nD) (fy : Bf (F := F) c yA) (tb : Bf (F := F) c tbP) (s b k : ℕ) : sProp 𝕄 :=
  iprop(ptHalf c tbP tb ∗ batch c fy tb s b (qOf s) (2 * k) 0 ∗ bigSep (Ring.rangeSet 512 (2 * k) 512) (need c fy s)
    ∗ bigSep (Ring.rangeSet 512 0 (2 * k)) (rest c fy tb s b))

theorem two_halves (c : Dev nD) (fy : Bf (F := F) c yA) (tb : Bf (F := F) c tbP) (s b k : ℕ) (hk : k < 256)
    {A B : Prog (TpuEff nD τ sig (Elt F) Λ₀ .tc) PUnit}
    (hA : iprop(ptHalf c tbP tb ∗ batch c fy tb s b (qOf s) (2 * k) 0 ∗ need c fy s ⟨2 * k, by omega⟩)
      ⊢ wp frame (wpE (defs₀ (F := F)) Variants.none (c : Thread nD τ) none) Set.univ A
        (fun _ => iprop(ptHalf c tbP tb ∗ batch c fy tb s b (qOf s) (2 * k + 1) 0 ∗ rest c fy tb s b ⟨2 * k, by omega⟩)))
    (hB : iprop(ptHalf c tbP tb ∗ batch c fy tb s b (qOf s) (2 * k + 1) 0 ∗ need c fy s ⟨2 * k + 1, by omega⟩)
      ⊢ wp frame (wpE (defs₀ (F := F)) Variants.none (c : Thread nD τ) none) Set.univ B
        (fun _ => iprop(ptHalf c tbP tb ∗ batch c fy tb s b (qOf s) (2 * k + 1 + 1) 0 ∗ rest c fy tb s b ⟨2 * k + 1, by omega⟩))) :
    issuing c fy tb s b k
      ⊢ wp frame (wpE (defs₀ (F := F)) Variants.none (c : Thread nD τ) none) Set.univ (do A; B; pure ()) (fun _ => issuing c fy tb s b (k + 1)) := by
  unfold issuing
  rw [show 2 * (k + 1) = 2 * k + 1 + 1 by omega, Ring.bigSep_rangeSet_head (NB := 512) (lo := 2 * k) (hi := 512) (by omega) (by omega),
    Ring.bigSep_rangeSet_head (NB := 512) (lo := 2 * k + 1) (hi := 512) (by omega) (by omega),
    Ring.bigSep_rangeSet_last (NB := 512) (lo := 0) (hi := 2 * k + 1 + 1) (by omega) (by omega)]
  simp only [Nat.add_sub_cancel]
  rw [Ring.bigSep_rangeSet_last (NB := 512) (lo := 0) (hi := 2 * k + 1) (by omega) (by omega)]
  simp only [Nat.add_sub_cancel]
  iintro ⟨Ht, HB, ⟨N0, N1, N⟩, R⟩
  rw [wp_bind]
  ihave H := hA $$ [Ht HB N0]
  · isplitl [Ht]; · iexact Ht
    isplitl [HB]; · iexact HB
    iexact N0
  iapply (wp_wand_r frame _ _)
  isplitl [H]; · iexact H
  iintro %_ ⟨Ht, HB, R0⟩
  rw [wp_bind]
  ihave H := hB $$ [Ht HB N1]
  · isplitl [Ht]; · iexact Ht
    isplitl [HB]; · iexact HB
    iexact N1
  iapply (wp_wand_r frame _ _)
  isplitl [H]; · iexact H
  iintro %_ ⟨Ht, HB, R1⟩
  iapply le_wp_ret
  isplitl [Ht]; · iexact Ht
  isplitl [HB]; · iexact HB
  isplitl [N]; · iexact N
  isplitl [R1]; · iexact R1
  isplitl [R0]; · iexact R0
  iexact R

/-- Before trip `k` of the draining loop. -/
def draining (c : Dev nD) (fy : Bf (F := F) c yA) (tb : Bf (F := F) c tbP) (s b k : ℕ) : sProp 𝕄 :=
  iprop(ptHalf c tbP tb ∗ (∃ W, owes (c : Thread nD τ) 0 W) ∗ drained c fy tb s b (2 * k))

theorem two_drains (c : Dev nD) (fy : Bf (F := F) c yA) (tb : Bf (F := F) c tbP) (s b k : ℕ)
    {A B : Prog (TpuEff nD τ sig (Elt F) Λ₀ .tc) PUnit}
    (hA : draining c fy tb s b k ⊢ wp frame (wpE (defs₀ (F := F)) Variants.none (c : Thread nD τ) none) Set.univ A
        (fun _ => iprop(ptHalf c tbP tb ∗ (∃ W, owes (c : Thread nD τ) 0 W) ∗ drained c fy tb s b (2 * k + 1))))
    (hB : iprop(ptHalf c tbP tb ∗ (∃ W, owes (c : Thread nD τ) 0 W) ∗ drained c fy tb s b (2 * k + 1))
      ⊢ wp frame (wpE (defs₀ (F := F)) Variants.none (c : Thread nD τ) none) Set.univ B
        (fun _ => iprop(ptHalf c tbP tb ∗ (∃ W, owes (c : Thread nD τ) 0 W) ∗ drained c fy tb s b (2 * k + 1 + 1)))) :
    draining c fy tb s b k
      ⊢ wp frame (wpE (defs₀ (F := F)) Variants.none (c : Thread nD τ) none) Set.univ (do A; B; pure ()) (fun _ => draining c fy tb s b (k + 1)) := by
  rw [wp_bind]
  refine hA.trans (wp_mono _ _ _ fun _ => ?_)
  rw [wp_bind]
  refine hB.trans (wp_mono _ _ _ fun _ => ?_)
  unfold draining
  iintro H
  iapply le_wp_ret
  iexact H

/-! ### The offsets -/

theorem trips1 : k0_t1_loop.trips = 256 := by decide
theorem trips2 : k0_t2_loop.trips = 256 := by decide
theorem trips3 : k0_t3_loop.trips = 256 := by decide
theorem off8_eq : ∀ i : grid0.Coords, k0_off8 i = ![1 - (i 0).val % 2] := by decide +kernel
theorem off12_eq : ∀ i : grid0.Coords, k0_off12 i = ![1 - (i 0).val % 2] := by decide +kernel
theorem off16_eq : ∀ i : grid0.Coords, k0_off16 i = ![(i 0).val % 2] := by decide +kernel
theorem off20_eq : ∀ i : grid0.Coords, k0_off20 i = ![(i 0).val % 2] := by decide +kernel
theorem off9_eq : ∀ (i : grid0.Coords) (k : Fin k0_t2_loop.trips), k0_off9 i k = ![1 - (i 0).val % 2, 0, k.val, 0] := by decide +kernel
theorem off13_eq : ∀ (i : grid0.Coords) (k : Fin k0_t2_loop.trips), k0_off13 i k = ![1 - (i 0).val % 2, 1, k.val, 0] := by decide +kernel

/-! ### The loops' bodies -/

abbrev Inr (c : Dev nD) (tb : Bf (F := F) c tbP) : Prop := ∀ j, pos c tb j < 20480

theorem okY (v : BitVec 32) (h : v.toNat < 20480) : InY v := by
  intro a; fin_cases a
  · show v.toNat + 1 ≤ 20480; omega
  · show 0 + 2048 ≤ 2048; omega

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}

theorem coord_lt : (i 0).val < 8 := (i 0).isLt

theorem body1 (c : Dev nD) (fy : Bf (F := F) c yA) (tb : Bf (F := F) c tbP) (hI : Inr c tb) (h : k0_cond1 i = 1#1) (k : Fin k0_t1_loop.trips) (u : Unit) :
    issuing c fy tb 0 8192 k.val
      ⊢ wp frame (wpE (defs₀ (F := F)) Variants.none (c : Thread nD τ) none) Set.univ
        (k0_t1_body (F := F) i tbP (Memref.isWhole_whole _) yA (Memref.isWhole_whole _) M3 h3 M4 h4 M5 h5 M6 h6 M7 h7 bS (Memref.isWhole_whole _) cc0_scratch1 h k u)
        (fun _ => issuing c fy tb 0 8192 (k.val + 1)) := by
  have hk : k.val < 256 := Nat.lt_of_lt_of_eq k.isLt trips1
  exact two_halves c fy tb 0 8192 k.val hk
    (A := issue (k0_off1 k) (k0_off1_inb i k h) (k0_chk1 i) (k0_chk1.dec i) ![0] Facts₀.inb_S2_S1_0 (k0_off2 k) (k0_off2_inb i k h) (fun v hw => k0_off3_inb i v hw h))
    (B := issue (k0_off4 k) (k0_off4_inb i k h) (k0_chk2 i) (k0_chk2.dec i) ![0] Facts₀.inb_S2_S1_0 (k0_off5 k) (k0_off5_inb i k h) (fun v hw => k0_off6_inb i v hw h))
    (issue_wp c fy tb 0 8192 (by decide) ⟨2 * k.val, by omega⟩ (by show 8192 + 2 * k.val < 12288; omega) (hI _) _ _ _ _ _ _ _ _ _
      ((k0_off1_eq k).trans (congrArg (fun z => ![z]) (by show 2 * k.val + 8192 = 8192 + 2 * k.val; omega))) rfl
      ((k0_off2_eq k).trans (by show ![0, 0, k.val, 0] = ![0, 2 * k.val % 2, 2 * k.val / 2, 0]; rw [show 2 * k.val % 2 = 0 by omega, show 2 * k.val / 2 = k.val by omega]))
      (fun v hv _ => okY v hv))
    (issue_wp c fy tb 0 8192 (by decide) ⟨2 * k.val + 1, by omega⟩ (by show 8192 + (2 * k.val + 1) < 12288; omega) (hI _) _ _ _ _ _ _ _ _ _
      ((k0_off4_eq k).trans (congrArg (fun z => ![z]) (by show 2 * k.val + 8193 = 8192 + (2 * k.val + 1); omega))) rfl
      ((k0_off5_eq k).trans (by show ![0, 1, k.val, 0] = ![0, (2 * k.val + 1) % 2, (2 * k.val + 1) / 2, 0]; rw [show (2 * k.val + 1) % 2 = 1 by omega, show (2 * k.val + 1) / 2 = k.val by omega]))
      (fun v hv _ => okY v hv))

theorem body2 (c : Dev nD) (fy : Bf (F := F) c yA) (tb : Bf (F := F) c tbP) (hI : Inr c tb) (h : k0_cond2 i = 1#1) (hlt : (i 0).val + 1 < 8)
    (k : Fin k0_t2_loop.trips) (u : Unit) :
    issuing c fy tb (1 - (i 0).val % 2) (512 * ((i 0).val + 1) + 8192) k.val
      ⊢ wp frame (wpE (defs₀ (F := F)) Variants.none (c : Thread nD τ) none) Set.univ
        (k0_t2_body (F := F) i tbP (Memref.isWhole_whole _) yA (Memref.isWhole_whole _) M3 h3 M4 h4 M5 h5 M6 h6 M7 h7 bS (Memref.isWhole_whole _) cc0_scratch1 h k u)
        (fun _ => issuing c fy tb (1 - (i 0).val % 2) (512 * ((i 0).val + 1) + 8192) (k.val + 1)) := by
  have hk : k.val < 256 := Nat.lt_of_lt_of_eq k.isLt trips2
  exact two_halves c fy tb (1 - (i 0).val % 2) (512 * ((i 0).val + 1) + 8192) k.val hk
    (A := issue (k0_off7 i k) (k0_off7_inb i k h) (k0_chk3 i) (k0_chk3.dec i) (k0_off8 i) (k0_off8_inb i h) (k0_off9 i k) (k0_off9_inb i k h) (fun v hw => k0_off10_inb i v hw h))
    (B := issue (k0_off11 i k) (k0_off11_inb i k h) (k0_chk4 i) (k0_chk4.dec i) (k0_off12 i) (k0_off12_inb i h) (k0_off13 i k) (k0_off13_inb i k h) (fun v hw => k0_off14_inb i v hw h))
    (issue_wp c fy tb _ _ (by omega) ⟨2 * k.val, by omega⟩ (by show (512 * ((i 0).val + 1) + 8192) + 2 * k.val < 12288; omega) (hI _) _ _ _ _ _ _ _ _ _
      ((k0_off7_eq i k).trans (congrArg (fun z => ![z]) (by show 512 * (i 0).val + 2 * k.val + 8704 = (512 * ((i 0).val + 1) + 8192) + 2 * k.val; omega))) (off8_eq i)
      ((off9_eq i k).trans (by show _ = ![1 - (i 0).val % 2, 2 * k.val % 2, 2 * k.val / 2, 0]; rw [show 2 * k.val % 2 = 0 by omega, show 2 * k.val / 2 = k.val by omega]))
      (fun v hv _ => okY v hv))
    (issue_wp c fy tb _ _ (by omega) ⟨2 * k.val + 1, by omega⟩ (by show (512 * ((i 0).val + 1) + 8192) + (2 * k.val + 1) < 12288; omega) (hI _) _ _ _ _ _ _ _ _ _
      ((k0_off11_eq i k).trans (congrArg (fun z => ![z]) (by show 512 * (i 0).val + 2 * k.val + 8705 = (512 * ((i 0).val + 1) + 8192) + (2 * k.val + 1); omega))) (off12_eq i)
      ((off13_eq i k).trans (by show _ = ![1 - (i 0).val % 2, (2 * k.val + 1) % 2, (2 * k.val + 1) / 2, 0]; rw [show (2 * k.val + 1) % 2 = 1 by omega, show (2 * k.val + 1) / 2 = k.val by omega]))
      (fun v hv _ => okY v hv))

theorem body3 (c : Dev nD) (fy : Bf (F := F) c yA) (tb : Bf (F := F) c tbP) (hI : Inr c tb) (k : Fin k0_t3_loop.trips) (u : Unit) :
    draining c fy tb ((i 0).val % 2) (512 * (i 0).val + 8192) k.val
      ⊢ wp frame (wpE (defs₀ (F := F)) Variants.none (c : Thread nD τ) none) Set.univ
        (k0_t3_body (F := F) i tbP (Memref.isWhole_whole _) yA (Memref.isWhole_whole _) M3 h3 M4 h4 M5 h5 M6 h6 M7 h7 bS (Memref.isWhole_whole _) cc0_scratch1 k u)
        (fun _ => draining c fy tb ((i 0).val % 2) (512 * (i 0).val + 8192) (k.val + 1)) := by
  have hk : k.val < 256 := Nat.lt_of_lt_of_eq k.isLt trips3
  have hi := coord_lt i
  exact two_drains c fy tb ((i 0).val % 2) (512 * (i 0).val + 8192) k.val
    (A := drain (k0_off15 i k) (k0_off15_inb i k) k0_chk5 k0_chk5.dec (k0_off16 i) (k0_off16_inb i) (k0_off17 i k) (k0_off17_inb i k) (fun v hw => k0_off18_inb v hw))
    (B := drain (k0_off19 i k) (k0_off19_inb i k) k0_chk6 k0_chk6.dec (k0_off20 i) (k0_off20_inb i) (k0_off21 i k) (k0_off21_inb i k) (fun v hw => k0_off22_inb v hw))
    (drain_wp c fy tb _ _ (by omega) ⟨2 * k.val, by omega⟩ (by show 512 * (i 0).val + 8192 + 2 * k.val < 12288; omega) (hI _) _ _ _ _ _ _ _ _ _
      ((k0_off15_eq i k).trans (congrArg (fun z => ![z]) (by show 512 * (i 0).val + 2 * k.val + 8192 = 512 * (i 0).val + 8192 + 2 * k.val; omega))) (off16_eq i) (fun v hv => okY v hv))
    (drain_wp c fy tb _ _ (by omega) ⟨2 * k.val + 1, by omega⟩ (by show 512 * (i 0).val + 8192 + (2 * k.val + 1) < 12288; omega) (hI _) _ _ _ _ _ _ _ _ _
      ((k0_off19_eq i k).trans (congrArg (fun z => ![z]) (by show 512 * (i 0).val + 2 * k.val + 8193 = 512 * (i 0).val + 8192 + (2 * k.val + 1); omega))) (off20_eq i) (fun v hv => okY v hv))

end Cert.CombB

end
-- ==== Proof.CombBSlots.lean ====
module

public import proofs.«01_k».proof.Proof.CombBLoop

@[expose] public section

set_option maxRecDepth 16384

noncomputable section

namespace Cert.CombB

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a slot holds between the loops -/

variable (c : Dev nD) (fy : Bf (F := F) c yA) (tb : Bf (F := F) c tbP)

/-- Nothing on the way: the slot, its half of the experts' array, its semaphore at zero. -/
def free (s : ℕ) : sProp 𝕄 :=
  iprop((∃ f : Bf (F := F) c bS, bS.view.loc (c : Thread nD τ) ↦[sset s]{fullShare} f) ∗ (yA.view.loc (c : Thread nD τ) ↦{half s} fy)
    ∗ semVal ((c : Thread nD τ), qOf s) 0)
/-- The 512 rows whose words start at `b` on the way. -/
def flying (s b : ℕ) : sProp 𝕄 :=
  iprop(batch c fy tb s b (qOf s) 512 0 ∗ (yA.view.loc (c : Thread nD τ) ↦{Transfers.shareDrop (half s) 512} fy)
    ∗ bigSep Finset.univ (rest c fy tb s b))
/-- Those rows arrived. -/
def landed (s b : ℕ) : sProp 𝕄 :=
  iprop((bS.view.loc (c : Thread nD τ) ↦[sset s]{fullShare} landedAt c fy tb b) ∗ (yA.view.loc (c : Thread nD τ) ↦{half s} fy)
    ∗ semVal ((c : Thread nD τ), qOf s) 0)

theorem landed_free (s b : ℕ) : (landed c fy tb s b : sProp 𝕄) ⊢ free c fy s := by
  unfold landed free
  iintro ⟨H, Hy, Hq⟩
  isplitl [H]; · iexists _; iexact H
  isplitl [Hy]; · iexact Hy
  iexact Hq

/-- The slot cut into the places of its 512 rows. -/
theorem slot_rows (s : ℕ) (f : Bf (F := F) c bS) :
    (bS.view.loc (c : Thread nD τ) ↦[sset s]{fullShare} f : sProp 𝕄)
      = bigSep Finset.univ fun t : Fin 512 => (bS.view.loc (c : Thread nD τ) ↦[dset s t.val]{fullShare} f : sProp 𝕄) := by
  refine Eq.trans (congrArg (fun S : Finset (Idx (bS.view.loc (c : Thread nD τ))) => (bS.view.loc (c : Thread nD τ) ↦[S]{fullShare} f : sProp 𝕄)) ?_)
    (pointsTo_biUnion (ℓ := bS.view.loc (c : Thread nD τ)) (q := fullShare) (f := f) Finset.univ (fun t : Fin 512 => dset s t.val) fun t _ t' _ h => ?_)
  · exact sset_biUnion s
  · exact dset_disj s t (Finset.mem_univ _) t' (Finset.mem_univ _) h

theorem need_of (s : ℕ) (f : Bf (F := F) c bS) (t : Fin 512) :
    iprop((bS.view.loc (c : Thread nD τ) ↦[dset s t.val]{fullShare} f) ∗ (yA.view.loc (c : Thread nD τ) ↦{Transfers.shareTok (half s) 512 t} fy))
      ⊢ (need c fy s t : sProp 𝕄) := by
  unfold need
  iintro ⟨H1, H2⟩
  isplitl [H1]; · iexists f; iexact H1
  iexact H2
theorem deliv_of (s b : ℕ) (t : Fin 512) :
    iprop(deliv c fy tb s b t ∗ rest c fy tb s b t)
      ⊢ (iprop((bS.view.loc (c : Thread nD τ) ↦[dset s t.val]{fullShare} landedAt c fy tb b) ∗ (yA.view.loc (c : Thread nD τ) ↦{Transfers.shareTok (half s) 512 t} fy)) : sProp 𝕄) := by
  unfold deliv rest
  iintro ⟨⟨H1, H2⟩, H3⟩
  isplitl [H1]; · iexact H1
  iapply (Entails.of_eq (show (yA.view.loc (c : Thread nD τ) ↦[yset (pos c tb (b + t.val)) ∪ (Finset.univ \ yset (pos c tb (b + t.val)))]{Transfers.shareTok (half s) 512 t} fy : sProp 𝕄)
    = (yA.view.loc (c : Thread nD τ) ↦{Transfers.shareTok (half s) 512 t} fy) from by rw [Finset.union_sdiff_of_subset (Finset.subset_univ _)]))
  iapply (pointsTo_union (Finset.disjoint_sdiff)).2
  isplitl [H2]; · iexact H2
  iexact H3

/-- Ready to start. -/
theorem begin (s b : ℕ) :
    (free c fy s : sProp 𝕄) ⊢ |={Set.univ}=> iprop(batch c fy tb s b (qOf s) 0 0 ∗ bigSep Finset.univ (need c fy s)
      ∗ (yA.view.loc (c : Thread nD τ) ↦{Transfers.shareDrop (half s) 512} fy)) := by
  unfold free
  iintro ⟨⟨%f, H⟩, Hy, Hq⟩
  imod (Transfers.batch_alloc' (Lvl := ℕ) (countersEmb (U := Pipeline.UD sig nD τ)) (c : Thread nD τ) () credit (deliv c fy tb s b) (sm := qOf s) (E := Set.univ)) $$ Hq with HB
  ihave Hy := (Transfers.pointsTo_toks (half s) 512).1 $$ Hy
  icases Hy with ⟨Hd, Ht⟩
  ihave H := (Entails.of_eq (slot_rows c s f)) $$ H
  imodintro
  isplitl [HB]; · iexact HB
  isplitl [H Ht]
  · iapply (show iprop((bigSep Finset.univ fun t : Fin 512 => (bS.view.loc (c : Thread nD τ) ↦[dset s t.val]{fullShare} f : sProp 𝕄))
        ∗ bigSep Finset.univ fun t : Fin 512 => (yA.view.loc (c : Thread nD τ) ↦{Transfers.shareTok (half s) 512 t} fy : sProp 𝕄)) ⊢ bigSep Finset.univ (need c fy s) from by
      rw [← bigSep_sep']
      exact bigSep_mono fun t _ => need_of c fy s f t)
    isplitl [H]; · iexact H
    iexact Ht
  iexact Hd

/-- All arrived. -/
theorem collect (s b : ℕ) :
    iprop((bigSep Finset.univ (deliv c fy tb s b) ∗ semVal ((c : Thread nD τ), qOf s) 0)
      ∗ (yA.view.loc (c : Thread nD τ) ↦{Transfers.shareDrop (half s) 512} fy) ∗ bigSep Finset.univ (rest c fy tb s b)) ⊢ (landed c fy tb s b : sProp 𝕄) := by
  unfold landed
  iintro ⟨⟨HD, Hq⟩, Hd, HR⟩
  ihave H := (show iprop(bigSep Finset.univ (deliv c fy tb s b) ∗ bigSep Finset.univ (rest c fy tb s b))
      ⊢ iprop((bigSep Finset.univ fun t : Fin 512 => (bS.view.loc (c : Thread nD τ) ↦[dset s t.val]{fullShare} landedAt c fy tb b : sProp 𝕄))
        ∗ bigSep Finset.univ fun t : Fin 512 => (yA.view.loc (c : Thread nD τ) ↦{Transfers.shareTok (half s) 512 t} fy : sProp 𝕄)) from by
    rw [← bigSep_sep', ← bigSep_sep']
    exact bigSep_mono fun t _ => deliv_of c fy tb s b t) $$ [HD HR]
  · isplitl [HD]; · iexact HD
    iexact HR
  icases H with ⟨H, Ht⟩
  isplitl [H]; · iapply (Entails.of_eq (slot_rows c s (landedAt c fy tb b)).symm) $$ H
  isplitl [Hd Ht]
  · iapply (Transfers.pointsTo_toks (half s) 512).2
    isplitl [Hd]; · iexact Hd
    iexact Ht
  iexact Hq

/-! ## The loops, whole -/

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}
  (hI : Inr c tb)

theorem issuing_start (s b : ℕ) :
    iprop(ptHalf c tbP tb ∗ batch c fy tb s b (qOf s) 0 0 ∗ bigSep Finset.univ (need c fy s)) ⊢ (issuing c fy tb s b 0 : sProp 𝕄) := by
  unfold issuing
  rw [show 2 * 0 = 0 from rfl, Ring.rangeSet_univ, Ring.bigSep_rangeSet_empty (NB := 512) (lo := 0) (hi := 0) le_rfl]
  iintro ⟨H1, H2, H3⟩
  isplitl [H1]; · iexact H1
  isplitl [H2]; · iexact H2
  isplitl [H3]; · iexact H3
  iempintro
theorem issuing_end (s b : ℕ) :
    (issuing c fy tb s b 256 : sProp 𝕄) ⊢ iprop(ptHalf c tbP tb ∗ batch c fy tb s b (qOf s) 512 0 ∗ bigSep Finset.univ (rest c fy tb s b)) := by
  unfold issuing
  rw [show 2 * 256 = 512 from rfl, Ring.rangeSet_univ]
  iintro ⟨H1, H2, -, H3⟩
  isplitl [H1]; · iexact H1
  isplitl [H2]; · iexact H2
  iexact H3

theorem loop_end1 (s b : ℕ) :
    (issuing c fy tb s b k0_t1_loop.trips : sProp 𝕄) ⊢ iprop(ptHalf c tbP tb ∗ batch c fy tb s b (qOf s) 512 0 ∗ bigSep Finset.univ (rest c fy tb s b)) := by
  rw [trips1]; exact issuing_end c fy tb s b
theorem loop_end2 (s b : ℕ) :
    (issuing c fy tb s b k0_t2_loop.trips : sProp 𝕄) ⊢ iprop(ptHalf c tbP tb ∗ batch c fy tb s b (qOf s) 512 0 ∗ bigSep Finset.univ (rest c fy tb s b)) := by
  rw [trips2]; exact issuing_end c fy tb s b
theorem drain_start (s b : ℕ) :
    iprop(ptHalf c tbP tb ∗ (∃ W, owes (c : Thread nD τ) 0 W) ∗ batch c fy tb s b (qOf s) 512 0) ⊢ (draining c fy tb s b 0 : sProp 𝕄) := by
  unfold draining drained
  rw [show 2 * 0 = 0 from rfl, if_pos (by decide : 0 < 512), Nat.zero_mul]
theorem loop_end3 (s b : ℕ) :
    (draining c fy tb s b k0_t3_loop.trips : sProp 𝕄)
      ⊢ iprop(ptHalf c tbP tb ∗ (∃ W, owes (c : Thread nD τ) 0 W) ∗ (bigSep Finset.univ (deliv c fy tb s b) ∗ semVal ((c : Thread nD τ), qOf s) 0)) := by
  rw [trips3]; unfold draining drained; rw [if_neg (by decide : ¬ 2 * 256 < 512)]

include hI in
theorem loop1 (h : k0_cond1 i = 1#1) :
    iprop(ptHalf c tbP tb ∗ free c fy 0)
      ⊢ wp frame (wpE (defs₀ (F := F)) Variants.none (c : Thread nD τ) none) Set.univ
        (Scf.Loop.for k0_t1_loop (k0_t1_ok i h) ⟨⟩ (k0_t1_body (F := F) i tbP (Memref.isWhole_whole _) yA (Memref.isWhole_whole _) M3 h3 M4 h4 M5 h5 M6 h6 M7 h7 bS (Memref.isWhole_whole _) cc0_scratch1 h))
        (fun _ => iprop(ptHalf c tbP tb ∗ flying c fy tb 0 8192)) := by
  unfold flying
  iintro ⟨Ht, Hf⟩
  imod (begin c fy tb 0 8192) $$ Hf with ⟨HB, HN, Hd⟩
  iapply (Scf.wp_for _ _ _ _ _ _ _ _ _ (fun k _ => issuing c fy tb 0 8192 k) (fun k u => body1 i c fy tb hI h k u))
  isplitl [Ht HB HN]
  · iapply (issuing_start c fy tb 0 8192)
    isplitl [Ht]; · iexact Ht
    isplitl [HB]; · iexact HB
    iexact HN
  iintro %_ H
  ihave H := (loop_end1 c fy tb 0 8192) $$ H
  icases H with ⟨Ht, HB, HR⟩
  isplitl [Ht]; · iexact Ht
  isplitl [HB]; · iexact HB
  isplitl [Hd]; · iexact Hd
  iexact HR

include hI in
theorem loop2 (h : k0_cond2 i = 1#1) (hlt : (i 0).val + 1 < 8) :
    iprop(ptHalf c tbP tb ∗ free c fy (1 - (i 0).val % 2))
      ⊢ wp frame (wpE (defs₀ (F := F)) Variants.none (c : Thread nD τ) none) Set.univ
        (Scf.Loop.for k0_t2_loop (k0_t2_ok i h) ⟨⟩ (k0_t2_body (F := F) i tbP (Memref.isWhole_whole _) yA (Memref.isWhole_whole _) M3 h3 M4 h4 M5 h5 M6 h6 M7 h7 bS (Memref.isWhole_whole _) cc0_scratch1 h))
        (fun _ => iprop(ptHalf c tbP tb ∗ flying c fy tb (1 - (i 0).val % 2) (512 * ((i 0).val + 1) + 8192))) := by
  unfold flying
  iintro ⟨Ht, Hf⟩
  imod (begin c fy tb (1 - (i 0).val % 2) (512 * ((i 0).val + 1) + 8192)) $$ Hf with ⟨HB, HN, Hd⟩
  iapply (Scf.wp_for _ _ _ _ _ _ _ _ _ (fun k _ => issuing c fy tb (1 - (i 0).val % 2) (512 * ((i 0).val + 1) + 8192) k) (fun k u => body2 i c fy tb hI h hlt k u))
  isplitl [Ht HB HN]
  · iapply (issuing_start c fy tb (1 - (i 0).val % 2) (512 * ((i 0).val + 1) + 8192))
    isplitl [Ht]; · iexact Ht
    isplitl [HB]; · iexact HB
    iexact HN
  iintro %_ H
  ihave H := (loop_end2 c fy tb _ _) $$ H
  icases H with ⟨Ht, HB, HR⟩
  isplitl [Ht]; · iexact Ht
  isplitl [HB]; · iexact HB
  isplitl [Hd]; · iexact Hd
  iexact HR

include hI in
theorem loop3 :
    iprop(ptHalf c tbP tb ∗ (∃ W, owes (c : Thread nD τ) 0 W) ∗ flying c fy tb ((i 0).val % 2) (512 * (i 0).val + 8192))
      ⊢ wp frame (wpE (defs₀ (F := F)) Variants.none (c : Thread nD τ) none) Set.univ
        (Scf.Loop.for k0_t3_loop k0_t3_ok ⟨⟩ (k0_t3_body (F := F) i tbP (Memref.isWhole_whole _) yA (Memref.isWhole_whole _) M3 h3 M4 h4 M5 h5 M6 h6 M7 h7 bS (Memref.isWhole_whole _) cc0_scratch1))
        (fun _ => iprop(ptHalf c tbP tb ∗ (∃ W, owes (c : Thread nD τ) 0 W) ∗ landed c fy tb ((i 0).val % 2) (512 * (i 0).val + 8192))) := by
  unfold flying
  iintro ⟨Ht, HW, HB, Hd, HR⟩
  iapply (Scf.wp_for _ _ _ _ _ _ _ _ _ (fun k _ => draining c fy tb ((i 0).val % 2) (512 * (i 0).val + 8192) k) (fun k u => body3 i c fy tb hI k u))
  isplitl [Ht HW HB]
  · iapply (drain_start c fy tb _ _)
    isplitl [Ht]; · iexact Ht
    isplitl [HW]; · iexact HW
    iexact HB
  iintro %_ H
  ihave H := (loop_end3 c fy tb _ _) $$ H
  icases H with ⟨Ht, HW, HD⟩
  isplitl [Ht]; · iexact Ht
  isplitl [HW]; · iexact HW
  iapply (collect c fy tb ((i 0).val % 2) (512 * (i 0).val + 8192))
  isplitl [HD]; · iexact HD
  isplitl [Hd]; · iexact Hd
  iexact HR

end Cert.CombB

end
-- ==== Proof.CombBStep.lean ====
module

public import proofs.«01_k».proof.Proof.CombBSlots
public import Idealize.ShloMosaic.Lib.VecWindow

@[expose] public section

set_option maxRecDepth 16384

noncomputable section

namespace Cert.CombB

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One point -/

variable (c : Dev nD) (fy : Bf (F := F) c yA) (tb : Bf (F := F) c tbP)

/-- The rows of the experts' array a point's words name, first (`k = 0`) or second (`k = 1`) of each pair. -/
def rowsOf (b : ℕ) (k : ℕ) : Vec F S1x1x256x2048 .f32 :=
  fun j => fy (ix2 (⟨pos c tb (b + (2 * (j 2).val + k)) % 20480, Nat.mod_lt _ (by decide)⟩ : Fin 20480) (j 3))

/-- What is held of the slots before point `n`. -/
def state (n : ℕ) : sProp 𝕄 :=
  if 0 < n ∧ n < 8 then iprop(flying c fy tb (n % 2) (512 * n + 8192) ∗ free c fy (1 - n % 2)) else iprop(free c fy 0 ∗ free c fy 1)

theorem state_mid {n : ℕ} (h : 0 < n ∧ n < 8) : (state c fy tb n : sProp 𝕄) = iprop(flying c fy tb (n % 2) (512 * n + 8192) ∗ free c fy (1 - n % 2)) := if_pos h
theorem state_end {n : ℕ} (h : ¬ (0 < n ∧ n < 8)) : (state c fy tb n : sProp 𝕄) = iprop(free c fy 0 ∗ free c fy 1) := if_neg h

variable (i : grid0.Coords) {M3 : Memref sig .tc .vmem S256x128 .f32} {h3 : M3.IsWhole} {M4 : Memref sig .tc .vmem S256x2048 .f32} {h4 : M4.IsWhole}
  {M5 : Memref sig .tc .vmem S1x1x2048 .f32} {h5 : M5.IsWhole} {M6 : Memref sig .tc .vmem S1x2048 .f32} {h6 : M6.IsWhole} {M7 : Memref sig .tc .vmem S256x2048 .f32} {h7 : M7.IsWhole}
  (hI : Inr c tb)

theorem off23_eq : ∀ i : grid0.Coords, k0_off23 i = ![(i 0).val % 2, 0, 0, 0] := by decide +kernel
theorem off24_eq : ∀ i : grid0.Coords, k0_off24 i = ![(i 0).val % 2, 1, 0, 0] := by decide +kernel

abbrev InR (o : Fin 4 → ℕ) : Prop := ∀ a, o a + S1x1x256x2048.size a ≤ S2x2x256x2048.size a

theorem slab_sub (s k : ℕ) (o : Fin 4 → ℕ) (ho : InR o) (e : o = ![s, k, 0, 0]) :
    bS.view.setOn ((Rect.unit (s := S2x2x256x2048) o S1x1x256x2048.size ho).toLoadRect).set ⊆ sset s := by
  subst e
  intro x hx
  obtain ⟨y, hy, rfl⟩ := Finset.mem_map.mp hx
  rw [mem_sset]
  have := (Rect.mem_set_unit (inb := ho)).mp hy 0
  have h1 : s ≤ (y 0).val := this.1
  have h2 : (y 0).val < s + 1 := this.2
  show (y 0).val = s
  omega

theorem slab_read (s k b : ℕ) (o : Fin 4 → ℕ) (ho : InR o) (e : o = ![s, k, 0, 0]) :
    bS.view.readAt (Elt F) (Rect.unit (s := S2x2x256x2048) o S1x1x256x2048.size ho).toLoadRect (landedAt c fy tb b) = rowsOf c fy tb b k := by
  subst e
  funext j
  have h1 : (j 1).val < 1 := (j 1).isLt
  show fy _ = fy _
  congr 1
  refine congrArg₂ ix2 (Fin.ext ?_) (Fin.ext ?_)
  · show pos c tb (b + (2 * (0 + 1 * (j 2).val) + (k + 1 * (j 1).val))) % 20480 = pos c tb (b + (2 * (j 2).val + k)) % 20480
    rw [show 2 * (0 + 1 * (j 2).val) + (k + 1 * (j 1).val) = 2 * (j 2).val + k from by omega]
  · show 0 + 1 * (j 3).val = (j 3).val
    omega

abbrev Part1 (i : grid0.Coords) (M3 : Memref sig .tc .vmem S256x128 .f32) (h3 : M3.IsWhole) (M4 : Memref sig .tc .vmem S256x2048 .f32) (h4 : M4.IsWhole)
    (M5 : Memref sig .tc .vmem S1x1x2048 .f32) (h5 : M5.IsWhole) (M6 : Memref sig .tc .vmem S1x2048 .f32) (h6 : M6.IsWhole) (M7 : Memref sig .tc .vmem S256x2048 .f32) (h7 : M7.IsWhole) :=
  k0_part1 (F := F) i tbP (Memref.isWhole_whole _) yA (Memref.isWhole_whole _) M3 h3 M4 h4 M5 h5 M6 h6 M7 h7 bS (Memref.isWhole_whole _) cc0_scratch1

/-- The three reads after the loops, and the two rows of every pair weighed and added. -/
def reads (M3 : Memref sig .tc .vmem S256x128 .f32) : Prog (TpuEff nD τ sig (Elt F) Λ₀ .tc) (FVec F S256x2048 .f32) := do
  let v18 : Vec F S256x128 .f32 ← Prog.lift (.load M3 (Rect.unit (s := S256x128) ![0, 0] S256x128.size inb_S256x128_S256x128_0_0).toLoadRect (View.loadsAt_vmem h_S256x128))
  let v21 : Vec F S1x1x256x2048 .f32 ← Prog.lift (.load bS (Rect.unit (s := S2x2x256x2048) (k0_off23 i) S1x1x256x2048.size (k0_off23_inb i)).toLoadRect (View.loadsAt_vmem h_S1x1x256x2048))
  let v27 : Vec F S1x1x256x2048 .f32 ← Prog.lift (.load bS (Rect.unit (s := S2x2x256x2048) (k0_off24 i) S1x1x256x2048.size (k0_off24_inb i)).toLoadRect (View.loadsAt_vmem h_S1x1x256x2048))
  pure (k0_pay2 v18 v21 v27)

theorem reads_wp (X3 : Vec F S256x128 .f32) :
    iprop(owns (c : Thread nD τ) M3 fullShare X3 ∗ landed c fy tb ((i 0).val % 2) (512 * (i 0).val + 8192))
      ⊢ wp frame (wpE (defs₀ (F := F)) Variants.none (c : Thread nD τ) none) Set.univ (reads (F := F) i M3)
        (fun v => iprop(⌜v = k0_pay2 X3 (rowsOf c fy tb (512 * (i 0).val + 8192) 0) (rowsOf c fy tb (512 * (i 0).val + 8192) 1)⌝ ∗ owns (c : Thread nD τ) M3 fullShare X3
          ∗ landed c fy tb ((i 0).val % 2) (512 * (i 0).val + 8192))) := by
  unfold reads landed owns
  iintro ⟨⟨%f, %hf, H3⟩, H, Hy, Hq⟩
  iapply (wp_load Variants.none (c : Thread nD τ) none Set.univ (m := M3) (S := M3.view.set) (f := f) (View.setOn_subset_set _ _)) $$ H3
  iintro H3
  iapply (wp_load Variants.none (c : Thread nD τ) none Set.univ (m := bS) (S := sset ((i 0).val % 2)) (f := landedAt c fy tb (512 * (i 0).val + 8192)) (slab_sub _ 0 _ _ (off23_eq i))) $$ H
  iintro H
  iapply (wp_load Variants.none (c : Thread nD τ) none Set.univ (m := bS) (S := sset ((i 0).val % 2)) (f := landedAt c fy tb (512 * (i 0).val + 8192)) (slab_sub _ 1 _ _ (off24_eq i))) $$ H
  iintro H
  iapply le_wp_ret
  rw [slab_read c fy tb _ 0 _ _ _ (off23_eq i), slab_read c fy tb _ 1 _ _ _ (off24_eq i), View.readAt_full, hf]
  isplitr; · ipureintro; rfl
  isplitl [H3]
  · iexists f; isplitr; · ipureintro; exact hf
    iexact H3
  isplitl [H]; · iexact H
  isplitl [Hy]; · iexact Hy
  iexact Hq

theorem cond1_iff : ∀ i : grid0.Coords, k0_cond1 i = 1#1 ↔ (i 0).val = 0 := by decide +kernel
theorem cond2_iff : ∀ i : grid0.Coords, k0_cond2 i = 1#1 ↔ (i 0).val + 1 < 8 := by decide +kernel

include hI in
/-- The draining loop and the reads. -/
theorem tail_wp (X3 : Vec F S256x128 .f32) :
    iprop(ptHalf c tbP tb ∗ (∃ W, owes (c : Thread nD τ) 0 W) ∗ flying c fy tb ((i 0).val % 2) (512 * (i 0).val + 8192) ∗ owns (c : Thread nD τ) M3 fullShare X3)
      ⊢ wp frame (wpE (defs₀ (F := F)) Variants.none (c : Thread nD τ) none) Set.univ
        (Scf.Loop.for k0_t3_loop k0_t3_ok ⟨⟩ (k0_t3_body (F := F) i tbP (Memref.isWhole_whole _) yA (Memref.isWhole_whole _) M3 h3 M4 h4 M5 h5 M6 h6 M7 h7 bS (Memref.isWhole_whole _) cc0_scratch1)
          >>= fun _ => reads (F := F) i M3)
        (fun v => iprop(⌜v = k0_pay2 X3 (rowsOf c fy tb (512 * (i 0).val + 8192) 0) (rowsOf c fy tb (512 * (i 0).val + 8192) 1)⌝ ∗ owns (c : Thread nD τ) M3 fullShare X3
          ∗ ptHalf c tbP tb ∗ (∃ W, owes (c : Thread nD τ) 0 W) ∗ free c fy ((i 0).val % 2))) := by
  rw [wp_bind]
  iintro ⟨Ht, HW, Hf, H3⟩
  iapply (wp_wand_r frame _ _)
  isplitl [Ht HW Hf]
  · iapply (loop3 c fy tb i hI)
    isplitl [Ht]; · iexact Ht
    isplitl [HW]; · iexact HW
    iexact Hf
  iintro %_ ⟨Ht, HW, Hl⟩
  iapply (wp_wand_r frame _ _)
  isplitl [Hl H3]
  · iapply (reads_wp c fy tb i X3)
    isplitl [H3]; · iexact H3
    iexact Hl
  iintro %v ⟨%hv, H3, Hl⟩
  isplitr; · ipureintro; exact hv
  isplitl [H3]; · iexact H3
  isplitl [Ht]; · iexact Ht
  isplitl [HW]; · iexact HW
  iapply (landed_free c fy tb _ _) $$ Hl

theorem state_zero (hz : (i 0).val = 0) : (state c fy tb (i 0).val : sProp 𝕄) ⊢ iprop(free c fy 0 ∗ free c fy (1 - (i 0).val % 2)) := by
  rw [hz, state_end c fy tb (by omega)]
theorem flying_zero (hz : (i 0).val = 0) : (flying c fy tb 0 8192 : sProp 𝕄) ⊢ flying c fy tb ((i 0).val % 2) (512 * (i 0).val + 8192) := by
  rw [hz]
theorem state_pos (hz : ¬ (i 0).val = 0) : (state c fy tb (i 0).val : sProp 𝕄) ⊢ iprop(flying c fy tb ((i 0).val % 2) (512 * (i 0).val + 8192) ∗ free c fy (1 - (i 0).val % 2)) := by
  rw [state_mid c fy tb ⟨Nat.pos_of_ne_zero hz, coord_lt i⟩]
theorem state_next (hlt : (i 0).val + 1 < 8) :
    iprop(flying c fy tb (1 - (i 0).val % 2) (512 * ((i 0).val + 1) + 8192) ∗ free c fy ((i 0).val % 2)) ⊢ (state c fy tb ((i 0).val + 1) : sProp 𝕄) := by
  rw [state_mid c fy tb ⟨Nat.succ_pos _, hlt⟩, show 1 - (i 0).val % 2 = ((i 0).val + 1) % 2 from by omega, show 1 - ((i 0).val + 1) % 2 = (i 0).val % 2 from by omega]
theorem state_last (hlt : ¬ (i 0).val + 1 < 8) :
    iprop(free c fy (1 - (i 0).val % 2) ∗ free c fy ((i 0).val % 2)) ⊢ (state c fy tb ((i 0).val + 1) : sProp 𝕄) := by
  have := coord_lt i
  rw [state_end c fy tb (by omega), show 1 - (i 0).val % 2 = 0 from by omega, show (i 0).val % 2 = 1 from by omega]

include hI in
theorem part1_wp (X3 : Vec F S256x128 .f32) :
    iprop(ptHalf c tbP tb ∗ (∃ W, owes (c : Thread nD τ) 0 W) ∗ state c fy tb (i 0).val ∗ owns (c : Thread nD τ) M3 fullShare X3)
      ⊢ wp frame (wpE (defs₀ (F := F)) Variants.none (c : Thread nD τ) none) Set.univ (Part1 (F := F) i M3 h3 M4 h4 M5 h5 M6 h6 M7 h7)
        (fun v => iprop(⌜v = k0_pay2 X3 (rowsOf c fy tb (512 * (i 0).val + 8192) 0) (rowsOf c fy tb (512 * (i 0).val + 8192) 1)⌝ ∗ owns (c : Thread nD τ) M3 fullShare X3
          ∗ ptHalf c tbP tb ∗ (∃ W, owes (c : Thread nD τ) 0 W) ∗ state c fy tb ((i 0).val + 1))) := by
  unfold Part1
  rw [k0_part1_eq_skeleton]
  unfold k0_part1_skel
  have hlt := coord_lt i
  by_cases hz : (i 0).val = 0
  · have h1 := (cond1_iff i).mpr hz
    have h2' : (i 0).val + 1 < 8 := by omega
    have h2 := (cond2_iff i).mpr h2'
    rw [dif_pos h1, dif_pos h2, wp_bind]
    iintro ⟨Ht, HW, Hs, H3⟩
    ihave Hs := (state_zero c fy tb i hz) $$ Hs
    icases Hs with ⟨Hf0, Hf1⟩
    iapply (wp_wand_r frame _ _)
    isplitl [Ht Hf0]
    · iapply (loop1 c fy tb i hI h1)
      isplitl [Ht]; · iexact Ht
      iexact Hf0
    iintro %_ ⟨Ht, Hf0⟩
    ihave Hf0 := (flying_zero c fy tb i hz) $$ Hf0
    dsimp only
    rw [wp_bind]
    iapply (wp_wand_r frame _ _)
    isplitl [Ht Hf1]
    · iapply (loop2 c fy tb i hI h2 h2')
      isplitl [Ht]; · iexact Ht
      iexact Hf1
    iintro %_ ⟨Ht, Hf1⟩
    dsimp only
    iapply (wp_wand_r frame _ _)
    isplitl [Ht HW Hf0 H3]
    · iapply (tail_wp c fy tb i hI X3)
      isplitl [Ht]; · iexact Ht
      isplitl [HW]; · iexact HW
      isplitl [Hf0]; · iexact Hf0
      iexact H3
    iintro %v ⟨%hv, H3, Ht, HW, Hf⟩
    isplitr; · ipureintro; exact hv
    isplitl [H3]; · iexact H3
    isplitl [Ht]; · iexact Ht
    isplitl [HW]; · iexact HW
    iapply (state_next c fy tb i h2')
    isplitl [Hf1]; · iexact Hf1
    iexact Hf
  · have h1 : ¬ k0_cond1 i = 1#1 := fun h => hz ((cond1_iff i).mp h)
    by_cases h2' : (i 0).val + 1 < 8
    · have h2 := (cond2_iff i).mpr h2'
      rw [dif_neg h1, dif_pos h2]
      dsimp only
      rw [wp_bind]
      iintro ⟨Ht, HW, Hs, H3⟩
      ihave Hs := (state_pos c fy tb i hz) $$ Hs
      icases Hs with ⟨Hf0, Hf1⟩
      iapply (wp_wand_r frame _ _)
      isplitl [Ht Hf1]
      · iapply (loop2 c fy tb i hI h2 h2')
        isplitl [Ht]; · iexact Ht
        iexact Hf1
      iintro %_ ⟨Ht, Hf1⟩
      dsimp only
      iapply (wp_wand_r frame _ _)
      isplitl [Ht HW Hf0 H3]
      · iapply (tail_wp c fy tb i hI X3)
        isplitl [Ht]; · iexact Ht
        isplitl [HW]; · iexact HW
        isplitl [Hf0]; · iexact Hf0
        iexact H3
      iintro %v ⟨%hv, H3, Ht, HW, Hf⟩
      isplitr; · ipureintro; exact hv
      isplitl [H3]; · iexact H3
      isplitl [Ht]; · iexact Ht
      isplitl [HW]; · iexact HW
      iapply (state_next c fy tb i h2')
      isplitl [Hf1]; · iexact Hf1
      iexact Hf
    · have h2 : ¬ k0_cond2 i = 1#1 := fun h => h2' ((cond2_iff i).mp h)
      rw [dif_neg h1, dif_neg h2]
      dsimp only
      iintro ⟨Ht, HW, Hs, H3⟩
      ihave Hs := (state_pos c fy tb i hz) $$ Hs
      icases Hs with ⟨Hf0, Hf1⟩
      iapply (wp_wand_r frame _ _)
      isplitl [Ht HW Hf0 H3]
      · iapply (tail_wp c fy tb i hI X3)
        isplitl [Ht]; · iexact Ht
        isplitl [HW]; · iexact HW
        isplitl [Hf0]; · iexact Hf0
        iexact H3
      iintro %v ⟨%hv, H3, Ht, HW, Hf⟩
      isplitr; · ipureintro; exact hv
      isplitl [H3]; · iexact H3
      isplitl [Ht]; · iexact Ht
      isplitl [HW]; · iexact HW
      iapply (state_last c fy tb i h2')
      isplitl [Hf1]; · iexact Hf1
      iexact Hf

/-- What a point leaves in the result's block. -/
def tileOut (b : ℕ) (X3 : Vec F S256x128 .f32) (X4 : Vec F S256x2048 .f32) (X5 : Vec F S1x1x2048 .f32) (X6 : Vec F S1x2048 .f32) : Vec F S256x2048 .f32 :=
  k0_pay1 (k0_pay2 X3 (rowsOf c fy tb b 0) (rowsOf c fy tb b 1)) X4 X5 X6

include hI in
/-- The body at a point. -/
theorem step (X3 : Vec F S256x128 .f32) (X4 : Vec F S256x2048 .f32) (X5 : Vec F S1x1x2048 .f32) (X6 : Vec F S1x2048 .f32) :
    iprop(ptHalf c tbP tb ∗ (∃ W, owes (c : Thread nD τ) 0 W) ∗ state c fy tb (i 0).val ∗ owns (c : Thread nD τ) M3 fullShare X3
        ∗ owns (c : Thread nD τ) M4 fullShare X4 ∗ owns (c : Thread nD τ) M5 fullShare X5 ∗ owns (c : Thread nD τ) M6 fullShare X6
        ∗ (∃ d, owns (c : Thread nD τ) M7 fullShare d))
      ⊢ wp frame (wpE (defs₀ (F := F)) Variants.none (c : Thread nD τ) none) Set.univ
        (cc0_combine (F := F) i tbP (Memref.isWhole_whole _) yA (Memref.isWhole_whole _) M3 h3 M4 h4 M5 h5 M6 h6 M7 h7 bS (Memref.isWhole_whole _) cc0_scratch1)
        (fun _ => iprop(ptHalf c tbP tb ∗ (∃ W, owes (c : Thread nD τ) 0 W) ∗ state c fy tb ((i 0).val + 1) ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare (tileOut c fy tb (512 * (i 0).val + 8192) X3 X4 X5 X6))) := by
  rw [cc0_combine_eq_skeleton]
  unfold cc0_combine_skel
  rw [wp_bind]
  iintro ⟨Ht, HW, Hs, H3, H4, H5, H6, ⟨%d, H7⟩⟩
  iapply (wp_wand_r frame _ _)
  isplitl [Ht HW Hs H3]
  · iapply (part1_wp c fy tb i hI X3)
    isplitl [Ht]; · iexact Ht
    isplitl [HW]; · iexact HW
    isplitl [Hs]; · iexact Hs
    iexact H3
  iintro %v ⟨%hv, H3, Ht, HW, Hs⟩
  subst hv
  unfold owns
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  sl_exec
  sl_step
  isplitl [Ht]; · iexact Ht
  isplitl [HW]; · iexact HW
  isplitl [Hs]; · iexact Hs
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  iexists _; isplitr; swap; · iexact H7
  ipureintro
  refine (View.read_writes_full _ _ _ _ _).trans ?_
  unfold tileOut
  rw [View.readAt_full, View.readAt_full, View.readAt_full, e4, e5, e6]

end Cert.CombB

end
-- ==== Proof.CombBFrame.lean ====
module

public import proofs.«01_k».proof.Proof.CombBStep
public import Idealize.ShloMosaic.Lib.Pipeline.FrameSuffix

@[expose] public section

set_option maxRecDepth 16384

noncomputable section

namespace Cert.CombB

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- Core `c`'s buffers when the region is entered: as launched but for the gain as one row. -/
abbrev V₀ (c : Dev nD) : Valuation τ sig (Elt F) := StableHlo.after [hostOps0].flatten (fun b => m (c, b))
abbrev V (c : Dev nD) (b : Ref sig .tc) : Buf (Elt F) ((c : Thread nD τ).loc b) := V₀ m c (Proc.devRef .tc b)

theorem V_kept (c : Dev nD) (b : Ref sig .tc) (h : b ≠ main_v0) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.Forall, StableHlo.unary_writes, Finset.mem_singleton]
  exact StableHlo.devRef_ne_of_ne h

theorem hmain (𝒱₀ : Variants) : Pipeline.HMainPK (Ix := Unit) (Name := ℕ) (U := Pipeline.UD sig nD τ) (Lvl := ℕ) pcfgs 0 defs₀ 𝒱₀ m (main (F := F))
    (fun c b => V₀ m c (Proc.devRef .tc b)) (fun _ => Pipeline.chain ([hostOps1].map StableHlo.seq)) :=
  Pipeline.hmainP_around pcfgs 0 defs₀ 𝒱₀ m main [hostOps0] [hostOps1] hostOps0_sub rfl main_chain

/-- The table's contents. -/
def tbl : pre0.Contents (Elt F) := fun j => V m (0 : Dev nD) (pre0.ref j)
theorem V_pre (c : Dev nD) (j : Fin 1) : V m c (pre0.ref j) = tbl m j := by obtain rfl : c = 0 := Subsingleton.elim _ _; rfl

/-- The table as this certificate takes it: every word names a row of the experts' array. -/
abbrev Table : Prop := Inr (F := F) 0 (tbl m 0)

theorem laidAt (L : Table m) (c : Dev nD) : Inr (F := F) c (tbl m 0) := L

abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = ptHalf c tbP (tbl m 0) := by
  unfold Pipeline.ΦT Pipeline.prefHeld
  rw [bigSep_univ_eq_bigSepL [(0 : Fin 1)] (by decide) (by decide)]
  rfl

/-- Window `w`'s block at point `t`, off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The tile a point is. -/
theorem coord_val (t : Fin grid0.N) : ((grid0.coords t) 0).val = t.val :=
  (by decide +kernel : ∀ t : Fin grid0.N, ((grid0.coords t) 0).val = t.val) t

/-- What is held before point `k`. -/
def inv (c : Dev nD) (k : ℕ) : sProp 𝕄 :=
  iprop(ptHalf (F := F) c tbP (tbl m 0) ∗ (∃ r, prngReg c r) ∗ state c (V m c main_arg0) (tbl m 0) k)

/-- What a point leaves in the result's block. -/
def outAt (c : Dev nD) (t : Fin (cfgM m).N) : Vec F S256x2048 .f32 :=
  tileOut c (V m c main_arg0) (tbl m 0) (512 * t.val + 8192) (iblk m c 0 t) (iblk m c 1 t) (iblk m c 2 t) (iblk m c 3 t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => outAt m c t
  Φ t := inv m c t.val
  q _ := fullShare
  owed _ := 0

theorem A_eq (c : Dev nD) (w : Fin (cfgM m).W) : (dats m 0 c).A w = V m c (Pipeline.arrRef spec0 w) := by dsimp only [dats]
theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  before0_1_of m (dats m 0 c) (A_eq m c 1) (after0_1 m c) t d
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  before0_2_of m (dats m 0 c) (A_eq m c 2) (after0_2 m c) t d
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  before0_3_of m (dats m 0 c) (A_eq m c 3) (after0_3 m c) t d
theorem after0_4 (c : Dev nD) (t : Fin (cfgM m).N) : (dats m 0 c).after 4 t = outAt m c t := by dsimp only [dats]; try rfl

abbrev ms0_0 (t : Fin (cfgM m).N) : Memref sig .tc .vmem S256x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S256x2048 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1x2048 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2048 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S256x2048 .f32 := spec0_4.stage ((cfgM m).slots t 4)
abbrev hs0_4 (t : Fin (cfgM m).N) : (ms0_4 m t).IsWhole := hstage0_4 (((cfgM m).slots t 4).cast nbuf0_4)

/-- The body at point `t`. -/
abbrev bodyAt0 (t : Fin (cfgM m).N) : Prog (TpuEff nD τ sig (Elt F) Λ₀ .tc) PUnit :=
  cc0_combine (grid0.coords t) tbP (Memref.isWhole_whole _) yA (Memref.isWhole_whole _) (ms0_0 m t) (hs0_0 m t) (ms0_1 m t) (hs0_1 m t)
    (ms0_2 m t) (hs0_2 m t) (ms0_3 m t) (hs0_3 m t) (ms0_4 m t) (hs0_4 m t) bS (Memref.isWhole_whole _) cc0_scratch1

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t))

section Run

variable (L : Table m)

include L in
/-- The body at any point. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost
  simp only [before0_0, before0_1, before0_2, before0_3]
  rw [after0_0, after0_1, after0_2, after0_3, after0_4, show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv outAt
  have hs := step c (V m c main_arg0) (tbl m 0) (grid0.coords t) (M3 := ms0_0 m t) (h3 := hs0_0 m t) (M4 := ms0_1 m t) (h4 := hs0_1 m t)
    (M5 := ms0_2 m t) (h5 := hs0_2 m t) (M6 := ms0_3 m t) (h6 := hs0_3 m t) (M7 := ms0_4 m t) (h7 := hs0_4 m t) (laidAt m L c)
    (iblk m c 0 t) (iblk m c 1 t) (iblk m c 2 t) (iblk m c 3 t)
  rw [coord_val t] at hs
  iintro ⟨⟨Ht, Hg, Hs⟩, ⟨%W, -, HW⟩, ⟨%d0, H0⟩, ⟨%d1, H1⟩, ⟨%d2, H2⟩, ⟨%d3, H3⟩, ⟨%d4, H4⟩⟩
  iapply (wp_wand_r frame _ _)
  isplitl [Ht HW Hs H0 H1 H2 H3 H4]
  · iapply hs
    isplitl [Ht]; · iexact Ht
    isplitl [HW]; · iexists W; iexact HW
    isplitl [Hs]; · iexact Hs
    isplitl [H0]; · iexact H0
    isplitl [H1]; · iexact H1
    isplitl [H2]; · iexact H2
    isplitl [H3]; · iexact H3
    iexists _; iexact H4
  iintro %_ ⟨Ht, ⟨%W', HW'⟩, Hs, H0, H1, H2, H3, H4⟩
  isplitl [Ht Hg Hs]
  · isplitl [Ht]; · iexact Ht
    isplitl [Hg]; · iexact Hg
    iexact Hs
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin (cfgM m).N) : defs₀ (F := F) .tc (cfgM m).body ((cfgM m).bodyArgs t ((cfgM m).slots t)) = bodyAt0 m t := by
  unfold defs₀; rw [Defs.onTc_tc]

include L in
theorem body_obligation (c : Dev nD) : BodyObligation (dats (F := F) m 0 c) (defs₀ (F := F)) Variants.none () Set.univ := fun t => by
  rw [bigSep_W0, bigSep_W0, defs₀_row m]
  exact triple_restated (sound_body m L c t) rfl .rfl fun _ => .rfl

/-! ## The run -/

abbrev osem0 : Fin 2 → SemLoc sig := fun j => (![SemLoc.dma 9, SemLoc.dma 10] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = (yA.view.loc (c : Thread nD τ) ↦{fullShare} V m c main_arg0) := by
  rw [BI.bigSep_eq_bigSepL_of_eq [main_arg0] (by decide) (by decide)]; rfl

/-- The scratch as its two slots. -/
theorem slots_split (c : Dev nD) (f : Bf (F := F) c bS) : (bS.view.loc (c : Thread nD τ) ↦{fullShare} f : sProp 𝕄)
    ⊢ iprop((bS.view.loc (c : Thread nD τ) ↦[sset 0]{fullShare} f) ∗ (bS.view.loc (c : Thread nD τ) ↦[sset 1]{fullShare} f)) := by
  refine BIBase.Entails.trans (Entails.of_eq (congrArg (fun S : Finset (Idx (bS.view.loc (c : Thread nD τ))) => (bS.view.loc (c : Thread nD τ) ↦[S]{fullShare} f : sProp 𝕄)) sset_union)) ?_
  exact (pointsTo_union sset_disj).1
theorem slots_join (c : Dev nD) (f g : Bf (F := F) c bS) : iprop((bS.view.loc (c : Thread nD τ) ↦[sset 0]{fullShare} f) ∗ (bS.view.loc (c : Thread nD τ) ↦[sset 1]{fullShare} g))
    ⊢ (iprop(∃ h : Bf (F := F) c bS, (bS.view.loc (c : Thread nD τ) ↦{fullShare} h)) : sProp 𝕄) := by
  refine BIBase.Entails.trans (pointsTo_join sset_disj) ?_
  refine BIBase.Entails.trans (Entails.of_eq (congrArg (fun S : Finset (Idx (bS.view.loc (c : Thread nD τ))) => (bS.view.loc (c : Thread nD τ) ↦[S]{fullShare} ((sset 1).piecewise g f) : sProp 𝕄)) sset_union.symm)) ?_
  iintro H; iexists _; iexact H

theorem rest_split (c : Dev nD) (fy : Bf (F := F) c yA) (tb : Bf (F := F) c tbP) :
    iprop((∃ f : Bf (F := F) c bS, bS.view.loc (c : Thread nD τ) ↦{fullShare} f) ∗ (semVal ((c : Thread nD τ), SemLoc.dma 9) 0 ∗ semVal ((c : Thread nD τ), SemLoc.dma 10) 0)
      ∗ (yA.view.loc (c : Thread nD τ) ↦{fullShare} fy)) ⊢ (state c fy tb 0 : sProp 𝕄) := by
  rw [state_end c fy tb (by omega)]
  unfold free
  iintro ⟨⟨%f, H⟩, ⟨Hq8, Hq9⟩, Hy⟩
  ihave H := (slots_split c f) $$ H
  icases H with ⟨HA, HB⟩
  ihave Hy := (pointsTo_share (PosShare.mem_left_op_right fullShare)).1 $$ Hy
  icases Hy with ⟨YA, YB⟩
  isplitl [HA YA Hq8]
  · isplitl [HA]; · iexists _; iexact HA
    isplitl [YA]; · iexact YA
    iexact Hq8
  isplitl [HB]; · iexists _; iexact HB
  isplitl [YB]; · iexact YB
  iexact Hq9
theorem rest_join (c : Dev nD) (fy : Bf (F := F) c yA) (tb : Bf (F := F) c tbP) :
    (state c fy tb 8 : sProp 𝕄) ⊢ iprop((∃ f : Bf (F := F) c bS, bS.view.loc (c : Thread nD τ) ↦{fullShare} f)
      ∗ (semVal ((c : Thread nD τ), SemLoc.dma 9) 0 ∗ semVal ((c : Thread nD τ), SemLoc.dma 10) 0) ∗ (yA.view.loc (c : Thread nD τ) ↦{fullShare} fy)) := by
  rw [state_end c fy tb (by omega)]
  unfold free
  iintro ⟨⟨⟨%f, HA⟩, YA, Hq8⟩, ⟨⟨%g, HB⟩, YB, Hq9⟩⟩
  isplitl [HA HB]
  · iapply (slots_join c f g)
    isplitl [HA]; · iexact HA
    iexact HB
  isplitl [Hq8 Hq9]
  · isplitl [Hq8]; · iexact Hq8
    iexact Hq9
  iapply (pointsTo_share (PosShare.mem_left_op_right fullShare)).2
  isplitl [YA]; · iexact YA
  iexact YB

theorem enter (c : Dev nD) : iprop(Pipeline.ΦD osem0 spec0 H0 (V m) c ∗ Pipeline.ΦT pre0 (tbl m) c) ⊢ (inv m c 0 : sProp 𝕄) := by
  rw [Pipeline.ΦD_eq, scopedRest0_eq, ownSems00_eq, hbmPts0_eq, PhiT0_eq]
  unfold inv
  iintro ⟨⟨HS, Hg, Hq, HY⟩, Ht⟩
  isplitl [Ht]; · iexact Ht
  isplitl [Hg]; · iexact Hg
  iapply (rest_split c (V m c main_arg0) (tbl m 0))
  isplitl [HS]; · iexact HS
  isplitl [Hq]; · iexact Hq
  iexact HY

theorem leave (c : Dev nD) : (inv m c 8 : sProp 𝕄) ⊢ Pipeline.ΦD osem0 spec0 H0 (V m) c := by
  rw [Pipeline.ΦD_eq, scopedRest0_eq, ownSems00_eq, hbmPts0_eq]
  unfold inv
  iintro ⟨-, Hg, Hs⟩
  ihave Hs := (rest_join c (V m c main_arg0) (tbl m 0)) $$ Hs
  icases Hs with ⟨HS, Hq, HY⟩
  isplitl [HS]; · iexact HS
  isplitl [Hg]; · iexact Hg
  isplitl [Hq]; · iexact Hq
  iexact HY

theorem sfx_but : ∀ ops ∈ ([hostOps1] : List (List (HloOp τ sig (Elt F)))), ∀ op ∈ ops, op.bufs ⊆ Pipeline.tailRefsBut sig pre0 spec0 H0 := by
  intro ops hops op hop
  obtain rfl := List.mem_singleton.mp hops
  refine Pipeline.sub_tailRefsBut pre0 spec0 H0 op ((List.forall_iff_forall_mem.mp hostOps1_sub) op hop) ?_ ?_
  all_goals obtain rfl := List.mem_singleton.mp hop
  · intro k; obtain rfl : k = 0 := Subsingleton.elim _ _
    rw [StableHlo.reshape_bufs, Finset.mem_insert, Finset.mem_singleton]
    exact not_or.mpr ⟨StableHlo.devRef_ne_of_ne (by decide), StableHlo.devRef_ne_of_ne (by decide)⟩
  · intro b hb; obtain rfl := Finset.mem_singleton.mp hb
    rw [StableHlo.reshape_bufs, Finset.mem_insert, Finset.mem_singleton]
    exact not_or.mpr ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl
theorem sfx_keeps : ∀ ops ∈ ([hostOps1] : List (List (HloOp τ sig (Elt F)))), ∀ op ∈ ops, ∀ w, Proc.devRef .tc (Pipeline.arrRef spec0 w) ∉ op.writes := by
  intro ops hops op hop
  obtain rfl := List.mem_singleton.mp hops
  obtain rfl := List.mem_singleton.mp hop
  intro w
  fin_cases w <;> simp only [StableHlo.reshape_writes, Finset.mem_singleton] <;> exact StableHlo.devRef_ne_of_ne (by decide)

/-- The buffers after the run. -/
abbrev Vend (c : Dev nD) (b : Ref sig .tc) : Buf (Elt F) ((c : Thread nD τ).loc b) :=
  Pipeline.afterTail pcfgs (fun _ => adm m) (dats m) 0 (V₀ m) [hostOps1] c b

include L in
set_option backward.isDefEq.respectTransparency.types false in
/-- The run: every result array at what the points leave, the others as they were or as the lines around the region leave them, every counter at zero. -/
theorem run_main : θ_run defs (onTc (τ := τ) (main (F := F))) (s₀ m ρ)
    (fun r => Pipeline.FramePost (Pipeline.pin pcfgs fun _ => adm m) (dats m) 0 (Vend m) r ∧ r.2.sem = fun _ => 0) :=
  Pipeline.θ_run_frameP_dma_around (Q' := _) pcfgs (fun _ => adm m) (dats m) (0 : Fin 1) launch0 osem0 defs₀ Variants.none ownSemFacts0 H0 H0_sub m ρ main
    (hbody := fun c => (body_obligation m L c).loose) (hshare := fun c => (dats m 0 c).share_full fun _ => rfl)
    (howed := fun _ _ => rfl) (V₀ := V₀ m) (opss := [hostOps1]) (hsub := sfx_but) (hfresh := sfx_fresh) (hkeep := sfx_keeps)
    (hmain := hmain m Variants.none) (hA := A_eq m) (hpf := V_pre m)
    (hin := fun c => enter m c) (hout := fun c => leave m c)

theorem Vend_kept (c : Dev nD) (b : Ref sig .tc) (h : b ≠ main_v2) (hw : ∀ w, Pipeline.arrRef spec0 w ≠ b) : Vend m c b = V m c b := by
  unfold Vend Pipeline.afterTail
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h))]
  exact Pipeline.withArrays_of_ne spec0 c (V₀ m c) _ b hw

/-- The argument arrays after the run. -/
theorem args_of (r : PUnit × MemSt nD τ sig (Elt F)) (h : Pipeline.FramePost (Pipeline.pin pcfgs fun _ => adm m) (dats m) 0 (Vend m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := ⟨
    ((h c).2 main_arg0 (by decide : main_arg0 ∈ Pipeline.restRefs sig spec0)).trans ((Vend_kept m c main_arg0 (by decide) (by decide)).trans (V_kept m c main_arg0 (by decide))),
    ((h c).2 main_arg1 (by decide : main_arg1 ∈ Pipeline.restRefs sig spec0)).trans ((Vend_kept m c main_arg1 (by decide) (by decide)).trans (V_kept m c main_arg1 (by decide))),
    ((h c).1 0).trans (((dats m 0 c).arrAt_in 0 rfl _).trans ((A_eq m c 0).trans (V_kept m c main_arg2 (by decide)))),
    ((h c).1 1).trans (((dats m 0 c).arrAt_in 1 rfl _).trans ((A_eq m c 1).trans (V_kept m c main_arg3 (by decide)))),
    ((h c).1 2).trans (((dats m 0 c).arrAt_in 2 rfl _).trans ((A_eq m c 2).trans (V_kept m c main_arg4 (by decide)))),
    ((h c).2 main_arg5 (by decide : main_arg5 ∈ Pipeline.restRefs sig spec0)).trans ((Vend_kept m c main_arg5 (by decide) (by decide)).trans (V_kept m c main_arg5 (by decide)))⟩

include L in
/-- The argument arrays end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main m ρ L)

end Run

end Cert.CombB

end
-- ==== Proof.CombBValue.lean ====
/- What the combination's result array holds after the run, at the ideal instance: each row the combination of the reference. -/
module

public import proofs.«01_k».proof.Proof.CombBFrame
public import proofs.«01_k».proof.Proof.CombSpec
public import Idealize.ShloMosaic.Lib.Pipeline.ValueKit
public import Idealize.ShloMosaic.Lib.Pipeline.Value

@[expose] public section

set_option maxRecDepth 16384

noncomputable section

namespace Cert.CombB

open Idealize.ShloMosaic Idealize.ShloMosaic.TcCoe Idealize.SL.Sem
open Cert.Mixing
open Cert.Kernel5Ideal Cert.Kernel5Ideal.Gen

/-- The row of the activations that a row of the result is, and its gate. -/
def nRow (q : Fin 2048) : Fin 6144 := ⟨4096 + q.val, by omega⟩
def nGate (q : Fin 2048) : Fin 8 := ⟨1 + q.val / 1024, by omega⟩

/-- The two experts' rows, weighted, at an index. -/
theorem pay2_apply (X3 : Vec Ideal S256x128 .f32) (y0 y1 : Vec Ideal S1x1x256x2048 .f32) (a : Fin 256) (d : Fin 2048) :
    k0_pay2 X3 y0 y1 (ix2 a d) = X3 (ix2 a 2) * y0 (ix4 0 0 a d) + X3 (ix2 a 3) * y1 (ix4 0 0 a d) := by
  unfold k0_pay2
  pointwise
/-- The normalised row, at an index. -/
theorem pay1_apply (v : FVec Ideal S256x2048 .f32) (x : Vec Ideal S256x2048 .f32) (g : Vec Ideal S1x1x2048 .f32) (f : Vec Ideal S1x2048 .f32) (a : Fin 256) (d : Fin 2048) :
    k0_pay1 v x g f (ix2 a d) = normedRow (fun e => x (ix2 a e) + g (ix3 0 0 e) * v (ix2 a e)) (fun i => f (ix2 0 (i 0))) d := by
  unfold k0_pay1 normedRow
  pointwise

variable (m : (ℓ : Loc nD τ sig) → Buf (Elt Ideal) ℓ) (ρ : Dev nD → PrngReg)

abbrev at0 (t : Fin (cfgM m).N) : Fin 2 → ℕ := ((cfgM m).win 0).index t
abbrev at1 (t : Fin (cfgM m).N) : Fin 2 → ℕ := ((cfgM m).win 1).index t
abbrev at2 (t : Fin (cfgM m).N) : Fin 3 → ℕ := ((cfgM m).win 2).index t
abbrev at3 (t : Fin (cfgM m).N) : Fin 2 → ℕ := ((cfgM m).win 3).index t
abbrev at4 (t : Fin (cfgM m).N) : Fin 2 → ℕ := ((cfgM m).win 4).index t
theorem at0_eq (t : Fin (cfgM m).N) : at0 m t = ![16 + t.val, 0] :=
  (by decide +kernel : ∀ t : Fin grid0.N, cc0_transform_1 (grid0.coords t) = ![16 + t.val, 0]) t
theorem at1_eq (t : Fin (cfgM m).N) : at1 m t = ![16 + t.val, 0] :=
  (by decide +kernel : ∀ t : Fin grid0.N, cc0_transform_2 (grid0.coords t) = ![16 + t.val, 0]) t
theorem at2_eq (t : Fin (cfgM m).N) : at2 m t = ![1 + t.val / 4, 0, 0] :=
  (by decide +kernel : ∀ t : Fin grid0.N, cc0_transform_3 (grid0.coords t) = ![1 + t.val / 4, 0, 0]) t
theorem at3_eq (t : Fin (cfgM m).N) : at3 m t = ![0, 0] :=
  (by decide +kernel : ∀ t : Fin grid0.N, cc0_transform_4 (grid0.coords t) = ![0, 0]) t
theorem at4_eq (t : Fin (cfgM m).N) : at4 m t = ![t.val, 0] :=
  (by decide +kernel : ∀ t : Fin grid0.N, cc0_transform_5 (grid0.coords t) = ![t.val, 0]) t

theorem route_apply (c : Dev nD) (t : Fin (cfgM m).N) (a : Fin 256) (k : Fin 128) (q : Fin 2048) (hq : q.val = 256 * t.val + a.val) :
    iblk m c 0 t (ix2 a k) = m ((c : Thread nD τ).loc main_arg2) (ix2 (nRow q) k) := by
  have h0 : at0 m t 0 = 16 + t.val := congrFun (at0_eq m t) 0
  have h1 : at0 m t 1 = 0 := congrFun (at0_eq m t) 1
  show V m c main_arg2 ((((cfgM m).win 0).blk t).view.emb (ix2 a k)) = _
  rw [V_kept m c main_arg2 (by decide)]
  refine congrArg _ (funext fun b => ?_)
  match b with
  | ⟨0, _⟩ => exact Fin.ext (show at0 m t 0 * 256 + 1 * a.val = (nRow q).val by rw [h0]; unfold nRow; dsimp only; omega)
  | ⟨1, _⟩ => exact Fin.ext (show at0 m t 1 * 128 + 1 * k.val = k.val by rw [h1]; omega)
theorem acts_apply (c : Dev nD) (t : Fin (cfgM m).N) (a : Fin 256) (k : Fin 2048) (q : Fin 2048) (hq : q.val = 256 * t.val + a.val) :
    iblk m c 1 t (ix2 a k) = m ((c : Thread nD τ).loc main_arg3) (ix2 (nRow q) k) := by
  have h0 : at1 m t 0 = 16 + t.val := congrFun (at1_eq m t) 0
  have h1 : at1 m t 1 = 0 := congrFun (at1_eq m t) 1
  show V m c main_arg3 ((((cfgM m).win 1).blk t).view.emb (ix2 a k)) = _
  rw [V_kept m c main_arg3 (by decide)]
  refine congrArg _ (funext fun b => ?_)
  match b with
  | ⟨0, _⟩ => exact Fin.ext (show at1 m t 0 * 256 + 1 * a.val = (nRow q).val by rw [h0]; unfold nRow; dsimp only; omega)
  | ⟨1, _⟩ => exact Fin.ext (show at1 m t 1 * 2048 + 1 * k.val = k.val by rw [h1]; omega)
theorem gate_apply (c : Dev nD) (t : Fin (cfgM m).N) (a : Fin 256) (k : Fin 2048) (q : Fin 2048) (hq : q.val = 256 * t.val + a.val) :
    iblk m c 2 t (ix3 0 0 k) = m ((c : Thread nD τ).loc main_arg4) (ix3 (nGate q) 0 k) := by
  have h0 : at2 m t 0 = 1 + t.val / 4 := congrFun (at2_eq m t) 0
  have h1 : at2 m t 1 = 0 := congrFun (at2_eq m t) 1
  have h2 : at2 m t 2 = 0 := congrFun (at2_eq m t) 2
  show V m c main_arg4 ((((cfgM m).win 2).blk t).view.emb (ix3 0 0 k)) = _
  rw [V_kept m c main_arg4 (by decide)]
  refine congrArg _ (funext fun b => ?_)
  match b with
  | ⟨0, _⟩ => exact Fin.ext (show at2 m t 0 * 1 + 1 * 0 = (nGate q).val by rw [h0] <;> unfold nGate <;> (try dsimp only) <;> (try omega))
  | ⟨1, _⟩ => exact Fin.ext (show at2 m t 1 * 1 + 1 * 0 = 0 by rw [h1])
  | ⟨2, _⟩ => exact Fin.ext (show at2 m t 2 * 2048 + 1 * k.val = k.val by rw [h2]; omega)
/-- The gain as the region finds it. -/
theorem gain_V (c : Dev nD) (k : Fin 2048) : V m c main_v0 (ix2 0 k) = m ((c : Thread nD τ).loc main_arg5) (ix1 k) := by
  unfold V V₀
  simp only [hostOps0, List.flatten_cons, List.flatten_nil, List.append_nil, StableHlo.after_cons, StableHlo.after_nil]
  rw [StableHlo.unary_result']
  pointwise
theorem gain_apply (c : Dev nD) (t : Fin (cfgM m).N) (k : Fin 2048) :
    iblk m c 3 t (ix2 0 k) = m ((c : Thread nD τ).loc main_arg5) (ix1 k) := by
  have h0 : at3 m t 0 = 0 := congrFun (at3_eq m t) 0
  have h1 : at3 m t 1 = 0 := congrFun (at3_eq m t) 1
  refine Eq.trans ?_ (gain_V m c k)
  show V m c main_v0 ((((cfgM m).win 3).blk t).view.emb (ix2 0 k)) = _
  refine congrArg _ (funext fun b => ?_)
  match b with
  | ⟨0, _⟩ => exact Fin.ext (show at3 m t 0 * 1 + 1 * 0 = 0 by rw [h0])
  | ⟨1, _⟩ => exact Fin.ext (show at3 m t 1 * 2048 + 1 * k.val = k.val by rw [h1]; omega)

/-- What the region's array ends holding. -/
abbrev layer (c : Dev nD) : Buf (Elt Ideal) ((c : Thread nD τ).loc main_v1) := fun i : S2048x2048.Idx =>
  combined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (nRow (i 0)) (nGate (i 0)) (i 1)

/-- A point's rows of the experts' array. -/
theorem rows_apply (c : Dev nD) (t : Fin (cfgM m).N) (k : ℕ) (hk : k < 2) (a : Fin 256) (d : Fin 2048) (q : Fin 2048) (hq : q.val = 256 * t.val + a.val) :
    rowsOf c (V m c main_arg0) (tbl m 0) (512 * t.val + 8192) k (ix4 0 0 a d)
      = m ((c : Thread nD τ).loc main_arg0) (ix2 (rowAt (m ((c : Thread nD τ).loc main_arg1)) ⟨2 * (nRow q).val + k, by omega⟩) d) := by
  obtain rfl : c = 0 := Subsingleton.elim _ _
  unfold rowsOf
  rw [V_kept m 0 main_arg0 (by decide)]
  refine congrArg (fun z => m (((0 : Dev nD) : Thread nD τ).loc main_arg0) (ix2 z d)) (Fin.ext ?_)
  show pos 0 (tbl m 0) (512 * t.val + 8192 + (2 * a.val + k)) % 20480 = (m (((0 : Dev nD) : Thread nD τ).loc main_arg1) (ix1 ⟨2 * (nRow q).val + k, by omega⟩)).toNat % 20480
  refine congrArg (· % 20480) ?_
  unfold pos tbl
  refine congrArg (fun z => (m (((0 : Dev nD) : Thread nD τ).loc main_arg1) (ix1 z)).toNat) (Fin.ext ?_)
  have := q.isLt
  unfold nRow
  dsimp only
  omega

/-- What a point leaves, at an index. -/
theorem outAt_apply (c : Dev nD) (t : Fin (cfgM m).N) (a : Fin 256) (d : Fin 2048) (q : Fin 2048) (hq : q.val = 256 * t.val + a.val) :
    outAt m c t (ix2 a d) = layer m c (ix2 q d) := by
  show _ = combined _ _ _ _ _ _ (nRow q) (nGate q) d
  unfold outAt tileOut
  refine (pay1_apply _ _ _ _ a d).trans ?_
  unfold combined
  refine congrArg₂ (normedRow · · d) (funext fun e => ?_) (funext fun i => ?_)
  · unfold mixedRow
    refine congrArg₂ (fun x y : EReal => x + y) (acts_apply m c t a e q hq) (congrArg₂ (fun x y : EReal => x * y) (gate_apply m c t a e q hq) ?_)
    refine (pay2_apply _ _ _ a e).trans ?_
    exact congrArg₂ (fun x y : EReal => x + y)
      (congrArg₂ (fun x y : EReal => x * y) (route_apply m c t a 2 q hq) (rows_apply m c t 0 (by omega) a e q hq))
      (congrArg₂ (fun x y : EReal => x * y) (route_apply m c t a 3 q hq) (rows_apply m c t 1 (by omega) a e q hq))
  · refine (gain_apply m c t (i 0)).trans (congrArg _ (eq_ix1 i).symm)

/-- Every point writes its block back. -/
theorem flushed (t : Fin (cfgM m).N) : ((cfgM m).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true) t

/-- The point that writes a row, and that it does. -/
abbrev pointOf (q : Fin 2048) : Fin (cfgM m).N := ⟨q.val / 256, lt_of_lt_of_eq (by omega : q.val / 256 < 8) N_0.symm⟩
theorem covered (i : S2048x2048.Idx) (q : Fin 2048) (hq : q.val = (i 0).val) : i ∈ (((cfgM m).win 4).blk (pointOf m q)).view.set := by
  have hi1 : (i 1).val < 2048 := (i 1).isLt
  have h0 : at4 m (pointOf m q) 0 = q.val / 256 := congrFun (at4_eq m _) 0
  have h1 : at4 m (pointOf m q) 1 = 0 := congrFun (at4_eq m _) 1
  refine (congrArg (fun s => i ∈ s) (View.set_slice_whole (b := main_v1) (((cfgM m).win 4).rect (pointOf m q)))).mpr ?_
  refine Rect.mem_set_unit.mpr (fun (a : Fin 2) => ?_)
  match a with
  | ⟨0, _⟩ => exact (by rw [h0]; omega : at4 m (pointOf m q) 0 * 256 ≤ (i 0).val ∧ (i 0).val < at4 m (pointOf m q) 0 * 256 + 256)
  | ⟨1, _⟩ => exact (by rw [h1]; omega : at4 m (pointOf m q) 1 * 2048 ≤ (i 1).val ∧ (i 1).val < at4 m (pointOf m q) 1 * 2048 + 2048)
theorem cover (i : S2048x2048.Idx) : ∃ t : Fin (cfgM m).N, ((cfgM m).win 4).flush t = true ∧ i ∈ (((cfgM m).win 4).blk t).view.set :=
  ⟨pointOf m ⟨(i 0).val, (i 0).isLt⟩, flushed m _, covered m i ⟨(i 0).val, (i 0).isLt⟩ rfl⟩

/-- THE REGION'S ARRAY is the combination. -/
theorem final (c : Dev nD) : (dats m 0 c).arrAt 4 (cfgM m).N = layer m c := by
  refine (dats m 0 c).arrAt_eq_of_cover 4 (layer m c) (fun t hf => ?_) (cover m)
  · refine funext fun (y : S256x2048.Idx) => ?_
    obtain ⟨a, j, rfl⟩ : ∃ (a : Fin 256) (j : Fin 2048), y = ix2 a j := ⟨y 0, y 1, eq_ix2 y⟩
    have ht : t.val < 8 := lt_of_lt_of_eq t.isLt N_0
    refine (outAt_apply m c t a j ⟨256 * t.val + a.val, by omega⟩ rfl).trans ?_
    have h0 : at4 m t 0 = t.val := congrFun (at4_eq m t) 0
    have h1 : at4 m t 1 = 0 := congrFun (at4_eq m t) 1
    show layer m c _ = layer m c ((((cfgM m).win 4).blk t).view.emb (ix2 a j))
    refine congrArg _ (funext fun (b : Fin 2) => ?_)
    match b with
    | ⟨0, _⟩ => exact Fin.ext (show 256 * t.val + a.val = at4 m t 0 * 256 + 1 * a.val by rw [h0]; omega)
    | ⟨1, _⟩ => exact Fin.ext (show j.val = at4 m t 1 * 2048 + 1 * j.val by rw [h1]; omega)

/-- The result: the region's array by tiles. -/
theorem Vend_result (c : Dev nD) (b : Fin 2) (r : Fin 1024) (d : Fin 2048) :
    (Vend m c main_v2 : FVec Ideal S2x1024x2048 .f32) (ix3 b r d) = layer m c (ix2 (⟨1024 * b.val + r.val, by omega⟩ : Fin 2048) d) := by
  unfold Vend Pipeline.afterTail
  simp only [hostOps1, List.flatten_cons, List.flatten_nil, List.append_nil, StableHlo.after_cons, StableHlo.after_nil]
  rw [StableHlo.reshape_result']
  have hA := (Pipeline.withArrays_arr spec0 (launch0 (F := Ideal)).win.arr_inj c (V₀ m c) (fun w => (dats m 0 c).arrAt w (cfgM m).N) 4).trans (final m c)
  refine (congrArg (fun z : S2048x2048.Idx → EReal => shapeCast S2x1024x2048 z shapeCasts_S2048x2048_S2x1024x2048 (ix3 b r d)) hA).trans ?_
  generalize layer m c = z
  pointwise
  simp only [Nat.mul_comm b.val]

variable (L : Table m)

include L in
/-- The run: the result is the combination, the arguments unchanged. -/
theorem value_main : θ_run defs (onTc (τ := τ) (main (F := Ideal))) ⟨m, fun _ => 0, ρ⟩ (fun r => ∀ c : Dev nD,
      r.2.mem ((c.tc : Thread nD τ).loc main_v2) = Vend m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).2 main_v2 (by decide : main_v2 ∈ Pipeline.restRefs sig spec0), args_of m r h.1 c⟩) (run_main m ρ L)

end Cert.CombB

end
-- ==== Proof.CombBReference.lean ====
/- What the reference of the combination computes, at the ideal instance, for the last 2048 rows. -/
module

public import proofs.«01_k».proof.Proof.Gen.Reference5Ideal.Run
public import proofs.«01_k».proof.Proof.CombSpec
public import Idealize.ShloMosaic.Lib.Routing.Ops

@[expose] public section

noncomputable section

namespace Cert.CombB

open Idealize.ShloMosaic Idealize.ShloMosaic.TcCoe Idealize.SL.Sem
open Cert.Mixing
open Cert.Reference5Ideal Cert.Reference5Ideal.Gen

/-- The words of choice `k`. -/
def rWord (o : Fin 2 → ℕ) (hs : S2048x2.Slices o S2048x1) (p : IVec S12288 32) : IVec S2048x1 32 :=
  broadcastInDim S2048x1 ![0] bcast_S2048_S2048x1_0 (shapeCast _ (extractStridedSlice S2048x1 o (extractStridedSlice S2048x2 ![4096, 0] (shapeCast _ p shapeCasts_S12288_S6144x2) slices_S6144x2_S2048x2_4096_0) hs) shapeCasts_S2048x1_S2048)
/-- The weights of a choice, along the columns. -/
def rWeight (o : Fin 2 → ℕ) (hs : S2048x2.Slices o S2048x1) (w : FVec Ideal S6144x128 .f32) : FVec Ideal S2048x2048 .f32 :=
  broadcastInDim S2048x2048 ![0, 1] bcast_S2048x1_S2048x2048_0_1 (extractStridedSlice S2048x1 o (extractStridedSlice S2048x2 ![4096, 2] w slices_S6144x128_S2048x2_4096_2) hs)
/-- The rows of a choice. -/
def rRows (y : FVec Ideal S20480x2048 .f32) (j : IVec S2048x1 32) : FVec Ideal S2048x2048 .f32 :=
  Host.gather gather_S20480x2048_S2048x1_S2048x2048_1_0_n_n_0_1_12048 y j
/-- The rows, gated and added. -/
def rMixed (x : FVec Ideal S6144x2048 .f32) (g : FVec Ideal S8x1x2048 .f32) (A B C D : FVec Ideal S2048x2048 .f32) : FVec Ideal S2x1024x2048 .f32 :=
  addf (shapeCast _ (extractStridedSlice S2048x2048 ![4096, 0] x slices_S6144x2048_S2048x2048_4096_0) shapeCasts_S2048x2048_S2x1024x2048)
    (mulf (broadcastInDim S2x1024x2048 ![0, 1, 2] bcast_S2x1x2048_S2x1024x2048_0_1_2 (extractStridedSlice S2x1x2048 ![1, 0, 0] g slices_S8x1x2048_S2x1x2048_1_0_0))
      (shapeCast _ (addf (mulf A B) (mulf C D)) shapeCasts_S2048x2048_S2x1024x2048))
def rSquares (v : FVec Ideal S2x1024x2048 .f32) : FVec Ideal S2x1024 .f32 :=
  Host.reduceAdd (mulf v v) (constant S_ .f32 0x00000000#32) reducesTo_S2x1024x2048_S2x1024_d2 h_S_
def rNorm (v : FVec Ideal S2x1024x2048 .f32) (S : FVec Ideal S2x1024 .f32) (f : FVec Ideal S2048 .f32) : FVec Ideal S2x1024x2048 .f32 :=
  mulf (mulf v (broadcastInDim S2x1024x2048 ![0, 1, 2] bcast_S2x1024x1_S2x1024x2048_0_1_2 (Host.rsqrt (addf (Host.divf (broadcastInDim S2x1024x1 ![0, 1] bcast_S2x1024_S2x1024x1_0_1 S)
      (broadcastInDim S2x1024x1 ![] bcast_S_S2x1024x1 (constant S_ .f32 0x45000000#32))) (broadcastInDim S2x1024x1 ![] bcast_S_S2x1024x1 (constant S_ .f32 0x358637BD#32))))))
    (broadcastInDim S2x1024x2048 ![0, 1, 2] bcast_S1x1x2048_S2x1024x2048_0_1_2 (broadcastInDim S1x1x2048 ![2] bcast_S2048_S1x1x2048_2 f))

/-- The row a tile's row is, and its gate. -/
def rowOf (b : Fin 2) (r : Fin 1024) : Fin 6144 := ⟨4096 + (1024 * b.val + r.val), by omega⟩
def gateOf (b : Fin 2) : Fin 8 := ⟨1 + b.val, by omega⟩
def localOf (b : Fin 2) (r : Fin 1024) : Fin 2048 := ⟨1024 * b.val + r.val, by omega⟩

theorem rWord_apply (k : Fin 2) (hs : S2048x2.Slices ![0, k.val] S2048x1) (p : IVec S12288 32) (b : Fin 2) (r : Fin 1024) :
    rWord ![0, k.val] hs p (ix2 (localOf b r) (0 : Fin 1)) = p (ix1 ⟨2 * (rowOf b r).val + k.val, by omega⟩) := by
  unfold rWord localOf rowOf
  pointwise
  refine congrArg p (congrArg ix1 (Fin.ext ?_))
  dsimp only
  omega
theorem rRows_apply (k : Fin 2) (hs : S2048x2.Slices ![0, k.val] S2048x1) (y : FVec Ideal S20480x2048 .f32) (p : IVec S12288 32) (b : Fin 2) (r : Fin 1024) (d : Fin 2048)
    (h : (p (ix1 ⟨2 * (rowOf b r).val + k.val, by omega⟩)).toNat < 20480) :
    rRows y (rWord ![0, k.val] hs p) (ix2 (localOf b r) d) = y (ix2 (rowAt p ⟨2 * (rowOf b r).val + k.val, by omega⟩) d) :=
  Routing.gather_row gather_S20480x2048_S2048x1_S2048x2048_1_0_n_n_0_1_12048 rfl rfl rfl rfl rfl y _ (localOf b r) d _
    ((rWord_apply k hs p b r).trans (word_row p _ h)) (by norm_num)
theorem rWeight_apply (k : Fin 2) (hs : S2048x2.Slices ![0, k.val] S2048x1) (w : FVec Ideal S6144x128 .f32) (b : Fin 2) (r : Fin 1024) (d : Fin 2048) :
    rWeight ![0, k.val] hs w (ix2 (localOf b r) d) = w (ix2 (rowOf b r) ⟨2 + k.val, by omega⟩) := by
  unfold rWeight localOf rowOf
  pointwise
theorem rMixed_apply (x : FVec Ideal S6144x2048 .f32) (g : FVec Ideal S8x1x2048 .f32) (A B C D : FVec Ideal S2048x2048 .f32) (b : Fin 2) (r : Fin 1024) (d : Fin 2048) :
    rMixed x g A B C D (ix3 b r d) = x (ix2 (rowOf b r) d) + g (ix3 (gateOf b) 0 d)
      * (A (ix2 (localOf b r) d) * B (ix2 (localOf b r) d) + C (ix2 (localOf b r) d) * D (ix2 (localOf b r) d)) := by
  unfold rMixed localOf rowOf gateOf
  pointwise
  simp only [Nat.mul_comm b.val]
theorem rSquares_apply (v : FVec Ideal S2x1024x2048 .f32) (b : Fin 2) (r : Fin 1024) :
    rSquares v (ix2 b r) = ∑ e : Fin 2048, v (ix3 b r e) * v (ix3 b r e) := by
  unfold rSquares
  pointwise
theorem rNorm_apply (v : FVec Ideal S2x1024x2048 .f32) (f : FVec Ideal S2048 .f32) (b : Fin 2) (r : Fin 1024) (d : Fin 2048) :
    rNorm v (rSquares v) f (ix3 b r d) = normedRow (fun e => v (ix3 b r e)) f d := by
  have hS := rSquares_apply v b r
  generalize rSquares v = S at hS ⊢
  unfold normedRow
  rw [← hS]
  unfold rNorm
  pointwise

/-- THE REFERENCE'S RESULT is the combination. -/
theorem reference5_eq (m : (ℓ : Loc nD τ sig) → Buf (Elt Ideal) ℓ) (c : Dev nD)
    (rng : ∀ j : Fin 12288, (((m ((c.tc : Thread nD τ).loc main_arg1)) : IVec S12288 32) (ix1 j)).toNat < 20480) (b : Fin 2) (r : Fin 1024) (d : Fin 2048) :
    (Cert.Reference5Ideal.Value.res_main_v37 m c : FVec Ideal S2x1024x2048 .f32) (ix3 b r d)
      = combined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (rowOf b r) (gateOf b) d := by
  generalize hp : (m ((c.tc : Thread nD τ).loc main_arg1)) = p at rng
  refine Eq.trans (b := (fun v => rNorm v (rSquares v) (m ((c.tc : Thread nD τ).loc main_arg5))) (rMixed (m ((c.tc : Thread nD τ).loc main_arg3)) (m ((c.tc : Thread nD τ).loc main_arg4))
    (rWeight ![0, (0 : Fin 2).val] slices_S2048x2_S2048x1_0_0 (m ((c.tc : Thread nD τ).loc main_arg2)))
    (rRows (m ((c.tc : Thread nD τ).loc main_arg0)) (rWord ![0, (0 : Fin 2).val] slices_S2048x2_S2048x1_0_0 p))
    (rWeight ![0, (1 : Fin 2).val] slices_S2048x2_S2048x1_0_1 (m ((c.tc : Thread nD τ).loc main_arg2)))
    (rRows (m ((c.tc : Thread nD τ).loc main_arg0)) (rWord ![0, (1 : Fin 2).val] slices_S2048x2_S2048x1_0_1 p))) (ix3 b r d)) ?_ ?_
  · subst hp
    unfold Cert.Reference5Ideal.Value.res_main_v37
    rfl
  · refine (rNorm_apply _ _ b r d).trans ?_
    unfold combined
    refine congrArg (normedRow · _ d) (funext fun e => ?_)
    refine (rMixed_apply _ _ _ _ _ _ b r e).trans ?_
    rw [rWeight_apply, rWeight_apply, rRows_apply _ _ _ _ _ _ _ (rng _), rRows_apply _ _ _ _ _ _ _ (rng _)]
    rfl

end Cert.CombB

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.InProj
public import proofs.«01_k».proof.Proof.MoeDecode
public import proofs.«01_k».proof.Proof.MoeValue
public import proofs.«01_k».proof.Proof.AttnDecode
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Reference2Ideal
public import proofs.«01_k».proof.Proof.Gen.Pre_tiles_laid_out
public import proofs.«01_k».proof.Proof.Gen.Pre_finite_scores
public import proofs.«01_k».proof.Proof.CombValue
public import proofs.«01_k».proof.Proof.CombReference
public import proofs.«01_k».proof.Proof.CombDecode
public import proofs.«01_k».proof.Proof.CombBValue
public import proofs.«01_k».proof.Proof.CombBReference
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Pre_rows_in_range
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  funext i
  exact (Cert.InProj.reference_eq _ _ i).trans ((congrArg₂ (fun x w => Cert.InProj.projection x w (i 0) (i 1))
    (hagree c).1 (hagree c).2).trans (Cert.InProj.result_apply m c i).symm)

/-- The precondition of the experts' layer gives its tables laid out. -/
theorem tables_bits (m : (ℓ : Loc Cert.Kernel2.nD Cert.Kernel2.τ Cert.Kernel2.sig) → Buf (Elt Bits) ℓ) (h : Pre_Kernel2 m) :
    Cert.Moe.Tables (F := Bits) m := by
  obtain ⟨h1, h2, h3, h4, h5, h6, h7⟩ := h 0
  exact Cert.Moe.laid_of _ _ _ _ _ _ _ h1 h2 h3 h4 h5 h6 h7
theorem tables_ideal (m : (ℓ : Loc Cert.Kernel2Ideal.nD Cert.Kernel2Ideal.τ Cert.Kernel2Ideal.sig) → Buf (Elt Ideal) ℓ) (h : Pre_Kernel2Ideal m) :
    Cert.Moe.Tables (F := Ideal) m := by
  obtain ⟨h1, h2, h3, h4, h5, h6, h7⟩ := h 0
  exact Cert.Moe.laid_of _ _ _ _ _ _ _ h1 h2 h3 h4 h5 h6 h7

/-- The two printed body tables are one: the kernel reads the same at both instances. -/
theorem bodies_eq {F : FTy → Type} [FloatOps F] : Cert.Kernel2.defs₀ (F := F) = Cert.Kernel2Ideal.defs₀ (F := F) := by
  unfold Cert.Kernel2.defs₀ Cert.Kernel2Ideal.defs₀
  refine congrArg Defs.onTc (funext fun (l : Fin 1) => funext fun x => ?_)
  obtain rfl : l = 0 := Subsingleton.elim _ _
  obtain ⟨t, s⟩ := x
  exact eq_of_heq HEq.rfl
theorem defs_eq {F : FTy → Type} [FloatOps F] : Cert.Kernel2.defs (F := F) = Cert.Kernel2Ideal.defs (F := F) :=
  congrArg (Pipeline.defs (Cert.Kernel2Ideal.pcfgs (F := F))) bodies_eq

theorem quiescent_Kernel2 : quiescent_Kernel2 := fun m ρ h => by
  rw [defs_eq]
  exact Cert.Moe.frame_main (F := Bits) m ρ (tables_bits m h)

theorem quiescent_Kernel2Ideal : quiescent_Kernel2Ideal := fun m ρ h => Cert.Moe.frame_main (F := Ideal) m ρ (tables_ideal m h)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference2Ideal_pre_tiles_laid_out : quiescent_Reference2Ideal_pre_tiles_laid_out := fun m ρ _ =>
  quiescent_Reference2Ideal m ρ trivial

theorem algebraic_Kernel2Ideal_Reference2Ideal : algebraic_Kernel2Ideal_Reference2Ideal := by
  intro m ρ m' ρ' hpre hagree
  have L := tables_ideal m hpre
  refine ⟨_, Cert.Moe.value_main m ρ L, ?_⟩
  refine (θ_run Cert.Reference2Ideal.defs _ _).mono (fun _ h c => ⟨?_, (h c).2⟩) (Cert.Reference2Ideal.Value.run (F := Ideal) m' ρ')
  obtain rfl : c = 0 := Subsingleton.elim _ _
  obtain ⟨e0, e1, e2, e3, e4, e5, e6⟩ := hagree 0
  rw [(h 0).1, e0, e1, e2, e4, e5, e6]
  funext i
  exact Cert.Moe.reference2_eq _ _ _ _ _ _ (fun i hi => L.rng i hi) i

theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic_Kernel3Ideal_Reference3Ideal : algebraic_Kernel3Ideal_Reference3Ideal_pre_finite_scores := by
  intro m ρ m' ρ' hpre hagree
  refine ⟨_, _, _, Cert.Attn.value_main m ρ fun c => Cert.Attn.finite_of _ _ _ (hpre c), ?_⟩
  refine (θ_run Cert.Reference3Ideal.defs _ _).mono (fun _ h c => ⟨?_, ?_, ?_, (h c).2.2.2⟩) (Cert.Reference3Ideal.Value.run (F := Ideal) m' ρ')
  · refine (h c).1.trans ((Cert.Attn.reference_ob m' c).trans ?_)
    rw [(hagree c).1, (hagree c).2.1, (hagree c).2.2]
  · refine (h c).2.1.trans ((Cert.Attn.keys_eq _).trans ?_)
    rw [(hagree c).1]
  · refine (h c).2.2.1.trans ((Cert.Attn.values_eq _).trans ?_)
    rw [(hagree c).1]

/-- The precondition of the combination gives its words in range: the first 4096 rows. -/
theorem table_bits4 (m : (ℓ : Loc Cert.Kernel4.nD Cert.Kernel4.τ Cert.Kernel4.sig) → Buf (Elt Bits) ℓ) (h : Pre_Kernel4 m) : Cert.Comb.Table (F := Bits) m :=
  fun j => Cert.Mixing.rows_of _ _ _ _ _ _ (h 0) ⟨j % 12288, Nat.mod_lt _ (by decide)⟩
theorem table_ideal4 (m : (ℓ : Loc Cert.Kernel4Ideal.nD Cert.Kernel4Ideal.τ Cert.Kernel4Ideal.sig) → Buf (Elt Ideal) ℓ) (h : Pre_Kernel4Ideal m) : Cert.Comb.Table (F := Ideal) m :=
  fun j => Cert.Mixing.rows_of _ _ _ _ _ _ (h 0) ⟨j % 12288, Nat.mod_lt _ (by decide)⟩

/-- The two printed body tables of this call are one. -/
theorem bodies4_eq {F : FTy → Type} [FloatOps F] : Cert.Kernel4.defs₀ (F := F) = Cert.Kernel4Ideal.defs₀ (F := F) := by
  unfold Cert.Kernel4.defs₀ Cert.Kernel4Ideal.defs₀
  refine congrArg Defs.onTc (funext fun (l : Fin 1) => funext fun x => ?_)
  obtain rfl : l = 0 := Subsingleton.elim _ _
  obtain ⟨t, s⟩ := x
  exact eq_of_heq HEq.rfl
theorem defs4_eq {F : FTy → Type} [FloatOps F] : Cert.Kernel4.defs (F := F) = Cert.Kernel4Ideal.defs (F := F) :=
  congrArg (Pipeline.defs (Cert.Kernel4Ideal.pcfgs (F := F))) bodies4_eq

theorem quiescent_Kernel4 : quiescent_Kernel4 := fun m ρ h => by
  rw [defs4_eq]
  exact Cert.Comb.frame_main (F := Bits) m ρ (table_bits4 m h)

theorem quiescent_Kernel4Ideal : quiescent_Kernel4Ideal := fun m ρ h => Cert.Comb.frame_main (F := Ideal) m ρ (table_ideal4 m h)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' hpre hagree
  have L := table_ideal4 m hpre
  refine ⟨_, Cert.Comb.value_main m ρ L, ?_⟩
  refine (θ_run Cert.Reference4Ideal.defs _ _).mono (fun _ h c => ⟨?_, (h c).2⟩) (Cert.Reference4Ideal.Value.run (F := Ideal) m' ρ')
  obtain rfl : c = 0 := Subsingleton.elim _ _
  obtain ⟨e0, e1, e2, e3, e4, e5⟩ := hagree 0
  refine (h 0).1.trans (funext fun (i : Cert.Kernel4Ideal.S16x256x2048.Idx) => ?_)
  obtain ⟨b, r, d, rfl⟩ : ∃ (b : Fin 16) (r : Fin 256) (d : Fin 2048), i = ix3 b r d := ⟨i 0, i 1, i 2, eq_ix3 i⟩
  refine (Cert.Comb.reference4_eq m' 0 (fun j => ?_) b r d).trans ?_
  · rw [e1]
    exact Cert.Mixing.rows_of _ _ _ _ _ _ (hpre 0) j
  · rw [e0, e1, e2, e3, e4, e5]
    exact (rfl).trans (Cert.Comb.Vend_result m 0 b r d).symm

/-- The precondition of the combination gives its words in range: the last 2048 rows. -/
theorem table_bits5 (m : (ℓ : Loc Cert.Kernel5.nD Cert.Kernel5.τ Cert.Kernel5.sig) → Buf (Elt Bits) ℓ) (h : Pre_Kernel5 m) : Cert.CombB.Table (F := Bits) m :=
  fun j => Cert.Mixing.rows_of _ _ _ _ _ _ (h 0) ⟨j % 12288, Nat.mod_lt _ (by decide)⟩
theorem table_ideal5 (m : (ℓ : Loc Cert.Kernel5Ideal.nD Cert.Kernel5Ideal.τ Cert.Kernel5Ideal.sig) → Buf (Elt Ideal) ℓ) (h : Pre_Kernel5Ideal m) : Cert.CombB.Table (F := Ideal) m :=
  fun j => Cert.Mixing.rows_of _ _ _ _ _ _ (h 0) ⟨j % 12288, Nat.mod_lt _ (by decide)⟩

/-- The two printed body tables of this call are one. -/
theorem bodies5_eq {F : FTy → Type} [FloatOps F] : Cert.Kernel5.defs₀ (F := F) = Cert.Kernel5Ideal.defs₀ (F := F) := by
  unfold Cert.Kernel5.defs₀ Cert.Kernel5Ideal.defs₀
  refine congrArg Defs.onTc (funext fun (l : Fin 1) => funext fun x => ?_)
  obtain rfl : l = 0 := Subsingleton.elim _ _
  obtain ⟨t, s⟩ := x
  exact eq_of_heq HEq.rfl
theorem defs5_eq {F : FTy → Type} [FloatOps F] : Cert.Kernel5.defs (F := F) = Cert.Kernel5Ideal.defs (F := F) :=
  congrArg (Pipeline.defs (Cert.Kernel5Ideal.pcfgs (F := F))) bodies5_eq

theorem quiescent_Kernel5 : quiescent_Kernel5 := fun m ρ h => by
  rw [defs5_eq]
  exact Cert.CombB.frame_main (F := Bits) m ρ (table_bits5 m h)

theorem quiescent_Kernel5Ideal : quiescent_Kernel5Ideal := fun m ρ h => Cert.CombB.frame_main (F := Ideal) m ρ (table_ideal5 m h)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' hpre hagree
  have L := table_ideal5 m hpre
  refine ⟨_, Cert.CombB.value_main m ρ L, ?_⟩
  refine (θ_run Cert.Reference5Ideal.defs _ _).mono (fun _ h c => ⟨?_, (h c).2⟩) (Cert.Reference5Ideal.Value.run (F := Ideal) m' ρ')
  obtain rfl : c = 0 := Subsingleton.elim _ _
  obtain ⟨e0, e1, e2, e3, e4, e5⟩ := hagree 0
  refine (h 0).1.trans (funext fun (i : Cert.Kernel5Ideal.S2x1024x2048.Idx) => ?_)
  obtain ⟨b, r, d, rfl⟩ : ∃ (b : Fin 2) (r : Fin 1024) (d : Fin 2048), i = ix3 b r d := ⟨i 0, i 1, i 2, eq_ix3 i⟩
  refine (Cert.CombB.reference5_eq m' 0 (fun j => ?_) b r d).trans ?_
  · rw [e1]
    exact Cert.Mixing.rows_of _ _ _ _ _ _ (hpre 0) j
  · rw [e0, e1, e2, e3, e4, e5]
    exact (congrArg₂ (fun n s => Cert.Mixing.combined _ _ _ _ _ _ n s d) (Fin.ext rfl) (Fin.ext (show 1 + b.val = 1 + (1024 * b.val + r.val) / 1024 by omega))).trans (Cert.CombB.Vend_result m 0 b r d).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_tiles_laid_out.Gen.facts, Cert.Pre_finite_scores.Gen.facts, Cert.Pre_rows_in_range.Gen.facts,
  fun m ρ _ => Cert.Kernel.Gen.frame m ρ, fun m ρ _ => Cert.KernelIdeal.Gen.frame m ρ, quiescent_ReferenceIdeal,
  quiescent_Kernel2, quiescent_Kernel2Ideal, quiescent_Reference2Ideal, quiescent_Reference2Ideal_pre_tiles_laid_out,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  quiescent_Kernel4, quiescent_Kernel4Ideal, quiescent_Reference4Ideal, fun m ρ _ => quiescent_Reference4Ideal m ρ trivial,
  quiescent_Kernel5, quiescent_Kernel5Ideal, quiescent_Reference5Ideal, fun m ρ _ => quiescent_Reference5Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal⟩

end Cert.Proof

end
